-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmGateIn (m : (ℓ : Loc Cert.SsmGateIn.nD Cert.SsmGateIn.τ Cert.SsmGateIn.sig) → Buf (Elt Bits) ℓ) : Prop :=
  True

def Pre_SsmGateInIdeal (m : (ℓ : Loc Cert.SsmGateInIdeal.nD Cert.SsmGateInIdeal.τ Cert.SsmGateInIdeal.sig) → Buf (Elt Ideal) ℓ) : Prop :=
  True

def Pre_SsmGateInRefIdeal (m : (ℓ : Loc Cert.SsmGateInRefIdeal.nD Cert.SsmGateInRefIdeal.τ Cert.SsmGateInRefIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptRefIdeal (m : (ℓ : Loc Cert.FinalPromptRefIdeal.nD Cert.FinalPromptRefIdeal.τ Cert.FinalPromptRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_NormMlp (m : (ℓ : Loc Cert.NormMlp.nD Cert.NormMlp.τ Cert.NormMlp.sig) → Buf (Elt Bits) ℓ) : Prop :=
  True

def Pre_NormMlpIdeal (m : (ℓ : Loc Cert.NormMlpIdeal.nD Cert.NormMlpIdeal.τ Cert.NormMlpIdeal.sig) → Buf (Elt Ideal) ℓ) : Prop :=
  True

def Pre_NormMlpRefIdeal (m : (ℓ : Loc Cert.NormMlpRefIdeal.nD Cert.NormMlpRefIdeal.τ Cert.NormMlpRefIdeal.sig) → Buf (Elt Ideal) ℓ) : Prop :=
  True

def Pre_NormAb (m : (ℓ : Loc Cert.NormAb.nD Cert.NormAb.τ Cert.NormAb.sig) → Buf (Elt Bits) ℓ) : Prop :=
  True

def Pre_NormAbIdeal (m : (ℓ : Loc Cert.NormAbIdeal.nD Cert.NormAbIdeal.τ Cert.NormAbIdeal.sig) → Buf (Elt Ideal) ℓ) : Prop :=
  True

def Pre_NormAbRefIdeal (m : (ℓ : Loc Cert.NormAbRefIdeal.nD Cert.NormAbRefIdeal.τ Cert.NormAbRefIdeal.sig) → Buf (Elt Ideal) ℓ) : Prop :=
  True

def Pre_NormC (m : (ℓ : Loc Cert.NormC.nD Cert.NormC.τ Cert.NormC.sig) → Buf (Elt Bits) ℓ) : Prop :=
  True

def Pre_NormCIdeal (m : (ℓ : Loc Cert.NormCIdeal.nD Cert.NormCIdeal.τ Cert.NormCIdeal.sig) → Buf (Elt Ideal) ℓ) : Prop :=
  True

def Pre_NormCRefIdeal (m : (ℓ : Loc Cert.NormCRefIdeal.nD Cert.NormCRefIdeal.τ Cert.NormCRefIdeal.sig) → Buf (Elt Ideal) ℓ) : Prop :=
  True

def Pre_SsmBufSample (m : (ℓ : Loc Cert.SsmBufSample.nD Cert.SsmBufSample.τ Cert.SsmBufSample.sig) → Buf (Elt Bits) ℓ) : Prop :=
  True

def Pre_SsmBufSampleIdeal (m : (ℓ : Loc Cert.SsmBufSampleIdeal.nD Cert.SsmBufSampleIdeal.τ Cert.SsmBufSampleIdeal.sig) → Buf (Elt Ideal) ℓ) : Prop :=
  True

def Pre_SsmBufSampleRefIdeal (m : (ℓ : Loc Cert.SsmBufSampleRefIdeal.nD Cert.SsmBufSampleRefIdeal.τ Cert.SsmBufSampleRefIdeal.sig) → Buf (Elt Ideal) ℓ) : Prop :=
  True

def Pre_GdnBufSample (m : (ℓ : Loc Cert.GdnBufSample.nD Cert.GdnBufSample.τ Cert.GdnBufSample.sig) → Buf (Elt Bits) ℓ) : Prop :=
  True

def Pre_GdnBufSampleIdeal (m : (ℓ : Loc Cert.GdnBufSampleIdeal.nD Cert.GdnBufSampleIdeal.τ Cert.GdnBufSampleIdeal.sig) → Buf (Elt Ideal) ℓ) : Prop :=
  True

def Pre_GdnBufSampleRefIdeal (m : (ℓ : Loc Cert.GdnBufSampleRefIdeal.nD Cert.GdnBufSampleRefIdeal.τ Cert.GdnBufSampleRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4)
      ∧ r.2.mem ((c.tc : Thread Cert.AbOut.nD Cert.AbOut.τ).loc Cert.AbOut.main_arg5) = m ((c.tc : Thread Cert.AbOut.nD Cert.AbOut.τ).loc Cert.AbOut.main_arg5))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
      ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4)
      ∧ r.2.mem ((c.tc : Thread Cert.AbOutRefIdeal.nD Cert.AbOutRefIdeal.τ).loc Cert.AbOutRefIdeal.main_arg5) = m ((c.tc : Thread Cert.AbOutRefIdeal.nD Cert.AbOutRefIdeal.τ).loc Cert.AbOutRefIdeal.main_arg5))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_SsmGateIn [hSsmGateIn : Cert.SsmGateIn.Facts] : Prop :=
  ∀ (m : (ℓ : Loc Cert.SsmGateIn.nD Cert.SsmGateIn.τ Cert.SsmGateIn.sig) → Buf (Elt Bits) ℓ) (g : Dev Cert.SsmGateIn.nD → PrngReg), Pre_SsmGateIn m →
    θ_run (Cert.SsmGateIn.defs (F := Bits)) (onTc (τ := Cert.SsmGateIn.τ) (Cert.SsmGateIn.main (F := Bits))) ⟨m, fun _ => 0, g⟩ (fun r => (∀ c : Dev Cert.SsmGateIn.nD,
      r.2.mem ((c.tc : Thread Cert.SsmGateIn.nD Cert.SsmGateIn.τ).loc Cert.SsmGateIn.main_arg0) = m ((c.tc : Thread Cert.SsmGateIn.nD Cert.SsmGateIn.τ).loc Cert.SsmGateIn.main_arg0)
      ∧ r.2.mem ((c.tc : Thread Cert.SsmGateIn.nD Cert.SsmGateIn.τ).loc Cert.SsmGateIn.main_arg1) = m ((c.tc : Thread Cert.SsmGateIn.nD Cert.SsmGateIn.τ).loc Cert.SsmGateIn.main_arg1))
      ∧ r.2.sem = fun _ => 0)

def quiescent_SsmGateInIdeal [hSsmGateInIdeal : Cert.SsmGateInIdeal.Facts] : Prop :=
  ∀ (m : (ℓ : Loc Cert.SsmGateInIdeal.nD Cert.SsmGateInIdeal.τ Cert.SsmGateInIdeal.sig) → Buf (Elt Ideal) ℓ) (g : Dev Cert.SsmGateInIdeal.nD → PrngReg), Pre_SsmGateInIdeal m →
    θ_run (Cert.SsmGateInIdeal.defs (F := Ideal)) (onTc (τ := Cert.SsmGateInIdeal.τ) (Cert.SsmGateInIdeal.main (F := Ideal))) ⟨m, fun _ => 0, g⟩ (fun r => (∀ c : Dev Cert.SsmGateInIdeal.nD,
      r.2.mem ((c.tc : Thread Cert.SsmGateInIdeal.nD Cert.SsmGateInIdeal.τ).loc Cert.SsmGateInIdeal.main_arg0) = m ((c.tc : Thread Cert.SsmGateInIdeal.nD Cert.SsmGateInIdeal.τ).loc Cert.SsmGateInIdeal.main_arg0)
      ∧ r.2.mem ((c.tc : Thread Cert.SsmGateInIdeal.nD Cert.SsmGateInIdeal.τ).loc Cert.SsmGateInIdeal.main_arg1) = m ((c.tc : Thread Cert.SsmGateInIdeal.nD Cert.SsmGateInIdeal.τ).loc Cert.SsmGateInIdeal.main_arg1))
      ∧ r.2.sem = fun _ => 0)

def quiescent_SsmGateInRefIdeal [hSsmGateInRefIdeal : Cert.SsmGateInRefIdeal.Facts] : Prop :=
  ∀ (m : (ℓ : Loc Cert.SsmGateInRefIdeal.nD Cert.SsmGateInRefIdeal.τ Cert.SsmGateInRefIdeal.sig) → Buf (Elt Ideal) ℓ) (g : Dev Cert.SsmGateInRefIdeal.nD → PrngReg), Pre_SsmGateInRefIdeal m →
    θ_run (Cert.SsmGateInRefIdeal.defs (F := Ideal)) (onTc (τ := Cert.SsmGateInRefIdeal.τ) (Cert.SsmGateInRefIdeal.main (F := Ideal))) ⟨m, fun _ => 0, g⟩ (fun r => (∀ c : Dev Cert.SsmGateInRefIdeal.nD,
      r.2.mem ((c.tc : Thread Cert.SsmGateInRefIdeal.nD Cert.SsmGateInRefIdeal.τ).loc Cert.SsmGateInRefIdeal.main_arg0) = m ((c.tc : Thread Cert.SsmGateInRefIdeal.nD Cert.SsmGateInRefIdeal.τ).loc Cert.SsmGateInRefIdeal.main_arg0)
      ∧ r.2.mem ((c.tc : Thread Cert.SsmGateInRefIdeal.nD Cert.SsmGateInRefIdeal.τ).loc Cert.SsmGateInRefIdeal.main_arg1) = m ((c.tc : Thread Cert.SsmGateInRefIdeal.nD Cert.SsmGateInRefIdeal.τ).loc Cert.SsmGateInRefIdeal.main_arg1))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1))
      ∧ r.2.sem = fun _ => 0)

def quiescent_NormMlp [hNormMlp : Cert.NormMlp.Facts] : Prop :=
  ∀ (m : (ℓ : Loc Cert.NormMlp.nD Cert.NormMlp.τ Cert.NormMlp.sig) → Buf (Elt Bits) ℓ) (g : Dev Cert.NormMlp.nD → PrngReg), Pre_NormMlp m →
    θ_run (Cert.NormMlp.defs (F := Bits)) (onTc (τ := Cert.NormMlp.τ) (Cert.NormMlp.main (F := Bits))) ⟨m, fun _ => 0, g⟩ (fun r => (∀ c : Dev Cert.NormMlp.nD,
      r.2.mem ((c.tc : Thread Cert.NormMlp.nD Cert.NormMlp.τ).loc Cert.NormMlp.main_arg0) = m ((c.tc : Thread Cert.NormMlp.nD Cert.NormMlp.τ).loc Cert.NormMlp.main_arg0)
      ∧ r.2.mem ((c.tc : Thread Cert.NormMlp.nD Cert.NormMlp.τ).loc Cert.NormMlp.main_arg1) = m ((c.tc : Thread Cert.NormMlp.nD Cert.NormMlp.τ).loc Cert.NormMlp.main_arg1))
      ∧ r.2.sem = fun _ => 0)

def quiescent_NormMlpIdeal [hNormMlpIdeal : Cert.NormMlpIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg), Pre_NormMlpIdeal m →
    θ_run (Cert.NormMlpIdeal.defs (F := Ideal)) (onTc (τ := Cert.NormMlpIdeal.τ) (Cert.NormMlpIdeal.main (F := Ideal))) ⟨m, fun _ => 0, g⟩ (fun r => (∀ c : Dev Cert.NormMlpIdeal.nD,
      r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
      ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1))
      ∧ r.2.sem = fun _ => 0)

def quiescent_NormMlpRefIdeal [hNormMlpRefIdeal : Cert.NormMlpRefIdeal.Facts] : Prop :=
  ∀ (m : (ℓ : Loc Cert.NormMlpRefIdeal.nD Cert.NormMlpRefIdeal.τ Cert.NormMlpRefIdeal.sig) → Buf (Elt Ideal) ℓ) (g : Dev Cert.NormMlpRefIdeal.nD → PrngReg), Pre_NormMlpRefIdeal m →
    θ_run (Cert.NormMlpRefIdeal.defs (F := Ideal)) (onTc (τ := Cert.NormMlpRefIdeal.τ) (Cert.NormMlpRefIdeal.main (F := Ideal))) ⟨m, fun _ => 0, g⟩ (fun r => (∀ c : Dev Cert.NormMlpRefIdeal.nD,
      r.2.mem ((c.tc : Thread Cert.NormMlpRefIdeal.nD Cert.NormMlpRefIdeal.τ).loc Cert.NormMlpRefIdeal.main_arg0) = m ((c.tc : Thread Cert.NormMlpRefIdeal.nD Cert.NormMlpRefIdeal.τ).loc Cert.NormMlpRefIdeal.main_arg0)
      ∧ r.2.mem ((c.tc : Thread Cert.NormMlpRefIdeal.nD Cert.NormMlpRefIdeal.τ).loc Cert.NormMlpRefIdeal.main_arg1) = m ((c.tc : Thread Cert.NormMlpRefIdeal.nD Cert.NormMlpRefIdeal.τ).loc Cert.NormMlpRefIdeal.main_arg1))
      ∧ r.2.sem = fun _ => 0)

def quiescent_NormAb [hNormAb : Cert.NormAb.Facts] : Prop :=
  ∀ (m : (ℓ : Loc Cert.NormAb.nD Cert.NormAb.τ Cert.NormAb.sig) → Buf (Elt Bits) ℓ) (g : Dev Cert.NormAb.nD → PrngReg), Pre_NormAb m →
    θ_run (Cert.NormAb.defs (F := Bits)) (onTc (τ := Cert.NormAb.τ) (Cert.NormAb.main (F := Bits))) ⟨m, fun _ => 0, g⟩ (fun r => (∀ c : Dev Cert.NormAb.nD,
      r.2.mem ((c.tc : Thread Cert.NormAb.nD Cert.NormAb.τ).loc Cert.NormAb.main_arg0) = m ((c.tc : Thread Cert.NormAb.nD Cert.NormAb.τ).loc Cert.NormAb.main_arg0)
      ∧ r.2.mem ((c.tc : Thread Cert.NormAb.nD Cert.NormAb.τ).loc Cert.NormAb.main_arg1) = m ((c.tc : Thread Cert.NormAb.nD Cert.NormAb.τ).loc Cert.NormAb.main_arg1)
      ∧ r.2.mem ((c.tc : Thread Cert.NormAb.nD Cert.NormAb.τ).loc Cert.NormAb.main_arg2) = m ((c.tc : Thread Cert.NormAb.nD Cert.NormAb.τ).loc Cert.NormAb.main_arg2))
      ∧ r.2.sem = fun _ => 0)

def quiescent_NormAbIdeal [hNormAbIdeal : Cert.NormAbIdeal.Facts] : Prop :=
  ∀ (m : (ℓ : Loc Cert.NormAbIdeal.nD Cert.NormAbIdeal.τ Cert.NormAbIdeal.sig) → Buf (Elt Ideal) ℓ) (g : Dev Cert.NormAbIdeal.nD → PrngReg), Pre_NormAbIdeal m →
    θ_run (Cert.NormAbIdeal.defs (F := Ideal)) (onTc (τ := Cert.NormAbIdeal.τ) (Cert.NormAbIdeal.main (F := Ideal))) ⟨m, fun _ => 0, g⟩ (fun r => (∀ c : Dev Cert.NormAbIdeal.nD,
      r.2.mem ((c.tc : Thread Cert.NormAbIdeal.nD Cert.NormAbIdeal.τ).loc Cert.NormAbIdeal.main_arg0) = m ((c.tc : Thread Cert.NormAbIdeal.nD Cert.NormAbIdeal.τ).loc Cert.NormAbIdeal.main_arg0)
      ∧ r.2.mem ((c.tc : Thread Cert.NormAbIdeal.nD Cert.NormAbIdeal.τ).loc Cert.NormAbIdeal.main_arg1) = m ((c.tc : Thread Cert.NormAbIdeal.nD Cert.NormAbIdeal.τ).loc Cert.NormAbIdeal.main_arg1)
      ∧ r.2.mem ((c.tc : Thread Cert.NormAbIdeal.nD Cert.NormAbIdeal.τ).loc Cert.NormAbIdeal.main_arg2) = m ((c.tc : Thread Cert.NormAbIdeal.nD Cert.NormAbIdeal.τ).loc Cert.NormAbIdeal.main_arg2))
      ∧ r.2.sem = fun _ => 0)

def quiescent_NormAbRefIdeal [hNormAbRefIdeal : Cert.NormAbRefIdeal.Facts] : Prop :=
  ∀ (m : (ℓ : Loc Cert.NormAbRefIdeal.nD Cert.NormAbRefIdeal.τ Cert.NormAbRefIdeal.sig) → Buf (Elt Ideal) ℓ) (g : Dev Cert.NormAbRefIdeal.nD → PrngReg), Pre_NormAbRefIdeal m →
    θ_run (Cert.NormAbRefIdeal.defs (F := Ideal)) (onTc (τ := Cert.NormAbRefIdeal.τ) (Cert.NormAbRefIdeal.main (F := Ideal))) ⟨m, fun _ => 0, g⟩ (fun r => (∀ c : Dev Cert.NormAbRefIdeal.nD,
      r.2.mem ((c.tc : Thread Cert.NormAbRefIdeal.nD Cert.NormAbRefIdeal.τ).loc Cert.NormAbRefIdeal.main_arg0) = m ((c.tc : Thread Cert.NormAbRefIdeal.nD Cert.NormAbRefIdeal.τ).loc Cert.NormAbRefIdeal.main_arg0)
      ∧ r.2.mem ((c.tc : Thread Cert.NormAbRefIdeal.nD Cert.NormAbRefIdeal.τ).loc Cert.NormAbRefIdeal.main_arg1) = m ((c.tc : Thread Cert.NormAbRefIdeal.nD Cert.NormAbRefIdeal.τ).loc Cert.NormAbRefIdeal.main_arg1)
      ∧ r.2.mem ((c.tc : Thread Cert.NormAbRefIdeal.nD Cert.NormAbRefIdeal.τ).loc Cert.NormAbRefIdeal.main_arg2) = m ((c.tc : Thread Cert.NormAbRefIdeal.nD Cert.NormAbRefIdeal.τ).loc Cert.NormAbRefIdeal.main_arg2))
      ∧ r.2.sem = fun _ => 0)

def quiescent_NormC [hNormC : Cert.NormC.Facts] : Prop :=
  ∀ (m : (ℓ : Loc Cert.NormC.nD Cert.NormC.τ Cert.NormC.sig) → Buf (Elt Bits) ℓ) (g : Dev Cert.NormC.nD → PrngReg), Pre_NormC m →
    θ_run (Cert.NormC.defs (F := Bits)) (onTc (τ := Cert.NormC.τ) (Cert.NormC.main (F := Bits))) ⟨m, fun _ => 0, g⟩ (fun r => (∀ c : Dev Cert.NormC.nD,
      r.2.mem ((c.tc : Thread Cert.NormC.nD Cert.NormC.τ).loc Cert.NormC.main_arg0) = m ((c.tc : Thread Cert.NormC.nD Cert.NormC.τ).loc Cert.NormC.main_arg0)
      ∧ r.2.mem ((c.tc : Thread Cert.NormC.nD Cert.NormC.τ).loc Cert.NormC.main_arg1) = m ((c.tc : Thread Cert.NormC.nD Cert.NormC.τ).loc Cert.NormC.main_arg1)
      ∧ r.2.mem ((c.tc : Thread Cert.NormC.nD Cert.NormC.τ).loc Cert.NormC.main_arg2) = m ((c.tc : Thread Cert.NormC.nD Cert.NormC.τ).loc Cert.NormC.main_arg2))
      ∧ r.2.sem = fun _ => 0)

def quiescent_NormCIdeal [hNormCIdeal : Cert.NormCIdeal.Facts] : Prop :=
  ∀ (m : (ℓ : Loc Cert.NormCIdeal.nD Cert.NormCIdeal.τ Cert.NormCIdeal.sig) → Buf (Elt Ideal) ℓ) (g : Dev Cert.NormCIdeal.nD → PrngReg), Pre_NormCIdeal m →
    θ_run (Cert.NormCIdeal.defs (F := Ideal)) (onTc (τ := Cert.NormCIdeal.τ) (Cert.NormCIdeal.main (F := Ideal))) ⟨m, fun _ => 0, g⟩ (fun r => (∀ c : Dev Cert.NormCIdeal.nD,
      r.2.mem ((c.tc : Thread Cert.NormCIdeal.nD Cert.NormCIdeal.τ).loc Cert.NormCIdeal.main_arg0) = m ((c.tc : Thread Cert.NormCIdeal.nD Cert.NormCIdeal.τ).loc Cert.NormCIdeal.main_arg0)
      ∧ r.2.mem ((c.tc : Thread Cert.NormCIdeal.nD Cert.NormCIdeal.τ).loc Cert.NormCIdeal.main_arg1) = m ((c.tc : Thread Cert.NormCIdeal.nD Cert.NormCIdeal.τ).loc Cert.NormCIdeal.main_arg1)
      ∧ r.2.mem ((c.tc : Thread Cert.NormCIdeal.nD Cert.NormCIdeal.τ).loc Cert.NormCIdeal.main_arg2) = m ((c.tc : Thread Cert.NormCIdeal.nD Cert.NormCIdeal.τ).loc Cert.NormCIdeal.main_arg2))
      ∧ r.2.sem = fun _ => 0)

def quiescent_NormCRefIdeal [hNormCRefIdeal : Cert.NormCRefIdeal.Facts] : Prop :=
  ∀ (m : (ℓ : Loc Cert.NormCRefIdeal.nD Cert.NormCRefIdeal.τ Cert.NormCRefIdeal.sig) → Buf (Elt Ideal) ℓ) (g : Dev Cert.NormCRefIdeal.nD → PrngReg), Pre_NormCRefIdeal m →
    θ_run (Cert.NormCRefIdeal.defs (F := Ideal)) (onTc (τ := Cert.NormCRefIdeal.τ) (Cert.NormCRefIdeal.main (F := Ideal))) ⟨m, fun _ => 0, g⟩ (fun r => (∀ c : Dev Cert.NormCRefIdeal.nD,
      r.2.mem ((c.tc : Thread Cert.NormCRefIdeal.nD Cert.NormCRefIdeal.τ).loc Cert.NormCRefIdeal.main_arg0) = m ((c.tc : Thread Cert.NormCRefIdeal.nD Cert.NormCRefIdeal.τ).loc Cert.NormCRefIdeal.main_arg0)
      ∧ r.2.mem ((c.tc : Thread Cert.NormCRefIdeal.nD Cert.NormCRefIdeal.τ).loc Cert.NormCRefIdeal.main_arg1) = m ((c.tc : Thread Cert.NormCRefIdeal.nD Cert.NormCRefIdeal.τ).loc Cert.NormCRefIdeal.main_arg1)
      ∧ r.2.mem ((c.tc : Thread Cert.NormCRefIdeal.nD Cert.NormCRefIdeal.τ).loc Cert.NormCRefIdeal.main_arg2) = m ((c.tc : Thread Cert.NormCRefIdeal.nD Cert.NormCRefIdeal.τ).loc Cert.NormCRefIdeal.main_arg2))
      ∧ r.2.sem = fun _ => 0)

def quiescent_SsmBufSample [hSsmBufSample : Cert.SsmBufSample.Facts] : Prop :=
  ∀ (m : (ℓ : Loc Cert.SsmBufSample.nD Cert.SsmBufSample.τ Cert.SsmBufSample.sig) → Buf (Elt Bits) ℓ) (g : Dev Cert.SsmBufSample.nD → PrngReg), Pre_SsmBufSample m →
    θ_run (Cert.SsmBufSample.defs (F := Bits)) (onTc (τ := Cert.SsmBufSample.τ) (Cert.SsmBufSample.main (F := Bits))) ⟨m, fun _ => 0, g⟩ (fun r => (∀ c : Dev Cert.SsmBufSample.nD,
      r.2.mem ((c.tc : Thread Cert.SsmBufSample.nD Cert.SsmBufSample.τ).loc Cert.SsmBufSample.main_arg0) = m ((c.tc : Thread Cert.SsmBufSample.nD Cert.SsmBufSample.τ).loc Cert.SsmBufSample.main_arg0)
      ∧ r.2.mem ((c.tc : Thread Cert.SsmBufSample.nD Cert.SsmBufSample.τ).loc Cert.SsmBufSample.main_arg1) = m ((c.tc : Thread Cert.SsmBufSample.nD Cert.SsmBufSample.τ).loc Cert.SsmBufSample.main_arg1)
      ∧ r.2.mem ((c.tc : Thread Cert.SsmBufSample.nD Cert.SsmBufSample.τ).loc Cert.SsmBufSample.main_arg2) = m ((c.tc : Thread Cert.SsmBufSample.nD Cert.SsmBufSample.τ).loc Cert.SsmBufSample.main_arg2)
      ∧ r.2.mem ((c.tc : Thread Cert.SsmBufSample.nD Cert.SsmBufSample.τ).loc Cert.SsmBufSample.main_arg3) = m ((c.tc : Thread Cert.SsmBufSample.nD Cert.SsmBufSample.τ).loc Cert.SsmBufSample.main_arg3)
      ∧ r.2.mem ((c.tc : Thread Cert.SsmBufSample.nD Cert.SsmBufSample.τ).loc Cert.SsmBufSample.main_arg4) = m ((c.tc : Thread Cert.SsmBufSample.nD Cert.SsmBufSample.τ).loc Cert.SsmBufSample.main_arg4)
      ∧ r.2.mem ((c.tc : Thread Cert.SsmBufSample.nD Cert.SsmBufSample.τ).loc Cert.SsmBufSample.main_arg5) = m ((c.tc : Thread Cert.SsmBufSample.nD Cert.SsmBufSample.τ).loc Cert.SsmBufSample.main_arg5)
      ∧ r.2.mem ((c.tc : Thread Cert.SsmBufSample.nD Cert.SsmBufSample.τ).loc Cert.SsmBufSample.main_arg6) = m ((c.tc : Thread Cert.SsmBufSample.nD Cert.SsmBufSample.τ).loc Cert.SsmBufSample.main_arg6)
      ∧ r.2.mem ((c.tc : Thread Cert.SsmBufSample.nD Cert.SsmBufSample.τ).loc Cert.SsmBufSample.main_arg7) = m ((c.tc : Thread Cert.SsmBufSample.nD Cert.SsmBufSample.τ).loc Cert.SsmBufSample.main_arg7)
      ∧ r.2.mem ((c.tc : Thread Cert.SsmBufSample.nD Cert.SsmBufSample.τ).loc Cert.SsmBufSample.main_arg8) = m ((c.tc : Thread Cert.SsmBufSample.nD Cert.SsmBufSample.τ).loc Cert.SsmBufSample.main_arg8)
      ∧ r.2.mem ((c.tc : Thread Cert.SsmBufSample.nD Cert.SsmBufSample.τ).loc Cert.SsmBufSample.main_arg9) = m ((c.tc : Thread Cert.SsmBufSample.nD Cert.SsmBufSample.τ).loc Cert.SsmBufSample.main_arg9)
      ∧ r.2.mem ((c.tc : Thread Cert.SsmBufSample.nD Cert.SsmBufSample.τ).loc Cert.SsmBufSample.main_arg10) = m ((c.tc : Thread Cert.SsmBufSample.nD Cert.SsmBufSample.τ).loc Cert.SsmBufSample.main_arg10)
      ∧ r.2.mem ((c.tc : Thread Cert.SsmBufSample.nD Cert.SsmBufSample.τ).loc Cert.SsmBufSample.main_arg11) = m ((c.tc : Thread Cert.SsmBufSample.nD Cert.SsmBufSample.τ).loc Cert.SsmBufSample.main_arg11))
      ∧ r.2.sem = fun _ => 0)

def quiescent_SsmBufSampleIdeal [hSsmBufSampleIdeal : Cert.SsmBufSampleIdeal.Facts] : Prop :=
  ∀ (m : (ℓ : Loc Cert.SsmBufSampleIdeal.nD Cert.SsmBufSampleIdeal.τ Cert.SsmBufSampleIdeal.sig) → Buf (Elt Ideal) ℓ) (g : Dev Cert.SsmBufSampleIdeal.nD → PrngReg), Pre_SsmBufSampleIdeal m →
    θ_run (Cert.SsmBufSampleIdeal.defs (F := Ideal)) (onTc (τ := Cert.SsmBufSampleIdeal.τ) (Cert.SsmBufSampleIdeal.main (F := Ideal))) ⟨m, fun _ => 0, g⟩ (fun r => (∀ c : Dev Cert.SsmBufSampleIdeal.nD,
      r.2.mem ((c.tc : Thread Cert.SsmBufSampleIdeal.nD Cert.SsmBufSampleIdeal.τ).loc Cert.SsmBufSampleIdeal.main_arg0) = m ((c.tc : Thread Cert.SsmBufSampleIdeal.nD Cert.SsmBufSampleIdeal.τ).loc Cert.SsmBufSampleIdeal.main_arg0)
      ∧ r.2.mem ((c.tc : Thread Cert.SsmBufSampleIdeal.nD Cert.SsmBufSampleIdeal.τ).loc Cert.SsmBufSampleIdeal.main_arg1) = m ((c.tc : Thread Cert.SsmBufSampleIdeal.nD Cert.SsmBufSampleIdeal.τ).loc Cert.SsmBufSampleIdeal.main_arg1)
      ∧ r.2.mem ((c.tc : Thread Cert.SsmBufSampleIdeal.nD Cert.SsmBufSampleIdeal.τ).loc Cert.SsmBufSampleIdeal.main_arg2) = m ((c.tc : Thread Cert.SsmBufSampleIdeal.nD Cert.SsmBufSampleIdeal.τ).loc Cert.SsmBufSampleIdeal.main_arg2)
      ∧ r.2.mem ((c.tc : Thread Cert.SsmBufSampleIdeal.nD Cert.SsmBufSampleIdeal.τ).loc Cert.SsmBufSampleIdeal.main_arg3) = m ((c.tc : Thread Cert.SsmBufSampleIdeal.nD Cert.SsmBufSampleIdeal.τ).loc Cert.SsmBufSampleIdeal.main_arg3)
      ∧ r.2.mem ((c.tc : Thread Cert.SsmBufSampleIdeal.nD Cert.SsmBufSampleIdeal.τ).loc Cert.SsmBufSampleIdeal.main_arg4) = m ((c.tc : Thread Cert.SsmBufSampleIdeal.nD Cert.SsmBufSampleIdeal.τ).loc Cert.SsmBufSampleIdeal.main_arg4)
      ∧ r.2.mem ((c.tc : Thread Cert.SsmBufSampleIdeal.nD Cert.SsmBufSampleIdeal.τ).loc Cert.SsmBufSampleIdeal.main_arg5) = m ((c.tc : Thread Cert.SsmBufSampleIdeal.nD Cert.SsmBufSampleIdeal.τ).loc Cert.SsmBufSampleIdeal.main_arg5)
      ∧ r.2.mem ((c.tc : Thread Cert.SsmBufSampleIdeal.nD Cert.SsmBufSampleIdeal.τ).loc Cert.SsmBufSampleIdeal.main_arg6) = m ((c.tc : Thread Cert.SsmBufSampleIdeal.nD Cert.SsmBufSampleIdeal.τ).loc Cert.SsmBufSampleIdeal.main_arg6)
      ∧ r.2.mem ((c.tc : Thread Cert.SsmBufSampleIdeal.nD Cert.SsmBufSampleIdeal.τ).loc Cert.SsmBufSampleIdeal.main_arg7) = m ((c.tc : Thread Cert.SsmBufSampleIdeal.nD Cert.SsmBufSampleIdeal.τ).loc Cert.SsmBufSampleIdeal.main_arg7)
      ∧ r.2.mem ((c.tc : Thread Cert.SsmBufSampleIdeal.nD Cert.SsmBufSampleIdeal.τ).loc Cert.SsmBufSampleIdeal.main_arg8) = m ((c.tc : Thread Cert.SsmBufSampleIdeal.nD Cert.SsmBufSampleIdeal.τ).loc Cert.SsmBufSampleIdeal.main_arg8)
      ∧ r.2.mem ((c.tc : Thread Cert.SsmBufSampleIdeal.nD Cert.SsmBufSampleIdeal.τ).loc Cert.SsmBufSampleIdeal.main_arg9) = m ((c.tc : Thread Cert.SsmBufSampleIdeal.nD Cert.SsmBufSampleIdeal.τ).loc Cert.SsmBufSampleIdeal.main_arg9)
      ∧ r.2.mem ((c.tc : Thread Cert.SsmBufSampleIdeal.nD Cert.SsmBufSampleIdeal.τ).loc Cert.SsmBufSampleIdeal.main_arg10) = m ((c.tc : Thread Cert.SsmBufSampleIdeal.nD Cert.SsmBufSampleIdeal.τ).loc Cert.SsmBufSampleIdeal.main_arg10)
      ∧ r.2.mem ((c.tc : Thread Cert.SsmBufSampleIdeal.nD Cert.SsmBufSampleIdeal.τ).loc Cert.SsmBufSampleIdeal.main_arg11) = m ((c.tc : Thread Cert.SsmBufSampleIdeal.nD Cert.SsmBufSampleIdeal.τ).loc Cert.SsmBufSampleIdeal.main_arg11))
      ∧ r.2.sem = fun _ => 0)

def quiescent_SsmBufSampleRefIdeal [hSsmBufSampleRefIdeal : Cert.SsmBufSampleRefIdeal.Facts] : Prop :=
  ∀ (m : (ℓ : Loc Cert.SsmBufSampleRefIdeal.nD Cert.SsmBufSampleRefIdeal.τ Cert.SsmBufSampleRefIdeal.sig) → Buf (Elt Ideal) ℓ) (g : Dev Cert.SsmBufSampleRefIdeal.nD → PrngReg), Pre_SsmBufSampleRefIdeal m →
    θ_run (Cert.SsmBufSampleRefIdeal.defs (F := Ideal)) (onTc (τ := Cert.SsmBufSampleRefIdeal.τ) (Cert.SsmBufSampleRefIdeal.main (F := Ideal))) ⟨m, fun _ => 0, g⟩ (fun r => (∀ c : Dev Cert.SsmBufSampleRefIdeal.nD,
      r.2.mem ((c.tc : Thread Cert.SsmBufSampleRefIdeal.nD Cert.SsmBufSampleRefIdeal.τ).loc Cert.SsmBufSampleRefIdeal.main_arg0) = m ((c.tc : Thread Cert.SsmBufSampleRefIdeal.nD Cert.SsmBufSampleRefIdeal.τ).loc Cert.SsmBufSampleRefIdeal.main_arg0)
      ∧ r.2.mem ((c.tc : Thread Cert.SsmBufSampleRefIdeal.nD Cert.SsmBufSampleRefIdeal.τ).loc Cert.SsmBufSampleRefIdeal.main_arg1) = m ((c.tc : Thread Cert.SsmBufSampleRefIdeal.nD Cert.SsmBufSampleRefIdeal.τ).loc Cert.SsmBufSampleRefIdeal.main_arg1)
      ∧ r.2.mem ((c.tc : Thread Cert.SsmBufSampleRefIdeal.nD Cert.SsmBufSampleRefIdeal.τ).loc Cert.SsmBufSampleRefIdeal.main_arg2) = m ((c.tc : Thread Cert.SsmBufSampleRefIdeal.nD Cert.SsmBufSampleRefIdeal.τ).loc Cert.SsmBufSampleRefIdeal.main_arg2)
      ∧ r.2.mem ((c.tc : Thread Cert.SsmBufSampleRefIdeal.nD Cert.SsmBufSampleRefIdeal.τ).loc Cert.SsmBufSampleRefIdeal.main_arg3) = m ((c.tc : Thread Cert.SsmBufSampleRefIdeal.nD Cert.SsmBufSampleRefIdeal.τ).loc Cert.SsmBufSampleRefIdeal.main_arg3)
      ∧ r.2.mem ((c.tc : Thread Cert.SsmBufSampleRefIdeal.nD Cert.SsmBufSampleRefIdeal.τ).loc Cert.SsmBufSampleRefIdeal.main_arg4) = m ((c.tc : Thread Cert.SsmBufSampleRefIdeal.nD Cert.SsmBufSampleRefIdeal.τ).loc Cert.SsmBufSampleRefIdeal.main_arg4)
      ∧ r.2.mem ((c.tc : Thread Cert.SsmBufSampleRefIdeal.nD Cert.SsmBufSampleRefIdeal.τ).loc Cert.SsmBufSampleRefIdeal.main_arg5) = m ((c.tc : Thread Cert.SsmBufSampleRefIdeal.nD Cert.SsmBufSampleRefIdeal.τ).loc Cert.SsmBufSampleRefIdeal.main_arg5)
      ∧ r.2.mem ((c.tc : Thread Cert.SsmBufSampleRefIdeal.nD Cert.SsmBufSampleRefIdeal.τ).loc Cert.SsmBufSampleRefIdeal.main_arg6) = m ((c.tc : Thread Cert.SsmBufSampleRefIdeal.nD Cert.SsmBufSampleRefIdeal.τ).loc Cert.SsmBufSampleRefIdeal.main_arg6)
      ∧ r.2.mem ((c.tc : Thread Cert.SsmBufSampleRefIdeal.nD Cert.SsmBufSampleRefIdeal.τ).loc Cert.SsmBufSampleRefIdeal.main_arg7) = m ((c.tc : Thread Cert.SsmBufSampleRefIdeal.nD Cert.SsmBufSampleRefIdeal.τ).loc Cert.SsmBufSampleRefIdeal.main_arg7)
      ∧ r.2.mem ((c.tc : Thread Cert.SsmBufSampleRefIdeal.nD Cert.SsmBufSampleRefIdeal.τ).loc Cert.SsmBufSampleRefIdeal.main_arg8) = m ((c.tc : Thread Cert.SsmBufSampleRefIdeal.nD Cert.SsmBufSampleRefIdeal.τ).loc Cert.SsmBufSampleRefIdeal.main_arg8)
      ∧ r.2.mem ((c.tc : Thread Cert.SsmBufSampleRefIdeal.nD Cert.SsmBufSampleRefIdeal.τ).loc Cert.SsmBufSampleRefIdeal.main_arg9) = m ((c.tc : Thread Cert.SsmBufSampleRefIdeal.nD Cert.SsmBufSampleRefIdeal.τ).loc Cert.SsmBufSampleRefIdeal.main_arg9)
      ∧ r.2.mem ((c.tc : Thread Cert.SsmBufSampleRefIdeal.nD Cert.SsmBufSampleRefIdeal.τ).loc Cert.SsmBufSampleRefIdeal.main_arg10) = m ((c.tc : Thread Cert.SsmBufSampleRefIdeal.nD Cert.SsmBufSampleRefIdeal.τ).loc Cert.SsmBufSampleRefIdeal.main_arg10)
      ∧ r.2.mem ((c.tc : Thread Cert.SsmBufSampleRefIdeal.nD Cert.SsmBufSampleRefIdeal.τ).loc Cert.SsmBufSampleRefIdeal.main_arg11) = m ((c.tc : Thread Cert.SsmBufSampleRefIdeal.nD Cert.SsmBufSampleRefIdeal.τ).loc Cert.SsmBufSampleRefIdeal.main_arg11))
      ∧ r.2.sem = fun _ => 0)

def quiescent_GdnBufSample [hGdnBufSample : Cert.GdnBufSample.Facts] : Prop :=
  ∀ (m : (ℓ : Loc Cert.GdnBufSample.nD Cert.GdnBufSample.τ Cert.GdnBufSample.sig) → Buf (Elt Bits) ℓ) (g : Dev Cert.GdnBufSample.nD → PrngReg), Pre_GdnBufSample m →
    θ_run (Cert.GdnBufSample.defs (F := Bits)) (onTc (τ := Cert.GdnBufSample.τ) (Cert.GdnBufSample.main (F := Bits))) ⟨m, fun _ => 0, g⟩ (fun r => (∀ c : Dev Cert.GdnBufSample.nD,
      r.2.mem ((c.tc : Thread Cert.GdnBufSample.nD Cert.GdnBufSample.τ).loc Cert.GdnBufSample.main_arg0) = m ((c.tc : Thread Cert.GdnBufSample.nD Cert.GdnBufSample.τ).loc Cert.GdnBufSample.main_arg0)
      ∧ r.2.mem ((c.tc : Thread Cert.GdnBufSample.nD Cert.GdnBufSample.τ).loc Cert.GdnBufSample.main_arg1) = m ((c.tc : Thread Cert.GdnBufSample.nD Cert.GdnBufSample.τ).loc Cert.GdnBufSample.main_arg1)
      ∧ r.2.mem ((c.tc : Thread Cert.GdnBufSample.nD Cert.GdnBufSample.τ).loc Cert.GdnBufSample.main_arg2) = m ((c.tc : Thread Cert.GdnBufSample.nD Cert.GdnBufSample.τ).loc Cert.GdnBufSample.main_arg2)
      ∧ r.2.mem ((c.tc : Thread Cert.GdnBufSample.nD Cert.GdnBufSample.τ).loc Cert.GdnBufSample.main_arg3) = m ((c.tc : Thread Cert.GdnBufSample.nD Cert.GdnBufSample.τ).loc Cert.GdnBufSample.main_arg3)
      ∧ r.2.mem ((c.tc : Thread Cert.GdnBufSample.nD Cert.GdnBufSample.τ).loc Cert.GdnBufSample.main_arg4) = m ((c.tc : Thread Cert.GdnBufSample.nD Cert.GdnBufSample.τ).loc Cert.GdnBufSample.main_arg4)
      ∧ r.2.mem ((c.tc : Thread Cert.GdnBufSample.nD Cert.GdnBufSample.τ).loc Cert.GdnBufSample.main_arg5) = m ((c.tc : Thread Cert.GdnBufSample.nD Cert.GdnBufSample.τ).loc Cert.GdnBufSample.main_arg5)
      ∧ r.2.mem ((c.tc : Thread Cert.GdnBufSample.nD Cert.GdnBufSample.τ).loc Cert.GdnBufSample.main_arg6) = m ((c.tc : Thread Cert.GdnBufSample.nD Cert.GdnBufSample.τ).loc Cert.GdnBufSample.main_arg6)
      ∧ r.2.mem ((c.tc : Thread Cert.GdnBufSample.nD Cert.GdnBufSample.τ).loc Cert.GdnBufSample.main_arg7) = m ((c.tc : Thread Cert.GdnBufSample.nD Cert.GdnBufSample.τ).loc Cert.GdnBufSample.main_arg7)
      ∧ r.2.mem ((c.tc : Thread Cert.GdnBufSample.nD Cert.GdnBufSample.τ).loc Cert.GdnBufSample.main_arg8) = m ((c.tc : Thread Cert.GdnBufSample.nD Cert.GdnBufSample.τ).loc Cert.GdnBufSample.main_arg8)
      ∧ r.2.mem ((c.tc : Thread Cert.GdnBufSample.nD Cert.GdnBufSample.τ).loc Cert.GdnBufSample.main_arg9) = m ((c.tc : Thread Cert.GdnBufSample.nD Cert.GdnBufSample.τ).loc Cert.GdnBufSample.main_arg9))
      ∧ r.2.sem = fun _ => 0)

def quiescent_GdnBufSampleIdeal [hGdnBufSampleIdeal : Cert.GdnBufSampleIdeal.Facts] : Prop :=
  ∀ (m : (ℓ : Loc Cert.GdnBufSampleIdeal.nD Cert.GdnBufSampleIdeal.τ Cert.GdnBufSampleIdeal.sig) → Buf (Elt Ideal) ℓ) (g : Dev Cert.GdnBufSampleIdeal.nD → PrngReg), Pre_GdnBufSampleIdeal m →
    θ_run (Cert.GdnBufSampleIdeal.defs (F := Ideal)) (onTc (τ := Cert.GdnBufSampleIdeal.τ) (Cert.GdnBufSampleIdeal.main (F := Ideal))) ⟨m, fun _ => 0, g⟩ (fun r => (∀ c : Dev Cert.GdnBufSampleIdeal.nD,
      r.2.mem ((c.tc : Thread Cert.GdnBufSampleIdeal.nD Cert.GdnBufSampleIdeal.τ).loc Cert.GdnBufSampleIdeal.main_arg0) = m ((c.tc : Thread Cert.GdnBufSampleIdeal.nD Cert.GdnBufSampleIdeal.τ).loc Cert.GdnBufSampleIdeal.main_arg0)
      ∧ r.2.mem ((c.tc : Thread Cert.GdnBufSampleIdeal.nD Cert.GdnBufSampleIdeal.τ).loc Cert.GdnBufSampleIdeal.main_arg1) = m ((c.tc : Thread Cert.GdnBufSampleIdeal.nD Cert.GdnBufSampleIdeal.τ).loc Cert.GdnBufSampleIdeal.main_arg1)
      ∧ r.2.mem ((c.tc : Thread Cert.GdnBufSampleIdeal.nD Cert.GdnBufSampleIdeal.τ).loc Cert.GdnBufSampleIdeal.main_arg2) = m ((c.tc : Thread Cert.GdnBufSampleIdeal.nD Cert.GdnBufSampleIdeal.τ).loc Cert.GdnBufSampleIdeal.main_arg2)
      ∧ r.2.mem ((c.tc : Thread Cert.GdnBufSampleIdeal.nD Cert.GdnBufSampleIdeal.τ).loc Cert.GdnBufSampleIdeal.main_arg3) = m ((c.tc : Thread Cert.GdnBufSampleIdeal.nD Cert.GdnBufSampleIdeal.τ).loc Cert.GdnBufSampleIdeal.main_arg3)
      ∧ r.2.mem ((c.tc : Thread Cert.GdnBufSampleIdeal.nD Cert.GdnBufSampleIdeal.τ).loc Cert.GdnBufSampleIdeal.main_arg4) = m ((c.tc : Thread Cert.GdnBufSampleIdeal.nD Cert.GdnBufSampleIdeal.τ).loc Cert.GdnBufSampleIdeal.main_arg4)
      ∧ r.2.mem ((c.tc : Thread Cert.GdnBufSampleIdeal.nD Cert.GdnBufSampleIdeal.τ).loc Cert.GdnBufSampleIdeal.main_arg5) = m ((c.tc : Thread Cert.GdnBufSampleIdeal.nD Cert.GdnBufSampleIdeal.τ).loc Cert.GdnBufSampleIdeal.main_arg5)
      ∧ r.2.mem ((c.tc : Thread Cert.GdnBufSampleIdeal.nD Cert.GdnBufSampleIdeal.τ).loc Cert.GdnBufSampleIdeal.main_arg6) = m ((c.tc : Thread Cert.GdnBufSampleIdeal.nD Cert.GdnBufSampleIdeal.τ).loc Cert.GdnBufSampleIdeal.main_arg6)
      ∧ r.2.mem ((c.tc : Thread Cert.GdnBufSampleIdeal.nD Cert.GdnBufSampleIdeal.τ).loc Cert.GdnBufSampleIdeal.main_arg7) = m ((c.tc : Thread Cert.GdnBufSampleIdeal.nD Cert.GdnBufSampleIdeal.τ).loc Cert.GdnBufSampleIdeal.main_arg7)
      ∧ r.2.mem ((c.tc : Thread Cert.GdnBufSampleIdeal.nD Cert.GdnBufSampleIdeal.τ).loc Cert.GdnBufSampleIdeal.main_arg8) = m ((c.tc : Thread Cert.GdnBufSampleIdeal.nD Cert.GdnBufSampleIdeal.τ).loc Cert.GdnBufSampleIdeal.main_arg8)
      ∧ r.2.mem ((c.tc : Thread Cert.GdnBufSampleIdeal.nD Cert.GdnBufSampleIdeal.τ).loc Cert.GdnBufSampleIdeal.main_arg9) = m ((c.tc : Thread Cert.GdnBufSampleIdeal.nD Cert.GdnBufSampleIdeal.τ).loc Cert.GdnBufSampleIdeal.main_arg9))
      ∧ r.2.sem = fun _ => 0)

def quiescent_GdnBufSampleRefIdeal [hGdnBufSampleRefIdeal : Cert.GdnBufSampleRefIdeal.Facts] : Prop :=
  ∀ (m : (ℓ : Loc Cert.GdnBufSampleRefIdeal.nD Cert.GdnBufSampleRefIdeal.τ Cert.GdnBufSampleRefIdeal.sig) → Buf (Elt Ideal) ℓ) (g : Dev Cert.GdnBufSampleRefIdeal.nD → PrngReg), Pre_GdnBufSampleRefIdeal m →
    θ_run (Cert.GdnBufSampleRefIdeal.defs (F := Ideal)) (onTc (τ := Cert.GdnBufSampleRefIdeal.τ) (Cert.GdnBufSampleRefIdeal.main (F := Ideal))) ⟨m, fun _ => 0, g⟩ (fun r => (∀ c : Dev Cert.GdnBufSampleRefIdeal.nD,
      r.2.mem ((c.tc : Thread Cert.GdnBufSampleRefIdeal.nD Cert.GdnBufSampleRefIdeal.τ).loc Cert.GdnBufSampleRefIdeal.main_arg0) = m ((c.tc : Thread Cert.GdnBufSampleRefIdeal.nD Cert.GdnBufSampleRefIdeal.τ).loc Cert.GdnBufSampleRefIdeal.main_arg0)
      ∧ r.2.mem ((c.tc : Thread Cert.GdnBufSampleRefIdeal.nD Cert.GdnBufSampleRefIdeal.τ).loc Cert.GdnBufSampleRefIdeal.main_arg1) = m ((c.tc : Thread Cert.GdnBufSampleRefIdeal.nD Cert.GdnBufSampleRefIdeal.τ).loc Cert.GdnBufSampleRefIdeal.main_arg1)
      ∧ r.2.mem ((c.tc : Thread Cert.GdnBufSampleRefIdeal.nD Cert.GdnBufSampleRefIdeal.τ).loc Cert.GdnBufSampleRefIdeal.main_arg2) = m ((c.tc : Thread Cert.GdnBufSampleRefIdeal.nD Cert.GdnBufSampleRefIdeal.τ).loc Cert.GdnBufSampleRefIdeal.main_arg2)
      ∧ r.2.mem ((c.tc : Thread Cert.GdnBufSampleRefIdeal.nD Cert.GdnBufSampleRefIdeal.τ).loc Cert.GdnBufSampleRefIdeal.main_arg3) = m ((c.tc : Thread Cert.GdnBufSampleRefIdeal.nD Cert.GdnBufSampleRefIdeal.τ).loc Cert.GdnBufSampleRefIdeal.main_arg3)
      ∧ r.2.mem ((c.tc : Thread Cert.GdnBufSampleRefIdeal.nD Cert.GdnBufSampleRefIdeal.τ).loc Cert.GdnBufSampleRefIdeal.main_arg4) = m ((c.tc : Thread Cert.GdnBufSampleRefIdeal.nD Cert.GdnBufSampleRefIdeal.τ).loc Cert.GdnBufSampleRefIdeal.main_arg4)
      ∧ r.2.mem ((c.tc : Thread Cert.GdnBufSampleRefIdeal.nD Cert.GdnBufSampleRefIdeal.τ).loc Cert.GdnBufSampleRefIdeal.main_arg5) = m ((c.tc : Thread Cert.GdnBufSampleRefIdeal.nD Cert.GdnBufSampleRefIdeal.τ).loc Cert.GdnBufSampleRefIdeal.main_arg5)
      ∧ r.2.mem ((c.tc : Thread Cert.GdnBufSampleRefIdeal.nD Cert.GdnBufSampleRefIdeal.τ).loc Cert.GdnBufSampleRefIdeal.main_arg6) = m ((c.tc : Thread Cert.GdnBufSampleRefIdeal.nD Cert.GdnBufSampleRefIdeal.τ).loc Cert.GdnBufSampleRefIdeal.main_arg6)
      ∧ r.2.mem ((c.tc : Thread Cert.GdnBufSampleRefIdeal.nD Cert.GdnBufSampleRefIdeal.τ).loc Cert.GdnBufSampleRefIdeal.main_arg7) = m ((c.tc : Thread Cert.GdnBufSampleRefIdeal.nD Cert.GdnBufSampleRefIdeal.τ).loc Cert.GdnBufSampleRefIdeal.main_arg7)
      ∧ r.2.mem ((c.tc : Thread Cert.GdnBufSampleRefIdeal.nD Cert.GdnBufSampleRefIdeal.τ).loc Cert.GdnBufSampleRefIdeal.main_arg8) = m ((c.tc : Thread Cert.GdnBufSampleRefIdeal.nD Cert.GdnBufSampleRefIdeal.τ).loc Cert.GdnBufSampleRefIdeal.main_arg8)
      ∧ r.2.mem ((c.tc : Thread Cert.GdnBufSampleRefIdeal.nD Cert.GdnBufSampleRefIdeal.τ).loc Cert.GdnBufSampleRefIdeal.main_arg9) = m ((c.tc : Thread Cert.GdnBufSampleRefIdeal.nD Cert.GdnBufSampleRefIdeal.τ).loc Cert.GdnBufSampleRefIdeal.main_arg9))
      ∧ r.2.sem = fun _ => 0)

def preserves_Gla_GlaIdeal : Prop :=
  IdealRules.named_const.Statement Cert.GlaIdeal.κ "neg_log2e" .f32 0xBFB8AA3B#32 ((-((Real.log 2)⁻¹) : ℝ) : EReal)
  ∧ IdealRules.named_const.Statement Cert.GlaIdeal.κ "log2e" .f32 0x3FB8AA3B#32 (((Real.log 2)⁻¹ : ℝ) : EReal)

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v4_0)) (v1 : (c : Dev Cert.GlaIdeal.nD) → Buf (Elt Ideal) ((c.tc : Thread Cert.GlaIdeal.nD Cert.GlaIdeal.τ).loc Cert.GlaIdeal.main_v4_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v4_0) = v0 c
          ∧ r.2.mem ((c.tc : Thread Cert.GlaIdeal.nD Cert.GlaIdeal.τ).loc Cert.GlaIdeal.main_v4_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v81) = v0 c
          ∧ r.2.mem ((c.tc : Thread Cert.GlaRefIdeal.nD Cert.GlaRefIdeal.τ).loc Cert.GlaRefIdeal.main_v78) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v3)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v3) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v3) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v3)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v3) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v3) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)
      ∧ m' ((c.tc : Thread Cert.AbOutRefIdeal.nD Cert.AbOutRefIdeal.τ).loc Cert.AbOutRefIdeal.main_arg5) = m ((c.tc : Thread Cert.AbOutIdeal.nD Cert.AbOutIdeal.τ).loc Cert.AbOutIdeal.main_arg5)) →
    ∃ (v0 : (c : Dev Cert.AbOutIdeal.nD) → Buf (Elt Ideal) ((c.tc : Thread Cert.AbOutIdeal.nD Cert.AbOutIdeal.τ).loc Cert.AbOutIdeal.main_v4)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v4) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
          ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v6) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4)
          ∧ r.2.mem ((c.tc : Thread Cert.AbOutRefIdeal.nD Cert.AbOutRefIdeal.τ).loc Cert.AbOutRefIdeal.main_arg5) = m' ((c.tc : Thread Cert.AbOutRefIdeal.nD Cert.AbOutRefIdeal.τ).loc Cert.AbOutRefIdeal.main_arg5))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)) →
    ∃ (v0 : (c : Dev Cert.GdnOutIdeal.nD) → Buf (Elt Ideal) ((c.tc : Thread Cert.GdnOutIdeal.nD Cert.GdnOutIdeal.τ).loc Cert.GdnOutIdeal.main_v2)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v2) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v4) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v3)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v3) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v3) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v3)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v3) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v3) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_SsmGateIn_SsmGateInIdeal : Prop :=
  True

def algebraic_SsmGateInIdeal_SsmGateInRefIdeal [hSsmGateInIdeal : Cert.SsmGateInIdeal.Facts] [hSsmGateInRefIdeal : Cert.SsmGateInRefIdeal.Facts] : Prop :=
  ∀ (m : (ℓ : Loc Cert.SsmGateInIdeal.nD Cert.SsmGateInIdeal.τ Cert.SsmGateInIdeal.sig) → Buf (Elt Ideal) ℓ) (g : Dev Cert.SsmGateInIdeal.nD → PrngReg)
    (m' : (ℓ : Loc Cert.SsmGateInRefIdeal.nD Cert.SsmGateInRefIdeal.τ Cert.SsmGateInRefIdeal.sig) → Buf (Elt Ideal) ℓ) (g' : Dev Cert.SsmGateInRefIdeal.nD → PrngReg), Pre_SsmGateInIdeal m →
    (∀ c : Dev Cert.SsmGateInIdeal.nD,
      m' ((c.tc : Thread Cert.SsmGateInRefIdeal.nD Cert.SsmGateInRefIdeal.τ).loc Cert.SsmGateInRefIdeal.main_arg0) = m ((c.tc : Thread Cert.SsmGateInIdeal.nD Cert.SsmGateInIdeal.τ).loc Cert.SsmGateInIdeal.main_arg0)
      ∧ m' ((c.tc : Thread Cert.SsmGateInRefIdeal.nD Cert.SsmGateInRefIdeal.τ).loc Cert.SsmGateInRefIdeal.main_arg1) = m ((c.tc : Thread Cert.SsmGateInIdeal.nD Cert.SsmGateInIdeal.τ).loc Cert.SsmGateInIdeal.main_arg1)) →
    ∃ (v0 : (c : Dev Cert.SsmGateInIdeal.nD) → Buf (Elt Ideal) ((c.tc : Thread Cert.SsmGateInIdeal.nD Cert.SsmGateInIdeal.τ).loc Cert.SsmGateInIdeal.main_v3)),
      θ_run (Cert.SsmGateInIdeal.defs (F := Ideal)) (onTc (τ := Cert.SsmGateInIdeal.τ) (Cert.SsmGateInIdeal.main (F := Ideal))) ⟨m, fun _ => 0, g⟩ (fun r => ∀ c : Dev Cert.SsmGateInIdeal.nD,
          r.2.mem ((c.tc : Thread Cert.SsmGateInIdeal.nD Cert.SsmGateInIdeal.τ).loc Cert.SsmGateInIdeal.main_v3) = v0 c
          ∧ r.2.mem ((c.tc : Thread Cert.SsmGateInIdeal.nD Cert.SsmGateInIdeal.τ).loc Cert.SsmGateInIdeal.main_arg0) = m ((c.tc : Thread Cert.SsmGateInIdeal.nD Cert.SsmGateInIdeal.τ).loc Cert.SsmGateInIdeal.main_arg0)
          ∧ r.2.mem ((c.tc : Thread Cert.SsmGateInIdeal.nD Cert.SsmGateInIdeal.τ).loc Cert.SsmGateInIdeal.main_arg1) = m ((c.tc : Thread Cert.SsmGateInIdeal.nD Cert.SsmGateInIdeal.τ).loc Cert.SsmGateInIdeal.main_arg1))
      ∧ θ_run (Cert.SsmGateInRefIdeal.defs (F := Ideal)) (onTc (τ := Cert.SsmGateInRefIdeal.τ) (Cert.SsmGateInRefIdeal.main (F := Ideal))) ⟨m', fun _ => 0, g'⟩ (fun r => ∀ c : Dev Cert.SsmGateInRefIdeal.nD,
          r.2.mem ((c.tc : Thread Cert.SsmGateInRefIdeal.nD Cert.SsmGateInRefIdeal.τ).loc Cert.SsmGateInRefIdeal.main_v3) = v0 c
          ∧ r.2.mem ((c.tc : Thread Cert.SsmGateInRefIdeal.nD Cert.SsmGateInRefIdeal.τ).loc Cert.SsmGateInRefIdeal.main_arg0) = m' ((c.tc : Thread Cert.SsmGateInRefIdeal.nD Cert.SsmGateInRefIdeal.τ).loc Cert.SsmGateInRefIdeal.main_arg0)
          ∧ r.2.mem ((c.tc : Thread Cert.SsmGateInRefIdeal.nD Cert.SsmGateInRefIdeal.τ).loc Cert.SsmGateInRefIdeal.main_arg1) = m' ((c.tc : Thread Cert.SsmGateInRefIdeal.nD Cert.SsmGateInRefIdeal.τ).loc Cert.SsmGateInRefIdeal.main_arg1))

def preserves_FinalPrompt_FinalPromptIdeal : Prop :=
  True

def algebraic_FinalPromptIdeal_FinalPromptRefIdeal [hFinalPromptIdeal : Cert.FinalPromptIdeal.Facts] [hFinalPromptRefIdeal : Cert.FinalPromptRefIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)) →
    ∃ (v0 : (c : Dev Cert.FinalPromptIdeal.nD) → Buf (Elt Ideal) ((c.tc : Thread Cert.FinalPromptIdeal.nD Cert.FinalPromptIdeal.τ).loc Cert.FinalPromptIdeal.main_v2)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v2) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v14) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)) →
    ∃ (v0 : (c : Dev Cert.FinalSampleIdeal.nD) → Buf (Elt Ideal) ((c.tc : Thread Cert.FinalSampleIdeal.nD Cert.FinalSampleIdeal.τ).loc Cert.FinalSampleIdeal.main_v3)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v3) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v15) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1))

def preserves_NormMlp_NormMlpIdeal : Prop :=
  True

def algebraic_NormMlpIdeal_NormMlpRefIdeal [hNormMlpIdeal : Cert.NormMlpIdeal.Facts] [hNormMlpRefIdeal : Cert.NormMlpRefIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg)
    (m' : (ℓ : Loc Cert.NormMlpRefIdeal.nD Cert.NormMlpRefIdeal.τ Cert.NormMlpRefIdeal.sig) → Buf (Elt Ideal) ℓ) (g' : Dev Cert.NormMlpRefIdeal.nD → PrngReg), Pre_NormMlpIdeal m →
    (∀ c : Dev Cert.NormMlpIdeal.nD,
      m' ((c.tc : Thread Cert.NormMlpRefIdeal.nD Cert.NormMlpRefIdeal.τ).loc Cert.NormMlpRefIdeal.main_arg0) = m ((c.tc : Thread Cert.NormMlpIdeal.nD Cert.NormMlpIdeal.τ).loc Cert.NormMlpIdeal.main_arg0)
      ∧ m' ((c.tc : Thread Cert.NormMlpRefIdeal.nD Cert.NormMlpRefIdeal.τ).loc Cert.NormMlpRefIdeal.main_arg1) = m ((c.tc : Thread Cert.NormMlpIdeal.nD Cert.NormMlpIdeal.τ).loc Cert.NormMlpIdeal.main_arg1)) →
    ∃ (v0 : (c : Dev Cert.NormMlpIdeal.nD) → Buf (Elt Ideal) ((c.tc : Thread Cert.NormMlpIdeal.nD Cert.NormMlpIdeal.τ).loc Cert.NormMlpIdeal.main_v3)),
      θ_run (Cert.NormMlpIdeal.defs (F := Ideal)) (onTc (τ := Cert.NormMlpIdeal.τ) (Cert.NormMlpIdeal.main (F := Ideal))) ⟨m, fun _ => 0, g⟩ (fun r => ∀ c : Dev Cert.NormMlpIdeal.nD,
          r.2.mem ((c.tc : Thread Cert.NormMlpIdeal.nD Cert.NormMlpIdeal.τ).loc Cert.NormMlpIdeal.main_v3) = v0 c
          ∧ r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
          ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1))
      ∧ θ_run (Cert.NormMlpRefIdeal.defs (F := Ideal)) (onTc (τ := Cert.NormMlpRefIdeal.τ) (Cert.NormMlpRefIdeal.main (F := Ideal))) ⟨m', fun _ => 0, g'⟩ (fun r => ∀ c : Dev Cert.NormMlpRefIdeal.nD,
          r.2.mem ((c.tc : Thread Cert.NormMlpRefIdeal.nD Cert.NormMlpRefIdeal.τ).loc Cert.NormMlpRefIdeal.main_v15) = v0 c
          ∧ r.2.mem ((c.tc : Thread Cert.NormMlpRefIdeal.nD Cert.NormMlpRefIdeal.τ).loc Cert.NormMlpRefIdeal.main_arg0) = m' ((c.tc : Thread Cert.NormMlpRefIdeal.nD Cert.NormMlpRefIdeal.τ).loc Cert.NormMlpRefIdeal.main_arg0)
          ∧ r.2.mem ((c.tc : Thread Cert.NormMlpRefIdeal.nD Cert.NormMlpRefIdeal.τ).loc Cert.NormMlpRefIdeal.main_arg1) = m' ((c.tc : Thread Cert.NormMlpRefIdeal.nD Cert.NormMlpRefIdeal.τ).loc Cert.NormMlpRefIdeal.main_arg1))

def preserves_NormAb_NormAbIdeal : Prop :=
  True

def algebraic_NormAbIdeal_NormAbRefIdeal [hNormAbIdeal : Cert.NormAbIdeal.Facts] [hNormAbRefIdeal : Cert.NormAbRefIdeal.Facts] : Prop :=
  ∀ (m : (ℓ : Loc Cert.NormAbIdeal.nD Cert.NormAbIdeal.τ Cert.NormAbIdeal.sig) → Buf (Elt Ideal) ℓ) (g : Dev Cert.NormAbIdeal.nD → PrngReg)
    (m' : (ℓ : Loc Cert.NormAbRefIdeal.nD Cert.NormAbRefIdeal.τ Cert.NormAbRefIdeal.sig) → Buf (Elt Ideal) ℓ) (g' : Dev Cert.NormAbRefIdeal.nD → PrngReg), Pre_NormAbIdeal m →
    (∀ c : Dev Cert.NormAbIdeal.nD,
      m' ((c.tc : Thread Cert.NormAbRefIdeal.nD Cert.NormAbRefIdeal.τ).loc Cert.NormAbRefIdeal.main_arg0) = m ((c.tc : Thread Cert.NormAbIdeal.nD Cert.NormAbIdeal.τ).loc Cert.NormAbIdeal.main_arg0)
      ∧ m' ((c.tc : Thread Cert.NormAbRefIdeal.nD Cert.NormAbRefIdeal.τ).loc Cert.NormAbRefIdeal.main_arg1) = m ((c.tc : Thread Cert.NormAbIdeal.nD Cert.NormAbIdeal.τ).loc Cert.NormAbIdeal.main_arg1)
      ∧ m' ((c.tc : Thread Cert.NormAbRefIdeal.nD Cert.NormAbRefIdeal.τ).loc Cert.NormAbRefIdeal.main_arg2) = m ((c.tc : Thread Cert.NormAbIdeal.nD Cert.NormAbIdeal.τ).loc Cert.NormAbIdeal.main_arg2)) →
    ∃ (v0 : (c : Dev Cert.NormAbIdeal.nD) → Buf (Elt Ideal) ((c.tc : Thread Cert.NormAbIdeal.nD Cert.NormAbIdeal.τ).loc Cert.NormAbIdeal.main_v5_0)) (v1 : (c : Dev Cert.NormAbIdeal.nD) → Buf (Elt Ideal) ((c.tc : Thread Cert.NormAbIdeal.nD Cert.NormAbIdeal.τ).loc Cert.NormAbIdeal.main_v5_1)),
      θ_run (Cert.NormAbIdeal.defs (F := Ideal)) (onTc (τ := Cert.NormAbIdeal.τ) (Cert.NormAbIdeal.main (F := Ideal))) ⟨m, fun _ => 0, g⟩ (fun r => ∀ c : Dev Cert.NormAbIdeal.nD,
          r.2.mem ((c.tc : Thread Cert.NormAbIdeal.nD Cert.NormAbIdeal.τ).loc Cert.NormAbIdeal.main_v5_0) = v0 c
          ∧ r.2.mem ((c.tc : Thread Cert.NormAbIdeal.nD Cert.NormAbIdeal.τ).loc Cert.NormAbIdeal.main_v5_1) = v1 c
          ∧ r.2.mem ((c.tc : Thread Cert.NormAbIdeal.nD Cert.NormAbIdeal.τ).loc Cert.NormAbIdeal.main_arg0) = m ((c.tc : Thread Cert.NormAbIdeal.nD Cert.NormAbIdeal.τ).loc Cert.NormAbIdeal.main_arg0)
          ∧ r.2.mem ((c.tc : Thread Cert.NormAbIdeal.nD Cert.NormAbIdeal.τ).loc Cert.NormAbIdeal.main_arg1) = m ((c.tc : Thread Cert.NormAbIdeal.nD Cert.NormAbIdeal.τ).loc Cert.NormAbIdeal.main_arg1)
          ∧ r.2.mem ((c.tc : Thread Cert.NormAbIdeal.nD Cert.NormAbIdeal.τ).loc Cert.NormAbIdeal.main_arg2) = m ((c.tc : Thread Cert.NormAbIdeal.nD Cert.NormAbIdeal.τ).loc Cert.NormAbIdeal.main_arg2))
      ∧ θ_run (Cert.NormAbRefIdeal.defs (F := Ideal)) (onTc (τ := Cert.NormAbRefIdeal.τ) (Cert.NormAbRefIdeal.main (F := Ideal))) ⟨m', fun _ => 0, g'⟩ (fun r => ∀ c : Dev Cert.NormAbRefIdeal.nD,
          r.2.mem ((c.tc : Thread Cert.NormAbRefIdeal.nD Cert.NormAbRefIdeal.τ).loc Cert.NormAbRefIdeal.main_v15) = v0 c
          ∧ r.2.mem ((c.tc : Thread Cert.NormAbRefIdeal.nD Cert.NormAbRefIdeal.τ).loc Cert.NormAbRefIdeal.main_v19) = v1 c
          ∧ r.2.mem ((c.tc : Thread Cert.NormAbRefIdeal.nD Cert.NormAbRefIdeal.τ).loc Cert.NormAbRefIdeal.main_arg0) = m' ((c.tc : Thread Cert.NormAbRefIdeal.nD Cert.NormAbRefIdeal.τ).loc Cert.NormAbRefIdeal.main_arg0)
          ∧ r.2.mem ((c.tc : Thread Cert.NormAbRefIdeal.nD Cert.NormAbRefIdeal.τ).loc Cert.NormAbRefIdeal.main_arg1) = m' ((c.tc : Thread Cert.NormAbRefIdeal.nD Cert.NormAbRefIdeal.τ).loc Cert.NormAbRefIdeal.main_arg1)
          ∧ r.2.mem ((c.tc : Thread Cert.NormAbRefIdeal.nD Cert.NormAbRefIdeal.τ).loc Cert.NormAbRefIdeal.main_arg2) = m' ((c.tc : Thread Cert.NormAbRefIdeal.nD Cert.NormAbRefIdeal.τ).loc Cert.NormAbRefIdeal.main_arg2))

def preserves_NormC_NormCIdeal : Prop :=
  True

def algebraic_NormCIdeal_NormCRefIdeal [hNormCIdeal : Cert.NormCIdeal.Facts] [hNormCRefIdeal : Cert.NormCRefIdeal.Facts] : Prop :=
  ∀ (m : (ℓ : Loc Cert.NormCIdeal.nD Cert.NormCIdeal.τ Cert.NormCIdeal.sig) → Buf (Elt Ideal) ℓ) (g : Dev Cert.NormCIdeal.nD → PrngReg)
    (m' : (ℓ : Loc Cert.NormCRefIdeal.nD Cert.NormCRefIdeal.τ Cert.NormCRefIdeal.sig) → Buf (Elt Ideal) ℓ) (g' : Dev Cert.NormCRefIdeal.nD → PrngReg), Pre_NormCIdeal m →
    (∀ c : Dev Cert.NormCIdeal.nD,
      m' ((c.tc : Thread Cert.NormCRefIdeal.nD Cert.NormCRefIdeal.τ).loc Cert.NormCRefIdeal.main_arg0) = m ((c.tc : Thread Cert.NormCIdeal.nD Cert.NormCIdeal.τ).loc Cert.NormCIdeal.main_arg0)
      ∧ m' ((c.tc : Thread Cert.NormCRefIdeal.nD Cert.NormCRefIdeal.τ).loc Cert.NormCRefIdeal.main_arg1) = m ((c.tc : Thread Cert.NormCIdeal.nD Cert.NormCIdeal.τ).loc Cert.NormCIdeal.main_arg1)
      ∧ m' ((c.tc : Thread Cert.NormCRefIdeal.nD Cert.NormCRefIdeal.τ).loc Cert.NormCRefIdeal.main_arg2) = m ((c.tc : Thread Cert.NormCIdeal.nD Cert.NormCIdeal.τ).loc Cert.NormCIdeal.main_arg2)) →
    ∃ (v0 : (c : Dev Cert.NormCIdeal.nD) → Buf (Elt Ideal) ((c.tc : Thread Cert.NormCIdeal.nD Cert.NormCIdeal.τ).loc Cert.NormCIdeal.main_v5_0)) (v1 : (c : Dev Cert.NormCIdeal.nD) → Buf (Elt Ideal) ((c.tc : Thread Cert.NormCIdeal.nD Cert.NormCIdeal.τ).loc Cert.NormCIdeal.main_v5_1)),
      θ_run (Cert.NormCIdeal.defs (F := Ideal)) (onTc (τ := Cert.NormCIdeal.τ) (Cert.NormCIdeal.main (F := Ideal))) ⟨m, fun _ => 0, g⟩ (fun r => ∀ c : Dev Cert.NormCIdeal.nD,
          r.2.mem ((c.tc : Thread Cert.NormCIdeal.nD Cert.NormCIdeal.τ).loc Cert.NormCIdeal.main_v5_0) = v0 c
          ∧ r.2.mem ((c.tc : Thread Cert.NormCIdeal.nD Cert.NormCIdeal.τ).loc Cert.NormCIdeal.main_v5_1) = v1 c
          ∧ r.2.mem ((c.tc : Thread Cert.NormCIdeal.nD Cert.NormCIdeal.τ).loc Cert.NormCIdeal.main_arg0) = m ((c.tc : Thread Cert.NormCIdeal.nD Cert.NormCIdeal.τ).loc Cert.NormCIdeal.main_arg0)
          ∧ r.2.mem ((c.tc : Thread Cert.NormCIdeal.nD Cert.NormCIdeal.τ).loc Cert.NormCIdeal.main_arg1) = m ((c.tc : Thread Cert.NormCIdeal.nD Cert.NormCIdeal.τ).loc Cert.NormCIdeal.main_arg1)
          ∧ r.2.mem ((c.tc : Thread Cert.NormCIdeal.nD Cert.NormCIdeal.τ).loc Cert.NormCIdeal.main_arg2) = m ((c.tc : Thread Cert.NormCIdeal.nD Cert.NormCIdeal.τ).loc Cert.NormCIdeal.main_arg2))
      ∧ θ_run (Cert.NormCRefIdeal.defs (F := Ideal)) (onTc (τ := Cert.NormCRefIdeal.τ) (Cert.NormCRefIdeal.main (F := Ideal))) ⟨m', fun _ => 0, g'⟩ (fun r => ∀ c : Dev Cert.NormCRefIdeal.nD,
          r.2.mem ((c.tc : Thread Cert.NormCRefIdeal.nD Cert.NormCRefIdeal.τ).loc Cert.NormCRefIdeal.main_v15) = v0 c
          ∧ r.2.mem ((c.tc : Thread Cert.NormCRefIdeal.nD Cert.NormCRefIdeal.τ).loc Cert.NormCRefIdeal.main_v19) = v1 c
          ∧ r.2.mem ((c.tc : Thread Cert.NormCRefIdeal.nD Cert.NormCRefIdeal.τ).loc Cert.NormCRefIdeal.main_arg0) = m' ((c.tc : Thread Cert.NormCRefIdeal.nD Cert.NormCRefIdeal.τ).loc Cert.NormCRefIdeal.main_arg0)
          ∧ r.2.mem ((c.tc : Thread Cert.NormCRefIdeal.nD Cert.NormCRefIdeal.τ).loc Cert.NormCRefIdeal.main_arg1) = m' ((c.tc : Thread Cert.NormCRefIdeal.nD Cert.NormCRefIdeal.τ).loc Cert.NormCRefIdeal.main_arg1)
          ∧ r.2.mem ((c.tc : Thread Cert.NormCRefIdeal.nD Cert.NormCRefIdeal.τ).loc Cert.NormCRefIdeal.main_arg2) = m' ((c.tc : Thread Cert.NormCRefIdeal.nD Cert.NormCRefIdeal.τ).loc Cert.NormCRefIdeal.main_arg2))

def preserves_SsmBufSample_SsmBufSampleIdeal : Prop :=
  True

def algebraic_SsmBufSampleIdeal_SsmBufSampleRefIdeal [hSsmBufSampleIdeal : Cert.SsmBufSampleIdeal.Facts] [hSsmBufSampleRefIdeal : Cert.SsmBufSampleRefIdeal.Facts] : Prop :=
  ∀ (m : (ℓ : Loc Cert.SsmBufSampleIdeal.nD Cert.SsmBufSampleIdeal.τ Cert.SsmBufSampleIdeal.sig) → Buf (Elt Ideal) ℓ) (g : Dev Cert.SsmBufSampleIdeal.nD → PrngReg)
    (m' : (ℓ : Loc Cert.SsmBufSampleRefIdeal.nD Cert.SsmBufSampleRefIdeal.τ Cert.SsmBufSampleRefIdeal.sig) → Buf (Elt Ideal) ℓ) (g' : Dev Cert.SsmBufSampleRefIdeal.nD → PrngReg), Pre_SsmBufSampleIdeal m →
    (∀ c : Dev Cert.SsmBufSampleIdeal.nD,
      m' ((c.tc : Thread Cert.SsmBufSampleRefIdeal.nD Cert.SsmBufSampleRefIdeal.τ).loc Cert.SsmBufSampleRefIdeal.main_arg0) = m ((c.tc : Thread Cert.SsmBufSampleIdeal.nD Cert.SsmBufSampleIdeal.τ).loc Cert.SsmBufSampleIdeal.main_arg0)
      ∧ m' ((c.tc : Thread Cert.SsmBufSampleRefIdeal.nD Cert.SsmBufSampleRefIdeal.τ).loc Cert.SsmBufSampleRefIdeal.main_arg1) = m ((c.tc : Thread Cert.SsmBufSampleIdeal.nD Cert.SsmBufSampleIdeal.τ).loc Cert.SsmBufSampleIdeal.main_arg1)
      ∧ m' ((c.tc : Thread Cert.SsmBufSampleRefIdeal.nD Cert.SsmBufSampleRefIdeal.τ).loc Cert.SsmBufSampleRefIdeal.main_arg2) = m ((c.tc : Thread Cert.SsmBufSampleIdeal.nD Cert.SsmBufSampleIdeal.τ).loc Cert.SsmBufSampleIdeal.main_arg2)
      ∧ m' ((c.tc : Thread Cert.SsmBufSampleRefIdeal.nD Cert.SsmBufSampleRefIdeal.τ).loc Cert.SsmBufSampleRefIdeal.main_arg3) = m ((c.tc : Thread Cert.SsmBufSampleIdeal.nD Cert.SsmBufSampleIdeal.τ).loc Cert.SsmBufSampleIdeal.main_arg3)
      ∧ m' ((c.tc : Thread Cert.SsmBufSampleRefIdeal.nD Cert.SsmBufSampleRefIdeal.τ).loc Cert.SsmBufSampleRefIdeal.main_arg4) = m ((c.tc : Thread Cert.SsmBufSampleIdeal.nD Cert.SsmBufSampleIdeal.τ).loc Cert.SsmBufSampleIdeal.main_arg4)
      ∧ m' ((c.tc : Thread Cert.SsmBufSampleRefIdeal.nD Cert.SsmBufSampleRefIdeal.τ).loc Cert.SsmBufSampleRefIdeal.main_arg5) = m ((c.tc : Thread Cert.SsmBufSampleIdeal.nD Cert.SsmBufSampleIdeal.τ).loc Cert.SsmBufSampleIdeal.main_arg5)
      ∧ m' ((c.tc : Thread Cert.SsmBufSampleRefIdeal.nD Cert.SsmBufSampleRefIdeal.τ).loc Cert.SsmBufSampleRefIdeal.main_arg6) = m ((c.tc : Thread Cert.SsmBufSampleIdeal.nD Cert.SsmBufSampleIdeal.τ).loc Cert.SsmBufSampleIdeal.main_arg6)
      ∧ m' ((c.tc : Thread Cert.SsmBufSampleRefIdeal.nD Cert.SsmBufSampleRefIdeal.τ).loc Cert.SsmBufSampleRefIdeal.main_arg7) = m ((c.tc : Thread Cert.SsmBufSampleIdeal.nD Cert.SsmBufSampleIdeal.τ).loc Cert.SsmBufSampleIdeal.main_arg7)
      ∧ m' ((c.tc : Thread Cert.SsmBufSampleRefIdeal.nD Cert.SsmBufSampleRefIdeal.τ).loc Cert.SsmBufSampleRefIdeal.main_arg8) = m ((c.tc : Thread Cert.SsmBufSampleIdeal.nD Cert.SsmBufSampleIdeal.τ).loc Cert.SsmBufSampleIdeal.main_arg8)
      ∧ m' ((c.tc : Thread Cert.SsmBufSampleRefIdeal.nD Cert.SsmBufSampleRefIdeal.τ).loc Cert.SsmBufSampleRefIdeal.main_arg9) = m ((c.tc : Thread Cert.SsmBufSampleIdeal.nD Cert.SsmBufSampleIdeal.τ).loc Cert.SsmBufSampleIdeal.main_arg9)
      ∧ m' ((c.tc : Thread Cert.SsmBufSampleRefIdeal.nD Cert.SsmBufSampleRefIdeal.τ).loc Cert.SsmBufSampleRefIdeal.main_arg10) = m ((c.tc : Thread Cert.SsmBufSampleIdeal.nD Cert.SsmBufSampleIdeal.τ).loc Cert.SsmBufSampleIdeal.main_arg10)
      ∧ m' ((c.tc : Thread Cert.SsmBufSampleRefIdeal.nD Cert.SsmBufSampleRefIdeal.τ).loc Cert.SsmBufSampleRefIdeal.main_arg11) = m ((c.tc : Thread Cert.SsmBufSampleIdeal.nD Cert.SsmBufSampleIdeal.τ).loc Cert.SsmBufSampleIdeal.main_arg11)) →
    ∃ (v0 : (c : Dev Cert.SsmBufSampleIdeal.nD) → Buf (Elt Ideal) ((c.tc : Thread Cert.SsmBufSampleIdeal.nD Cert.SsmBufSampleIdeal.τ).loc Cert.SsmBufSampleIdeal.main_v32_2)),
      θ_run (Cert.SsmBufSampleIdeal.defs (F := Ideal)) (onTc (τ := Cert.SsmBufSampleIdeal.τ) (Cert.SsmBufSampleIdeal.main (F := Ideal))) ⟨m, fun _ => 0, g⟩ (fun r => ∀ c : Dev Cert.SsmBufSampleIdeal.nD,
          r.2.mem ((c.tc : Thread Cert.SsmBufSampleIdeal.nD Cert.SsmBufSampleIdeal.τ).loc Cert.SsmBufSampleIdeal.main_v32_2) = v0 c
          ∧ r.2.mem ((c.tc : Thread Cert.SsmBufSampleIdeal.nD Cert.SsmBufSampleIdeal.τ).loc Cert.SsmBufSampleIdeal.main_arg0) = m ((c.tc : Thread Cert.SsmBufSampleIdeal.nD Cert.SsmBufSampleIdeal.τ).loc Cert.SsmBufSampleIdeal.main_arg0)
          ∧ r.2.mem ((c.tc : Thread Cert.SsmBufSampleIdeal.nD Cert.SsmBufSampleIdeal.τ).loc Cert.SsmBufSampleIdeal.main_arg1) = m ((c.tc : Thread Cert.SsmBufSampleIdeal.nD Cert.SsmBufSampleIdeal.τ).loc Cert.SsmBufSampleIdeal.main_arg1)
          ∧ r.2.mem ((c.tc : Thread Cert.SsmBufSampleIdeal.nD Cert.SsmBufSampleIdeal.τ).loc Cert.SsmBufSampleIdeal.main_arg2) = m ((c.tc : Thread Cert.SsmBufSampleIdeal.nD Cert.SsmBufSampleIdeal.τ).loc Cert.SsmBufSampleIdeal.main_arg2)
          ∧ r.2.mem ((c.tc : Thread Cert.SsmBufSampleIdeal.nD Cert.SsmBufSampleIdeal.τ).loc Cert.SsmBufSampleIdeal.main_arg3) = m ((c.tc : Thread Cert.SsmBufSampleIdeal.nD Cert.SsmBufSampleIdeal.τ).loc Cert.SsmBufSampleIdeal.main_arg3)
          ∧ r.2.mem ((c.tc : Thread Cert.SsmBufSampleIdeal.nD Cert.SsmBufSampleIdeal.τ).loc Cert.SsmBufSampleIdeal.main_arg4) = m ((c.tc : Thread Cert.SsmBufSampleIdeal.nD Cert.SsmBufSampleIdeal.τ).loc Cert.SsmBufSampleIdeal.main_arg4)
          ∧ r.2.mem ((c.tc : Thread Cert.SsmBufSampleIdeal.nD Cert.SsmBufSampleIdeal.τ).loc Cert.SsmBufSampleIdeal.main_arg5) = m ((c.tc : Thread Cert.SsmBufSampleIdeal.nD Cert.SsmBufSampleIdeal.τ).loc Cert.SsmBufSampleIdeal.main_arg5)
          ∧ r.2.mem ((c.tc : Thread Cert.SsmBufSampleIdeal.nD Cert.SsmBufSampleIdeal.τ).loc Cert.SsmBufSampleIdeal.main_arg6) = m ((c.tc : Thread Cert.SsmBufSampleIdeal.nD Cert.SsmBufSampleIdeal.τ).loc Cert.SsmBufSampleIdeal.main_arg6)
          ∧ r.2.mem ((c.tc : Thread Cert.SsmBufSampleIdeal.nD Cert.SsmBufSampleIdeal.τ).loc Cert.SsmBufSampleIdeal.main_arg7) = m ((c.tc : Thread Cert.SsmBufSampleIdeal.nD Cert.SsmBufSampleIdeal.τ).loc Cert.SsmBufSampleIdeal.main_arg7)
          ∧ r.2.mem ((c.tc : Thread Cert.SsmBufSampleIdeal.nD Cert.SsmBufSampleIdeal.τ).loc Cert.SsmBufSampleIdeal.main_arg8) = m ((c.tc : Thread Cert.SsmBufSampleIdeal.nD Cert.SsmBufSampleIdeal.τ).loc Cert.SsmBufSampleIdeal.main_arg8)
          ∧ r.2.mem ((c.tc : Thread Cert.SsmBufSampleIdeal.nD Cert.SsmBufSampleIdeal.τ).loc Cert.SsmBufSampleIdeal.main_arg9) = m ((c.tc : Thread Cert.SsmBufSampleIdeal.nD Cert.SsmBufSampleIdeal.τ).loc Cert.SsmBufSampleIdeal.main_arg9)
          ∧ r.2.mem ((c.tc : Thread Cert.SsmBufSampleIdeal.nD Cert.SsmBufSampleIdeal.τ).loc Cert.SsmBufSampleIdeal.main_arg10) = m ((c.tc : Thread Cert.SsmBufSampleIdeal.nD Cert.SsmBufSampleIdeal.τ).loc Cert.SsmBufSampleIdeal.main_arg10)
          ∧ r.2.mem ((c.tc : Thread Cert.SsmBufSampleIdeal.nD Cert.SsmBufSampleIdeal.τ).loc Cert.SsmBufSampleIdeal.main_arg11) = m ((c.tc : Thread Cert.SsmBufSampleIdeal.nD Cert.SsmBufSampleIdeal.τ).loc Cert.SsmBufSampleIdeal.main_arg11))
      ∧ θ_run (Cert.SsmBufSampleRefIdeal.defs (F := Ideal)) (onTc (τ := Cert.SsmBufSampleRefIdeal.τ) (Cert.SsmBufSampleRefIdeal.main (F := Ideal))) ⟨m', fun _ => 0, g'⟩ (fun r => ∀ c : Dev Cert.SsmBufSampleRefIdeal.nD,
          r.2.mem ((c.tc : Thread Cert.SsmBufSampleRefIdeal.nD Cert.SsmBufSampleRefIdeal.τ).loc Cert.SsmBufSampleRefIdeal.main_v4) = v0 c
          ∧ r.2.mem ((c.tc : Thread Cert.SsmBufSampleRefIdeal.nD Cert.SsmBufSampleRefIdeal.τ).loc Cert.SsmBufSampleRefIdeal.main_arg0) = m' ((c.tc : Thread Cert.SsmBufSampleRefIdeal.nD Cert.SsmBufSampleRefIdeal.τ).loc Cert.SsmBufSampleRefIdeal.main_arg0)
          ∧ r.2.mem ((c.tc : Thread Cert.SsmBufSampleRefIdeal.nD Cert.SsmBufSampleRefIdeal.τ).loc Cert.SsmBufSampleRefIdeal.main_arg1) = m' ((c.tc : Thread Cert.SsmBufSampleRefIdeal.nD Cert.SsmBufSampleRefIdeal.τ).loc Cert.SsmBufSampleRefIdeal.main_arg1)
          ∧ r.2.mem ((c.tc : Thread Cert.SsmBufSampleRefIdeal.nD Cert.SsmBufSampleRefIdeal.τ).loc Cert.SsmBufSampleRefIdeal.main_arg2) = m' ((c.tc : Thread Cert.SsmBufSampleRefIdeal.nD Cert.SsmBufSampleRefIdeal.τ).loc Cert.SsmBufSampleRefIdeal.main_arg2)
          ∧ r.2.mem ((c.tc : Thread Cert.SsmBufSampleRefIdeal.nD Cert.SsmBufSampleRefIdeal.τ).loc Cert.SsmBufSampleRefIdeal.main_arg3) = m' ((c.tc : Thread Cert.SsmBufSampleRefIdeal.nD Cert.SsmBufSampleRefIdeal.τ).loc Cert.SsmBufSampleRefIdeal.main_arg3)
          ∧ r.2.mem ((c.tc : Thread Cert.SsmBufSampleRefIdeal.nD Cert.SsmBufSampleRefIdeal.τ).loc Cert.SsmBufSampleRefIdeal.main_arg4) = m' ((c.tc : Thread Cert.SsmBufSampleRefIdeal.nD Cert.SsmBufSampleRefIdeal.τ).loc Cert.SsmBufSampleRefIdeal.main_arg4)
          ∧ r.2.mem ((c.tc : Thread Cert.SsmBufSampleRefIdeal.nD Cert.SsmBufSampleRefIdeal.τ).loc Cert.SsmBufSampleRefIdeal.main_arg5) = m' ((c.tc : Thread Cert.SsmBufSampleRefIdeal.nD Cert.SsmBufSampleRefIdeal.τ).loc Cert.SsmBufSampleRefIdeal.main_arg5)
          ∧ r.2.mem ((c.tc : Thread Cert.SsmBufSampleRefIdeal.nD Cert.SsmBufSampleRefIdeal.τ).loc Cert.SsmBufSampleRefIdeal.main_arg6) = m' ((c.tc : Thread Cert.SsmBufSampleRefIdeal.nD Cert.SsmBufSampleRefIdeal.τ).loc Cert.SsmBufSampleRefIdeal.main_arg6)
          ∧ r.2.mem ((c.tc : Thread Cert.SsmBufSampleRefIdeal.nD Cert.SsmBufSampleRefIdeal.τ).loc Cert.SsmBufSampleRefIdeal.main_arg7) = m' ((c.tc : Thread Cert.SsmBufSampleRefIdeal.nD Cert.SsmBufSampleRefIdeal.τ).loc Cert.SsmBufSampleRefIdeal.main_arg7)
          ∧ r.2.mem ((c.tc : Thread Cert.SsmBufSampleRefIdeal.nD Cert.SsmBufSampleRefIdeal.τ).loc Cert.SsmBufSampleRefIdeal.main_arg8) = m' ((c.tc : Thread Cert.SsmBufSampleRefIdeal.nD Cert.SsmBufSampleRefIdeal.τ).loc Cert.SsmBufSampleRefIdeal.main_arg8)
          ∧ r.2.mem ((c.tc : Thread Cert.SsmBufSampleRefIdeal.nD Cert.SsmBufSampleRefIdeal.τ).loc Cert.SsmBufSampleRefIdeal.main_arg9) = m' ((c.tc : Thread Cert.SsmBufSampleRefIdeal.nD Cert.SsmBufSampleRefIdeal.τ).loc Cert.SsmBufSampleRefIdeal.main_arg9)
          ∧ r.2.mem ((c.tc : Thread Cert.SsmBufSampleRefIdeal.nD Cert.SsmBufSampleRefIdeal.τ).loc Cert.SsmBufSampleRefIdeal.main_arg10) = m' ((c.tc : Thread Cert.SsmBufSampleRefIdeal.nD Cert.SsmBufSampleRefIdeal.τ).loc Cert.SsmBufSampleRefIdeal.main_arg10)
          ∧ r.2.mem ((c.tc : Thread Cert.SsmBufSampleRefIdeal.nD Cert.SsmBufSampleRefIdeal.τ).loc Cert.SsmBufSampleRefIdeal.main_arg11) = m' ((c.tc : Thread Cert.SsmBufSampleRefIdeal.nD Cert.SsmBufSampleRefIdeal.τ).loc Cert.SsmBufSampleRefIdeal.main_arg11))

def preserves_GdnBufSample_GdnBufSampleIdeal : Prop :=
  True

def algebraic_GdnBufSampleIdeal_GdnBufSampleRefIdeal [hGdnBufSampleIdeal : Cert.GdnBufSampleIdeal.Facts] [hGdnBufSampleRefIdeal : Cert.GdnBufSampleRefIdeal.Facts] : Prop :=
  ∀ (m : (ℓ : Loc Cert.GdnBufSampleIdeal.nD Cert.GdnBufSampleIdeal.τ Cert.GdnBufSampleIdeal.sig) → Buf (Elt Ideal) ℓ) (g : Dev Cert.GdnBufSampleIdeal.nD → PrngReg)
    (m' : (ℓ : Loc Cert.GdnBufSampleRefIdeal.nD Cert.GdnBufSampleRefIdeal.τ Cert.GdnBufSampleRefIdeal.sig) → Buf (Elt Ideal) ℓ) (g' : Dev Cert.GdnBufSampleRefIdeal.nD → PrngReg), Pre_GdnBufSampleIdeal m →
    (∀ c : Dev Cert.GdnBufSampleIdeal.nD,
      m' ((c.tc : Thread Cert.GdnBufSampleRefIdeal.nD Cert.GdnBufSampleRefIdeal.τ).loc Cert.GdnBufSampleRefIdeal.main_arg0) = m ((c.tc : Thread Cert.GdnBufSampleIdeal.nD Cert.GdnBufSampleIdeal.τ).loc Cert.GdnBufSampleIdeal.main_arg0)
      ∧ m' ((c.tc : Thread Cert.GdnBufSampleRefIdeal.nD Cert.GdnBufSampleRefIdeal.τ).loc Cert.GdnBufSampleRefIdeal.main_arg1) = m ((c.tc : Thread Cert.GdnBufSampleIdeal.nD Cert.GdnBufSampleIdeal.τ).loc Cert.GdnBufSampleIdeal.main_arg1)
      ∧ m' ((c.tc : Thread Cert.GdnBufSampleRefIdeal.nD Cert.GdnBufSampleRefIdeal.τ).loc Cert.GdnBufSampleRefIdeal.main_arg2) = m ((c.tc : Thread Cert.GdnBufSampleIdeal.nD Cert.GdnBufSampleIdeal.τ).loc Cert.GdnBufSampleIdeal.main_arg2)
      ∧ m' ((c.tc : Thread Cert.GdnBufSampleRefIdeal.nD Cert.GdnBufSampleRefIdeal.τ).loc Cert.GdnBufSampleRefIdeal.main_arg3) = m ((c.tc : Thread Cert.GdnBufSampleIdeal.nD Cert.GdnBufSampleIdeal.τ).loc Cert.GdnBufSampleIdeal.main_arg3)
      ∧ m' ((c.tc : Thread Cert.GdnBufSampleRefIdeal.nD Cert.GdnBufSampleRefIdeal.τ).loc Cert.GdnBufSampleRefIdeal.main_arg4) = m ((c.tc : Thread Cert.GdnBufSampleIdeal.nD Cert.GdnBufSampleIdeal.τ).loc Cert.GdnBufSampleIdeal.main_arg4)
      ∧ m' ((c.tc : Thread Cert.GdnBufSampleRefIdeal.nD Cert.GdnBufSampleRefIdeal.τ).loc Cert.GdnBufSampleRefIdeal.main_arg5) = m ((c.tc : Thread Cert.GdnBufSampleIdeal.nD Cert.GdnBufSampleIdeal.τ).loc Cert.GdnBufSampleIdeal.main_arg5)
      ∧ m' ((c.tc : Thread Cert.GdnBufSampleRefIdeal.nD Cert.GdnBufSampleRefIdeal.τ).loc Cert.GdnBufSampleRefIdeal.main_arg6) = m ((c.tc : Thread Cert.GdnBufSampleIdeal.nD Cert.GdnBufSampleIdeal.τ).loc Cert.GdnBufSampleIdeal.main_arg6)
      ∧ m' ((c.tc : Thread Cert.GdnBufSampleRefIdeal.nD Cert.GdnBufSampleRefIdeal.τ).loc Cert.GdnBufSampleRefIdeal.main_arg7) = m ((c.tc : Thread Cert.GdnBufSampleIdeal.nD Cert.GdnBufSampleIdeal.τ).loc Cert.GdnBufSampleIdeal.main_arg7)
      ∧ m' ((c.tc : Thread Cert.GdnBufSampleRefIdeal.nD Cert.GdnBufSampleRefIdeal.τ).loc Cert.GdnBufSampleRefIdeal.main_arg8) = m ((c.tc : Thread Cert.GdnBufSampleIdeal.nD Cert.GdnBufSampleIdeal.τ).loc Cert.GdnBufSampleIdeal.main_arg8)
      ∧ m' ((c.tc : Thread Cert.GdnBufSampleRefIdeal.nD Cert.GdnBufSampleRefIdeal.τ).loc Cert.GdnBufSampleRefIdeal.main_arg9) = m ((c.tc : Thread Cert.GdnBufSampleIdeal.nD Cert.GdnBufSampleIdeal.τ).loc Cert.GdnBufSampleIdeal.main_arg9)) →
    ∃ (v0 : (c : Dev Cert.GdnBufSampleIdeal.nD) → Buf (Elt Ideal) ((c.tc : Thread Cert.GdnBufSampleIdeal.nD Cert.GdnBufSampleIdeal.τ).loc Cert.GdnBufSampleIdeal.main_v26_2)),
      θ_run (Cert.GdnBufSampleIdeal.defs (F := Ideal)) (onTc (τ := Cert.GdnBufSampleIdeal.τ) (Cert.GdnBufSampleIdeal.main (F := Ideal))) ⟨m, fun _ => 0, g⟩ (fun r => ∀ c : Dev Cert.GdnBufSampleIdeal.nD,
          r.2.mem ((c.tc : Thread Cert.GdnBufSampleIdeal.nD Cert.GdnBufSampleIdeal.τ).loc Cert.GdnBufSampleIdeal.main_v26_2) = v0 c
          ∧ r.2.mem ((c.tc : Thread Cert.GdnBufSampleIdeal.nD Cert.GdnBufSampleIdeal.τ).loc Cert.GdnBufSampleIdeal.main_arg0) = m ((c.tc : Thread Cert.GdnBufSampleIdeal.nD Cert.GdnBufSampleIdeal.τ).loc Cert.GdnBufSampleIdeal.main_arg0)
          ∧ r.2.mem ((c.tc : Thread Cert.GdnBufSampleIdeal.nD Cert.GdnBufSampleIdeal.τ).loc Cert.GdnBufSampleIdeal.main_arg1) = m ((c.tc : Thread Cert.GdnBufSampleIdeal.nD Cert.GdnBufSampleIdeal.τ).loc Cert.GdnBufSampleIdeal.main_arg1)
          ∧ r.2.mem ((c.tc : Thread Cert.GdnBufSampleIdeal.nD Cert.GdnBufSampleIdeal.τ).loc Cert.GdnBufSampleIdeal.main_arg2) = m ((c.tc : Thread Cert.GdnBufSampleIdeal.nD Cert.GdnBufSampleIdeal.τ).loc Cert.GdnBufSampleIdeal.main_arg2)
          ∧ r.2.mem ((c.tc : Thread Cert.GdnBufSampleIdeal.nD Cert.GdnBufSampleIdeal.τ).loc Cert.GdnBufSampleIdeal.main_arg3) = m ((c.tc : Thread Cert.GdnBufSampleIdeal.nD Cert.GdnBufSampleIdeal.τ).loc Cert.GdnBufSampleIdeal.main_arg3)
          ∧ r.2.mem ((c.tc : Thread Cert.GdnBufSampleIdeal.nD Cert.GdnBufSampleIdeal.τ).loc Cert.GdnBufSampleIdeal.main_arg4) = m ((c.tc : Thread Cert.GdnBufSampleIdeal.nD Cert.GdnBufSampleIdeal.τ).loc Cert.GdnBufSampleIdeal.main_arg4)
          ∧ r.2.mem ((c.tc : Thread Cert.GdnBufSampleIdeal.nD Cert.GdnBufSampleIdeal.τ).loc Cert.GdnBufSampleIdeal.main_arg5) = m ((c.tc : Thread Cert.GdnBufSampleIdeal.nD Cert.GdnBufSampleIdeal.τ).loc Cert.GdnBufSampleIdeal.main_arg5)
          ∧ r.2.mem ((c.tc : Thread Cert.GdnBufSampleIdeal.nD Cert.GdnBufSampleIdeal.τ).loc Cert.GdnBufSampleIdeal.main_arg6) = m ((c.tc : Thread Cert.GdnBufSampleIdeal.nD Cert.GdnBufSampleIdeal.τ).loc Cert.GdnBufSampleIdeal.main_arg6)
          ∧ r.2.mem ((c.tc : Thread Cert.GdnBufSampleIdeal.nD Cert.GdnBufSampleIdeal.τ).loc Cert.GdnBufSampleIdeal.main_arg7) = m ((c.tc : Thread Cert.GdnBufSampleIdeal.nD Cert.GdnBufSampleIdeal.τ).loc Cert.GdnBufSampleIdeal.main_arg7)
          ∧ r.2.mem ((c.tc : Thread Cert.GdnBufSampleIdeal.nD Cert.GdnBufSampleIdeal.τ).loc Cert.GdnBufSampleIdeal.main_arg8) = m ((c.tc : Thread Cert.GdnBufSampleIdeal.nD Cert.GdnBufSampleIdeal.τ).loc Cert.GdnBufSampleIdeal.main_arg8)
          ∧ r.2.mem ((c.tc : Thread Cert.GdnBufSampleIdeal.nD Cert.GdnBufSampleIdeal.τ).loc Cert.GdnBufSampleIdeal.main_arg9) = m ((c.tc : Thread Cert.GdnBufSampleIdeal.nD Cert.GdnBufSampleIdeal.τ).loc Cert.GdnBufSampleIdeal.main_arg9))
      ∧ θ_run (Cert.GdnBufSampleRefIdeal.defs (F := Ideal)) (onTc (τ := Cert.GdnBufSampleRefIdeal.τ) (Cert.GdnBufSampleRefIdeal.main (F := Ideal))) ⟨m', fun _ => 0, g'⟩ (fun r => ∀ c : Dev Cert.GdnBufSampleRefIdeal.nD,
          r.2.mem ((c.tc : Thread Cert.GdnBufSampleRefIdeal.nD Cert.GdnBufSampleRefIdeal.τ).loc Cert.GdnBufSampleRefIdeal.main_v4) = v0 c
          ∧ r.2.mem ((c.tc : Thread Cert.GdnBufSampleRefIdeal.nD Cert.GdnBufSampleRefIdeal.τ).loc Cert.GdnBufSampleRefIdeal.main_arg0) = m' ((c.tc : Thread Cert.GdnBufSampleRefIdeal.nD Cert.GdnBufSampleRefIdeal.τ).loc Cert.GdnBufSampleRefIdeal.main_arg0)
          ∧ r.2.mem ((c.tc : Thread Cert.GdnBufSampleRefIdeal.nD Cert.GdnBufSampleRefIdeal.τ).loc Cert.GdnBufSampleRefIdeal.main_arg1) = m' ((c.tc : Thread Cert.GdnBufSampleRefIdeal.nD Cert.GdnBufSampleRefIdeal.τ).loc Cert.GdnBufSampleRefIdeal.main_arg1)
          ∧ r.2.mem ((c.tc : Thread Cert.GdnBufSampleRefIdeal.nD Cert.GdnBufSampleRefIdeal.τ).loc Cert.GdnBufSampleRefIdeal.main_arg2) = m' ((c.tc : Thread Cert.GdnBufSampleRefIdeal.nD Cert.GdnBufSampleRefIdeal.τ).loc Cert.GdnBufSampleRefIdeal.main_arg2)
          ∧ r.2.mem ((c.tc : Thread Cert.GdnBufSampleRefIdeal.nD Cert.GdnBufSampleRefIdeal.τ).loc Cert.GdnBufSampleRefIdeal.main_arg3) = m' ((c.tc : Thread Cert.GdnBufSampleRefIdeal.nD Cert.GdnBufSampleRefIdeal.τ).loc Cert.GdnBufSampleRefIdeal.main_arg3)
          ∧ r.2.mem ((c.tc : Thread Cert.GdnBufSampleRefIdeal.nD Cert.GdnBufSampleRefIdeal.τ).loc Cert.GdnBufSampleRefIdeal.main_arg4) = m' ((c.tc : Thread Cert.GdnBufSampleRefIdeal.nD Cert.GdnBufSampleRefIdeal.τ).loc Cert.GdnBufSampleRefIdeal.main_arg4)
          ∧ r.2.mem ((c.tc : Thread Cert.GdnBufSampleRefIdeal.nD Cert.GdnBufSampleRefIdeal.τ).loc Cert.GdnBufSampleRefIdeal.main_arg5) = m' ((c.tc : Thread Cert.GdnBufSampleRefIdeal.nD Cert.GdnBufSampleRefIdeal.τ).loc Cert.GdnBufSampleRefIdeal.main_arg5)
          ∧ r.2.mem ((c.tc : Thread Cert.GdnBufSampleRefIdeal.nD Cert.GdnBufSampleRefIdeal.τ).loc Cert.GdnBufSampleRefIdeal.main_arg6) = m' ((c.tc : Thread Cert.GdnBufSampleRefIdeal.nD Cert.GdnBufSampleRefIdeal.τ).loc Cert.GdnBufSampleRefIdeal.main_arg6)
          ∧ r.2.mem ((c.tc : Thread Cert.GdnBufSampleRefIdeal.nD Cert.GdnBufSampleRefIdeal.τ).loc Cert.GdnBufSampleRefIdeal.main_arg7) = m' ((c.tc : Thread Cert.GdnBufSampleRefIdeal.nD Cert.GdnBufSampleRefIdeal.τ).loc Cert.GdnBufSampleRefIdeal.main_arg7)
          ∧ r.2.mem ((c.tc : Thread Cert.GdnBufSampleRefIdeal.nD Cert.GdnBufSampleRefIdeal.τ).loc Cert.GdnBufSampleRefIdeal.main_arg8) = m' ((c.tc : Thread Cert.GdnBufSampleRefIdeal.nD Cert.GdnBufSampleRefIdeal.τ).loc Cert.GdnBufSampleRefIdeal.main_arg8)
          ∧ r.2.mem ((c.tc : Thread Cert.GdnBufSampleRefIdeal.nD Cert.GdnBufSampleRefIdeal.τ).loc Cert.GdnBufSampleRefIdeal.main_arg9) = m' ((c.tc : Thread Cert.GdnBufSampleRefIdeal.nD Cert.GdnBufSampleRefIdeal.τ).loc Cert.GdnBufSampleRefIdeal.main_arg9))

def Claim : Prop :=
  ∃ (hGla : Cert.Gla.Facts) (hGlaIdeal : Cert.GlaIdeal.Facts) (hGlaRefIdeal : Cert.GlaRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHgrnIn : Cert.HgrnIn.Facts) (hHgrnInIdeal : Cert.HgrnInIdeal.Facts) (hHgrnInRefIdeal : Cert.HgrnInRefIdeal.Facts) (hGdnIn : Cert.GdnIn.Facts) (hGdnInIdeal : Cert.GdnInIdeal.Facts) (hGdnInRefIdeal : Cert.GdnInRefIdeal.Facts) (hAbOut : Cert.AbOut.Facts) (hAbOutIdeal : Cert.AbOutIdeal.Facts) (hAbOutRefIdeal : Cert.AbOutRefIdeal.Facts) (hGdnOut : Cert.GdnOut.Facts) (hGdnOutIdeal : Cert.GdnOutIdeal.Facts) (hGdnOutRefIdeal : Cert.GdnOutRefIdeal.Facts) (hGateIn : Cert.GateIn.Facts) (hGateInIdeal : Cert.GateInIdeal.Facts) (hGateInRefIdeal : Cert.GateInRefIdeal.Facts) (hSsmIn : Cert.SsmIn.Facts) (hSsmInIdeal : Cert.SsmInIdeal.Facts) (hSsmInRefIdeal : Cert.SsmInRefIdeal.Facts) (hSsmGateIn : Cert.SsmGateIn.Facts) (hSsmGateInIdeal : Cert.SsmGateInIdeal.Facts) (hSsmGateInRefIdeal : Cert.SsmGateInRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hNormMlp : Cert.NormMlp.Facts) (hNormMlpIdeal : Cert.NormMlpIdeal.Facts) (hNormMlpRefIdeal : Cert.NormMlpRefIdeal.Facts) (hNormAb : Cert.NormAb.Facts) (hNormAbIdeal : Cert.NormAbIdeal.Facts) (hNormAbRefIdeal : Cert.NormAbRefIdeal.Facts) (hNormC : Cert.NormC.Facts) (hNormCIdeal : Cert.NormCIdeal.Facts) (hNormCRefIdeal : Cert.NormCRefIdeal.Facts) (hSsmBufSample : Cert.SsmBufSample.Facts) (hSsmBufSampleIdeal : Cert.SsmBufSampleIdeal.Facts) (hSsmBufSampleRefIdeal : Cert.SsmBufSampleRefIdeal.Facts) (hGdnBufSample : Cert.GdnBufSample.Facts) (hGdnBufSampleIdeal : Cert.GdnBufSampleIdeal.Facts) (hGdnBufSampleRefIdeal : Cert.GdnBufSampleRefIdeal.Facts),
    quiescent_Gla (hGla := hGla)
    ∧ quiescent_GlaIdeal (hGlaIdeal := hGlaIdeal)
    ∧ quiescent_GlaRefIdeal (hGlaRefIdeal := hGlaRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmGateIn (hSsmGateIn := hSsmGateIn)
    ∧ quiescent_SsmGateInIdeal (hSsmGateInIdeal := hSsmGateInIdeal)
    ∧ quiescent_SsmGateInRefIdeal (hSsmGateInRefIdeal := hSsmGateInRefIdeal)
    ∧ quiescent_FinalPrompt (hFinalPrompt := hFinalPrompt)
    ∧ quiescent_FinalPromptIdeal (hFinalPromptIdeal := hFinalPromptIdeal)
    ∧ quiescent_FinalPromptRefIdeal (hFinalPromptRefIdeal := hFinalPromptRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_NormMlp (hNormMlp := hNormMlp)
    ∧ quiescent_NormMlpIdeal (hNormMlpIdeal := hNormMlpIdeal)
    ∧ quiescent_NormMlpRefIdeal (hNormMlpRefIdeal := hNormMlpRefIdeal)
    ∧ quiescent_NormAb (hNormAb := hNormAb)
    ∧ quiescent_NormAbIdeal (hNormAbIdeal := hNormAbIdeal)
    ∧ quiescent_NormAbRefIdeal (hNormAbRefIdeal := hNormAbRefIdeal)
    ∧ quiescent_NormC (hNormC := hNormC)
    ∧ quiescent_NormCIdeal (hNormCIdeal := hNormCIdeal)
    ∧ quiescent_NormCRefIdeal (hNormCRefIdeal := hNormCRefIdeal)
    ∧ quiescent_SsmBufSample (hSsmBufSample := hSsmBufSample)
    ∧ quiescent_SsmBufSampleIdeal (hSsmBufSampleIdeal := hSsmBufSampleIdeal)
    ∧ quiescent_SsmBufSampleRefIdeal (hSsmBufSampleRefIdeal := hSsmBufSampleRefIdeal)
    ∧ quiescent_GdnBufSample (hGdnBufSample := hGdnBufSample)
    ∧ quiescent_GdnBufSampleIdeal (hGdnBufSampleIdeal := hGdnBufSampleIdeal)
    ∧ quiescent_GdnBufSampleRefIdeal (hGdnBufSampleRefIdeal := hGdnBufSampleRefIdeal)
    ∧ preserves_Gla_GlaIdeal
    ∧ algebraic_GlaIdeal_GlaRefIdeal (hGlaIdeal := hGlaIdeal) (hGlaRefIdeal := hGlaRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_GdnIn_GdnInIdeal
    ∧ algebraic_GdnInIdeal_GdnInRefIdeal (hGdnInIdeal := hGdnInIdeal) (hGdnInRefIdeal := hGdnInRefIdeal)
    ∧ preserves_AbOut_AbOutIdeal
    ∧ algebraic_AbOutIdeal_AbOutRefIdeal (hAbOutIdeal := hAbOutIdeal) (hAbOutRefIdeal := hAbOutRefIdeal)
    ∧ preserves_GdnOut_GdnOutIdeal
    ∧ algebraic_GdnOutIdeal_GdnOutRefIdeal (hGdnOutIdeal := hGdnOutIdeal) (hGdnOutRefIdeal := hGdnOutRefIdeal)
    ∧ preserves_GateIn_GateInIdeal
    ∧ algebraic_GateInIdeal_GateInRefIdeal (hGateInIdeal := hGateInIdeal) (hGateInRefIdeal := hGateInRefIdeal)
    ∧ preserves_SsmIn_SsmInIdeal
    ∧ algebraic_SsmInIdeal_SsmInRefIdeal (hSsmInIdeal := hSsmInIdeal) (hSsmInRefIdeal := hSsmInRefIdeal)
    ∧ preserves_SsmGateIn_SsmGateInIdeal
    ∧ algebraic_SsmGateInIdeal_SsmGateInRefIdeal (hSsmGateInIdeal := hSsmGateInIdeal) (hSsmGateInRefIdeal := hSsmGateInRefIdeal)
    ∧ preserves_FinalPrompt_FinalPromptIdeal
    ∧ algebraic_FinalPromptIdeal_FinalPromptRefIdeal (hFinalPromptIdeal := hFinalPromptIdeal) (hFinalPromptRefIdeal := hFinalPromptRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_NormMlp_NormMlpIdeal
    ∧ algebraic_NormMlpIdeal_NormMlpRefIdeal (hNormMlpIdeal := hNormMlpIdeal) (hNormMlpRefIdeal := hNormMlpRefIdeal)
    ∧ preserves_NormAb_NormAbIdeal
    ∧ algebraic_NormAbIdeal_NormAbRefIdeal (hNormAbIdeal := hNormAbIdeal) (hNormAbRefIdeal := hNormAbRefIdeal)
    ∧ preserves_NormC_NormCIdeal
    ∧ algebraic_NormCIdeal_NormCRefIdeal (hNormCIdeal := hNormCIdeal) (hNormCRefIdeal := hNormCRefIdeal)
    ∧ preserves_SsmBufSample_SsmBufSampleIdeal
    ∧ algebraic_SsmBufSampleIdeal_SsmBufSampleRefIdeal (hSsmBufSampleIdeal := hSsmBufSampleIdeal) (hSsmBufSampleRefIdeal := hSsmBufSampleRefIdeal)
    ∧ preserves_GdnBufSample_GdnBufSampleIdeal
    ∧ algebraic_GdnBufSampleIdeal_GdnBufSampleRefIdeal (hGdnBufSampleIdeal := hGdnBufSampleIdeal) (hGdnBufSampleRefIdeal := hGdnBufSampleRefIdeal)
-- ==== Gla.lean ====
abbrev S9216x8192 : Shape := ⟨2, ![9216, 8192]⟩
abbrev S2x4x16x128x128 : Shape := ⟨5, ![2, 4, 16, 128, 128]⟩
abbrev S2x4x2048x128 : Shape := ⟨4, ![2, 4, 2048, 128]⟩
abbrev S2x2048 : Shape := ⟨2, ![2, 2048]⟩
abbrev S1x2048 : Shape := ⟨2, ![1, 2048]⟩
abbrev S2048 : Shape := ⟨1, ![2048]⟩
abbrev S8192x2048 : Shape := ⟨2, ![8192, 2048]⟩
abbrev S64x2048 : Shape := ⟨2, ![64, 2048]⟩
abbrev S1x1x2048x128 : Shape := ⟨4, ![1, 1, 2048, 128]⟩
abbrev S2048x128 : Shape := ⟨2, ![2048, 128]⟩
abbrev S64x128 : Shape := ⟨2, ![64, 128]⟩
abbrev S1x128 : Shape := ⟨2, ![1, 128]⟩
abbrev S64x64 : Shape := ⟨2, ![64, 64]⟩
abbrev S64x1 : Shape := ⟨2, ![64, 1]⟩
abbrev S32x128 : Shape := ⟨2, ![32, 128]⟩
abbrev S16x128 : Shape := ⟨2, ![16, 128]⟩
abbrev S8x128 : Shape := ⟨2, ![8, 128]⟩
abbrev S1x1x128x128 : Shape := ⟨4, ![1, 1, 128, 128]⟩
abbrev S128x128 : Shape := ⟨2, ![128, 128]⟩
abbrev S128x8 : Shape := ⟨2, ![128, 8]⟩
abbrev S128x1 : Shape := ⟨2, ![128, 1]⟩
abbrev S64 : Shape := ⟨1, ![64]⟩

abbrev nBuf : Space → Nat
  | .hbm => 11
  | .vmem => 16
  | .smem => 0
  | _ => 0

abbrev bufTy : (tb : Table) → Fin (tcTables nBuf tb) → BufTy
  | .hbm, ⟨0, _⟩ => ⟨S9216x8192, .f32⟩
  | .hbm, ⟨1, _⟩ => ⟨S2x4x16x128x128, .f32⟩
  | .hbm, ⟨2, _⟩ => ⟨S2x4x2048x128, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2x4x2048x128, .f32⟩
  | .hbm, ⟨9, _⟩ => ⟨S8192x2048, .bf16⟩
  | .hbm, ⟨10, _⟩ => ⟨S2x4x2048x128, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x1x2048x128, .f32⟩
  | .local _ .vmem, ⟨9, _⟩ => ⟨S1x1x2048x128, .f32⟩
  | .local _ .vmem, ⟨10, _⟩ => ⟨S2x2048, .f32⟩
  | .local _ .vmem, ⟨11, _⟩ => ⟨S1x2048, .f32⟩
  | .local _ .vmem, ⟨12, _⟩ => ⟨S64x2048, .bf16⟩
  | .local _ .vmem, ⟨13, _⟩ => ⟨S64x2048, .bf16⟩
  | .local _ .vmem, ⟨14, _⟩ => ⟨S1x1x2048x128, .f32⟩
  | .local _ .vmem, ⟨15, _⟩ => ⟨S1x1x2048x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== GlaRefIdeal.lean ====
abbrev S9216x8192 : Shape := ⟨2, ![9216, 8192]⟩
abbrev S2x4x16x128x128 : Shape := ⟨5, ![2, 4, 16, 128, 128]⟩
abbrev S2x4x2048x128 : Shape := ⟨4, ![2, 4, 2048, 128]⟩
abbrev S2x2048 : Shape := ⟨2, ![2, 2048]⟩
abbrev S8192x8192 : Shape := ⟨2, ![8192, 8192]⟩
abbrev S4x2048x8192 : Shape := ⟨3, ![4, 2048, 8192]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S4x2048x16x128 : Shape := ⟨4, ![4, 2048, 16, 128]⟩
abbrev S1x1x2048 : Shape := ⟨3, ![1, 1, 2048]⟩
abbrev S16x128 : Shape := ⟨2, ![16, 128]⟩
abbrev S64x64 : Shape := ⟨2, ![64, 64]⟩
abbrev S1x64x64x1x1 : Shape := ⟨5, ![1, 64, 64, 1, 1]⟩
abbrev S4x32x64x16x128 : Shape := ⟨5, ![4, 32, 64, 16, 128]⟩
abbrev S32x4x64x16x128 : Shape := ⟨5, ![32, 4, 64, 16, 128]⟩
abbrev S1x4x16x128x128 : Shape := ⟨5, ![1, 4, 16, 128, 128]⟩
abbrev S4x16x128x128 : Shape := ⟨4, ![4, 16, 128, 128]⟩
abbrev S1x4x64x16x128 : Shape := ⟨5, ![1, 4, 64, 16, 128]⟩
abbrev S4x64x16x128 : Shape := ⟨4, ![4, 64, 16, 128]⟩
abbrev S4x64x1x16x128 : Shape := ⟨5, ![4, 64, 1, 16, 128]⟩
abbrev S4x1x64x16x128 : Shape := ⟨5, ![4, 1, 64, 16, 128]⟩
abbrev S4x64x64x16x128 : Shape := ⟨5, ![4, 64, 64, 16, 128]⟩
abbrev S4x64x64x16 : Shape := ⟨4, ![4, 64, 64, 16]⟩
abbrev S4x16x128x64 : Shape := ⟨4, ![4, 16, 128, 64]⟩
abbrev S4x1x16x128 : Shape := ⟨4, ![4, 1, 16, 128]⟩
abbrev S4x16x128 : Shape := ⟨3, ![4, 16, 128]⟩
abbrev S4x16x128x1 : Shape := ⟨4, ![4, 16, 128, 1]⟩
abbrev S4x64x16 : Shape := ⟨3, ![4, 64, 16]⟩
abbrev S4x64x16x1 : Shape := ⟨4, ![4, 64, 16, 1]⟩
abbrev S1x1x16x128 : Shape := ⟨4, ![1, 1, 16, 128]⟩
abbrev S1x4x2048x128 : Shape := ⟨4, ![1, 4, 2048, 128]⟩
abbrev S8192x2048 : Shape := ⟨2, ![8192, 2048]⟩

abbrev nBuf : Space → Nat
  | .hbm => 238
  | .vmem => 0
  | .smem => 0
  | _ => 0

abbrev hbmTy0_0 (i : Nat) : BufTy := match i % 128 with
  | 0 => ⟨S9216x8192, .f32⟩
  | 1 => ⟨S2x4x16x128x128, .f32⟩
  | 2 => ⟨S2x4x2048x128, .f32⟩
  | 3 => ⟨S2x2048, .f32⟩
  | 4 => ⟨S2x2048, .f32⟩
  | 5 => ⟨S8192x8192, .f32⟩
  | 6 => ⟨S4x2048x8192, .f32⟩
  | 7 => ⟨S4x2048x2048, .f32⟩
  | 8 => ⟨S4x2048x2048, .f32⟩
  | 9 => ⟨S4x2048x2048, .f32⟩
  | 10 => ⟨S4x2048x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S1x2048, .f32⟩
  | 17 => ⟨S2x2048, .f32⟩
  | 18 => ⟨S2x2048, .f32⟩
  | 19 => ⟨S2x2048, .f32⟩
  | 20 => ⟨S_, .f32⟩
  | 21 => ⟨S2048, .f32⟩
  | 22 => ⟨S1x2048, .f32⟩
  | 23 => ⟨S2x2048, .f32⟩
  | 24 => ⟨S2x2048, .f32⟩
  | 25 => ⟨S_, .f32⟩
  | 26 => ⟨S_, .f32⟩
  | 27 => ⟨S2x2048, .f32⟩
  | 28 => ⟨S1x2048, .f32⟩
  | 29 => ⟨S2048, .f32⟩
  | 30 => ⟨S1x2048, .f32⟩
  | 31 => ⟨S2x2048, .f32⟩
  | 32 => ⟨S2x2048, .f32⟩
  | 33 => ⟨S1x2048, .f32⟩
  | 34 => ⟨S2048, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S4x2048x2048, .f32⟩
  | 47 => ⟨S4x2048x2048, .f32⟩
  | 48 => ⟨S_, .f32⟩
  | 49 => ⟨S4x2048x2048, .f32⟩
  | 50 => ⟨S4x2048x2048, .f32⟩
  | 51 => ⟨S4x2048x2048, .f32⟩
  | 52 => ⟨S4x2048x16x128, .f32⟩
  | 53 => ⟨S_, .f32⟩
  | 54 => ⟨S2048, .f32⟩
  | 55 => ⟨S2048, .f32⟩
  | 56 => ⟨S1x1x2048, .f32⟩
  | 57 => ⟨S4x2048x2048, .f32⟩
  | 58 => ⟨S4x2048x2048, .f32⟩
  | 59 => ⟨S1x1x2048, .f32⟩
  | 60 => ⟨S4x2048x2048, .f32⟩
  | 61 => ⟨S4x2048x2048, .f32⟩
  | 62 => ⟨S_, .f32⟩
  | 63 => ⟨S4x2048x2048, .f32⟩
  | 64 => ⟨S4x2048x2048, .f32⟩
  | 65 => ⟨S4x2048x2048, .f32⟩
  | 66 => ⟨S_, .f32⟩
  | 67 => ⟨S2048, .f32⟩
  | 68 => ⟨S2048, .f32⟩
  | 69 => ⟨S_, .f32⟩
  | 70 => ⟨S4x2048x2048, .f32⟩
  | 71 => ⟨S4x2048x2048, .f32⟩
  | 72 => ⟨S1x1x2048, .f32⟩
  | 73 => ⟨S4x2048x2048, .f32⟩
  | 74 => ⟨S4x2048x2048, .f32⟩
  | 75 => ⟨S1x2048, .f32⟩
  | 76 => ⟨S2048, .f32⟩
  | 77 => ⟨S16x128, .f32⟩
  | 78 => ⟨S_, .i1⟩
  | 79 => ⟨S64x64, .i1⟩
  | 80 => ⟨S64x64, .i32⟩
  | 81 => ⟨S_, .i32⟩
  | 82 => ⟨S64x64, .i32⟩
  | 83 => ⟨S64x64, .i32⟩
  | 84 => ⟨S64x64, .i32⟩
  | 85 => ⟨S64x64, .i1⟩
  | 86 => ⟨S_, .i1⟩
  | 87 => ⟨S64x64, .i1⟩
  | 88 => ⟨S64x64, .i1⟩
  | 89 => ⟨S1x64x64x1x1, .i1⟩
  | 90 => ⟨S4x2048x16x128, .f32⟩
  | 91 => ⟨S4x2048x16x128, .f32⟩
  | 92 => ⟨S4x2048x16x128, .f32⟩
  | 93 => ⟨S4x2048x2048, .f32⟩
  | 94 => ⟨S4x2048x2048, .f32⟩
  | 95 => ⟨S_, .f32⟩
  | 96 => ⟨S4x2048x2048, .f32⟩
  | 97 => ⟨S4x2048x2048, .f32⟩
  | 98 => ⟨S_, .f32⟩
  | 99 => ⟨S4x2048x2048, .f32⟩
  | 100 => ⟨S4x2048x2048, .f32⟩
  | 101 => ⟨S4x2048x2048, .f32⟩
  | 102 => ⟨S4x2048x16x128, .f32⟩
  | 103 => ⟨S4x32x64x16x128, .f32⟩
  | 104 => ⟨S32x4x64x16x128, .f32⟩
  | 105 => ⟨S4x32x64x16x128, .f32⟩
  | 106 => ⟨S32x4x64x16x128, .f32⟩
  | 107 => ⟨S4x32x64x16x128, .f32⟩
  | 108 => ⟨S32x4x64x16x128, .f32⟩
  | 109 => ⟨S4x32x64x16x128, .f32⟩
  | 110 => ⟨S32x4x64x16x128, .f32⟩
  | 111 => ⟨S4x32x64x16x128, .f32⟩
  | 112 => ⟨S32x4x64x16x128, .f32⟩
  | 113 => ⟨S1x4x16x128x128, .f32⟩
  | 114 => ⟨S4x16x128x128, .f32⟩
  | 115 => ⟨S_, .f32⟩
  | 116 => ⟨S32x4x64x16x128, .f32⟩
  | 117 => ⟨S_, .i32⟩
  | 118 => ⟨S32x4x64x16x128, .f32⟩
  | 119 => ⟨S32x4x64x16x128, .f32⟩
  | 120 => ⟨S32x4x64x16x128, .f32⟩
  | 121 => ⟨S32x4x64x16x128, .f32⟩
  | 122 => ⟨S32x4x64x16x128, .f32⟩
  | 123 => ⟨S1x64x64x1x1, .i1⟩
  | 124 => ⟨S16x128, .f32⟩
  | 125 => ⟨S_, .i32⟩
  | 126 => ⟨S4x16x128x128, .f32⟩
  | 127 => ⟨S32x4x64x16x128, .f32⟩
  | _ => ⟨S9216x8192, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S1x4x64x16x128, .f32⟩
  | 7 => ⟨S4x64x16x128, .f32⟩
  | 8 => ⟨S_, .i32⟩
  | 9 => ⟨S_, .i32⟩
  | 10 => ⟨S_, .i32⟩
  | 11 => ⟨S_, .i32⟩
  | 12 => ⟨S1x4x64x16x128, .f32⟩
  | 13 => ⟨S4x64x16x128, .f32⟩
  | 14 => ⟨S_, .i32⟩
  | 15 => ⟨S_, .i32⟩
  | 16 => ⟨S_, .i32⟩
  | 17 => ⟨S_, .i32⟩
  | 18 => ⟨S1x4x64x16x128, .f32⟩
  | 19 => ⟨S4x64x16x128, .f32⟩
  | 20 => ⟨S_, .i32⟩
  | 21 => ⟨S_, .i32⟩
  | 22 => ⟨S_, .i32⟩
  | 23 => ⟨S_, .i32⟩
  | 24 => ⟨S1x4x64x16x128, .f32⟩
  | 25 => ⟨S4x64x16x128, .f32⟩
  | 26 => ⟨S_, .i32⟩
  | 27 => ⟨S_, .i32⟩
  | 28 => ⟨S_, .i32⟩
  | 29 => ⟨S_, .i32⟩
  | 30 => ⟨S1x4x64x16x128, .f32⟩
  | 31 => ⟨S4x64x16x128, .f32⟩
  | 32 => ⟨S_, .f32⟩
  | 33 => ⟨S_, .f32⟩
  | 34 => ⟨S4x64x16x128, .f32⟩
  | 35 => ⟨S4x64x1x16x128, .f32⟩
  | 36 => ⟨S4x1x64x16x128, .f32⟩
  | 37 => ⟨S4x64x64x16x128, .f32⟩
  | 38 => ⟨S4x64x64x16x128, .f32⟩
  | 39 => ⟨S4x64x64x16x128, .f32⟩
  | 40 => ⟨S_, .f32⟩
  | 41 => ⟨S_, .f32⟩
  | 42 => ⟨S4x64x64x16x128, .i1⟩
  | 43 => ⟨S4x64x64x16x128, .f32⟩
  | 44 => ⟨S4x64x64x16x128, .f32⟩
  | 45 => ⟨S4x64x64x16x128, .f32⟩
  | 46 => ⟨S_, .f32⟩
  | 47 => ⟨S_, .f32⟩
  | 48 => ⟨S4x64x64x16x128, .i1⟩
  | 49 => ⟨S4x64x64x16x128, .f32⟩
  | 50 => ⟨S4x64x64x16x128, .f32⟩
  | 51 => ⟨S4x64x1x16x128, .f32⟩
  | 52 => ⟨S4x1x64x16x128, .f32⟩
  | 53 => ⟨S4x64x64x16x128, .f32⟩
  | 54 => ⟨S4x64x64x16x128, .f32⟩
  | 55 => ⟨S4x64x64x16x128, .f32⟩
  | 56 => ⟨S4x64x64x16x128, .f32⟩
  | 57 => ⟨S_, .f32⟩
  | 58 => ⟨S4x64x64x16, .f32⟩
  | 59 => ⟨S4x16x128x64, .f32⟩
  | 60 => ⟨S4x64x16x128, .f32⟩
  | 61 => ⟨S4x64x16x128, .f32⟩
  | 62 => ⟨S4x64x16x128, .f32⟩
  | 63 => ⟨S4x16x128x64, .f32⟩
  | 64 => ⟨S4x64x16x128, .f32⟩
  | 65 => ⟨S4x64x16x128, .f32⟩
  | 66 => ⟨S4x1x16x128, .f32⟩
  | 67 => ⟨S4x16x128, .f32⟩
  | 68 => ⟨S4x16x128, .f32⟩
  | 69 => ⟨S4x16x128x1, .f32⟩
  | 70 => ⟨S4x16x128x128, .f32⟩
  | 71 => ⟨S4x16x128x128, .f32⟩
  | 72 => ⟨S4x1x16x128, .f32⟩
  | 73 => ⟨S4x64x16x128, .f32⟩
  | 74 => ⟨S4x64x16x128, .f32⟩
  | 75 => ⟨S4x64x16x128, .f32⟩
  | 76 => ⟨S4x64x16x128, .f32⟩
  | 77 => ⟨S4x16x128x128, .f32⟩
  | 78 => ⟨S4x16x128x128, .f32⟩
  | 79 => ⟨S4x64x16x128, .f32⟩
  | 80 => ⟨S_, .f32⟩
  | 81 => ⟨S4x64x16, .f32⟩
  | 82 => ⟨S4x64x16x1, .f32⟩
  | 83 => ⟨S_, .f32⟩
  | 84 => ⟨S4x64x16x1, .f32⟩
  | 85 => ⟨S4x64x16x1, .f32⟩
  | 86 => ⟨S_, .f32⟩
  | 87 => ⟨S4x64x16x1, .f32⟩
  | 88 => ⟨S4x64x16x1, .f32⟩
  | 89 => ⟨S4x64x16x1, .f32⟩
  | 90 => ⟨S4x64x16x128, .f32⟩
  | 91 => ⟨S4x64x16x128, .f32⟩
  | 92 => ⟨S1x1x16x128, .f32⟩
  | 93 => ⟨S4x64x16x128, .f32⟩
  | 94 => ⟨S4x64x16x128, .f32⟩
  | 95 => ⟨S4x64x16x128, .f32⟩
  | 96 => ⟨S1x4x64x16x128, .f32⟩
  | 97 => ⟨S_, .i32⟩
  | 98 => ⟨S_, .i32⟩
  | 99 => ⟨S_, .i32⟩
  | 100 => ⟨S_, .i32⟩
  | 101 => ⟨S32x4x64x16x128, .f32⟩
  | 102 => ⟨S_, .i32⟩
  | 103 => ⟨S_, .i32⟩
  | 104 => ⟨S1x4x2048x128, .f32⟩
  | 105 => ⟨S1x4x2048x128, .f32⟩
  | 106 => ⟨S2x4x2048x128, .f32⟩
  | 107 => ⟨S4x32x64x16x128, .f32⟩
  | 108 => ⟨S8192x2048, .f32⟩
  | 109 => ⟨S8192x2048, .bf16⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_call0_cst : Ref sig .tc := ⟨.hbm, 25, rfl⟩
abbrev main_call0_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c : Ref sig .tc := ⟨.hbm, 78, rfl⟩
abbrev main_v54 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_8 : Ref sig .tc := ⟨.hbm, 115, rfl⟩
abbrev main_v74 : Ref sig .tc := ⟨.hbm, 116, rfl⟩
abbrev main_c_9 : Ref sig .tc := ⟨.hbm, 117, rfl⟩
abbrev main_v75_0 : Ref sig .tc := ⟨.hbm, 118, rfl⟩
abbrev main_v75_1 : Ref sig .tc := ⟨.hbm, 119, rfl⟩
abbrev main_v75_2 : Ref sig .tc := ⟨.hbm, 120, rfl⟩
abbrev main_v75_3 : Ref sig .tc := ⟨.hbm, 121, rfl⟩
abbrev main_v75_4 : Ref sig .tc := ⟨.hbm, 122, rfl⟩
abbrev main_v75_5 : Ref sig .tc := ⟨.hbm, 123, rfl⟩
abbrev main_v75_6 : Ref sig .tc := ⟨.hbm, 124, rfl⟩
abbrev main_v75_7 : Ref sig .tc := ⟨.hbm, 125, rfl⟩
abbrev main_v75_8 : Ref sig .tc := ⟨.hbm, 126, rfl⟩
abbrev main_v75_9 : Ref sig .tc := ⟨.hbm, 127, rfl⟩
abbrev main_while0c_c_19 : Ref sig .tc := ⟨.hbm, 128, rfl⟩
abbrev main_while0c_v82 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_v0 : Ref sig .tc := ⟨.hbm, 134, rfl⟩
abbrev main_while0b_v82 : Ref sig .tc := ⟨.hbm, 135, rfl⟩
abbrev main_while0b_call5_c : Ref sig .tc := ⟨.hbm, 136, rfl⟩
abbrev main_while0b_call5_c_0 : Ref sig .tc := ⟨.hbm, 137, rfl⟩
abbrev main_while0b_call5_c_1 : Ref sig .tc := ⟨.hbm, 138, rfl⟩
abbrev main_while0b_call5_c_2 : Ref sig .tc := ⟨.hbm, 139, rfl⟩
abbrev main_while0b_call5_v0 : Ref sig .tc := ⟨.hbm, 140, rfl⟩
abbrev main_while0b_v83 : Ref sig .tc := ⟨.hbm, 141, rfl⟩
abbrev main_while0b_call6_c : Ref sig .tc := ⟨.hbm, 142, rfl⟩
abbrev main_while0b_call6_c_0 : Ref sig .tc := ⟨.hbm, 143, rfl⟩
abbrev main_while0b_call6_c_1 : Ref sig .tc := ⟨.hbm, 144, rfl⟩
abbrev main_while0b_call6_c_2 : Ref sig .tc := ⟨.hbm, 145, rfl⟩
abbrev main_while0b_call6_v0 : Ref sig .tc := ⟨.hbm, 146, rfl⟩
abbrev main_while0b_v84 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_call7_c_2 : Ref sig .tc := ⟨.hbm, 151, rfl⟩
abbrev main_while0b_call7_v0 : Ref sig .tc := ⟨.hbm, 152, rfl⟩
abbrev main_while0b_v85 : Ref sig .tc := ⟨.hbm, 153, rfl⟩
abbrev main_while0b_call8_c : Ref sig .tc := ⟨.hbm, 154, rfl⟩
abbrev main_while0b_call8_c_0 : Ref sig .tc := ⟨.hbm, 155, rfl⟩
abbrev main_while0b_call8_c_1 : Ref sig .tc := ⟨.hbm, 156, rfl⟩
abbrev main_while0b_call8_c_2 : Ref sig .tc := ⟨.hbm, 157, rfl⟩
abbrev main_while0b_call8_v0 : Ref sig .tc := ⟨.hbm, 158, rfl⟩
abbrev main_while0b_v86 : Ref sig .tc := ⟨.hbm, 159, rfl⟩
abbrev main_while0b_call9_call0_cst : Ref sig .tc := ⟨.hbm, 160, rfl⟩
abbrev main_while0b_call9_call0_v0 : Ref sig .tc := ⟨.hbm, 161, rfl⟩
abbrev main_while0b_v87 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_cst_19 : Ref sig .tc := ⟨.hbm, 168, rfl⟩
abbrev main_while0b_call10_v0 : Ref sig .tc := ⟨.hbm, 169, rfl⟩
abbrev main_while0b_call10_v1 : Ref sig .tc := ⟨.hbm, 170, rfl⟩
abbrev main_while0b_call10_v2 : Ref sig .tc := ⟨.hbm, 171, rfl⟩
abbrev main_while0b_v93 : Ref sig .tc := ⟨.hbm, 172, rfl⟩
abbrev main_while0b_v94 : Ref sig .tc := ⟨.hbm, 173, rfl⟩
abbrev main_while0b_cst_20 : Ref sig .tc := ⟨.hbm, 174, rfl⟩
abbrev main_while0b_call11_v0 : Ref sig .tc := ⟨.hbm, 175, rfl⟩
abbrev main_while0b_call11_v1 : Ref sig .tc := ⟨.hbm, 176, rfl⟩
abbrev main_while0b_call11_v2 : Ref sig .tc := ⟨.hbm, 177, rfl⟩
abbrev main_while0b_v95 : Ref sig .tc := ⟨.hbm, 178, rfl⟩
abbrev main_while0b_v96 : Ref sig .tc := ⟨.hbm, 179, rfl⟩
abbrev main_while0b_v97 : Ref sig .tc := ⟨.hbm, 180, rfl⟩
abbrev main_while0b_v98 : Ref sig .tc := ⟨.hbm, 181, rfl⟩
abbrev main_while0b_v99 : Ref sig .tc := ⟨.hbm, 182, rfl⟩
abbrev main_while0b_v100 : Ref sig .tc := ⟨.hbm, 183, rfl⟩
abbrev main_while0b_v101 : Ref sig .tc := ⟨.hbm, 184, rfl⟩
abbrev main_while0b_cst_21 : Ref sig .tc := ⟨.hbm, 185, rfl⟩
abbrev main_while0b_v102 : Ref sig .tc := ⟨.hbm, 186, rfl⟩
abbrev main_while0b_v103 : Ref sig .tc := ⟨.hbm, 187, rfl⟩
abbrev main_while0b_v104 : Ref sig .tc := ⟨.hbm, 188, rfl⟩
abbrev main_while0b_v105 : Ref sig .tc := ⟨.hbm, 189, rfl⟩
abbrev main_while0b_v106 : Ref sig .tc := ⟨.hbm, 190, rfl⟩
abbrev main_while0b_v107 : Ref sig .tc := ⟨.hbm, 191, rfl⟩
abbrev main_while0b_v108 : Ref sig .tc := ⟨.hbm, 192, rfl⟩
abbrev main_while0b_v109 : Ref sig .tc := ⟨.hbm, 193, rfl⟩
abbrev main_while0b_v110 : Ref sig .tc := ⟨.hbm, 194, rfl⟩
abbrev main_while0b_v111 : Ref sig .tc := ⟨.hbm, 195, rfl⟩
abbrev main_while0b_v112 : Ref sig .tc := ⟨.hbm, 196, rfl⟩
abbrev main_while0b_v113 : Ref sig .tc := ⟨.hbm, 197, rfl⟩
abbrev main_while0b_v114 : Ref sig .tc := ⟨.hbm, 198, rfl⟩
abbrev main_while0b_v115 : Ref sig .tc := ⟨.hbm, 199, rfl⟩
abbrev main_while0b_v116 : Ref sig .tc := ⟨.hbm, 200, rfl⟩
abbrev main_while0b_v117 : Ref sig .tc := ⟨.hbm, 201, rfl⟩
abbrev main_while0b_v118 : Ref sig .tc := ⟨.hbm, 202, rfl⟩
abbrev main_while0b_v119 : Ref sig .tc := ⟨.hbm, 203, rfl⟩
abbrev main_while0b_v120 : Ref sig .tc := ⟨.hbm, 204, rfl⟩
abbrev main_while0b_v121 : Ref sig .tc := ⟨.hbm, 205, rfl⟩
abbrev main_while0b_v122 : Ref sig .tc := ⟨.hbm, 206, rfl⟩
abbrev main_while0b_v123 : Ref sig .tc := ⟨.hbm, 207, rfl⟩
abbrev main_while0b_cst_22 : Ref sig .tc := ⟨.hbm, 208, rfl⟩
abbrev main_while0b_v124 : Ref sig .tc := ⟨.hbm, 209, rfl⟩
abbrev main_while0b_v125 : Ref sig .tc := ⟨.hbm, 210, rfl⟩
abbrev main_while0b_cst_23 : Ref sig .tc := ⟨.hbm, 211, rfl⟩
abbrev main_while0b_v126 : Ref sig .tc := ⟨.hbm, 212, rfl⟩
abbrev main_while0b_v127 : Ref sig .tc := ⟨.hbm, 213, rfl⟩
abbrev main_while0b_cst_24 : Ref sig .tc := ⟨.hbm, 214, rfl⟩
abbrev main_while0b_v128 : Ref sig .tc := ⟨.hbm, 215, rfl⟩
abbrev main_while0b_v129 : Ref sig .tc := ⟨.hbm, 216, rfl⟩
abbrev main_while0b_v130 : Ref sig .tc := ⟨.hbm, 217, rfl⟩
abbrev main_while0b_v131 : Ref sig .tc := ⟨.hbm, 218, rfl⟩
abbrev main_while0b_v132 : Ref sig .tc := ⟨.hbm, 219, rfl⟩
abbrev main_while0b_v133 : Ref sig .tc := ⟨.hbm, 220, rfl⟩
abbrev main_while0b_v134 : Ref sig .tc := ⟨.hbm, 221, rfl⟩
abbrev main_while0b_v135 : Ref sig .tc := ⟨.hbm, 222, rfl⟩
abbrev main_while0b_v136 : Ref sig .tc := ⟨.hbm, 223, rfl⟩
abbrev main_while0b_call12_v0 : Ref sig .tc := ⟨.hbm, 224, rfl⟩
abbrev main_while0b_call12_c : Ref sig .tc := ⟨.hbm, 225, rfl⟩
abbrev main_while0b_call12_c_0 : Ref sig .tc := ⟨.hbm, 226, rfl⟩
abbrev main_while0b_call12_c_1 : Ref sig .tc := ⟨.hbm, 227, rfl⟩
abbrev main_while0b_call12_c_2 : Ref sig .tc := ⟨.hbm, 228, rfl⟩
abbrev main_while0b_v137 : Ref sig .tc := ⟨.hbm, 229, rfl⟩
abbrev main_while0b_c_25 : Ref sig .tc := ⟨.hbm, 230, rfl⟩
abbrev main_while0b_v138 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_v81 : Ref sig .tc := ⟨.hbm, 237, rfl⟩

abbrev nD : Nat := 1
abbrev τ : Topo := Topo.v7x

variable {F : FTy → Type} [FloatOps F]

abbrev main_while0_count : Scf.Loop 32 := ⟨0#32, 32#32, 1#32⟩
-- ==== Up.lean ====
abbrev S9216x2048 : Shape := ⟨2, ![9216, 2048]⟩
abbrev S4x2048x8192 : Shape := ⟨3, ![4, 2048, 8192]⟩
abbrev S9216x8192 : Shape := ⟨2, ![9216, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S4x2048x8192, .f32⟩
  | .hbm, ⟨2, _⟩ => ⟨S9216x2048, .bf16⟩
  | .hbm, ⟨3, _⟩ => ⟨S9216x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S9216x2048 : Shape := ⟨2, ![9216, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S9216x8192 : Shape := ⟨2, ![9216, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048x8192, .f32⟩
  | .hbm, ⟨2, _⟩ => ⟨S1x2048x8192, .f32⟩
  | .hbm, ⟨3, _⟩ => ⟨S2048x8192, .f32⟩
  | .hbm, ⟨4, _⟩ => ⟨S9216x8192, .f32⟩
  | .hbm, ⟨5, _⟩ => ⟨S_, .f32⟩
  | .hbm, ⟨6, _⟩ => ⟨S9216x8192, .f32⟩
  | .hbm, ⟨7, _⟩ => ⟨S9216x8192, .f32⟩
  | .hbm, ⟨8, _⟩ => ⟨S9216x8192, .f32⟩
  | .hbm, ⟨9, _⟩ => ⟨S9216x8192, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S9216x8192 : Shape := ⟨2, ![9216, 8192]⟩
abbrev S4x8192x2048 : Shape := ⟨3, ![4, 8192, 2048]⟩
abbrev S9216x2048 : Shape := ⟨2, ![9216, 2048]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩

abbrev nBuf : Space → Nat
  | .hbm => 5
  | .vmem => 8
  | .smem => 0
  | _ => 0

abbrev bufTy : (tb : Table) → Fin (tcTables nBuf tb) → BufTy
  | .hbm, ⟨0, _⟩ => ⟨S9216x8192, .f32⟩
  | .hbm, ⟨1, _⟩ => ⟨S4x8192x2048, .f32⟩
  | .hbm, ⟨2, _⟩ => ⟨S9216x2048, .f32⟩
  | .hbm, ⟨3, _⟩ => ⟨S9216x8192, .bf16⟩
  | .hbm, ⟨4, _⟩ => ⟨S9216x2048, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S8192x512, .bf16⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c17_i32 : BitVec 32 := 17#32
  let v1 : BitVec 32 := Scalar.maxsi c0_i32_0 v0
  let v2 : BitVec 32 := Scalar.minsi c17_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S9216x8192 : Shape := ⟨2, ![9216, 8192]⟩
abbrev S4x8192x2048 : Shape := ⟨3, ![4, 8192, 2048]⟩
abbrev S9216x2048 : Shape := ⟨2, ![9216, 2048]⟩
abbrev S1x8192x2048 : Shape := ⟨3, ![1, 8192, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S4x8192x2048, .f32⟩
  | .hbm, ⟨2, _⟩ => ⟨S9216x2048, .f32⟩
  | .hbm, ⟨3, _⟩ => ⟨S1x8192x2048, .f32⟩
  | .hbm, ⟨4, _⟩ => ⟨S8192x2048, .f32⟩
  | .hbm, ⟨5, _⟩ => ⟨S9216x2048, .f32⟩
  | .hbm, ⟨6, _⟩ => ⟨S9216x2048, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HgrnIn.lean ====
abbrev S9216x2048 : Shape := ⟨2, ![9216, 2048]⟩
abbrev S2x2048x13344 : Shape := ⟨3, ![2, 2048, 13344]⟩
abbrev S2x13344x2048 : Shape := ⟨3, ![2, 13344, 2048]⟩
abbrev S26688x2048 : Shape := ⟨2, ![26688, 2048]⟩
abbrev S9216x8192 : Shape := ⟨2, ![9216, 8192]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S2x13344x2048, .f32⟩
  | .hbm, ⟨3, _⟩ => ⟨S9216x2048, .bf16⟩
  | .hbm, ⟨4, _⟩ => ⟨S26688x2048, .f32⟩
  | .hbm, ⟨5, _⟩ => ⟨S9216x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def k0_mult1 (i : grid0.Coords) : BitVec 32 :=
  let c18496_i32 : BitVec 32 := 18496#32
  let arg0 : BitVec 32 := BitVec.ofNat 32 (i 0).val
  let c1024_i32 : BitVec 32 := 1024#32
  let v0 : BitVec 32 := Scalar.muli arg0 c1024_i32
  let v1 : BitVec 32 := Scalar.addi c18496_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c18496_i32 : BitVec 32 := 18496#32
  let v1 : BitVec 32 := Scalar.addi c18496_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnInRefIdeal.lean ====
abbrev S9216x2048 : Shape := ⟨2, ![9216, 2048]⟩
abbrev S2x2048x13344 : Shape := ⟨3, ![2, 2048, 13344]⟩
abbrev S1x2048x13344 : Shape := ⟨3, ![1, 2048, 13344]⟩
abbrev S2048x13344 : Shape := ⟨2, ![2048, 13344]⟩
abbrev S9216x13344 : Shape := ⟨2, ![9216, 13344]⟩
abbrev S9216x8192 : Shape := ⟨2, ![9216, 8192]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S1x2048x13344, .f32⟩
  | .hbm, ⟨3, _⟩ => ⟨S2048x13344, .f32⟩
  | .hbm, ⟨4, _⟩ => ⟨S9216x13344, .f32⟩
  | .hbm, ⟨5, _⟩ => ⟨S9216x8192, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GdnIn.lean ====
abbrev S9216x2048 : Shape := ⟨2, ![9216, 2048]⟩
abbrev S2x2048x12352 : Shape := ⟨3, ![2, 2048, 12352]⟩
abbrev S2x12352x2048 : Shape := ⟨3, ![2, 12352, 2048]⟩
abbrev S24704x2048 : Shape := ⟨2, ![24704, 2048]⟩
abbrev S9216x8192 : Shape := ⟨2, ![9216, 8192]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048x12352, .f32⟩
  | .hbm, ⟨2, _⟩ => ⟨S2x12352x2048, .f32⟩
  | .hbm, ⟨3, _⟩ => ⟨S9216x2048, .bf16⟩
  | .hbm, ⟨4, _⟩ => ⟨S24704x2048, .f32⟩
  | .hbm, ⟨5, _⟩ => ⟨S9216x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def k0_mult1 (i : grid0.Coords) : BitVec 32 :=
  let c12352_i32 : BitVec 32 := 12352#32
  let arg0 : BitVec 32 := BitVec.ofNat 32 (i 0).val
  let c1024_i32 : BitVec 32 := 1024#32
  let v0 : BitVec 32 := Scalar.muli arg0 c1024_i32
  let v1 : BitVec 32 := Scalar.addi c12352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c12352_i32 : BitVec 32 := 12352#32
  let v1 : BitVec 32 := Scalar.addi c12352_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnInRefIdeal.lean ====
abbrev S9216x2048 : Shape := ⟨2, ![9216, 2048]⟩
abbrev S2x2048x12352 : Shape := ⟨3, ![2, 2048, 12352]⟩
abbrev S1x2048x12352 : Shape := ⟨3, ![1, 2048, 12352]⟩
abbrev S2048x12352 : Shape := ⟨2, ![2048, 12352]⟩
abbrev S9216x12352 : Shape := ⟨2, ![9216, 12352]⟩
abbrev S9216x8192 : Shape := ⟨2, ![9216, 8192]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048x12352, .f32⟩
  | .hbm, ⟨2, _⟩ => ⟨S1x2048x12352, .f32⟩
  | .hbm, ⟨3, _⟩ => ⟨S2048x12352, .f32⟩
  | .hbm, ⟨4, _⟩ => ⟨S9216x12352, .f32⟩
  | .hbm, ⟨5, _⟩ => ⟨S9216x8192, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AbOut.lean ====
abbrev S8192x2048 : Shape := ⟨2, ![8192, 2048]⟩
abbrev S1024x2048 : Shape := ⟨2, ![1024, 2048]⟩
abbrev S2x4096x2048 : Shape := ⟨3, ![2, 4096, 2048]⟩
abbrev S9216x2048 : Shape := ⟨2, ![9216, 2048]⟩
abbrev S1x4096x512 : Shape := ⟨3, ![1, 4096, 512]⟩
abbrev S1024x512 : Shape := ⟨2, ![1024, 512]⟩
abbrev S4096x512 : Shape := ⟨2, ![4096, 512]⟩
abbrev S2048x512 : Shape := ⟨2, ![2048, 512]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .f32⟩
  | .hbm, ⟨3, _⟩ => ⟨S1024x2048, .f32⟩
  | .hbm, ⟨4, _⟩ => ⟨S2x4096x2048, .f32⟩
  | .hbm, ⟨5, _⟩ => ⟨S9216x2048, .f32⟩
  | .hbm, ⟨6, _⟩ => ⟨S8192x2048, .bf16⟩
  | .hbm, ⟨7, _⟩ => ⟨S1024x2048, .bf16⟩
  | .hbm, ⟨8, _⟩ => ⟨S8192x2048, .bf16⟩
  | .hbm, ⟨9, _⟩ => ⟨S1024x2048, .bf16⟩
  | .hbm, ⟨10, _⟩ => ⟨S9216x2048, .f32⟩
  | .local _ .vmem, ⟨0, _⟩ => ⟨S1x4096x512, .f32⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S4096x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .sge arg1 c8_i32_3
  let c9_i32 : BitVec 32 := 9#32
  let v9 : BitVec 1 := Scalar.cmpi .slt arg1 c9_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AbOutRefIdeal.lean ====
abbrev S8192x2048 : Shape := ⟨2, ![8192, 2048]⟩
abbrev S1024x2048 : Shape := ⟨2, ![1024, 2048]⟩
abbrev S2x4096x2048 : Shape := ⟨3, ![2, 4096, 2048]⟩
abbrev S9216x2048 : Shape := ⟨2, ![9216, 2048]⟩
abbrev S9216x4096 : Shape := ⟨2, ![9216, 4096]⟩
abbrev S1x4096x2048 : Shape := ⟨3, ![1, 4096, 2048]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .f32⟩
  | .hbm, ⟨3, _⟩ => ⟨S1024x2048, .f32⟩
  | .hbm, ⟨4, _⟩ => ⟨S2x4096x2048, .f32⟩
  | .hbm, ⟨5, _⟩ => ⟨S9216x2048, .f32⟩
  | .hbm, ⟨6, _⟩ => ⟨S9216x2048, .f32⟩
  | .hbm, ⟨7, _⟩ => ⟨S9216x2048, .f32⟩
  | .hbm, ⟨8, _⟩ => ⟨S9216x4096, .f32⟩
  | .hbm, ⟨9, _⟩ => ⟨S1x4096x2048, .f32⟩
  | .hbm, ⟨10, _⟩ => ⟨S4096x2048, .f32⟩
  | .hbm, ⟨11, _⟩ => ⟨S9216x2048, .f32⟩
  | .hbm, ⟨12, _⟩ => ⟨S9216x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== GdnOut.lean ====
abbrev S8192x4096 : Shape := ⟨2, ![8192, 4096]⟩
abbrev S1024x4096 : Shape := ⟨2, ![1024, 4096]⟩
abbrev S2x4096x2048 : Shape := ⟨3, ![2, 4096, 2048]⟩
abbrev S9216x2048 : Shape := ⟨2, ![9216, 2048]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S2x4096x2048, .f32⟩
  | .hbm, ⟨3, _⟩ => ⟨S9216x2048, .f32⟩
  | .hbm, ⟨4, _⟩ => ⟨S8192x4096, .bf16⟩
  | .hbm, ⟨5, _⟩ => ⟨S1024x4096, .bf16⟩
  | .hbm, ⟨6, _⟩ => ⟨S9216x2048, .f32⟩
  | .local _ .vmem, ⟨0, _⟩ => ⟨S1x4096x512, .f32⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .sge arg1 c8_i32_3
  let c9_i32 : BitVec 32 := 9#32
  let v9 : BitVec 1 := Scalar.cmpi .slt arg1 c9_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnOutRefIdeal.lean ====
abbrev S8192x4096 : Shape := ⟨2, ![8192, 4096]⟩
abbrev S1024x4096 : Shape := ⟨2, ![1024, 4096]⟩
abbrev S2x4096x2048 : Shape := ⟨3, ![2, 4096, 2048]⟩
abbrev S9216x2048 : Shape := ⟨2, ![9216, 2048]⟩
abbrev S9216x4096 : Shape := ⟨2, ![9216, 4096]⟩
abbrev S1x4096x2048 : Shape := ⟨3, ![1, 4096, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S2x4096x2048, .f32⟩
  | .hbm, ⟨3, _⟩ => ⟨S9216x2048, .f32⟩
  | .hbm, ⟨4, _⟩ => ⟨S9216x4096, .f32⟩
  | .hbm, ⟨5, _⟩ => ⟨S1x4096x2048, .f32⟩
  | .hbm, ⟨6, _⟩ => ⟨S4096x2048, .f32⟩
  | .hbm, ⟨7, _⟩ => ⟨S9216x2048, .f32⟩
  | .hbm, ⟨8, _⟩ => ⟨S9216x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateIn.lean ====
abbrev S9216x2048 : Shape := ⟨2, ![9216, 2048]⟩
abbrev S2x2048x12352 : Shape := ⟨3, ![2, 2048, 12352]⟩
abbrev S2x12352x2048 : Shape := ⟨3, ![2, 12352, 2048]⟩
abbrev S24704x2048 : Shape := ⟨2, ![24704, 2048]⟩
abbrev S9216x4096 : Shape := ⟨2, ![9216, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048x12352, .f32⟩
  | .hbm, ⟨2, _⟩ => ⟨S2x12352x2048, .f32⟩
  | .hbm, ⟨3, _⟩ => ⟨S9216x2048, .bf16⟩
  | .hbm, ⟨4, _⟩ => ⟨S24704x2048, .f32⟩
  | .hbm, ⟨5, _⟩ => ⟨S9216x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c20544_i32 : BitVec 32 := 20544#32
  let arg0 : BitVec 32 := BitVec.ofNat 32 (i 0).val
  let c1024_i32 : BitVec 32 := 1024#32
  let v0 : BitVec 32 := Scalar.muli arg0 c1024_i32
  let v1 : BitVec 32 := Scalar.addi c20544_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c20544_i32 : BitVec 32 := 20544#32
  let v1 : BitVec 32 := Scalar.addi c20544_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateInRefIdeal.lean ====
abbrev S9216x2048 : Shape := ⟨2, ![9216, 2048]⟩
abbrev S2x2048x12352 : Shape := ⟨3, ![2, 2048, 12352]⟩
abbrev S1x2048x12352 : Shape := ⟨3, ![1, 2048, 12352]⟩
abbrev S2048x12352 : Shape := ⟨2, ![2048, 12352]⟩
abbrev S9216x12352 : Shape := ⟨2, ![9216, 12352]⟩
abbrev S9216x4096 : Shape := ⟨2, ![9216, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048x12352, .f32⟩
  | .hbm, ⟨2, _⟩ => ⟨S1x2048x12352, .f32⟩
  | .hbm, ⟨3, _⟩ => ⟨S2048x12352, .f32⟩
  | .hbm, ⟨4, _⟩ => ⟨S9216x12352, .f32⟩
  | .hbm, ⟨5, _⟩ => ⟨S9216x4096, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmIn.lean ====
abbrev S9216x2048 : Shape := ⟨2, ![9216, 2048]⟩
abbrev S2x2048x13344 : Shape := ⟨3, ![2, 2048, 13344]⟩
abbrev S2x13344x2048 : Shape := ⟨3, ![2, 13344, 2048]⟩
abbrev S26688x2048 : Shape := ⟨2, ![26688, 2048]⟩
abbrev S9216x3072 : Shape := ⟨2, ![9216, 3072]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S2x13344x2048, .f32⟩
  | .hbm, ⟨3, _⟩ => ⟨S9216x2048, .bf16⟩
  | .hbm, ⟨4, _⟩ => ⟨S26688x2048, .f32⟩
  | .hbm, ⟨5, _⟩ => ⟨S9216x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 9], ![false, false]⟩

def k0_mult1 (i : grid0.Coords) : BitVec 32 :=
  let c15392_i32 : BitVec 32 := 15392#32
  let arg0 : BitVec 32 := BitVec.ofNat 32 (i 0).val
  let c1024_i32 : BitVec 32 := 1024#32
  let v0 : BitVec 32 := Scalar.muli arg0 c1024_i32
  let v1 : BitVec 32 := Scalar.addi c15392_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c15392_i32 : BitVec 32 := 15392#32
  let v1 : BitVec 32 := Scalar.addi c15392_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S9216x2048 : Shape := ⟨2, ![9216, 2048]⟩
abbrev S2x2048x13344 : Shape := ⟨3, ![2, 2048, 13344]⟩
abbrev S1x2048x13344 : Shape := ⟨3, ![1, 2048, 13344]⟩
abbrev S2048x13344 : Shape := ⟨2, ![2048, 13344]⟩
abbrev S9216x13344 : Shape := ⟨2, ![9216, 13344]⟩
abbrev S9216x3072 : Shape := ⟨2, ![9216, 3072]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S1x2048x13344, .f32⟩
  | .hbm, ⟨3, _⟩ => ⟨S2048x13344, .f32⟩
  | .hbm, ⟨4, _⟩ => ⟨S9216x13344, .f32⟩
  | .hbm, ⟨5, _⟩ => ⟨S9216x3072, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmGateIn.lean ====
abbrev S9216x2048 : Shape := ⟨2, ![9216, 2048]⟩
abbrev S2x2048x13344 : Shape := ⟨3, ![2, 2048, 13344]⟩
abbrev S2x13344x2048 : Shape := ⟨3, ![2, 13344, 2048]⟩
abbrev S26688x2048 : Shape := ⟨2, ![26688, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S2x13344x2048, .f32⟩
  | .hbm, ⟨3, _⟩ => ⟨S9216x2048, .bf16⟩
  | .hbm, ⟨4, _⟩ => ⟨S26688x2048, .f32⟩
  | .hbm, ⟨5, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let c13344_i32 : BitVec 32 := 13344#32
  let arg0 : BitVec 32 := BitVec.ofNat 32 (i 0).val
  let c1024_i32 : BitVec 32 := 1024#32
  let v0 : BitVec 32 := Scalar.muli arg0 c1024_i32
  let v1 : BitVec 32 := Scalar.addi c13344_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c13344_i32 : BitVec 32 := 13344#32
  let v1 : BitVec 32 := Scalar.addi c13344_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmGateInRefIdeal.lean ====
abbrev S9216x2048 : Shape := ⟨2, ![9216, 2048]⟩
abbrev S2x2048x13344 : Shape := ⟨3, ![2, 2048, 13344]⟩
abbrev S1x2048x13344 : Shape := ⟨3, ![1, 2048, 13344]⟩
abbrev S2048x13344 : Shape := ⟨2, ![2048, 13344]⟩
abbrev S9216x13344 : Shape := ⟨2, ![9216, 13344]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048x13344, .f32⟩
  | .hbm, ⟨2, _⟩ => ⟨S1x2048x13344, .f32⟩
  | .hbm, ⟨3, _⟩ => ⟨S2048x13344, .f32⟩
  | .hbm, ⟨4, _⟩ => ⟨S9216x13344, .f32⟩
  | .hbm, ⟨5, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FinalPrompt.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S4x2048x2048 : Shape := ⟨3, ![4, 2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPromptRefIdeal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x2048 : Shape := ⟨3, ![4, 2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S4x2048x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FinalSample.lean ====
abbrev S9216x2048 : Shape := ⟨2, ![9216, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S128x8x2048 : Shape := ⟨3, ![128, 8, 2048]⟩
abbrev S128x4x2048 : Shape := ⟨3, ![128, 4, 2048]⟩

abbrev nBuf : Space → Nat
  | .hbm => 6
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S1024x2048, .f32⟩
  | .hbm, ⟨4, _⟩ => ⟨S128x8x2048, .f32⟩
  | .hbm, ⟨5, _⟩ => ⟨S128x4x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSampleRefIdeal.lean ====
abbrev S9216x2048 : Shape := ⟨2, ![9216, 2048]⟩
abbrev S2048 : Shape := ⟨1, ![2048]⟩
abbrev S1024x2048 : Shape := ⟨2, ![1024, 2048]⟩
abbrev S128x8x2048 : Shape := ⟨3, ![128, 8, 2048]⟩
abbrev S128x4x2048 : Shape := ⟨3, ![128, 4, 2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1024x2048, .f32⟩
  | .hbm, ⟨3, _⟩ => ⟨S128x8x2048, .f32⟩
  | .hbm, ⟨4, _⟩ => ⟨S128x4x2048, .f32⟩
  | .hbm, ⟨5, _⟩ => ⟨S128x4x2048, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S1x1x2048, .f32⟩
  | .hbm, ⟨19, _⟩ => ⟨S128x4x2048, .f32⟩
  | .hbm, ⟨20, _⟩ => ⟨S128x4x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormMlp.lean ====
abbrev S9216x2048 : Shape := ⟨2, ![9216, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S9216x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMlpRefIdeal.lean ====
abbrev S9216x2048 : Shape := ⟨2, ![9216, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S9216x2048, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2048, .f32⟩
  | .hbm, ⟨16, _⟩ => ⟨S9216x2048, .f32⟩
  | .hbm, ⟨17, _⟩ => ⟨S1x2048, .f32⟩
  | .hbm, ⟨18, _⟩ => ⟨S9216x2048, .f32⟩
  | .hbm, ⟨19, _⟩ => ⟨S9216x2048, .f32⟩
  | .hbm, ⟨20, _⟩ => ⟨S9216x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormAb.lean ====
abbrev S9216x2048 : Shape := ⟨2, ![9216, 2048]⟩
abbrev S4x2048 : Shape := ⟨2, ![4, 2048]⟩
abbrev S2x2048x13344 : Shape := ⟨3, ![2, 2048, 13344]⟩
abbrev S1x2048 : Shape := ⟨2, ![1, 2048]⟩
abbrev S2048 : Shape := ⟨1, ![2048]⟩
abbrev S2x13344x2048 : Shape := ⟨3, ![2, 13344, 2048]⟩
abbrev S26688x2048 : Shape := ⟨2, ![26688, 2048]⟩
abbrev S9216x32 : Shape := ⟨2, ![9216, 32]⟩
abbrev S512x2048 : Shape := ⟨2, ![512, 2048]⟩
abbrev S32x2048 : Shape := ⟨2, ![32, 2048]⟩
abbrev S512x32 : Shape := ⟨2, ![512, 32]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S2x2048x13344, .f32⟩
  | .hbm, ⟨3, _⟩ => ⟨S1x2048, .f32⟩
  | .hbm, ⟨4, _⟩ => ⟨S2048, .f32⟩
  | .hbm, ⟨5, _⟩ => ⟨S2x13344x2048, .f32⟩
  | .hbm, ⟨6, _⟩ => ⟨S1x2048, .f32⟩
  | .hbm, ⟨7, _⟩ => ⟨S26688x2048, .f32⟩
  | .hbm, ⟨8, _⟩ => ⟨S9216x2048, .bf16⟩
  | .hbm, ⟨9, _⟩ => ⟨S9216x32, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S32x2048, .f32⟩
  | .local _ .vmem, ⟨4, _⟩ => ⟨S512x2048, .bf16⟩
  | .local _ .vmem, ⟨5, _⟩ => ⟨S512x2048, .bf16⟩
  | .local _ .vmem, ⟨6, _⟩ => ⟨S512x32, .f32⟩
  | .local _ .vmem, ⟨7, _⟩ => ⟨S512x32, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c18464_i32 : BitVec 32 := 18464#32
  let c0_i32 : BitVec 32 := 0#32
  let c0_i32_0 : BitVec 32 := 0#32
  ![c18464_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormAbRefIdeal.lean ====
abbrev S9216x2048 : Shape := ⟨2, ![9216, 2048]⟩
abbrev S4x2048 : Shape := ⟨2, ![4, 2048]⟩
abbrev S2x2048x13344 : Shape := ⟨3, ![2, 2048, 13344]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x13344 : Shape := ⟨3, ![1, 2048, 13344]⟩
abbrev S2048x13344 : Shape := ⟨2, ![2048, 13344]⟩
abbrev S9216x13344 : Shape := ⟨2, ![9216, 13344]⟩
abbrev S9216x32 : Shape := ⟨2, ![9216, 32]⟩

abbrev nBuf : Space → Nat
  | .hbm => 26
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S2x2048x13344, .f32⟩
  | .hbm, ⟨3, _⟩ => ⟨S1x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x2048, .bf16⟩
  | .hbm, ⟨22, _⟩ => ⟨S1x2048x13344, .f32⟩
  | .hbm, ⟨23, _⟩ => ⟨S2048x13344, .f32⟩
  | .hbm, ⟨24, _⟩ => ⟨S9216x13344, .f32⟩
  | .hbm, ⟨25, _⟩ => ⟨S9216x32, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== NormC.lean ====
abbrev S9216x2048 : Shape := ⟨2, ![9216, 2048]⟩
abbrev S4x2048 : Shape := ⟨2, ![4, 2048]⟩
abbrev S2x2048x12352 : Shape := ⟨3, ![2, 2048, 12352]⟩
abbrev S1x2048 : Shape := ⟨2, ![1, 2048]⟩
abbrev S2048 : Shape := ⟨1, ![2048]⟩
abbrev S2x12352x2048 : Shape := ⟨3, ![2, 12352, 2048]⟩
abbrev S24704x2048 : Shape := ⟨2, ![24704, 2048]⟩
abbrev S9216x64 : Shape := ⟨2, ![9216, 64]⟩
abbrev S512x2048 : Shape := ⟨2, ![512, 2048]⟩
abbrev S64x2048 : Shape := ⟨2, ![64, 2048]⟩
abbrev S512x64 : Shape := ⟨2, ![512, 64]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S2x2048x12352, .f32⟩
  | .hbm, ⟨3, _⟩ => ⟨S1x2048, .f32⟩
  | .hbm, ⟨4, _⟩ => ⟨S2048, .f32⟩
  | .hbm, ⟨5, _⟩ => ⟨S2x12352x2048, .f32⟩
  | .hbm, ⟨6, _⟩ => ⟨S1x2048, .f32⟩
  | .hbm, ⟨7, _⟩ => ⟨S24704x2048, .f32⟩
  | .hbm, ⟨8, _⟩ => ⟨S9216x2048, .bf16⟩
  | .hbm, ⟨9, _⟩ => ⟨S9216x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S64x2048, .f32⟩
  | .local _ .vmem, ⟨4, _⟩ => ⟨S512x2048, .bf16⟩
  | .local _ .vmem, ⟨5, _⟩ => ⟨S512x2048, .bf16⟩
  | .local _ .vmem, ⟨6, _⟩ => ⟨S512x64, .f32⟩
  | .local _ .vmem, ⟨7, _⟩ => ⟨S512x64, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c24640_i32 : BitVec 32 := 24640#32
  let c0_i32 : BitVec 32 := 0#32
  let c0_i32_0 : BitVec 32 := 0#32
  ![c24640_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormCRefIdeal.lean ====
abbrev S9216x2048 : Shape := ⟨2, ![9216, 2048]⟩
abbrev S4x2048 : Shape := ⟨2, ![4, 2048]⟩
abbrev S2x2048x12352 : Shape := ⟨3, ![2, 2048, 12352]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x12352 : Shape := ⟨3, ![1, 2048, 12352]⟩
abbrev S2048x12352 : Shape := ⟨2, ![2048, 12352]⟩
abbrev S9216x12352 : Shape := ⟨2, ![9216, 12352]⟩
abbrev S9216x64 : Shape := ⟨2, ![9216, 64]⟩

abbrev nBuf : Space → Nat
  | .hbm => 26
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S2x2048x12352, .f32⟩
  | .hbm, ⟨3, _⟩ => ⟨S1x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x2048, .bf16⟩
  | .hbm, ⟨22, _⟩ => ⟨S1x2048x12352, .f32⟩
  | .hbm, ⟨23, _⟩ => ⟨S2048x12352, .f32⟩
  | .hbm, ⟨24, _⟩ => ⟨S9216x12352, .f32⟩
  | .hbm, ⟨25, _⟩ => ⟨S9216x64, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== SsmBufSample.lean ====
abbrev S9216x2048 : Shape := ⟨2, ![9216, 2048]⟩
abbrev S9216x3072 : Shape := ⟨2, ![9216, 3072]⟩
abbrev S9216x32 : Shape := ⟨2, ![9216, 32]⟩
abbrev S128x3x3072 : Shape := ⟨3, ![128, 3, 3072]⟩
abbrev S2x128x32x64x128 : Shape := ⟨5, ![2, 128, 32, 64, 128]⟩
abbrev S2x128x2048x128 : Shape := ⟨4, ![2, 128, 2048, 128]⟩
abbrev S2x4x3072 : Shape := ⟨3, ![2, 4, 3072]⟩
abbrev S2x3072 : Shape := ⟨2, ![2, 3072]⟩
abbrev S2x32 : Shape := ⟨2, ![2, 32]⟩
abbrev S2x2048 : Shape := ⟨2, ![2, 2048]⟩
abbrev S1024x32 : Shape := ⟨2, ![1024, 32]⟩
abbrev S128x1x8x16x2 : Shape := ⟨5, ![128, 1, 8, 16, 2]⟩
abbrev S128x1x16x2x8 : Shape := ⟨5, ![128, 1, 16, 2, 8]⟩
abbrev S128x1x16x16 : Shape := ⟨4, ![128, 1, 16, 16]⟩
abbrev S1x4x3072 : Shape := ⟨3, ![1, 4, 3072]⟩
abbrev S4x3072 : Shape := ⟨2, ![4, 3072]⟩
abbrev S1x3072 : Shape := ⟨2, ![1, 3072]⟩
abbrev S3072 : Shape := ⟨1, ![3072]⟩
abbrev S1x32 : Shape := ⟨2, ![1, 32]⟩
abbrev S32 : Shape := ⟨1, ![32]⟩
abbrev S16x2 : Shape := ⟨2, ![16, 2]⟩
abbrev S16x2x8 : Shape := ⟨3, ![16, 2, 8]⟩
abbrev S16x16 : Shape := ⟨2, ![16, 16]⟩
abbrev S1x2048 : Shape := ⟨2, ![1, 2048]⟩
abbrev S2048 : Shape := ⟨1, ![2048]⟩
abbrev S1024x2048 : Shape := ⟨2, ![1024, 2048]⟩
abbrev S8x2048 : Shape := ⟨2, ![8, 2048]⟩
abbrev S8x3072 : Shape := ⟨2, ![8, 3072]⟩
abbrev S8x32 : Shape := ⟨2, ![8, 32]⟩
abbrev S1x1x16x16 : Shape := ⟨4, ![1, 1, 16, 16]⟩
abbrev S1x3x3072 : Shape := ⟨3, ![1, 3, 3072]⟩
abbrev S1x1x2048x128 : Shape := ⟨4, ![1, 1, 2048, 128]⟩
abbrev S16x3072 : Shape := ⟨2, ![16, 3072]⟩
abbrev S2048x128 : Shape := ⟨2, ![2048, 128]⟩
abbrev S3x3072 : Shape := ⟨2, ![3, 3072]⟩
abbrev S8x1 : Shape := ⟨2, ![8, 1]⟩
abbrev S8x8 : Shape := ⟨2, ![8, 8]⟩
abbrev S8x16 : Shape := ⟨2, ![8, 16]⟩
abbrev S8x128 : Shape := ⟨2, ![8, 128]⟩
abbrev S128x128 : Shape := ⟨2, ![128, 128]⟩
abbrev S1x16 : Shape := ⟨2, ![1, 16]⟩
abbrev S32x2048 : Shape := ⟨2, ![32, 2048]⟩
abbrev S32x256 : Shape := ⟨2, ![32, 256]⟩
abbrev S8x256 : Shape := ⟨2, ![8, 256]⟩
abbrev S1x128 : Shape := ⟨2, ![1, 128]⟩
abbrev S16x128 : Shape := ⟨2, ![16, 128]⟩
abbrev S1x1x128x128 : Shape := ⟨4, ![1, 1, 128, 128]⟩
abbrev S1x1 : Shape := ⟨2, ![1, 1]⟩
abbrev S8 : Shape := ⟨1, ![8]⟩

abbrev nBuf : Space → Nat
  | .hbm => 47
  | .vmem => 27
  | .smem => 0
  | _ => 0

abbrev bufTy : (tb : Table) → Fin (tcTables nBuf tb) → BufTy
  | .hbm, ⟨0, _⟩ => ⟨S9216x2048, .f32⟩
  | .hbm, ⟨1, _⟩ => ⟨S9216x3072, .f32⟩
  | .hbm, ⟨2, _⟩ => ⟨S9216x32, .f32⟩
  | .hbm, ⟨3, _⟩ => ⟨S128x3x3072, .f32⟩
  | .hbm, ⟨4, _⟩ => ⟨S2x128x32x64x128, .f32⟩
  | .hbm, ⟨5, _⟩ => ⟨S2x128x2048x128, .f32⟩
  | .hbm, ⟨6, _⟩ => ⟨S2x4x3072, .f32⟩
  | .hbm, ⟨7, _⟩ => ⟨S2x3072, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S2x2048, .f32⟩
  | .hbm, ⟨12, _⟩ => ⟨S1024x32, .f32⟩
  | .hbm, ⟨13, _⟩ => ⟨S128x1x8x16x2, .f32⟩
  | .hbm, ⟨14, _⟩ => ⟨S128x1x16x2x8, .f32⟩
  | .hbm, ⟨15, _⟩ => ⟨S128x1x16x16, .f32⟩
  | .hbm, ⟨16, _⟩ => ⟨S1x4x3072, .f32⟩
  | .hbm, ⟨17, _⟩ => ⟨S4x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S1x32, .f32⟩
  | .hbm, ⟨25, _⟩ => ⟨S32, .f32⟩
  | .hbm, ⟨26, _⟩ => ⟨S16x2, .f32⟩
  | .hbm, ⟨27, _⟩ => ⟨S16x2x8, .f32⟩
  | .hbm, ⟨28, _⟩ => ⟨S16x16, .f32⟩
  | .hbm, ⟨29, _⟩ => ⟨S1x32, .f32⟩
  | .hbm, ⟨30, _⟩ => ⟨S32, .f32⟩
  | .hbm, ⟨31, _⟩ => ⟨S1x32, .f32⟩
  | .hbm, ⟨32, _⟩ => ⟨S1x32, .f32⟩
  | .hbm, ⟨33, _⟩ => ⟨S32, .f32⟩
  | .hbm, ⟨34, _⟩ => ⟨S16x2, .f32⟩
  | .hbm, ⟨35, _⟩ => ⟨S16x2x8, .f32⟩
  | .hbm, ⟨36, _⟩ => ⟨S16x16, .f32⟩
  | .hbm, ⟨37, _⟩ => ⟨S1x32, .f32⟩
  | .hbm, ⟨38, _⟩ => ⟨S32, .f32⟩
  | .hbm, ⟨39, _⟩ => ⟨S1x32, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S2x128x2048x128, .f32⟩
  | .hbm, ⟨44, _⟩ => ⟨S1024x2048, .bf16⟩
  | .hbm, ⟨45, _⟩ => ⟨S2x128x2048x128, .f32⟩
  | .hbm, ⟨46, _⟩ => ⟨S128x3x3072, .f32⟩
  | .local _ .vmem, ⟨0, _⟩ => ⟨S8x2048, .f32⟩
  | .local _ .vmem, ⟨1, _⟩ => ⟨S8x2048, .f32⟩
  | .local _ .vmem, ⟨2, _⟩ => ⟨S8x3072, .f32⟩
  | .local _ .vmem, ⟨3, _⟩ => ⟨S8x3072, .f32⟩
  | .local _ .vmem, ⟨4, _⟩ => ⟨S8x32, .f32⟩
  | .local _ .vmem, ⟨5, _⟩ => ⟨S8x32, .f32⟩
  | .local _ .vmem, ⟨6, _⟩ => ⟨S1x1x16x16, .f32⟩
  | .local _ .vmem, ⟨7, _⟩ => ⟨S1x1x16x16, .f32⟩
  | .local _ .vmem, ⟨8, _⟩ => ⟨S1x3x3072, .f32⟩
  | .local _ .vmem, ⟨9, _⟩ => ⟨S1x3x3072, .f32⟩
  | .local _ .vmem, ⟨10, _⟩ => ⟨S1x1x2048x128, .f32⟩
  | .local _ .vmem, ⟨11, _⟩ => ⟨S1x1x2048x128, .f32⟩
  | .local _ .vmem, ⟨12, _⟩ => ⟨S4x3072, .f32⟩
  | .local _ .vmem, ⟨13, _⟩ => ⟨S1x3072, .f32⟩
  | .local _ .vmem, ⟨14, _⟩ => ⟨S1x32, .f32⟩
  | .local _ .vmem, ⟨15, _⟩ => ⟨S16x16, .f32⟩
  | .local _ .vmem, ⟨16, _⟩ => ⟨S1x32, .f32⟩
  | .local _ .vmem, ⟨17, _⟩ => ⟨S16x16, .f32⟩
  | .local _ .vmem, ⟨18, _⟩ => ⟨S1x32, .f32⟩
  | .local _ .vmem, ⟨19, _⟩ => ⟨S1x2048, .f32⟩
  | .local _ .vmem, ⟨20, _⟩ => ⟨S8x2048, .bf16⟩
  | .local _ .vmem, ⟨21, _⟩ => ⟨S8x2048, .bf16⟩
  | .local _ .vmem, ⟨22, _⟩ => ⟨S1x1x2048x128, .f32⟩
  | .local _ .vmem, ⟨23, _⟩ => ⟨S1x1x2048x128, .f32⟩
  | .local _ .vmem, ⟨24, _⟩ => ⟨S1x3x3072, .f32⟩
  | .local _ .vmem, ⟨25, _⟩ => ⟨S1x3x3072, .f32⟩
  | .local _ .vmem, ⟨26, _⟩ => ⟨S16x3072, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![128, 1], ![false, false]⟩

def k0_cond3 (i : grid0.Coords) : BitVec 1 :=
  let arg1 : BitVec 32 := BitVec.ofNat 32 (i 1).val
  let c0_i32_1056 : BitVec 32 := 0#32
  let v2416 : BitVec 1 := Scalar.cmpi .eq arg1 c0_i32_1056
  let v2417 : BitVec 32 := Scalar.extui v2416
  let c0_i32_1057 : BitVec 32 := 0#32
  let v2418 : BitVec 1 := Scalar.cmpi .ne v2417 c0_i32_1057
  v2418

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S8x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x3x3072 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== SsmBufSampleRefIdeal.lean ====
abbrev S9216x2048 : Shape := ⟨2, ![9216, 2048]⟩
abbrev S9216x3072 : Shape := ⟨2, ![9216, 3072]⟩
abbrev S9216x32 : Shape := ⟨2, ![9216, 32]⟩
abbrev S128x3x3072 : Shape := ⟨3, ![128, 3, 3072]⟩
abbrev S2x128x32x64x128 : Shape := ⟨5, ![2, 128, 32, 64, 128]⟩
abbrev S2x128x2048x128 : Shape := ⟨4, ![2, 128, 2048, 128]⟩
abbrev S2x4x3072 : Shape := ⟨3, ![2, 4, 3072]⟩
abbrev S2x3072 : Shape := ⟨2, ![2, 3072]⟩
abbrev S2x32 : Shape := ⟨2, ![2, 32]⟩
abbrev S2x2048 : Shape := ⟨2, ![2, 2048]⟩
abbrev S1024x3072 : Shape := ⟨2, ![1024, 3072]⟩
abbrev S128x8x3072 : Shape := ⟨3, ![128, 8, 3072]⟩
abbrev S128x4x3072 : Shape := ⟨3, ![128, 4, 3072]⟩
abbrev S128x7x3072 : Shape := ⟨3, ![128, 7, 3072]⟩

abbrev nBuf : Space → Nat
  | .hbm => 17
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x3072, .f32⟩
  | .hbm, ⟨2, _⟩ => ⟨S9216x32, .f32⟩
  | .hbm, ⟨3, _⟩ => ⟨S128x3x3072, .f32⟩
  | .hbm, ⟨4, _⟩ => ⟨S2x128x32x64x128, .f32⟩
  | .hbm, ⟨5, _⟩ => ⟨S2x128x2048x128, .f32⟩
  | .hbm, ⟨6, _⟩ => ⟨S2x4x3072, .f32⟩
  | .hbm, ⟨7, _⟩ => ⟨S2x3072, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S2x2048, .f32⟩
  | .hbm, ⟨12, _⟩ => ⟨S1024x3072, .f32⟩
  | .hbm, ⟨13, _⟩ => ⟨S128x8x3072, .f32⟩
  | .hbm, ⟨14, _⟩ => ⟨S128x4x3072, .f32⟩
  | .hbm, ⟨15, _⟩ => ⟨S128x7x3072, .f32⟩
  | .hbm, ⟨16, _⟩ => ⟨S128x3x3072, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== GdnBufSample.lean ====
abbrev S9216x8192 : Shape := ⟨2, ![9216, 8192]⟩
abbrev S9216x4096 : Shape := ⟨2, ![9216, 4096]⟩
abbrev S9216x64 : Shape := ⟨2, ![9216, 64]⟩
abbrev S128x3x8192 : Shape := ⟨3, ![128, 3, 8192]⟩
abbrev S2x128x32x128x128 : Shape := ⟨5, ![2, 128, 32, 128, 128]⟩
abbrev S2x128x4096x128 : Shape := ⟨4, ![2, 128, 4096, 128]⟩
abbrev S2x4x8192 : Shape := ⟨3, ![2, 4, 8192]⟩
abbrev S2x32 : Shape := ⟨2, ![2, 32]⟩
abbrev S2x128 : Shape := ⟨2, ![2, 128]⟩
abbrev S1024x32 : Shape := ⟨2, ![1024, 32]⟩
abbrev S128x1x8x16x2 : Shape := ⟨5, ![128, 1, 8, 16, 2]⟩
abbrev S128x1x16x2x8 : Shape := ⟨5, ![128, 1, 16, 2, 8]⟩
abbrev S128x1x16x16 : Shape := ⟨4, ![128, 1, 16, 16]⟩
abbrev S1x4x8192 : Shape := ⟨3, ![1, 4, 8192]⟩
abbrev S4x8192 : Shape := ⟨2, ![4, 8192]⟩
abbrev S1x32 : Shape := ⟨2, ![1, 32]⟩
abbrev S32 : Shape := ⟨1, ![32]⟩
abbrev S16x2 : Shape := ⟨2, ![16, 2]⟩
abbrev S16x2x8 : Shape := ⟨3, ![16, 2, 8]⟩
abbrev S16x16 : Shape := ⟨2, ![16, 16]⟩
abbrev S1x128 : Shape := ⟨2, ![1, 128]⟩
abbrev S128 : Shape := ⟨1, ![128]⟩
abbrev S1024x4096 : Shape := ⟨2, ![1024, 4096]⟩
abbrev S8x8192 : Shape := ⟨2, ![8, 8192]⟩
abbrev S8x4096 : Shape := ⟨2, ![8, 4096]⟩
abbrev S8x64 : Shape := ⟨2, ![8, 64]⟩
abbrev S1x1x16x16 : Shape := ⟨4, ![1, 1, 16, 16]⟩
abbrev S1x3x8192 : Shape := ⟨3, ![1, 3, 8192]⟩
abbrev S1x1x4096x128 : Shape := ⟨4, ![1, 1, 4096, 128]⟩
abbrev S16x8192 : Shape := ⟨2, ![16, 8192]⟩
abbrev S4096x128 : Shape := ⟨2, ![4096, 128]⟩
abbrev S3x8192 : Shape := ⟨2, ![3, 8192]⟩
abbrev S8x1 : Shape := ⟨2, ![8, 1]⟩
abbrev S8x8 : Shape := ⟨2, ![8, 8]⟩
abbrev S8x16 : Shape := ⟨2, ![8, 16]⟩
abbrev S8x32 : Shape := ⟨2, ![8, 32]⟩
abbrev S1x16 : Shape := ⟨2, ![1, 16]⟩
abbrev S8x128 : Shape := ⟨2, ![8, 128]⟩
abbrev S8 : Shape := ⟨1, ![8]⟩
abbrev S16x128 : Shape := ⟨2, ![16, 128]⟩
abbrev S8x256 : Shape := ⟨2, ![8, 256]⟩
abbrev S16x256 : Shape := ⟨2, ![16, 256]⟩
abbrev S1x1x128x128 : Shape := ⟨4, ![1, 1, 128, 128]⟩
abbrev S128x128 : Shape := ⟨2, ![128, 128]⟩
abbrev S128x256 : Shape := ⟨2, ![128, 256]⟩
abbrev S1x1 : Shape := ⟨2, ![1, 1]⟩

abbrev nBuf : Space → Nat
  | .hbm => 39
  | .vmem => 25
  | .smem => 0
  | _ => 0

abbrev bufTy : (tb : Table) → Fin (tcTables nBuf tb) → BufTy
  | .hbm, ⟨0, _⟩ => ⟨S9216x8192, .f32⟩
  | .hbm, ⟨1, _⟩ => ⟨S9216x4096, .f32⟩
  | .hbm, ⟨2, _⟩ => ⟨S9216x64, .f32⟩
  | .hbm, ⟨3, _⟩ => ⟨S128x3x8192, .f32⟩
  | .hbm, ⟨4, _⟩ => ⟨S2x128x32x128x128, .f32⟩
  | .hbm, ⟨5, _⟩ => ⟨S2x128x4096x128, .f32⟩
  | .hbm, ⟨6, _⟩ => ⟨S2x4x8192, .f32⟩
  | .hbm, ⟨7, _⟩ => ⟨S2x32, .f32⟩
  | .hbm, ⟨8, _⟩ => ⟨S2x32, .f32⟩
  | .hbm, ⟨9, _⟩ => ⟨S2x128, .f32⟩
  | .hbm, ⟨10, _⟩ => ⟨S1024x32, .f32⟩
  | .hbm, ⟨11, _⟩ => ⟨S128x1x8x16x2, .f32⟩
  | .hbm, ⟨12, _⟩ => ⟨S128x1x16x2x8, .f32⟩
  | .hbm, ⟨13, _⟩ => ⟨S128x1x16x16, .f32⟩
  | .hbm, ⟨14, _⟩ => ⟨S1x4x8192, .f32⟩
  | .hbm, ⟨15, _⟩ => ⟨S4x8192, .f32⟩
  | .hbm, ⟨16, _⟩ => ⟨S1x32, .f32⟩
  | .hbm, ⟨17, _⟩ => ⟨S32, .f32⟩
  | .hbm, ⟨18, _⟩ => ⟨S1x32, .f32⟩
  | .hbm, ⟨19, _⟩ => ⟨S1x32, .f32⟩
  | .hbm, ⟨20, _⟩ => ⟨S32, .f32⟩
  | .hbm, ⟨21, _⟩ => ⟨S16x2, .f32⟩
  | .hbm, ⟨22, _⟩ => ⟨S16x2x8, .f32⟩
  | .hbm, ⟨23, _⟩ => ⟨S16x16, .f32⟩
  | .hbm, ⟨24, _⟩ => ⟨S1x32, .f32⟩
  | .hbm, ⟨25, _⟩ => ⟨S32, .f32⟩
  | .hbm, ⟨26, _⟩ => ⟨S1x32, .f32⟩
  | .hbm, ⟨27, _⟩ => ⟨S1x32, .f32⟩
  | .hbm, ⟨28, _⟩ => ⟨S32, .f32⟩
  | .hbm, ⟨29, _⟩ => ⟨S16x2, .f32⟩
  | .hbm, ⟨30, _⟩ => ⟨S16x2x8, .f32⟩
  | .hbm, ⟨31, _⟩ => ⟨S16x16, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S2x128x4096x128, .f32⟩
  | .hbm, ⟨36, _⟩ => ⟨S1024x4096, .bf16⟩
  | .hbm, ⟨37, _⟩ => ⟨S2x128x4096x128, .f32⟩
  | .hbm, ⟨38, _⟩ => ⟨S128x3x8192, .f32⟩
  | .local _ .vmem, ⟨0, _⟩ => ⟨S8x8192, .f32⟩
  | .local _ .vmem, ⟨1, _⟩ => ⟨S8x8192, .f32⟩
  | .local _ .vmem, ⟨2, _⟩ => ⟨S8x4096, .f32⟩
  | .local _ .vmem, ⟨3, _⟩ => ⟨S8x4096, .f32⟩
  | .local _ .vmem, ⟨4, _⟩ => ⟨S8x64, .f32⟩
  | .local _ .vmem, ⟨5, _⟩ => ⟨S8x64, .f32⟩
  | .local _ .vmem, ⟨6, _⟩ => ⟨S1x1x16x16, .f32⟩
  | .local _ .vmem, ⟨7, _⟩ => ⟨S1x1x16x16, .f32⟩
  | .local _ .vmem, ⟨8, _⟩ => ⟨S1x3x8192, .f32⟩
  | .local _ .vmem, ⟨9, _⟩ => ⟨S1x3x8192, .f32⟩
  | .local _ .vmem, ⟨10, _⟩ => ⟨S1x1x4096x128, .f32⟩
  | .local _ .vmem, ⟨11, _⟩ => ⟨S1x1x4096x128, .f32⟩
  | .local _ .vmem, ⟨12, _⟩ => ⟨S4x8192, .f32⟩
  | .local _ .vmem, ⟨13, _⟩ => ⟨S1x32, .f32⟩
  | .local _ .vmem, ⟨14, _⟩ => ⟨S16x16, .f32⟩
  | .local _ .vmem, ⟨15, _⟩ => ⟨S1x32, .f32⟩
  | .local _ .vmem, ⟨16, _⟩ => ⟨S16x16, .f32⟩
  | .local _ .vmem, ⟨17, _⟩ => ⟨S1x128, .f32⟩
  | .local _ .vmem, ⟨18, _⟩ => ⟨S8x4096, .bf16⟩
  | .local _ .vmem, ⟨19, _⟩ => ⟨S8x4096, .bf16⟩
  | .local _ .vmem, ⟨20, _⟩ => ⟨S1x1x4096x128, .f32⟩
  | .local _ .vmem, ⟨21, _⟩ => ⟨S1x1x4096x128, .f32⟩
  | .local _ .vmem, ⟨22, _⟩ => ⟨S1x3x8192, .f32⟩
  | .local _ .vmem, ⟨23, _⟩ => ⟨S1x3x8192, .f32⟩
  | .local _ .vmem, ⟨24, _⟩ => ⟨S16x8192, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![128, 1], ![false, false]⟩

def k0_cond3 (i : grid0.Coords) : BitVec 1 :=
  let arg1 : BitVec 32 := BitVec.ofNat 32 (i 1).val
  let c0_i32_2550 : BitVec 32 := 0#32
  let v6653 : BitVec 1 := Scalar.cmpi .eq arg1 c0_i32_2550
  let v6654 : BitVec 32 := Scalar.extui v6653
  let c0_i32_2551 : BitVec 32 := 0#32
  let v6655 : BitVec 1 := Scalar.cmpi .ne v6654 c0_i32_2551
  v6655

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x3x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== GdnBufSampleRefIdeal.lean ====
abbrev S9216x8192 : Shape := ⟨2, ![9216, 8192]⟩
abbrev S9216x4096 : Shape := ⟨2, ![9216, 4096]⟩
abbrev S9216x64 : Shape := ⟨2, ![9216, 64]⟩
abbrev S128x3x8192 : Shape := ⟨3, ![128, 3, 8192]⟩
abbrev S2x128x32x128x128 : Shape := ⟨5, ![2, 128, 32, 128, 128]⟩
abbrev S2x128x4096x128 : Shape := ⟨4, ![2, 128, 4096, 128]⟩
abbrev S2x4x8192 : Shape := ⟨3, ![2, 4, 8192]⟩
abbrev S2x32 : Shape := ⟨2, ![2, 32]⟩
abbrev S2x128 : Shape := ⟨2, ![2, 128]⟩
abbrev S1024x8192 : Shape := ⟨2, ![1024, 8192]⟩
abbrev S128x8x8192 : Shape := ⟨3, ![128, 8, 8192]⟩
abbrev S128x4x8192 : Shape := ⟨3, ![128, 4, 8192]⟩
abbrev S128x7x8192 : Shape := ⟨3, ![128, 7, 8192]⟩

abbrev nBuf : Space → Nat
  | .hbm => 15
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S9216x4096, .f32⟩
  | .hbm, ⟨2, _⟩ => ⟨S9216x64, .f32⟩
  | .hbm, ⟨3, _⟩ => ⟨S128x3x8192, .f32⟩
  | .hbm, ⟨4, _⟩ => ⟨S2x128x32x128x128, .f32⟩
  | .hbm, ⟨5, _⟩ => ⟨S2x128x4096x128, .f32⟩
  | .hbm, ⟨6, _⟩ => ⟨S2x4x8192, .f32⟩
  | .hbm, ⟨7, _⟩ => ⟨S2x32, .f32⟩
  | .hbm, ⟨8, _⟩ => ⟨S2x32, .f32⟩
  | .hbm, ⟨9, _⟩ => ⟨S2x128, .f32⟩
  | .hbm, ⟨10, _⟩ => ⟨S1024x8192, .f32⟩
  | .hbm, ⟨11, _⟩ => ⟨S128x8x8192, .f32⟩
  | .hbm, ⟨12, _⟩ => ⟨S128x4x8192, .f32⟩
  | .hbm, ⟨13, _⟩ => ⟨S128x7x8192, .f32⟩
  | .hbm, ⟨14, _⟩ => ⟨S128x3x8192, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Proof.Head.lean ====
/- The kernel's body, one head at a time. The program writes its sixteen heads out one after the
   other; here the work of head `h` is ONE function of `h` and of the blocks the head loads, and the
   pieces a grid point leaves in its two output buffers are shown to be these functions' values. -/
module

public import proofs.«01_k».proof.Proof.Gen.GlaIdeal.Frame
public import Idealize.ShloMosaic.Lib.Tactic

@[expose] public section

set_option maxRecDepth 16384

noncomputable section

namespace Cert.GlaIdeal.Head

open Cert.GlaIdeal Cert.GlaIdeal.Gen Idealize.ShloMosaic Idealize.ShloMosaic.TcCoe Idealize.SL.Sem

variable {F : FTy → Type} [FloatOps F] [Named F]

/-! ## Where head `h` lies in the blocks -/

/-- Head `h`'s columns lie inside a one-row array. -/
theorem slices_row (h : Fin 16) : S1x2048.Slices ![0, 128 * h.val] S1x128 := by
  revert h; decide
/-- Head `h`'s columns lie inside the stacked cumulative gates. -/
theorem slices_g (h : Fin 16) : S64x2048.Slices ![0, 128 * h.val] S64x128 := by
  revert h; decide
/-- Head `h`'s columns lie inside an input or output block. -/
theorem inb_col (h : Fin 16) : ∀ a, (![0, 128 * h.val] : Fin 2 → Nat) a + S64x128.size a ≤ S64x2048.size a := by
  revert h; decide
/-- Head `h`'s columns lie inside the norm weight. -/
theorem inb_w (h : Fin 16) : ∀ a, (![0, 128 * h.val] : Fin 2 → Nat) a + S1x128.size a ≤ S1x2048.size a := by
  revert h; decide
/-- Head `h`'s rows lie inside the state. -/
theorem inb_s (h : Fin 16) :
    ∀ a, (![0, 0, 128 * h.val, 0] : Fin 4 → Nat) a + S1x1x128x128.size a ≤ S1x1x2048x128.size a := by
  revert h; decide

/-- Head `h`'s columns of an input or output block. -/
def colRect (h : Fin 16) : Rect S64x2048 := Rect.unit ![0, 128 * h.val] S64x128.size (inb_col h)
/-- Head `h`'s entries of the norm weight. -/
def wRect (h : Fin 16) : Rect S1x2048 := Rect.unit ![0, 128 * h.val] S1x128.size (inb_w h)
/-- Head `h`'s rows of the state. -/
def sRect (h : Fin 16) : Rect S1x1x2048x128 :=
  Rect.unit ![0, 0, 128 * h.val, 0] S1x1x128x128.size (inb_s h)

/-! ## The gates -/

/-- The sigmoid as the kernel writes it: `1 / (1 + 2^(x * (-log2 e)))`. -/
def sigm (x : FVec F S64x128 .f32) : FVec F S64x128 .f32 :=
  divf (broadcast S64x128 (Scalar.ofBits .f32 0x3F800000#32))
    (addf (broadcast S64x128 (Scalar.ofBits .f32 0x3F800000#32))
      (exp2 (mulf x (broadcast S64x128 (Named.named κ "neg_log2e" 0xBFB8AA3B#32)))))

/-- A row of one head's columns, spread over the 64 time steps. -/
def rowOf (a : FVec F S1x2048 .f32) (h : Fin 16) : FVec F S64x128 .f32 :=
  broadcastTo S64x128 (extractStridedSlice S1x128 ![0, 128 * h.val] a (slices_row h))
    broadcasts_S1x128_S64x128

/-- Head `h`'s logarithm of the forget gate. -/
def logf (lb oml : FVec F S1x2048 .f32) (hf : Fin 16 → FVec F S64x128 .f32) (h : Fin 16) :
    FVec F S64x128 .f32 :=
  log (maximumf (addf (rowOf lb h) (mulf (rowOf oml h) (sigm (hf h))))
    (broadcast S64x128 (Scalar.ofBits .f32 0x0DA24260#32)))

/-- Head `h`'s keys. -/
def key (oml : FVec F S1x2048 .f32) (hf : Fin 16 → FVec F S64x128 .f32) (h : Fin 16) :
    FVec F S64x128 .f32 :=
  mulf (rowOf oml h)
    (subf (broadcast S64x128 (Scalar.ofBits .f32 0x3F800000#32)) (sigm (hf h)))

/-- A head's queries. -/
def query (hq : FVec F S64x128 .f32) : FVec F S64x128 .f32 := mulf hq (sigm hq)

/-- The time index along the rows of a 64 x 64 array. -/
def I0 : IVec S64x64 32 := iota .tc S64x64 32 [0] iota_S64x64_d0_w32
/-- The time index along the columns of a 64 x 64 array. -/
def I1 : IVec S64x64 32 := iota .tc S64x64 32 [1] iota_S64x64_d1_w32
/-- The time index of a row. -/
def I : IVec S64x1 32 := iota .tc S64x1 32 [0] iota_S64x1_d0_w32

/-- The lower triangle of ones. -/
def tri : FVec F S64x64 .bf16 :=
  truncf .bf16 (sitofp .f32 (extui 32 (cmpi .sle I1 I0) natLt_1_32)) bitsLt_bf16_f32

/-- All heads' log gates side by side. -/
def cat (lb oml : FVec F S1x2048 .f32) (hf : Fin 16 → FVec F S64x128 .f32) : FVec F S64x2048 .f32 :=
  concatenate S64x2048 1 [⟨S64x128, logf lb oml hf 0⟩, ⟨S64x128, logf lb oml hf 1⟩,
    ⟨S64x128, logf lb oml hf 2⟩, ⟨S64x128, logf lb oml hf 3⟩, ⟨S64x128, logf lb oml hf 4⟩,
    ⟨S64x128, logf lb oml hf 5⟩, ⟨S64x128, logf lb oml hf 6⟩, ⟨S64x128, logf lb oml hf 7⟩,
    ⟨S64x128, logf lb oml hf 8⟩, ⟨S64x128, logf lb oml hf 9⟩, ⟨S64x128, logf lb oml hf 10⟩,
    ⟨S64x128, logf lb oml hf 11⟩, ⟨S64x128, logf lb oml hf 12⟩, ⟨S64x128, logf lb oml hf 13⟩,
    ⟨S64x128, logf lb oml hf 14⟩, ⟨S64x128, logf lb oml hf 15⟩]
    concatenates_S64x128_S64x128_S64x128_S64x128_S64x128_S64x128_S64x128_S64x128_S64x128_S64x128_S64x128_S64x128_S64x128_S64x128_S64x128_S64x128_S64x2048_d1

/-- The product of the triangle with one bf16 part of the log gates. -/
def triMul (p : FVec F S64x2048 .bf16) : FVec F S64x2048 .f32 :=
  matmul dot_S64x64_S64x2048_S64x2048_1_0_0_1_n_n none tri p (constant S64x2048 .f32 0x00000000#32)

/-- What is left of an array after its bf16 rounding is taken off. -/
def rest (x : FVec F S64x2048 .f32) : FVec F S64x2048 .f32 :=
  subf x (extf .f32 (truncf .bf16 x bitsLt_bf16_f32) bitsLt_bf16_f32)

/-- The cumulative log gates in base 2, from the log gates in three bf16 parts. -/
def gAll (x : FVec F S64x2048 .f32) : FVec F S64x2048 .f32 :=
  mulf (addf (addf (triMul (truncf .bf16 x bitsLt_bf16_f32))
      (triMul (truncf .bf16 (rest x) bitsLt_bf16_f32)))
      (triMul (truncf .bf16 (rest (rest x)) bitsLt_bf16_f32)))
    (broadcast S64x2048 (Named.named κ "log2e" 0x3FB8AA3B#32))

/-- Head `h`'s cumulative log gates in base 2. -/
def gate (lb oml : FVec F S1x2048 .f32) (hf : Fin 16 → FVec F S64x128 .f32) (h : Fin 16) :
    FVec F S64x128 .f32 :=
  extractStridedSlice S64x128 ![0, 128 * h.val] (gAll (cat lb oml hf)) (slices_g h)

/-! ## The attention within one chunk -/

/-- A condition per row, spread over the head's columns. -/
def spread (c : IVec S64x1 1) : IVec S64x128 1 :=
  broadcastTo S64x128 (shapeCast S64x1 c shapeCasts_S64x1_S64x1) broadcasts_S64x1_S64x128

/-- The diagonal of the attention. -/
def diag (q k : FVec F S64x128 .f32) : FVec F S64x64 .f32 :=
  select (cmpi .eq I0 I1)
    (matmul dot_S64x128_S64x128_S64x64_1_1_0_0_n_n none (truncf .bf16 q bitsLt_bf16_f32)
      (truncf .bf16 k bitsLt_bf16_f32) (constant S64x64 .f32 0x00000000#32))
    (broadcast S64x64 (Scalar.ofBits .f32 0x00000000#32))

/-- The rows in the upper half of their block of `w + 1` rows; `m` is half a block. -/
def upper (w m : BitVec 32) : IVec S64x1 1 :=
  cmpi .sge (andi I (broadcast S64x1 w)) (broadcast S64x1 m)

/-- Row in the upper half, column in the lower half of the same block. -/
def mask (w m l sh : BitVec 32) : IVec S64x64 1 :=
  cmpi .sge
    (ori (ori (subi (andi I0 (broadcast S64x64 w)) (broadcast S64x64 m))
        (subi (broadcast S64x64 l) (andi I1 (broadcast S64x64 w))))
      (subi (broadcast S64x64 0#32)
        (xori (shrsi I0 (broadcast S64x64 sh)) (shrsi I1 (broadcast S64x64 sh)))))
    (broadcast S64x64 0#32)

/-- The queries (upper rows) and keys (lower rows) scaled from their block's middle row. -/
def scaled (w m : BitVec 32) (q k g mid : FVec F S64x128 .f32) : FVec F S64x128 .bf16 :=
  truncf .bf16 (mulf (select (spread (upper w m)) q k)
    (exp2 (mulf (subf g mid)
      (broadcastTo S64x128 (select (upper w m)
          (broadcast S64x1 (Scalar.ofBits .f32 0x3F800000#32))
          (broadcast S64x1 (Scalar.ofBits .f32 0xBF800000#32)))
        broadcasts_S64x1_S64x128)))) bitsLt_bf16_f32

/-- One level of the attention: the pairs that meet in a block of `w + 1` rows. -/
def level (w m l sh : BitVec 32) (q k g mid : FVec F S64x128 .f32) : FVec F S64x64 .f32 :=
  select (mask w m l sh)
    (matmul dot_S64x128_S64x128_S64x64_1_1_0_0_n_n none (scaled w m q k g mid)
      (scaled w m q k g mid) (constant S64x64 .f32 0x00000000#32))
    (broadcast S64x64 (Scalar.ofBits .f32 0x00000000#32))

/-- The middle row of the one block of 64. -/
def mid32 (g : FVec F S64x128 .f32) : FVec F S64x128 .f32 :=
  broadcastTo S64x128 (shapeCast S1x128 (extractStridedSlice S1x128 ![32, 0] g
    slices_S64x128_o32_0_S1x128) shapeCasts_S1x128_S1x128) broadcasts_S1x128_S64x128

/-- The middle rows of the two blocks of 32. -/
def mid16 (g : FVec F S64x128 .f32) : FVec F S64x128 .f32 :=
  concatenate S64x128 0 [
    ⟨S32x128, broadcastTo S32x128 (shapeCast S1x128 (extractStridedSlice S1x128 ![16, 0] g
      slices_S64x128_o16_0_S1x128) shapeCasts_S1x128_S1x128) broadcasts_S1x128_S32x128⟩,
    ⟨S32x128, broadcastTo S32x128 (shapeCast S1x128 (extractStridedSlice S1x128 ![48, 0] g
      slices_S64x128_o48_0_S1x128) shapeCasts_S1x128_S1x128) broadcasts_S1x128_S32x128⟩]
    concatenates_S32x128_S32x128_S64x128_d0

/-- A row of the gates repeated sixteen times. -/
def rep16 (r : Nat) (hr : S64x128.Slices ![r, 0] S1x128) (g : FVec F S64x128 .f32) :
    FVec F S16x128 .f32 :=
  broadcastTo S16x128 (shapeCast S1x128 (extractStridedSlice S1x128 ![r, 0] g hr)
    shapeCasts_S1x128_S1x128) broadcasts_S1x128_S16x128

/-- The middle rows of the four blocks of 16. -/
def mid8 (g : FVec F S64x128 .f32) : FVec F S64x128 .f32 :=
  concatenate S64x128 0 [⟨S16x128, rep16 8 slices_S64x128_o8_0_S1x128 g⟩,
    ⟨S16x128, rep16 24 slices_S64x128_o24_0_S1x128 g⟩,
    ⟨S16x128, rep16 40 slices_S64x128_o40_0_S1x128 g⟩,
    ⟨S16x128, rep16 56 slices_S64x128_o56_0_S1x128 g⟩]
    concatenates_S16x128_S16x128_S16x128_S16x128_S64x128_d0

/-- A row of the gates repeated eight times. -/
def rep8 (r : Nat) (hr : S64x128.Slices ![r, 0] S1x128) (g : FVec F S64x128 .f32) :
    FVec F S8x128 .f32 :=
  broadcastTo S8x128 (shapeCast S1x128 (extractStridedSlice S1x128 ![r, 0] g hr)
    shapeCasts_S1x128_S1x128) broadcasts_S1x128_S8x128

/-- The middle rows of the eight blocks of 8. -/
def mid4 (g : FVec F S64x128 .f32) : FVec F S64x128 .f32 :=
  concatenate S64x128 0 [⟨S8x128, rep8 4 slices_S64x128_o4_0_S1x128 g⟩,
    ⟨S8x128, rep8 12 slices_S64x128_o12_0_S1x128 g⟩,
    ⟨S8x128, rep8 20 slices_S64x128_o20_0_S1x128 g⟩,
    ⟨S8x128, rep8 28 slices_S64x128_o28_0_S1x128 g⟩,
    ⟨S8x128, rep8 36 slices_S64x128_o36_0_S1x128 g⟩,
    ⟨S8x128, rep8 44 slices_S64x128_o44_0_S1x128 g⟩,
    ⟨S8x128, rep8 52 slices_S64x128_o52_0_S1x128 g⟩,
    ⟨S8x128, rep8 60 slices_S64x128_o60_0_S1x128 g⟩]
    concatenates_S8x128_S8x128_S8x128_S8x128_S8x128_S8x128_S8x128_S8x128_S64x128_d0

/-- The row index modulo four equals `r`. -/
def isRow (w r : BitVec 32) : IVec S64x1 1 :=
  cmpi .eq (andi I (broadcast S64x1 w)) (broadcast S64x1 r)

/-- The middle rows of the blocks of 4: each row turned to its block's third. -/
def mid2 (g : FVec F S64x128 .f32) : FVec F S64x128 .f32 :=
  select (spread (isRow 3#32 0#32)) (dynamicRotate 0 62#32 none g rotates_S64x128_d0)
    (select (spread (isRow 3#32 1#32)) (dynamicRotate 0 63#32 none g rotates_S64x128_d0)
      (select (spread (isRow 3#32 3#32)) (dynamicRotate 0 1#32 none g rotates_S64x128_d0) g))

/-- The middle rows of the blocks of 2: an even row turned to the next. -/
def mid1 (g : FVec F S64x128 .f32) : FVec F S64x128 .f32 :=
  select (spread (isRow 1#32 0#32)) (dynamicRotate 0 63#32 none g rotates_S64x128_d0) g

/-- The attention within a chunk: the diagonal and the six levels. -/
def att (q k g : FVec F S64x128 .f32) : FVec F S64x64 .f32 :=
  addf (addf (addf (addf (addf (addf (diag q k)
    (level 63#32 32#32 31#32 6#32 q k g (mid32 g)))
    (level 31#32 16#32 15#32 5#32 q k g (mid16 g)))
    (level 15#32 8#32 7#32 4#32 q k g (mid8 g)))
    (level 7#32 4#32 3#32 3#32 q k g (mid4 g)))
    (level 3#32 2#32 1#32 2#32 q k g (mid2 g)))
    (level 1#32 1#32 0#32 1#32 q k g (mid1 g))

/-! ## The outputs and the state of one head -/

/-- The last row of the gates. -/
def lastRow (g : FVec F S64x128 .f32) : FVec F S1x128 .f32 :=
  extractStridedSlice S1x128 ![63, 0] g slices_S64x128_o63_0_S1x128

/-- The recurrence's outputs of one chunk. -/
def outY (q k g v : FVec F S64x128 .f32) (S : FVec F S1x1x128x128 .f32) : FVec F S64x128 .f32 :=
  addf
    (matmul dot_S64x64_S64x128_S64x128_1_0_0_1_n_n none (truncf .bf16 (att q k g) bitsLt_bf16_f32)
      (truncf .bf16 v bitsLt_bf16_f32) (constant S64x128 .f32 0x00000000#32))
    (matmul dot_S64x128_S128x128_S64x128_1_0_0_1_n_n none
      (truncf .bf16 (mulf q (exp2 g)) bitsLt_bf16_f32)
      (truncf .bf16 (shapeCast S128x128 S shapeCasts_S1x1x128x128_S128x128) bitsLt_bf16_f32)
      (constant S64x128 .f32 0x00000000#32))

/-- The state after one chunk. -/
def newS (k g v : FVec F S64x128 .f32) (S : FVec F S1x1x128x128 .f32) : FVec F S1x1x128x128 .f32 :=
  shapeCast S1x1x128x128 (addf
    (mulf (broadcastTo S128x128 (exp2 (extractStridedSlice S128x1 ![0, 0]
        (transpose S128x8 [1, 0] (broadcastTo S8x128 (shapeCast S1x128 (lastRow g)
          shapeCasts_S1x128_S1x128) broadcasts_S1x128_S8x128) transposes_S8x128_p1_0_S128x8)
        slices_S128x8_o0_0_S128x1)) broadcasts_S128x1_S128x128)
      (shapeCast S128x128 S shapeCasts_S1x1x128x128_S128x128))
    (matmul dot_S64x128_S64x128_S128x128_0_0_1_1_n_n none
      (truncf .bf16 (mulf k (exp2 (subf (broadcastTo S64x128 (lastRow g)
        broadcasts_S1x128_S64x128) g))) bitsLt_bf16_f32)
      (truncf .bf16 v bitsLt_bf16_f32) (constant S128x128 .f32 0x00000000#32)))
    shapeCasts_S128x128_S1x1x128x128

/-- The head's normalised and gated output. -/
def outO (y hg : FVec F S64x128 .f32) (w : FVec F S1x128 .f32) : FVec F S64x128 .bf16 :=
  truncf .bf16 (mulf (mulf (mulf y (broadcastTo S64x128 (rsqrt (addf (divf
      (shapeCast S64x1 (multiReduction .add [1] S64 (mulf y y) 0x00000000#32 reduces_S64x128_S64)
        shapeCasts_S64_S64x1)
      (broadcast S64x1 (Scalar.ofBits .f32 0x43000000#32)))
      (broadcast S64x1 (Scalar.ofBits .f32 0x358637BD#32)))) broadcasts_S64x1_S64x128))
      (broadcastTo S64x128 (shapeCast S1x128 w shapeCasts_S1x128_S1x128) broadcasts_S1x128_S64x128))
    (mulf hg (sigm hg))) bitsLt_bf16_f32

/-! ## Head `h` from what it loads -/

/-- Head `h`'s outputs of one chunk, from the loaded blocks and the state before the chunk. -/
def headOut (l0 l1 l2 l3 : Fin 16 → Vec F S64x128 .f32) (b : Vec F S2x2048 .f32)
    (lw : Fin 16 → Vec F S1x128 .f32) (S : Vec F S1x1x128x128 .f32) (h : Fin 16) :
    Vec F S64x128 .bf16 :=
  outO (outY (query (l0 h)) (key (k0_pay4 b) l1 h) (gate (k0_pay3 b) (k0_pay4 b) l1 h) (l2 h) S)
    (l3 h) (lw h)

/-- Head `h`'s state after one chunk. -/
def headState (l1 l2 : Fin 16 → Vec F S64x128 .f32) (b : Vec F S2x2048 .f32)
    (S : Vec F S1x1x128x128 .f32) (h : Fin 16) : Vec F S1x1x128x128 .f32 :=
  newS (key (k0_pay4 b) l1 h) (gate (k0_pay3 b) (k0_pay4 b) l1 h) (l2 h) S

end Cert.GlaIdeal.Head
-- ==== Proof.Pieces.lean ====
/- What one grid point leaves in its two output buffers, as the program's run finds it: the sixteen
   stores into each, stated through the one-head functions. -/
module

public import proofs.«01_k».proof.Proof.Head
public import Idealize.ShloMosaic.Lib.WritesUnit

@[expose] public section

set_option maxRecDepth 16384

noncomputable section

namespace Cert.GlaIdeal.Head

open Cert.GlaIdeal Cert.GlaIdeal.Gen Idealize.ShloMosaic Idealize.ShloMosaic.TcCoe Idealize.SL.Sem

variable {F : FTy → Type} [FloatOps F] [Named F]

/-- Head `h`'s columns of a block staged in `a`. -/
def colLoad (a : Memref sig .tc .vmem S64x2048 .f32) (ha : a.IsWhole) (x : Vec F S64x2048 .f32)
    (h : Fin 16) : Vec F S64x128 .f32 :=
  View.readAt (Elt F) a.view (colRect h).toLoadRect (ha.unread x)

/-- Head `h`'s norm weights, staged in `a`. -/
def wLoad (a : Memref sig .tc .vmem S1x2048 .f32) (ha : a.IsWhole) (x : Vec F S1x2048 .f32)
    (h : Fin 16) : Vec F S1x128 .f32 :=
  View.readAt (Elt F) a.view (wRect h).toLoadRect (ha.unread x)

/-- The bounds' logits, staged in `a`. -/
def bLoad (a : Memref sig .tc .vmem S2x2048 .f32) (ha : a.IsWhole) (x : Vec F S2x2048 .f32) :
    Vec F S2x2048 .f32 :=
  View.readAt (Elt F) a.view (Rect.unit ![0, 0] S2x2048.size inb_S2x2048_S2x2048_0_0).toLoadRect
    (ha.unread x)

/-- Head `h`'s rows of a state staged in `a`. -/
def sLoad (a : Memref sig .tc .vmem S1x1x2048x128 .f32) (ha : a.IsWhole)
    (x : Vec F S1x1x2048x128 .f32) (h : Fin 16) : Vec F S1x1x128x128 .f32 :=
  View.readAt (Elt F) a.view (sRect h).toLoadRect (ha.unread x)

/-- The stores into the state's buffer at a sequence's first chunk, newest first: the given state
    copied over, then `n` heads, each over what it reads back. -/
def stA (a : Memref sig .tc .vmem S1x1x2048x128 .f32) (l1 l2 : Fin 16 → Vec F S64x128 .f32)
    (b : Vec F S2x2048 .f32) (base : Vec F S1x1x2048x128 .f32) :
    ℕ → List (View.Piece (Elt F) S1x1x2048x128 .f32)
  | 0 => [⟨Rect.unit ![0, 0, 0, 0] S1x1x2048x128.size inb_S1x1x2048x128_S1x1x2048x128_0_0_0_0, base⟩]
  | n + 1 => ⟨sRect (Fin.ofNat 16 n), headState l1 l2 b
      (a.view.readCov (stA a l1 l2 b base n) (sRect (Fin.ofNat 16 n)).toLoadRect) (Fin.ofNat 16 n)⟩
      :: stA a l1 l2 b base n

/-- The state given at a sequence's first chunk, as the copy stores it. -/
def baseS (a : Memref sig .tc .vmem S1x1x2048x128 .f32) (ha : a.IsWhole)
    (x : Vec F S1x1x2048x128 .f32) : Vec F S1x1x2048x128 .f32 :=
  k0_pay2 (View.readAt (Elt F) a.view (Rect.unit ![0, 0, 0, 0] S1x1x2048x128.size
    inb_S1x1x2048x128_S1x1x2048x128_0_0_0_0).toLoadRect (ha.unread x))

/-- A sequence's first chunk: the stores into the state's buffer. -/
theorem pieces8_A
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) :
    (kernelRun0_A c i arg2 harg2 arg3 harg3 arg4 harg4 arg5 harg5 arg6 harg6 arg7 harg7 arg8
        harg8 arg10 harg10 arg11 harg11 hc0 x0 x1 x2 x3 x4 x5 x6).2.1
      = stA arg11 (colLoad arg3 harg3 x1) (colLoad arg4 harg4 x2) (bLoad arg7 harg7 x5)
        (baseS arg6 harg6 x4) 16 := by
  sl_kernel_rfl

/-- A sequence's first chunk: the stores into the outputs' buffer. -/
theorem pieces7_A
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) :
    (kernelRun0_A c i arg2 harg2 arg3 harg3 arg4 harg4 arg5 harg5 arg6 harg6 arg7 harg7 arg8
        harg8 arg10 harg10 arg11 harg11 hc0 x0 x1 x2 x3 x4 x5 x6).1
      = View.tilePieces (s := S64x2048) S64x128.size (fun h : Fin 16 => ![0, 128 * h.val]) inb_col
        (fun h => headOut (colLoad arg2 harg2 x0) (colLoad arg3 harg3 x1)
        (colLoad arg4 harg4 x2) (colLoad arg5 harg5 x3) (bLoad arg7 harg7 x5) (wLoad arg8 harg8 x6)
          (arg11.view.readCov (stA arg11 (colLoad arg3 harg3 x1) (colLoad arg4 harg4 x2) (bLoad arg7 harg7 x5)
            (baseS arg6 harg6 x4) h.val) (sRect h).toLoadRect) h) 16 le_rfl := by
  sl_kernel_rfl

/-- A later chunk: the stores into the state's buffer. -/
theorem pieces8_B
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : ¬cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (xo8 : Vec F S1x1x2048x128 .f32) :
    (kernelRun0_B c i arg2 harg2 arg3 harg3 arg4 harg4 arg5 harg5 arg6 harg6 arg7 harg7 arg8
        harg8 arg10 harg10 arg11 harg11 hc0 x0 x1 x2 x3 x4 x5 x6 xo8).2.1
      = View.tilePieces (s := S1x1x2048x128) S1x1x128x128.size (fun h : Fin 16 => ![0, 0, 128 * h.val, 0]) inb_s
        (fun h => headState (colLoad arg3 harg3 x1) (colLoad arg4 harg4 x2) (bLoad arg7 harg7 x5)
          (sLoad arg11 harg11 xo8 h) h) 16 le_rfl := by
  sl_kernel_rfl

/-- A later chunk: the stores into the outputs' buffer. -/
theorem pieces7_B
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : ¬cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (xo8 : Vec F S1x1x2048x128 .f32) :
    (kernelRun0_B c i arg2 harg2 arg3 harg3 arg4 harg4 arg5 harg5 arg6 harg6 arg7 harg7 arg8
        harg8 arg10 harg10 arg11 harg11 hc0 x0 x1 x2 x3 x4 x5 x6 xo8).1
      = View.tilePieces (s := S64x2048) S64x128.size (fun h : Fin 16 => ![0, 128 * h.val]) inb_col
        (fun h => headOut (colLoad arg2 harg2 x0) (colLoad arg3 harg3 x1)
        (colLoad arg4 harg4 x2) (colLoad arg5 harg5 x3) (bLoad arg7 harg7 x5) (wLoad arg8 harg8 x6)
          (sLoad arg11 harg11 xo8 h) h) 16 le_rfl := by
  sl_kernel_rfl

end Cert.GlaIdeal.Head
-- ==== Proof.Block.lean ====
/- What one grid point leaves in its two output buffers, entry by entry: head `h`'s columns of the
   outputs and head `h`'s rows of the state are the one-head functions of head `h`'s columns of the
   input blocks and head `h`'s rows of the state before the chunk. -/
module

public import proofs.«01_k».proof.Proof.Pieces
public import Idealize.ShloMosaic.Lib.Pointwise
public import Idealize.ShloMosaic.Lib.Pipeline.Value
public import Idealize.ShloMosaic.Lib.Pipeline.ValueKit.Basic

@[expose] public section

set_option maxRecDepth 16384

noncomputable section

namespace Cert.GlaIdeal.Head

open Cert.GlaIdeal Cert.GlaIdeal.Gen Idealize.ShloMosaic Idealize.ShloMosaic.TcCoe Idealize.SL.Sem

variable {F : FTy → Type} [FloatOps F] [Named F]

/-- Column `d` of head `h`. -/
def hcol (h : Fin 16) (d : Fin 128) : Fin 2048 := ⟨128 * h.val + d.val, by omega⟩

/-- Head `h`'s columns of a block. -/
def col (x : Vec F S64x2048 .f32) (h : Fin 16) : Vec F S64x128 .f32 :=
  fun j => x (ix2 (j 0) (hcol h (j 1)))
/-- Head `h`'s norm weights. -/
def wrow (x : Vec F S1x2048 .f32) (h : Fin 16) : Vec F S1x128 .f32 :=
  fun j => x (ix2 (j 0) (hcol h (j 1)))
/-- Head `h`'s rows of a state. -/
def srow (x : Vec F S1x1x2048x128 .f32) (h : Fin 16) : Vec F S1x1x128x128 .f32 :=
  fun j => x (ix4 (j 0) (j 1) (hcol h (j 2)) (j 3))

theorem colLoad_eq (a : Memref sig .tc .vmem S64x2048 .f32) (ha : a.IsWhole)
    (x : Vec F S64x2048 .f32) : colLoad a ha x = col x := by
  funext h j
  unfold colLoad colRect
  rw [View.readAt_eq_ld, ha.read_unread]
  idx_vars j
  pointwise [col, hcol]

theorem wLoad_eq (a : Memref sig .tc .vmem S1x2048 .f32) (ha : a.IsWhole)
    (x : Vec F S1x2048 .f32) : wLoad a ha x = wrow x := by
  funext h j
  unfold wLoad wRect
  rw [View.readAt_eq_ld, ha.read_unread]
  idx_vars j
  obtain rfl : j0 = 0 := Subsingleton.elim _ _
  pointwise [wrow, hcol]

theorem bLoad_eq (a : Memref sig .tc .vmem S2x2048 .f32) (ha : a.IsWhole)
    (x : Vec F S2x2048 .f32) : bLoad a ha x = x := by
  unfold bLoad
  rw [View.readAt_eq_ld, ha.read_unread]
  exact View.ld_unit_lit _ _ (by decide)

theorem sLoad_eq (a : Memref sig .tc .vmem S1x1x2048x128 .f32) (ha : a.IsWhole)
    (x : Vec F S1x1x2048x128 .f32) : sLoad a ha x = srow x := by
  funext h j
  unfold sLoad sRect
  rw [View.readAt_eq_ld, ha.read_unread]
  idx_vars j
  obtain rfl : j0 = 0 := Subsingleton.elim _ _
  obtain rfl : j1 = 0 := Subsingleton.elim _ _
  pointwise [srow, hcol]

theorem baseS_eq (a : Memref sig .tc .vmem S1x1x2048x128 .f32) (ha : a.IsWhole)
    (x : Vec F S1x1x2048x128 .f32) : baseS a ha x = x := by
  unfold baseS k0_pay2
  rw [View.readAt_eq_ld, ha.read_unread]
  refine (shapeCast_shapeCast _ _ _).trans ?_
  exact View.ld_unit_lit _ _ (by decide)

/-- Reading the state's buffer after the first `n` heads' stores, at a head not among them: the
    given state. -/
theorem read_stA_rest {κ' : Kind} {sp : Space} (v : View sig κ' sp S1x1x2048x128 .f32)
    (f : v.ty.Contents (Elt F)) (a : Memref sig .tc .vmem S1x1x2048x128 .f32)
    (l1 l2 : Fin 16 → Vec F S64x128 .f32) (b : Vec F S2x2048 .f32)
    (base : Vec F S1x1x2048x128 .f32) (n : ℕ) (h : Fin 16) (hn : n ≤ h.val) (i : Fin 128)
    (j : Fin 128) :
    v.read (Elt F) (v.writes (Elt F) f (stA a l1 l2 b base n)) (ix4 0 0 (hcol h i) j)
      = base (ix4 0 0 (hcol h i) j) := by
  induction n with
  | zero =>
    exact View.read_writes_cons_unit_of_mem v f _ base [] _ (ix4 0 0 (hcol h i) j) rfl
      (fun a => by fin_cases a <;> simp [ix4])
  | succ n ih =>
    rw [stA]
    unfold sRect
    rw [View.read_writes_cons_unit_of_not_mem v f (inb_s (Fin.ofNat 16 n)) _ _ _ rfl 2 (by
      right
      have h1 : (Fin.ofNat 16 n).val = n := Nat.mod_eq_of_lt (by omega)
      show 128 * (Fin.ofNat 16 n).val + 128 ≤ 128 * h.val + i.val
      omega)]
    exact ih (by omega)

/-- So head `h` loads its rows of the given state. -/
theorem readCov_stA (a : Memref sig .tc .vmem S1x1x2048x128 .f32)
    (l1 l2 : Fin 16 → Vec F S64x128 .f32) (b : Vec F S2x2048 .f32)
    (base : Vec F S1x1x2048x128 .f32) (h : Fin 16) :
    a.view.readCov (stA a l1 l2 b base h.val) (sRect h).toLoadRect = srow base h := by
  funext j
  have := read_stA_rest a.view a.view.junk a l1 l2 b base h.val h le_rfl (j 2) (j 3)
  have hi : (sRect h).toLoadRect.idx j = ix4 0 0 (hcol h (j 2)) (j 3) := by
    funext x; apply Fin.ext
    have h0 : (j 0).val = 0 := Nat.lt_one_iff.mp (j 0).isLt
    have h1 : (j 1).val = 0 := Nat.lt_one_iff.mp (j 1).isLt
    fin_cases x
    · show 0 + 1 * (j 0).val = 0; omega
    · show 0 + 1 * (j 1).val = 0; omega
    · show 128 * h.val + 1 * (j 2).val = 128 * h.val + (j 2).val; omega
    · show 0 + 1 * (j 3).val = (j 3).val; omega
  have h0 : srow base h j = base (ix4 0 0 (hcol h (j 2)) (j 3)) :=
    congrArg base (congrArg₂ (fun a b => ix4 a b (hcol h (j 2)) (j 3)) (Subsingleton.elim _ _)
      (Subsingleton.elim _ _))
  exact (congrArg (a.view.read (Elt F) (a.view.writes (Elt F) a.view.junk
    (stA a l1 l2 b base h.val))) hi).trans (this.trans h0.symm)

/-- Reading the state's buffer after the first `n` heads' stores, at one of these heads: that head's
    new state. -/
theorem read_stA {κ' : Kind} {sp : Space} (v : View sig κ' sp S1x1x2048x128 .f32)
    (f : v.ty.Contents (Elt F)) (a : Memref sig .tc .vmem S1x1x2048x128 .f32)
    (l1 l2 : Fin 16 → Vec F S64x128 .f32) (b : Vec F S2x2048 .f32)
    (base : Vec F S1x1x2048x128 .f32) (n : ℕ) (h : Fin 16) (hn : h.val < n) (hn' : n ≤ 16)
    (i : Fin 128) (j : Fin 128) :
    v.read (Elt F) (v.writes (Elt F) f (stA a l1 l2 b base n)) (ix4 0 0 (hcol h i) j)
      = headState l1 l2 b (srow base h) h (ix4 0 0 i j) := by
  induction n with
  | zero => omega
  | succ n ih =>
    have h1 : (Fin.ofNat 16 n).val = n := Nat.mod_eq_of_lt (by omega)
    rw [stA]
    by_cases hh : h.val = n
    · have h2 : Fin.ofNat 16 n = h := Fin.ext (h1.trans hh.symm)
      rw [h2, ← hh, readCov_stA]
      exact View.read_writes_cons_unit_of_mem v f (inb_s h) _ _ _ (ix4 0 0 i j) rfl
        (fun x => by fin_cases x <;> simp [ix4, hcol])
    · unfold sRect
      rw [View.read_writes_cons_unit_of_not_mem v f (inb_s (Fin.ofNat 16 n)) _ _ _ rfl 2 (by
        left
        show 128 * h.val + i.val < 128 * (Fin.ofNat 16 n).val
        omega)]
      exact ih (by omega) (by omega)

/-- Two heads' columns are apart. -/
theorem heads_apart (h : Fin 16) (d : Fin 128) (h' : Fin 16) (hne : h' ≠ h) :
    (hcol h d).val < 128 * h'.val ∨ 128 * h'.val + 128 ≤ (hcol h d).val := by
  have : h'.val ≠ h.val := fun e => hne (Fin.ext e)
  unfold hcol
  show 128 * h.val + d.val < _ ∨ _ ≤ 128 * h.val + d.val
  omega

/-- A sequence's first chunk: the state it leaves, from the given state. -/
theorem out8_A
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (h : Fin 16) (r e : Fin 128) :
    out0_A_8 c i arg2 harg2 arg3 harg3 arg4 harg4 arg5 harg5 arg6 harg6 arg7 harg7 arg8 harg8
        arg10 harg10 arg11 harg11 hc0 x0 x1 x2 x3 x4 x5 x6 (ix4 0 0 (hcol h r) e)
      = headState (col x1) (col x2) x5 (srow x4 h) h (ix4 0 0 r e) := by
  rw [out0_A_8, pieces8_A, read_stA _ _ _ _ _ _ _ 16 h h.isLt le_rfl, colLoad_eq, colLoad_eq,
    bLoad_eq, baseS_eq]

/-- A sequence's first chunk: the outputs, from the given state. -/
theorem out7_A
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (h : Fin 16) (t : Fin 64) (d : Fin 128) :
    out0_A_7 c i arg2 harg2 arg3 harg3 arg4 harg4 arg5 harg5 arg6 harg6 arg7 harg7 arg8 harg8
        arg10 harg10 arg11 harg11 hc0 x0 x1 x2 x3 x4 x5 x6 (ix2 t (hcol h d))
      = headOut (col x0) (col x1) (col x2) (col x3) x5 (wrow x6) (srow x4 h) h (ix2 t d) := by
  rw [out0_A_7, pieces7_A, View.read_tilePieces _ _ _ _ _ _ 16 le_rfl _ h h.isLt (ix2 t d)
    (fun a => by fin_cases a <;> simp [ix2, hcol]) 1 (heads_apart h d), readCov_stA, baseS_eq,
    colLoad_eq, colLoad_eq, colLoad_eq, colLoad_eq, bLoad_eq, wLoad_eq]

/-- A later chunk: the state it leaves, from the state the chunk before left. -/
theorem out8_B
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : ¬cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (xo8 : Vec F S1x1x2048x128 .f32) (h : Fin 16) (r e : Fin 128) :
    out0_B_8 c i arg2 harg2 arg3 harg3 arg4 harg4 arg5 harg5 arg6 harg6 arg7 harg7 arg8 harg8
        arg10 harg10 arg11 harg11 hc0 x0 x1 x2 x3 x4 x5 x6 xo8 (ix4 0 0 (hcol h r) e)
      = headState (col x1) (col x2) x5 (srow xo8 h) h (ix4 0 0 r e) := by
  rw [out0_B_8, pieces8_B, View.read_tilePieces _ _ _ _ _ _ 16 le_rfl _ h h.isLt (ix4 0 0 r e)
    (fun a => by fin_cases a <;> simp [ix4, hcol]) 2 (heads_apart h r), colLoad_eq, colLoad_eq,
    bLoad_eq, sLoad_eq]

/-- A later chunk: the outputs, from the state the chunk before left. -/
theorem out7_B
    (c : Dev nD) (i : grid0.Coords) (arg2 : Memref sig .tc .vmem S64x2048 .f32)
    (harg2 : arg2.IsWhole) (arg3 : Memref sig .tc .vmem S64x2048 .f32) (harg3 : arg3.IsWhole)
    (arg4 : Memref sig .tc .vmem S64x2048 .f32) (harg4 : arg4.IsWhole)
    (arg5 : Memref sig .tc .vmem S64x2048 .f32) (harg5 : arg5.IsWhole)
    (arg6 : Memref sig .tc .vmem S1x1x2048x128 .f32) (harg6 : arg6.IsWhole)
    (arg7 : Memref sig .tc .vmem S2x2048 .f32) (harg7 : arg7.IsWhole)
    (arg8 : Memref sig .tc .vmem S1x2048 .f32) (harg8 : arg8.IsWhole)
    (arg10 : Memref sig .tc .vmem S64x2048 .bf16) (harg10 : arg10.IsWhole)
    (arg11 : Memref sig .tc .vmem S1x1x2048x128 .f32) (harg11 : arg11.IsWhole) (hc0 : ¬cond0_0 i)
    (x0 : Vec F S64x2048 .f32) (x1 : Vec F S64x2048 .f32) (x2 : Vec F S64x2048 .f32)
    (x3 : Vec F S64x2048 .f32) (x4 : Vec F S1x1x2048x128 .f32) (x5 : Vec F S2x2048 .f32)
    (x6 : Vec F S1x2048 .f32) (xo8 : Vec F S1x1x2048x128 .f32) (h : Fin 16) (t : Fin 64)
    (d : Fin 128) :
    out0_B_7 c i arg2 harg2 arg3 harg3 arg4 harg4 arg5 harg5 arg6 harg6 arg7 harg7 arg8 harg8
        arg10 harg10 arg11 harg11 hc0 x0 x1 x2 x3 x4 x5 x6 xo8 (ix2 t (hcol h d))
      = headOut (col x0) (col x1) (col x2) (col x3) x5 (wrow x6) (srow xo8 h) h (ix2 t d) := by
  rw [out0_B_7, pieces7_B, View.read_tilePieces _ _ _ _ _ _ 16 le_rfl _ h h.isLt (ix2 t d)
    (fun a => by fin_cases a <;> simp [ix2, hcol]) 1 (heads_apart h d), sLoad_eq,
    colLoad_eq, colLoad_eq, colLoad_eq, colLoad_eq, bLoad_eq, wLoad_eq]

end Cert.GlaIdeal.Head
-- ==== Proof.Scalars.lean ====
/- The scalar facts on the extended reals that the two programs differ by: the sigmoid written with a base-2
   exponential, powers of two of multiples of `1 / log 2`, and which quantities of the gated linear attention are
   real whatever the arguments are. -/
module

public import Idealize.ShloMosaic.PureOps.Ideal

@[expose] public section

noncomputable section

namespace Cert.Scalars

open Idealize.ShloMosaic

/-- The word `1e-30` denotes a positive real. -/
theorem tiny_word : ∃ r : ℝ, 0 < r ∧ Ideal.ofBits .f32 0x0DA24260#32 = (r : EReal) := by
  refine ⟨10633824 * 2 ^ (-123 : ℤ), by positivity, ?_⟩
  simp [Ideal.ofBits, Ideal.ieee, -EReal.coe_mul, -EReal.coe_inv]

theorem one_word : Ideal.ofBits .f32 0x3F800000#32 = (1 : EReal) := by
  simp [Ideal.ofBits, Ideal.ieee, -EReal.coe_mul]; norm_num

theorem neg_one_word : Ideal.ofBits .f32 0xBF800000#32 = (-1 : EReal) := by
  simp [Ideal.ofBits, Ideal.ieee, -EReal.coe_mul]; norm_num

theorem zero_word : Ideal.ofBits .f32 0x00000000#32 = (0 : EReal) := by
  simp [Ideal.ofBits, Ideal.ieee, -EReal.coe_mul]

theorem neg_inf_word : Ideal.ofBits .f32 0xFF800000#32 = (⊥ : EReal) := by
  simp [Ideal.ofBits, Ideal.ieee, -EReal.coe_mul]

/-- A power of two of a real multiple of `1 / log 2` is the exponential. -/
theorem exp2_mul_log2e (a : ℝ) : Ideal.exp2 ((a : EReal) * (((Real.log 2)⁻¹ : ℝ) : EReal)) = (Real.exp a : EReal) := by
  rw [← EReal.coe_mul, Ideal.exp2_coe]
  congr 1
  show (2 : ℝ) ^ (a * (Real.log 2)⁻¹) = _
  have h : Real.log 2 ≠ 0 := (Real.log_pos (by norm_num)).ne'
  rw [Real.rpow_def_of_pos (by norm_num)]
  congr 1
  field_simp

/-- The sigmoid written with a power of two is the logistic function, at every extended real. -/
theorem sigmoid_exp2 (x : EReal) :
    Ideal.div 1 (1 + Ideal.exp2 (x * ((-(Real.log 2)⁻¹ : ℝ) : EReal))) = Ideal.logistic x := by
  have hl : 0 < Real.log 2 := Real.log_pos (by norm_num)
  have hn : (-(Real.log 2)⁻¹ : ℝ) < 0 := by have := inv_pos.mpr hl; linarith
  unfold Ideal.logistic
  congr 2
  induction x with
  | bot => rw [EReal.bot_mul_coe_of_neg hn]; rfl
  | top => rw [EReal.top_mul_coe_of_neg hn]; rfl
  | coe r =>
    rw [show ((-(Real.log 2)⁻¹ : ℝ)) = (-1) * (Real.log 2)⁻¹ by ring, EReal.coe_mul, ← mul_assoc, ← EReal.coe_mul,
      exp2_mul_log2e]
    rw [show r * -1 = -r by ring, ← EReal.coe_neg, Ideal.exp_coe]

/-- The logistic function is a real. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- The quotient of an exponential `e ≥ 0` by a sum of such. -/
theorem exp_cases (x : EReal) : Ideal.exp x = ⊤ ∨ ∃ r : ℝ, 0 ≤ r ∧ Ideal.exp x = (r : EReal) := by
  induction x with
  | bot => exact Or.inr ⟨0, le_refl _, by simp⟩
  | top => exact Or.inl rfl
  | coe r => exact Or.inr ⟨_, (Real.exp_pos r).le, Ideal.exp_coe r⟩

/-- The running share of a two-term softmax, first term taken off again. -/
def share (a b : EReal) : EReal :=
  let e0 := Ideal.exp (a - max a b)
  let e1 := Ideal.exp (b - max a b)
  (Ideal.div e0 (e0 + e1) + Ideal.div e1 (e0 + e1)) - Ideal.div e0 (e0 + e1)

theorem div_zero_zero : Ideal.div 0 0 = ⊥ := by simp [Ideal.div]

theorem exp_zero : Ideal.exp 0 = 1 := by
  rw [← EReal.coe_zero, Ideal.exp_coe, Real.exp_zero]; rfl

/-- It is a real, or the least element where both exponentials vanish (an infinite maximum). -/
theorem share_cases (a b : EReal) : share a b = ⊥ ∨ ∃ r : ℝ, share a b = (r : EReal) := by
  have hzero : ∀ x y : EReal, Ideal.exp x = 0 → Ideal.exp y = 0 →
      (Ideal.div (Ideal.exp x) (Ideal.exp x + Ideal.exp y) + Ideal.div (Ideal.exp y) (Ideal.exp x + Ideal.exp y))
        - Ideal.div (Ideal.exp x) (Ideal.exp x + Ideal.exp y) = ⊥ := by
    intro x y hx hy
    rw [hx, hy, add_zero, div_zero_zero]; rfl
  have hreal : ∀ (x y : EReal) (r s : ℝ), 0 ≤ r → 0 ≤ s → 0 < r + s → Ideal.exp x = (r : EReal) → Ideal.exp y = (s : EReal) →
      ∃ z : ℝ, (Ideal.div (Ideal.exp x) (Ideal.exp x + Ideal.exp y) + Ideal.div (Ideal.exp y) (Ideal.exp x + Ideal.exp y))
        - Ideal.div (Ideal.exp x) (Ideal.exp x + Ideal.exp y) = (z : EReal) := by
    intro x y r s _ _ hp hx hy
    refine ⟨(r * (r + s)⁻¹ + s * (r + s)⁻¹) - r * (r + s)⁻¹, ?_⟩
    have hne : ((r + s : ℝ) : EReal) ≠ 0 := by exact_mod_cast hp.ne'
    rw [hx, hy, ← EReal.coe_add, Ideal.div, if_neg hne, Ideal.div, if_neg hne]
    rw [← EReal.coe_inv, ← EReal.coe_mul, ← EReal.coe_mul, ← EReal.coe_add, ← EReal.coe_sub]
  unfold share
  dsimp only
  induction a with
  | bot =>
    induction b with
    | bot => left; apply hzero <;> rfl
    | top => left; apply hzero <;> simp
    | coe s => right; refine hreal _ _ 0 1 (by norm_num) (by norm_num) (by norm_num) (by simp) ?_
               rw [max_eq_right bot_le, EReal.sub_self (EReal.coe_ne_top _) (EReal.coe_ne_bot _), exp_zero]; rfl
  | top =>
    left
    rw [max_eq_left le_top]
    apply hzero
    · rfl
    · induction b with
      | bot => rfl
      | top => rfl
      | coe s => rfl
  | coe r =>
    induction b with
    | bot => right; refine hreal _ _ 1 0 (by norm_num) (by norm_num) (by norm_num) ?_ (by simp)
             rw [max_eq_left bot_le, EReal.sub_self (EReal.coe_ne_top _) (EReal.coe_ne_bot _), exp_zero]; rfl
    | top => left; rw [max_eq_right le_top]; apply hzero <;> rfl
    | coe s =>
      right
      have hm : max (r : EReal) (s : EReal) = ((max r s : ℝ) : EReal) := (EReal.coe_strictMono.monotone.map_max).symm
      rw [hm]
      refine hreal _ _ (Real.exp (r - max r s)) (Real.exp (s - max r s)) (Real.exp_pos _).le (Real.exp_pos _).le
        (add_pos (Real.exp_pos _) (Real.exp_pos _)) ?_ ?_
      · rw [← EReal.coe_sub, Ideal.exp_coe]
      · rw [← EReal.coe_sub, Ideal.exp_coe]

/-- The logarithm of the forget gate `lb + (1 - lb) σ`, held above a positive real, is a real: `lb` is a real or `⊥`,
    and in the second case the gate is `⊥` too. -/
theorem log_gate_real (a b x : EReal) (T : ℝ) (hT : 0 < T) :
    ∃ r : ℝ, Ideal.log (max (share a b + (1 - share a b) * Ideal.logistic x) (T : EReal)) = (r : EReal) := by
  have key : ∀ y : EReal, y = ⊥ ∨ (∃ r : ℝ, y = (r : EReal)) → ∃ r : ℝ, Ideal.log (max y (T : EReal)) = (r : EReal) := by
    rintro y (rfl | ⟨r, rfl⟩)
    · exact ⟨Real.log T, by rw [max_eq_right bot_le, Ideal.log_coe, if_neg (not_le.mpr hT)]⟩
    · refine ⟨Real.log (max r T), ?_⟩
      rw [← EReal.coe_strictMono.monotone.map_max, Ideal.log_coe, if_neg (not_le.mpr (lt_max_of_lt_right hT))]
  apply key
  obtain ⟨s, hs⟩ := logistic_real x
  rcases share_cases a b with h | ⟨r, h⟩
  · left; rw [h, EReal.bot_add]
  · right; exact ⟨r + (1 - r) * s, by rw [h, hs, ← EReal.coe_one, ← EReal.coe_sub, ← EReal.coe_mul, ← EReal.coe_add]⟩

end Cert.Scalars

end
-- ==== Proof.Spec.lean ====
/- Gated linear attention on the extended reals, one head and one chunk of 64 time steps at a time: what both
   programs compute. The arguments of a chunk are its queries, keys, values and log gates, as functions of the
   time step and the coordinate, and the state before it. -/
module

public import proofs.«01_k».proof.Proof.Scalars

@[expose] public section

noncomputable section

namespace Cert.Spec

open Idealize.ShloMosaic

/-- An array of one head over one chunk: time step, coordinate. -/
abbrev Chunk := Fin 64 → Fin 128 → EReal
/-- One head's state: key coordinate, value coordinate. -/
abbrev State := Fin 128 → Fin 128 → EReal

/-- The log gates summed from the chunk's first step to step `t`. -/
def cum (L : Chunk) : Chunk := fun t d => ∑ s : Fin 64, if s ≤ t then L s d else 0

/-- The attention of step `t` on step `s ≤ t`: their product under the decay between the two. -/
def att (Q K L : Chunk) (t s : Fin 64) : EReal :=
  if s ≤ t then ∑ d : Fin 128, Q t d * K s d * Ideal.exp (cum L t d - cum L s d) else 0

/-- The recurrence's output at step `t`: the attention within the chunk and the state before it. -/
def out (Q K V L : Chunk) (S : State) : Chunk := fun t e =>
  (∑ s : Fin 64, att Q K L t s * V s e) + ∑ d : Fin 128, Q t d * Ideal.exp (cum L t d) * S d e

/-- The state after the chunk. -/
def next (K V L : Chunk) (S : State) : State := fun d e =>
  Ideal.exp (cum L 63 d) * S d e
    + ∑ s : Fin 64, K s d * Ideal.exp (cum L 63 d - cum L s d) * V s e

/-- A head's output normalised over its coordinates, weighted and gated. -/
def norm (Y Z : Chunk) (W : Fin 128 → EReal) : Chunk := fun t e =>
  Y t e * Ideal.rsqrt (Ideal.div (∑ d : Fin 128, Y t d * Y t d) (Ideal.ofBits .f32 0x43000000#32)
    + Ideal.ofBits .f32 0x358637BD#32) * W e * Z t e

/-- `x` times its logistic function. -/
def silu (x : EReal) : EReal := x * Ideal.logistic x

/-- The key gate: what the forget gate leaves over. -/
def keyGate (lb x : EReal) : EReal := (1 - lb) * (1 - Ideal.logistic x)

/-- The logarithm of the forget gate, whose lower bound is `lb`. -/
def logGate (lb x : EReal) : EReal :=
  Ideal.log (max (lb + (1 - lb) * Ideal.logistic x) (Ideal.ofBits .f32 0x0DA24260#32))

/-- The log gate is real whatever the bound's two arguments and `x` are. -/
theorem logGate_real (a b x : EReal) : ∃ r : ℝ, logGate (Scalars.share a b) x = (r : EReal) := by
  obtain ⟨T, hT, h⟩ := Scalars.tiny_word
  unfold logGate
  rw [h]
  exact Scalars.log_gate_real a b x T hT

/-- A sum of reals is real. -/
theorem sum_real {n : Nat} (f : Fin n → EReal) (r : Fin n → ℝ) (h : ∀ k, f k = (r k : EReal)) :
    ∑ k, f k = ((∑ k, r k : ℝ) : EReal) := by
  simp only [h]
  exact (map_sum (⟨⟨fun x : ℝ => (x : EReal), rfl⟩, EReal.coe_add⟩ : ℝ →+ EReal) _ _).symm

/-- The summed log gates are real if the log gates are. -/
theorem cum_real (L : Chunk) (ℓ : Fin 64 → Fin 128 → ℝ) (h : ∀ t d, L t d = (ℓ t d : EReal)) (t : Fin 64) (d : Fin 128) :
    cum L t d = ((∑ s : Fin 64, if s ≤ t then ℓ s d else 0 : ℝ) : EReal) := by
  refine sum_real _ _ fun s => ?_
  split
  · exact h s d
  · rfl

/-! ## From the arrays -/

/-- Step `t` of chunk `n` of sequence `b`, among the rows of the joined projections. -/
def row (b : Fin 4) (n : Fin 32) (t : Fin 64) : Fin 9216 := ⟨2048 * b.val + 64 * n.val + t.val, by omega⟩

/-- Coordinate `d` of head `h` in projection `o`, among the columns of the joined projections. -/
def col (o : Fin 4) (h : Fin 16) (d : Fin 128) : Fin 8192 := ⟨2048 * o.val + (128 * h.val + d.val), by omega⟩

/-- Coordinate `d` of head `h` in one projection. -/
def lane (h : Fin 16) (d : Fin 128) : Fin 2048 := ⟨128 * h.val + d.val, by omega⟩

section Arrays

variable (A : Fin 9216 → Fin 8192 → EReal) (B : Fin 2 → Fin 2048 → EReal) (S₀ : Fin 4 → Fin 16 → State)
  (W : Fin 2048 → EReal)

/-- The forget gate's lower bound. -/
def bound (h : Fin 16) (d : Fin 128) : EReal := Scalars.share (B 0 (lane h d)) (B 1 (lane h d))

/-- The queries, keys, values, log gates and output gates of a chunk. -/
def queries (b : Fin 4) (n : Fin 32) (h : Fin 16) : Chunk := fun t d => silu (A (row b n t) (col 0 h d))
def keys (b : Fin 4) (n : Fin 32) (h : Fin 16) : Chunk := fun t d => keyGate (bound B h d) (A (row b n t) (col 1 h d))
def logs (b : Fin 4) (n : Fin 32) (h : Fin 16) : Chunk := fun t d => logGate (bound B h d) (A (row b n t) (col 1 h d))
def vals (b : Fin 4) (n : Fin 32) (h : Fin 16) : Chunk := fun t d => A (row b n t) (col 2 h d)
def gates (b : Fin 4) (n : Fin 32) (h : Fin 16) : Chunk := fun t d => silu (A (row b n t) (col 3 h d))

/-- The state of a head after `n` chunks. -/
def stateAt (b : Fin 4) (h : Fin 16) : Nat → State
  | 0 => S₀ b h
  | n + 1 => next (keys A B b (Fin.ofNat 32 n) h) (vals A b (Fin.ofNat 32 n) h) (logs A B b (Fin.ofNat 32 n) h)
      (stateAt b h n)

/-- The normalised and gated outputs of a head over a chunk. -/
def outAt (b : Fin 4) (n : Fin 32) (h : Fin 16) : Chunk :=
  norm (out (queries A b n h) (keys A B b n h) (vals A b n h) (logs A B b n h) (stateAt A B S₀ b h n.val))
    (gates A b n h) (fun d => W (lane h d))

theorem logs_real (b : Fin 4) (n : Fin 32) (h : Fin 16) (t : Fin 64) (d : Fin 128) :
    ∃ r : ℝ, logs A B b n h t d = (r : EReal) := logGate_real _ _ _

end Arrays

end Cert.Spec

end
-- ==== Proof.Blocks.lean ====
/- The blocks of the arrays that a grid point loads, entry by entry: point `32 b + n` handles chunk `n`
   of sequence `b`. -/
module

public import proofs.«01_k».proof.Proof.Gen.GlaIdeal.Value
public import proofs.«01_k».proof.Proof.Spec
public import Idealize.ShloMosaic.Lib.Pointwise
public import Idealize.ShloMosaic.Lib.StableHlo.RunRead
public import Idealize.ShloMosaic.Lib.Tactic

@[expose] public section

set_option maxRecDepth 16384

noncomputable section

namespace Cert.GlaIdeal.Blocks

open Cert.GlaIdeal Cert.GlaIdeal.Gen Idealize.ShloMosaic Idealize.ShloMosaic.TcCoe Idealize.SL.Sem
open Idealize.ShloMosaic.StableHlo Idealize.SL

variable (m : (ℓ : Loc nD τ sig) → Buf (Elt Ideal) ℓ) (c : Dev nD)

/-- The grid point of chunk `n` of sequence `b`. -/
def point (b : Fin 4) (n : Fin 32) : Fin cfg0.N := ⟨32 * b.val + n.val, by rw [show cfg0.N = 128 from N_0]; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 1 :=
  (by decide +kernel : ∀ t : Fin grid0.N, win0_1.index t 0 = t.val ∧ win0_1.index t 1 = 1)
theorem index2 : ∀ t : Fin cfg0.N, win0_2.index t 0 = t.val ∧ win0_2.index t 1 = 2 :=
  (by decide +kernel : ∀ t : Fin grid0.N, win0_2.index t 0 = t.val ∧ win0_2.index t 1 = 2)
theorem index3 : ∀ t : Fin cfg0.N, win0_3.index t 0 = t.val ∧ win0_3.index t 1 = 3 :=
  (by decide +kernel : ∀ t : Fin grid0.N, win0_3.index t 0 = t.val ∧ win0_3.index t 1 = 3)
theorem index4 : ∀ t : Fin cfg0.N, win0_4.index t 0 = 1 ∧ win0_4.index t 1 = t.val / 32 ∧ win0_4.index t 2 = 0 ∧ win0_4.index t 3 = 0 :=
  (by decide +kernel : ∀ t : Fin grid0.N, win0_4.index t 0 = 1 ∧ win0_4.index t 1 = t.val / 32 ∧ win0_4.index t 2 = 0 ∧ win0_4.index t 3 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 1 ∧ win0_8.index t 1 = t.val / 32 ∧ win0_8.index t 2 = 0 ∧ win0_8.index t 3 = 0 :=
  (by decide +kernel : ∀ t : Fin grid0.N, win0_8.index t 0 = 1 ∧ win0_8.index t 1 = t.val / 32 ∧ win0_8.index t 2 = 0 ∧ win0_8.index t 3 = 0)

/-- The joined projections, the bounds' arguments, the layer's states before the prompt and its norm weights. -/
def argA : Fin 9216 → Fin 8192 → EReal := fun r k => (m ((c.tc : Thread nD τ).loc main_arg0) : FVec Ideal S9216x8192 .f32) (ix2 r k)
def argB : Fin 2 → Fin 2048 → EReal := fun r k => (m ((c.tc : Thread nD τ).loc main_arg3) : FVec Ideal S2x2048 .f32) (ix2 r k)
def argS : Fin 4 → Fin 16 → Spec.State := fun b h d e => (m ((c.tc : Thread nD τ).loc main_arg1) : FVec Ideal S2x4x16x128x128 .f32) (ix5 1 b h d e)
def argW : Fin 2048 → EReal := fun k => (m ((c.tc : Thread nD τ).loc main_arg4) : FVec Ideal S2x2048 .f32) (ix2 1 k)

theorem block0 (b : Fin 4) (n : Fin 32) (t : Fin 64) (k : Fin 2048) :
    (iblk m c 0 (point b n) : FVec Ideal S64x2048 .f32) (ix2 t k) = argA m c (Spec.row b n t) ⟨k.val, by omega⟩ := by
  unfold iblk
  rw [View.read_apply]
  show V m c main_arg0 _ = _
  rw [V_main_arg0]
  unfold argA
  congr 1
  funext a
  apply Fin.ext
  match a with
  | ⟨0, _⟩ =>
    show win0_0.index (point b n) 0 * 64 + 1 * t.val = 2048 * b.val + 64 * n.val + t.val
    rw [(index0 _).1]; simp only [point]; omega
  | ⟨1, _⟩ =>
    show win0_0.index (point b n) 1 * 2048 + 1 * k.val = k.val
    rw [(index0 _).2]; omega

theorem block1 (b : Fin 4) (n : Fin 32) (t : Fin 64) (k : Fin 2048) :
    (iblk m c 1 (point b n) : FVec Ideal S64x2048 .f32) (ix2 t k) = argA m c (Spec.row b n t) ⟨2048 + k.val, by omega⟩ := by
  unfold iblk
  rw [View.read_apply]
  show V m c main_arg0 _ = _
  rw [V_main_arg0]
  unfold argA
  congr 1
  funext a
  apply Fin.ext
  match a with
  | ⟨0, _⟩ =>
    show win0_1.index (point b n) 0 * 64 + 1 * t.val = 2048 * b.val + 64 * n.val + t.val
    rw [(index1 _).1]; simp only [point]; omega
  | ⟨1, _⟩ =>
    show win0_1.index (point b n) 1 * 2048 + 1 * k.val = 2048 + k.val
    rw [(index1 _).2]; omega

theorem block2 (b : Fin 4) (n : Fin 32) (t : Fin 64) (k : Fin 2048) :
    (iblk m c 2 (point b n) : FVec Ideal S64x2048 .f32) (ix2 t k) = argA m c (Spec.row b n t) ⟨4096 + k.val, by omega⟩ := by
  unfold iblk
  rw [View.read_apply]
  show V m c main_arg0 _ = _
  rw [V_main_arg0]
  unfold argA
  congr 1
  funext a
  apply Fin.ext
  match a with
  | ⟨0, _⟩ =>
    show win0_2.index (point b n) 0 * 64 + 1 * t.val = 2048 * b.val + 64 * n.val + t.val
    rw [(index2 _).1]; simp only [point]; omega
  | ⟨1, _⟩ =>
    show win0_2.index (point b n) 1 * 2048 + 1 * k.val = 4096 + k.val
    rw [(index2 _).2]; omega

theorem block3 (b : Fin 4) (n : Fin 32) (t : Fin 64) (k : Fin 2048) :
    (iblk m c 3 (point b n) : FVec Ideal S64x2048 .f32) (ix2 t k) = argA m c (Spec.row b n t) ⟨6144 + k.val, by omega⟩ := by
  unfold iblk
  rw [View.read_apply]
  show V m c main_arg0 _ = _
  rw [V_main_arg0]
  unfold argA
  congr 1
  funext a
  apply Fin.ext
  match a with
  | ⟨0, _⟩ =>
    show win0_3.index (point b n) 0 * 64 + 1 * t.val = 2048 * b.val + 64 * n.val + t.val
    rw [(index3 _).1]; simp only [point]; omega
  | ⟨1, _⟩ =>
    show win0_3.index (point b n) 1 * 2048 + 1 * k.val = 6144 + k.val
    rw [(index3 _).2]; omega

theorem merge_apply (x : FVec Ideal S2x4x16x128x128 .f32) (b : Fin 4) (h : Fin 16) (d e : Fin 128) :
    shapeCast S2x4x2048x128 x shapeCasts_S2x4x16x128x128_S2x4x2048x128 (ix4 1 b (Spec.lane h d) e) = x (ix5 1 b h d e) := by
  have H : ∀ r : Fin 2048, shapeCast S2x4x2048x128 x shapeCasts_S2x4x16x128x128_S2x4x2048x128 (ix4 1 b r e)
      = x (ix5 1 b ⟨r.val / 128, by omega⟩ ⟨r.val % 128, by omega⟩ e) := fun r => by pointwise
  rw [H]
  have e4 : (⟨(Spec.lane h d).val / 128, by omega⟩ : Fin 16) = h := Fin.ext (by simp only [Spec.lane]; omega)
  have e5 : (⟨(Spec.lane h d).val % 128, by omega⟩ : Fin 128) = d := Fin.ext (by simp only [Spec.lane]; omega)
  rw [e4, e5]

theorem block4 (b : Fin 4) (n : Fin 32) (h : Fin 16) (d e : Fin 128) :
    (iblk m c 4 (point b n) : FVec Ideal S1x1x2048x128 .f32) (ix4 0 0 (Spec.lane h d) e) = argS m c b h d e := by
  have hV : (V m c main_v3 : FVec Ideal S2x4x2048x128 .f32)
      = shapeCast S2x4x2048x128 (m ((c.tc : Thread nD τ).loc main_arg1) : FVec Ideal S2x4x16x128x128 .f32) shapeCasts_S2x4x16x128x128_S2x4x2048x128 := by
    show StableHlo.after hostOps0 _ _ = _
    simp only [hostOps0]
    after_reads_simp
    rfl
  have hi : ((cfg0.win 4).blk (point b n)).view.emb (ix4 0 0 (Spec.lane h d) e : S1x1x2048x128.Idx) = (ix4 1 b (Spec.lane h d) e : S2x4x2048x128.Idx) := by
    funext a
    apply Fin.ext
    match a with
    | ⟨0, _⟩ =>
      show win0_4.index (point b n) 0 * 1 + 1 * 0 = 1
      rw [(index4 _).1]
    | ⟨1, _⟩ =>
      show win0_4.index (point b n) 1 * 1 + 1 * 0 = b.val
      rw [(index4 _).2.1]; simp only [point]; omega
    | ⟨2, _⟩ =>
      show win0_4.index (point b n) 2 * 2048 + 1 * (Spec.lane h d).val = (Spec.lane h d).val
      rw [(index4 _).2.2.1]; omega
    | ⟨3, _⟩ =>
      show win0_4.index (point b n) 3 * 128 + 1 * e.val = e.val
      rw [(index4 _).2.2.2]; omega
  unfold iblk
  rw [View.read_apply]
  refine (congrArg (V m c main_v3 : FVec Ideal S2x4x2048x128 .f32) hi).trans ?_
  rw [hV]
  exact merge_apply _ b h d e

theorem block5 (b : Fin 4) (n : Fin 32) (r : Fin 2) (k : Fin 2048) :
    (iblk m c 5 (point b n) : FVec Ideal S2x2048 .f32) (ix2 r k) = argB m c r k := by
  unfold iblk
  rw [View.read_apply]
  show V m c main_arg3 _ = _
  rw [V_main_arg3]
  unfold argB
  congr 1
  funext a
  apply Fin.ext
  match a with
  | ⟨0, _⟩ =>
    show win0_5.index (point b n) 0 * 2 + 1 * r.val = r.val
    rw [(index5 _).1]; omega
  | ⟨1, _⟩ =>
    show win0_5.index (point b n) 1 * 2048 + 1 * k.val = k.val
    rw [(index5 _).2]; omega

theorem block6 (b : Fin 4) (n : Fin 32) (k : Fin 2048) :
    (iblk m c 6 (point b n) : FVec Ideal S1x2048 .f32) (ix2 0 k) = argW m c k := by
  have hV : (V m c main_v2 : FVec Ideal S1x2048 .f32)
      = shapeCast S1x2048 (shapeCast S2048 (extractStridedSlice S1x2048 ![1, 0]
          (m ((c.tc : Thread nD τ).loc main_arg4) : FVec Ideal S2x2048 .f32) slices_S2x2048_S1x2048_1_0) shapeCasts_S1x2048_S2048) shapeCasts_S2048_S1x2048 := by
    show StableHlo.after hostOps0 _ _ = _
    simp only [hostOps0]
    after_reads_simp
    rfl
  have hi : ((cfg0.win 6).blk (point b n)).view.emb (ix2 0 k : S1x2048.Idx) = (ix2 0 k : S1x2048.Idx) := by
    funext a
    apply Fin.ext
    match a with
    | ⟨0, _⟩ =>
      show win0_6.index (point b n) 0 * 1 + 1 * 0 = 0
      rw [(index6 _).1]
    | ⟨1, _⟩ =>
      show win0_6.index (point b n) 1 * 2048 + 1 * k.val = k.val
      rw [(index6 _).2]; omega
  unfold iblk
  rw [View.read_apply]
  refine (congrArg (V m c main_v2 : FVec Ideal S1x2048 .f32) hi).trans ?_
  rw [hV]
  pointwise
  rfl

end Cert.GlaIdeal.Blocks

end
-- ==== Proof.HeadIdeal.lean ====
/- One head of the kernel's body on the extended reals: the generic functions of Proof/Head.lean read at an index,
   and shown to be the recurrence of Proof/Spec.lean. The kernel splits the attention by the size of the aligned
   block in which two time steps first meet; that every pair meets at exactly one level is decided over all pairs. -/
module

public import proofs.«01_k».proof.Proof.Spec
public import proofs.«01_k».proof.Proof.Head
public import Idealize.ShloMosaic.Lib.Pointwise

@[expose] public section

set_option maxRecDepth 16384

noncomputable section

namespace Cert.GlaIdeal.Head

open Cert.GlaIdeal Cert.GlaIdeal.Gen Idealize.ShloMosaic Idealize.ShloMosaic.TcCoe Idealize.SL.Sem

theorem neg_log2e_val : Named.named (F := Ideal) κ "neg_log2e" (φ := .f32) 0xBFB8AA3B#32 = ((-(Real.log 2)⁻¹ : ℝ) : EReal) :=
  IdealRules.named_const.ideal_named_scalar _ _ _ _ rfl
theorem log2e_val : Named.named (F := Ideal) κ "log2e" (φ := .f32) 0x3FB8AA3B#32 = (((Real.log 2)⁻¹ : ℝ) : EReal) :=
  IdealRules.named_const.ideal_named_scalar _ _ _ _ rfl

/-- The base-2 form of the kernel's gates: the factor `1 / log 2`. -/
abbrev c2 : EReal := (((Real.log 2)⁻¹ : ℝ) : EReal)

/-- The kernel's sigmoid is the logistic function. -/
theorem sigm_apply (x : FVec Ideal S64x128 .f32) (j : S64x128.Idx) : sigm x j = Ideal.logistic (x j) := by
  pointwise [sigm]
  rw [neg_log2e_val]
  exact Scalars.sigmoid_exp2 _

/-- Column `d` of head `h`. -/
abbrev lane (h : Fin 16) (d : Fin 128) : Fin 2048 := ⟨128 * h.val + d.val, by omega⟩

theorem rowOf_apply (a : FVec Ideal S1x2048 .f32) (h : Fin 16) (t : Fin 64) (d : Fin 128) :
    rowOf a h (ix2 t d) = a (ix2 0 (lane h d)) := by
  pointwise [rowOf]

/-! ## The attention within a chunk -/

/-- The middle row of step `t`'s aligned block of `2 m` steps. -/
def midRow (m : Nat) (t : Fin 64) : Fin 64 := Fin.ofNat 64 (t.val / (2 * m) * (2 * m) + m)

/-- Whether step `t` lies in the upper half of its block, as the kernel computes it. -/
abbrev up (w m : BitVec 32) (t : Fin 64) : BitVec 1 :=
  IntOp.cmpi CmpIPredicate.sge (IntOp.andi (BitVec.ofNat 32 t.val) w) m

/-- Whether steps `t` and `s` lie in the two halves of one block, as the kernel computes it. -/
abbrev meet (w m l sh : BitVec 32) (t s : Fin 64) : BitVec 1 :=
  IntOp.cmpi CmpIPredicate.sge
    (IntOp.ori
      (IntOp.ori (IntOp.subi (IntOp.andi (BitVec.ofNat 32 t.val) w) m)
        (IntOp.subi l (IntOp.andi (BitVec.ofNat 32 s.val) w)))
      (IntOp.subi 0#32
        (IntOp.xori (IntOp.shrsi ArithUnit.vector (BitVec.ofNat 32 t.val) sh)
          (IntOp.shrsi ArithUnit.vector (BitVec.ofNat 32 s.val) sh))))
    0#32

theorem scaled_apply (w m : BitVec 32) (q k g mid : FVec Ideal S64x128 .f32) (t : Fin 64) (d : Fin 128) :
    scaled w m q k g mid (ix2 t d)
      = Scalar.select (up w m t) (q (ix2 t d)) (k (ix2 t d))
        * Ideal.exp2 ((g (ix2 t d) - mid (ix2 t d)) * Scalar.select (up w m t) 1 (-1)) := by
  pointwise [scaled, upper, spread, I]
  rw [Scalars.neg_one_word]
  rfl

theorem level_apply (w m l sh : BitVec 32) (q k g mid : FVec Ideal S64x128 .f32) (t s : Fin 64) :
    level w m l sh q k g mid (ix2 t s)
      = Scalar.select (meet w m l sh t s)
        (∑ x : Fin 128, scaled w m q k g mid (ix2 t x) * scaled w m q k g mid (ix2 s x)) 0 := by
  pointwise [level, mask, I0, I1]

theorem diag_apply (q k : FVec Ideal S64x128 .f32) (t s : Fin 64) :
    diag q k (ix2 t s)
      = Scalar.select (IntOp.cmpi CmpIPredicate.eq (BitVec.ofNat 32 t.val) (BitVec.ofNat 32 s.val))
        (∑ x : Fin 128, q (ix2 t x) * k (ix2 s x)) 0 := by
  pointwise [diag, I0, I1]

theorem mid32_apply (g : FVec Ideal S64x128 .f32) (t : Fin 64) (d : Fin 128) :
    mid32 g (ix2 t d) = g (ix2 (midRow 32 t) d) := by
  pointwise [mid32]
  rw [show midRow 32 t = 32 from by revert t; decide]

theorem mid16_apply (g : FVec Ideal S64x128 .f32) (t : Fin 64) (d : Fin 128) :
    mid16 g (ix2 t d) = g (ix2 (midRow 16 t) d) := by
  pointwise [mid16]
  generalize hf : (fun r : Fin 64 => g (ix2 r d)) = f
  have hf' : ∀ r, g (ix2 r d) = f r := fun r => congrFun hf r
  simp only [hf']
  clear hf hf'
  fin_cases t <;> rfl

theorem mid8_apply (g : FVec Ideal S64x128 .f32) (t : Fin 64) (d : Fin 128) :
    mid8 g (ix2 t d) = g (ix2 (midRow 8 t) d) := by
  pointwise [mid8, rep16]
  generalize hf : (fun r : Fin 64 => g (ix2 r d)) = f
  have hf' : ∀ r, g (ix2 r d) = f r := fun r => congrFun hf r
  simp only [hf']
  clear hf hf'
  fin_cases t <;> rfl

theorem mid4_apply (g : FVec Ideal S64x128 .f32) (t : Fin 64) (d : Fin 128) :
    mid4 g (ix2 t d) = g (ix2 (midRow 4 t) d) := by
  pointwise [mid4, rep8]
  generalize hf : (fun r : Fin 64 => g (ix2 r d)) = f
  have hf' : ∀ r, g (ix2 r d) = f r := fun r => congrFun hf r
  simp only [hf']
  clear hf hf'
  fin_cases t <;> rfl

theorem mid2_apply (g : FVec Ideal S64x128 .f32) (t : Fin 64) (d : Fin 128) :
    mid2 g (ix2 t d) = g (ix2 (midRow 2 t) d) := by
  pointwise [mid2, isRow, spread, I]
  generalize hf : (fun r : Fin 64 => g (ix2 r d)) = f
  have hf' : ∀ r, g (ix2 r d) = f r := fun r => congrFun hf r
  simp only [hf']
  clear hf hf'
  fin_cases t <;> rfl

theorem mid1_apply (g : FVec Ideal S64x128 .f32) (t : Fin 64) (d : Fin 128) :
    mid1 g (ix2 t d) = g (ix2 (midRow 1 t) d) := by
  pointwise [mid1, isRow, spread, I]
  generalize hf : (fun r : Fin 64 => g (ix2 r d)) = f
  have hf' : ∀ r, g (ix2 r d) = f r := fun r => congrFun hf r
  simp only [hf']
  clear hf hf'
  fin_cases t <;> rfl

/-- Two powers of two around a common middle make the exponential of the difference. -/
theorem around_mid (q k : EReal) (a b u : ℝ) :
    q * Ideal.exp2 (((a : EReal) * c2 - (u : EReal) * c2) * 1) * (k * Ideal.exp2 (((b : EReal) * c2 - (u : EReal) * c2) * (-1)))
      = q * k * Ideal.exp ((a : EReal) - (b : EReal)) := by
  have h1 : ((a : EReal) * c2 - (u : EReal) * c2) * 1 = ((a - u : ℝ) : EReal) * c2 := by
    rw [mul_one, ← EReal.coe_mul, ← EReal.coe_mul, ← EReal.coe_sub, ← EReal.coe_mul, sub_mul]
  have h2 : ((b : EReal) * c2 - (u : EReal) * c2) * (-1) = ((u - b : ℝ) : EReal) * c2 := by
    rw [← EReal.coe_mul, ← EReal.coe_mul, ← EReal.coe_sub, ← EReal.coe_one, ← EReal.coe_neg, ← EReal.coe_mul,
      ← EReal.coe_mul]
    congr 1; ring
  rw [h1, h2, Scalars.exp2_mul_log2e, Scalars.exp2_mul_log2e, ← EReal.coe_sub, Ideal.exp_coe, mul_mul_mul_comm,
    ← EReal.coe_mul, ← Real.exp_add]
  congr 3; ring

/-- One level of the attention, at a pair of steps it holds: their product under the decay between them. -/
theorem level_eq (w m l sh : BitVec 32) (M : Nat) (q k g mid : FVec Ideal S64x128 .f32) (γ : Fin 64 → Fin 128 → ℝ)
    (hg : ∀ t d, g (ix2 t d) = (γ t d : EReal) * c2) (hmid : ∀ t d, mid (ix2 t d) = g (ix2 (midRow M t) d))
    (hm : ∀ t s, meet w m l sh t s = 1#1 → up w m t = 1#1 ∧ up w m s = 0#1 ∧ midRow M t = midRow M s) (t s : Fin 64) :
    level w m l sh q k g mid (ix2 t s)
      = if meet w m l sh t s = 1#1 then
          ∑ d : Fin 128, q (ix2 t d) * k (ix2 s d) * Ideal.exp ((γ t d : EReal) - (γ s d : EReal)) else 0 := by
  rw [level_apply]
  by_cases h : meet w m l sh t s = 1#1
  · obtain ⟨h1, h2, h3⟩ := hm t s h
    rw [if_pos h, h]
    refine (if_pos rfl).trans ?_
    refine Finset.sum_congr rfl fun d _ => ?_
    rw [scaled_apply, scaled_apply, h1, h2, hmid, hmid, h3]
    simp only [hg]
    exact around_mid _ _ _ _ _
  · rw [if_neg h]
    exact if_neg h

theorem meet32 : ∀ t s : Fin 64, meet 63#32 32#32 31#32 6#32 t s = 1#1 →
    up 63#32 32#32 t = 1#1 ∧ up 63#32 32#32 s = 0#1 ∧ midRow 32 t = midRow 32 s := by decide +kernel
theorem meet16 : ∀ t s : Fin 64, meet 31#32 16#32 15#32 5#32 t s = 1#1 →
    up 31#32 16#32 t = 1#1 ∧ up 31#32 16#32 s = 0#1 ∧ midRow 16 t = midRow 16 s := by decide +kernel
theorem meet8 : ∀ t s : Fin 64, meet 15#32 8#32 7#32 4#32 t s = 1#1 →
    up 15#32 8#32 t = 1#1 ∧ up 15#32 8#32 s = 0#1 ∧ midRow 8 t = midRow 8 s := by decide +kernel
theorem meet4 : ∀ t s : Fin 64, meet 7#32 4#32 3#32 3#32 t s = 1#1 →
    up 7#32 4#32 t = 1#1 ∧ up 7#32 4#32 s = 0#1 ∧ midRow 4 t = midRow 4 s := by decide +kernel
theorem meet2 : ∀ t s : Fin 64, meet 3#32 2#32 1#32 2#32 t s = 1#1 →
    up 3#32 2#32 t = 1#1 ∧ up 3#32 2#32 s = 0#1 ∧ midRow 2 t = midRow 2 s := by decide +kernel
theorem meet1 : ∀ t s : Fin 64, meet 1#32 1#32 0#32 1#32 t s = 1#1 →
    up 1#32 1#32 t = 1#1 ∧ up 1#32 1#32 s = 0#1 ∧ midRow 1 t = midRow 1 s := by decide +kernel

/-- Which of the seven cases (equal, then the six levels) hold of a pair of steps. -/
abbrev cases7 (t s : Fin 64) : List Bool :=
  [IntOp.cmpi CmpIPredicate.eq (BitVec.ofNat 32 t.val) (BitVec.ofNat 32 s.val) = 1#1,
    meet 63#32 32#32 31#32 6#32 t s = 1#1, meet 31#32 16#32 15#32 5#32 t s = 1#1, meet 15#32 8#32 7#32 4#32 t s = 1#1,
    meet 7#32 4#32 3#32 3#32 t s = 1#1, meet 3#32 2#32 1#32 2#32 t s = 1#1, meet 1#32 1#32 0#32 1#32 t s = 1#1]

/-- A step and an earlier or equal one meet in exactly one case, a step and a later one in none. -/
theorem cases7_count : ∀ t s : Fin 64, (cases7 t s).count true = if s ≤ t then 1 else 0 := by decide +kernel

/-- The first case is equality. -/
theorem case_eq : ∀ t s : Fin 64,
    IntOp.cmpi CmpIPredicate.eq (BitVec.ofNat 32 t.val) (BitVec.ofNat 32 s.val) = 1#1 → t = s := by decide +kernel

/-- Seven alternatives of one value, of which one or none holds. -/
theorem sum7 (X : EReal) (b : Prop) [Decidable b] (b0 b1 b2 b3 b4 b5 b6 : Bool)
    (h : [b0, b1, b2, b3, b4, b5, b6].count true = if b then 1 else 0) :
    ((((((if b0 then X else 0) + (if b1 then X else 0)) + (if b2 then X else 0)) + (if b3 then X else 0))
      + (if b4 then X else 0)) + (if b5 then X else 0)) + (if b6 then X else 0) = if b then X else 0 := by
  have hs : ∀ bs : List Bool, (bs.map fun c => if c then X else 0).sum = bs.count true • X := fun bs => by
    induction bs with
    | nil => simp
    | cons c cs ih => cases c <;> simp [ih, add_nsmul, add_comm]
  have h7 := hs [b0, b1, b2, b3, b4, b5, b6]
  rw [h] at h7
  simp only [List.map_cons, List.map_nil, List.sum_cons, List.sum_nil, add_zero, ← add_assoc] at h7
  rw [h7]
  split <;> simp

/-- The kernel's attention within a chunk: every pair `s ≤ t` under the decay between the two. -/
theorem att_eq (q k g : FVec Ideal S64x128 .f32) (γ : Fin 64 → Fin 128 → ℝ)
    (hg : ∀ t d, g (ix2 t d) = (γ t d : EReal) * c2) (t s : Fin 64) :
    att q k g (ix2 t s)
      = if s ≤ t then ∑ d : Fin 128, q (ix2 t d) * k (ix2 s d) * Ideal.exp ((γ t d : EReal) - (γ s d : EReal)) else 0 := by
  have hd : diag q k (ix2 t s)
      = if IntOp.cmpi CmpIPredicate.eq (BitVec.ofNat 32 t.val) (BitVec.ofNat 32 s.val) = 1#1 then
          ∑ d : Fin 128, q (ix2 t d) * k (ix2 s d) * Ideal.exp ((γ t d : EReal) - (γ s d : EReal)) else 0 := by
    rw [diag_apply]
    by_cases h : IntOp.cmpi CmpIPredicate.eq (BitVec.ofNat 32 t.val) (BitVec.ofNat 32 s.val) = 1#1
    · rw [if_pos h, h]
      obtain rfl := case_eq t s h
      refine (if_pos rfl).trans ?_
      refine Finset.sum_congr rfl fun d _ => ?_
      rw [← EReal.coe_sub, sub_self, EReal.coe_zero, Scalars.exp_zero, mul_one]
    · rw [if_neg h]
      exact if_neg h
  have hsum : att q k g (ix2 t s)
      = (((((diag q k (ix2 t s)
        + level 63#32 32#32 31#32 6#32 q k g (mid32 g) (ix2 t s))
        + level 31#32 16#32 15#32 5#32 q k g (mid16 g) (ix2 t s))
        + level 15#32 8#32 7#32 4#32 q k g (mid8 g) (ix2 t s))
        + level 7#32 4#32 3#32 3#32 q k g (mid4 g) (ix2 t s))
        + level 3#32 2#32 1#32 2#32 q k g (mid2 g) (ix2 t s))
        + level 1#32 1#32 0#32 1#32 q k g (mid1 g) (ix2 t s) := rfl
  rw [hsum, hd, level_eq _ _ _ _ 32 q k g _ γ hg (mid32_apply g) meet32, level_eq _ _ _ _ 16 q k g _ γ hg (mid16_apply g) meet16,
    level_eq _ _ _ _ 8 q k g _ γ hg (mid8_apply g) meet8, level_eq _ _ _ _ 4 q k g _ γ hg (mid4_apply g) meet4,
    level_eq _ _ _ _ 2 q k g _ γ hg (mid2_apply g) meet2, level_eq _ _ _ _ 1 q k g _ γ hg (mid1_apply g) meet1]
  have := sum7 (∑ d : Fin 128, q (ix2 t d) * k (ix2 s d) * Ideal.exp ((γ t d : EReal) - (γ s d : EReal))) (s ≤ t) _ _ _ _ _ _ _
    (cases7_count t s)
  simpa only [decide_eq_true_eq] using this

/-! ## The cumulative gates -/

theorem triMul_apply (p : FVec Ideal S64x2048 .bf16) (t : Fin 64) (d : Fin 2048) :
    triMul p (ix2 t d) = ∑ s : Fin 64, if s ≤ t then p (ix2 s d) else 0 := by
  pointwise [triMul, tri, I0, I1]
  refine Finset.sum_congr rfl fun s _ => ?_
  have hb : ∀ t s : Fin 64, BitVec.setWidth 32 (IntOp.cmpi CmpIPredicate.sle (BitVec.ofNat 32 s.val) (BitVec.ofNat 32 t.val))
      = if s ≤ t then 1#32 else 0#32 := by decide +kernel
  rw [hb]
  split
  · show (((1#32 : BitVec 32).toInt : ℝ) : EReal) * _ = _
    rw [show (1#32 : BitVec 32).toInt = 1 from by decide, Int.cast_one, EReal.coe_one, one_mul]
  · show (((0#32 : BitVec 32).toInt : ℝ) : EReal) * _ = _
    rw [show (0#32 : BitVec 32).toInt = 0 from by decide, Int.cast_zero, EReal.coe_zero, zero_mul]

theorem logf_apply (lb : FVec Ideal S1x2048 .f32) (oml : FVec Ideal S1x2048 .f32) (hf : Fin 16 → FVec Ideal S64x128 .f32)
    (homl : ∀ e, oml (ix2 0 e) = 1 - lb (ix2 0 e)) (h : Fin 16) (t : Fin 64) (d : Fin 128) :
    logf lb oml hf h (ix2 t d) = Spec.logGate (lb (ix2 0 (lane h d))) (hf h (ix2 t d)) := by
  pointwise [logf]
  simp only [rowOf_apply, sigm_apply, homl]
  rfl

theorem cat_apply (lb oml : FVec Ideal S1x2048 .f32) (hf : Fin 16 → FVec Ideal S64x128 .f32) (h : Fin 16) (t : Fin 64) (d : Fin 128) :
    cat lb oml hf (ix2 t (lane h d)) = logf lb oml hf h (ix2 t d) := by
  exact concatenate_ofFn_apply (t := S64x2048) (s₁ := S64x128) 1 (logf lb oml hf)
    concatenates_S64x128_S64x128_S64x128_S64x128_S64x128_S64x128_S64x128_S64x128_S64x128_S64x128_S64x128_S64x128_S64x128_S64x128_S64x128_S64x128_S64x2048_d1
    rfl 128 rfl (ix2 t (lane h d)) h (show (128 * h.val + d.val) / 128 = h.val by omega) (ix2 t d)
    (show d.val = (128 * h.val + d.val) % 128 by omega)
    (fun b hb => by
      match b with
      | ⟨0, _⟩ => rfl
      | ⟨1, _⟩ => exact absurd rfl hb)

/-- What the bf16 rounding leaves of a real is nothing: on the extended reals no rounding happens. -/
theorem rest_apply (x : FVec Ideal S64x2048 .f32) (j : S64x2048.Idx) (r : ℝ) (h : x j = (r : EReal)) : rest x j = 0 := by
  show x j - x j = 0
  rw [h, ← EReal.coe_sub, sub_self, EReal.coe_zero]

theorem gate_apply (lb oml : FVec Ideal S1x2048 .f32) (hf : Fin 16 → FVec Ideal S64x128 .f32)
    (homl : ∀ e, oml (ix2 0 e) = 1 - lb (ix2 0 e)) (h : Fin 16)
    (hr : ∀ t d, ∃ r : ℝ, Spec.logGate (lb (ix2 0 (lane h d))) (hf h (ix2 t d)) = (r : EReal)) (t : Fin 64) (d : Fin 128) :
    gate lb oml hf h (ix2 t d)
      = Spec.cum (fun t d => Spec.logGate (lb (ix2 0 (lane h d))) (hf h (ix2 t d))) t d * c2 := by
  pointwise [gate, gAll]
  rw [log2e_val, triMul_apply, triMul_apply, triMul_apply]
  have hc : ∀ s, cat lb oml hf (ix2 s (lane h d)) = Spec.logGate (lb (ix2 0 (lane h d))) (hf h (ix2 s d)) := fun s => by
    rw [cat_apply, logf_apply lb oml hf homl]
  have h1 : ∀ s, rest (cat lb oml hf) (ix2 s (lane h d)) = 0 := fun s => by
    obtain ⟨r, hr⟩ := hr s d
    exact rest_apply _ _ r ((hc s).trans hr)
  have h2 : ∀ s, rest (rest (cat lb oml hf)) (ix2 s (lane h d)) = 0 := fun s =>
    rest_apply _ _ 0 (by rw [h1, EReal.coe_zero])
  congr 1
  have e1 : (∑ s : Fin 64, if s ≤ t then truncf (F := Ideal) FTy.bf16 (rest (cat lb oml hf)) bitsLt_bf16_f32 (ix2 s (lane h d)) else 0) = 0 :=
    Finset.sum_eq_zero fun s _ => by split; exacts [h1 s, rfl]
  have e2 : (∑ s : Fin 64, if s ≤ t then truncf (F := Ideal) FTy.bf16 (rest (rest (cat lb oml hf))) bitsLt_bf16_f32 (ix2 s (lane h d)) else 0) = 0 :=
    Finset.sum_eq_zero fun s _ => by split; exacts [h2 s, rfl]
  refine (congrArg₂ (· + ·) (congrArg₂ (· + ·) rfl e1) e2).trans ?_
  rw [add_zero, add_zero]
  unfold Spec.cum
  refine Finset.sum_congr rfl fun s _ => ?_
  split
  · exact hc s
  · rfl

/-! ## The head's three results -/

theorem outY_eq (q k g v : FVec Ideal S64x128 .f32) (S : FVec Ideal S1x1x128x128 .f32) (L : Spec.Chunk)
    (hL : ∀ t d, ∃ r : ℝ, L t d = (r : EReal)) (hg : ∀ t d, g (ix2 t d) = Spec.cum L t d * c2) (t : Fin 64) (e : Fin 128) :
    outY q k g v S (ix2 t e)
      = Spec.out (fun t d => q (ix2 t d)) (fun t d => k (ix2 t d)) (fun t d => v (ix2 t d)) L (fun d e => S (ix4 0 0 d e)) t e := by
  choose ℓ hℓ using hL
  have hγ := Spec.cum_real L ℓ hℓ
  pointwise [outY]
  unfold Spec.out Spec.att
  refine congrArg₂ (· + ·) (Finset.sum_congr rfl fun s _ => ?_) (Finset.sum_congr rfl fun d _ => ?_)
  · rw [att_eq q k g _ (fun t d => by rw [hg, hγ])]
    simp only [hγ]
  · rw [hg, hγ, Ideal.exp_coe, ← Scalars.exp2_mul_log2e]
    rfl

theorem newS_eq (k g v : FVec Ideal S64x128 .f32) (S : FVec Ideal S1x1x128x128 .f32) (L : Spec.Chunk)
    (hL : ∀ t d, ∃ r : ℝ, L t d = (r : EReal)) (hg : ∀ t d, g (ix2 t d) = Spec.cum L t d * c2) (d e : Fin 128) :
    newS k g v S (ix4 0 0 d e)
      = Spec.next (fun t d => k (ix2 t d)) (fun t d => v (ix2 t d)) L (fun d e => S (ix4 0 0 d e)) d e := by
  choose ℓ hℓ using hL
  have hγ := Spec.cum_real L ℓ hℓ
  pointwise [newS, lastRow]
  unfold Spec.next
  refine congrArg₂ (· + ·) ?_ (Finset.sum_congr rfl fun s _ => ?_)
  · rw [hg, hγ, Ideal.exp_coe, ← Scalars.exp2_mul_log2e]
    rfl
  · rw [hg, hg, hγ, hγ, ← EReal.coe_sub, Ideal.exp_coe, ← Scalars.exp2_mul_log2e, EReal.coe_sub]
    have : ∀ a b : ℝ, (a : EReal) * c2 - (b : EReal) * c2 = ((a : EReal) - (b : EReal)) * c2 := fun a b => by
      rw [← EReal.coe_mul, ← EReal.coe_mul, ← EReal.coe_sub, ← EReal.coe_sub, ← EReal.coe_mul, sub_mul]
    rw [this]
    rfl

theorem outO_eq (y hg : FVec Ideal S64x128 .f32) (w : FVec Ideal S1x128 .f32) (t : Fin 64) (e : Fin 128) :
    outO y hg w (ix2 t e)
      = Spec.norm (fun t d => y (ix2 t d)) (fun t d => Spec.silu (hg (ix2 t d))) (fun d => w (ix2 0 d)) t e := by
  pointwise [outO]
  rw [sigm_apply]
  rfl

end Cert.GlaIdeal.Head

end
-- ==== Proof.HeadSpec.lean ====
/- One head's outputs and state over a chunk, from the blocks its grid point loads, are the
   specification's recurrence over the same chunk. -/
module

public import proofs.«01_k».proof.Proof.HeadIdeal

@[expose] public section

set_option maxRecDepth 16384

noncomputable section

namespace Cert.GlaIdeal.Head

open Cert.GlaIdeal Cert.GlaIdeal.Gen Idealize.ShloMosaic Idealize.ShloMosaic.TcCoe Idealize.SL.Sem

/-- The forget gates' lower bound, as the kernel computes it from the two rows of bounds. -/
theorem bound_apply (b : FVec Ideal S2x2048 .f32) (e : Fin 2048) :
    k0_pay3 (F := Ideal) b (ix2 0 e) = Scalars.share (b (ix2 0 e)) (b (ix2 1 e)) := by
  pointwise [k0_pay3]
  rfl

theorem rest_bound_apply (b : FVec Ideal S2x2048 .f32) (e : Fin 2048) :
    k0_pay4 (F := Ideal) b (ix2 0 e) = 1 - k0_pay3 (F := Ideal) b (ix2 0 e) := by
  pointwise [k0_pay4]
  try rw [Scalars.one_word]

theorem query_apply (x : FVec Ideal S64x128 .f32) (j : S64x128.Idx) : query x j = Spec.silu (x j) := by
  show x j * sigm x j = _
  rw [sigm_apply]
  rfl

theorem key_apply (b : FVec Ideal S2x2048 .f32) (hf : Fin 16 → FVec Ideal S64x128 .f32) (h : Fin 16) (t : Fin 64) (d : Fin 128) :
    key (F := Ideal) (k0_pay4 (F := Ideal) b) hf h (ix2 t d) = Spec.keyGate (Spec.bound (fun r k => b (ix2 r k)) h d) (hf h (ix2 t d)) := by
  pointwise [key]
  rw [sigm_apply, rowOf_apply, rest_bound_apply, bound_apply]
  rfl

/-- The log gates of a head, from the loaded block. -/
abbrev logsOf (l1 : Fin 16 → FVec Ideal S64x128 .f32) (b : FVec Ideal S2x2048 .f32) (h : Fin 16) : Spec.Chunk :=
  fun t d => Spec.logGate (Spec.bound (fun r k => b (ix2 r k)) h d) (l1 h (ix2 t d))
/-- The keys of a head, from the loaded block. -/
abbrev keysOf (l1 : Fin 16 → FVec Ideal S64x128 .f32) (b : FVec Ideal S2x2048 .f32) (h : Fin 16) : Spec.Chunk :=
  fun t d => Spec.keyGate (Spec.bound (fun r k => b (ix2 r k)) h d) (l1 h (ix2 t d))

theorem gate_eq (l1 : Fin 16 → FVec Ideal S64x128 .f32) (b : FVec Ideal S2x2048 .f32) (h : Fin 16) (t : Fin 64) (d : Fin 128) :
    gate (F := Ideal) (k0_pay3 (F := Ideal) b) (k0_pay4 (F := Ideal) b) l1 h (ix2 t d) = Spec.cum (logsOf l1 b h) t d * c2 := by
  rw [gate_apply _ _ _ (rest_bound_apply b) h (fun t d => by rw [bound_apply]; exact Spec.logGate_real _ _ _)]
  simp only [bound_apply]
  rfl

/-- A head's state after a chunk is the recurrence's next state. -/
theorem headState_eq (l1 l2 : Fin 16 → FVec Ideal S64x128 .f32) (b : FVec Ideal S2x2048 .f32)
    (S : FVec Ideal S1x1x128x128 .f32) (h : Fin 16) (d e : Fin 128) :
    headState (F := Ideal) l1 l2 b S h (ix4 0 0 d e)
      = Spec.next (keysOf l1 b h) (fun t d => l2 h (ix2 t d)) (logsOf l1 b h) (fun d e => S (ix4 0 0 d e)) d e := by
  unfold headState
  rw [newS_eq _ _ _ _ (logsOf l1 b h) (fun t d => Spec.logGate_real _ _ _) (gate_eq l1 b h)]
  simp only [key_apply]

/-- A head's outputs over a chunk are the recurrence's, normalised, weighted and gated. -/
theorem headOut_eq (l0 l1 l2 l3 : Fin 16 → FVec Ideal S64x128 .f32) (b : FVec Ideal S2x2048 .f32)
    (lw : Fin 16 → FVec Ideal S1x128 .f32) (S : FVec Ideal S1x1x128x128 .f32) (h : Fin 16) (t : Fin 64) (e : Fin 128) :
    headOut (F := Ideal) l0 l1 l2 l3 b lw S h (ix2 t e)
      = Spec.norm (Spec.out (fun t d => Spec.silu (l0 h (ix2 t d))) (keysOf l1 b h) (fun t d => l2 h (ix2 t d))
          (logsOf l1 b h) (fun d e => S (ix4 0 0 d e)))
          (fun t d => Spec.silu (l3 h (ix2 t d))) (fun d => lw h (ix2 0 d)) t e := by
  unfold headOut
  rw [outO_eq]
  simp only [outY_eq _ _ _ _ _ (logsOf l1 b h) (fun t d => Spec.logGate_real _ _ _) (gate_eq l1 b h), key_apply, query_apply]

end Cert.GlaIdeal.Head

end
-- ==== Proof.Arrays.lean ====
/- The two arrays a run of the kernel leaves, entry by entry: by induction over a sequence's chunks the
   state window holds the recurrence's states and the output window its outputs; the arrays are the
   blocks the points write back. -/
module

public import proofs.«01_k».proof.Proof.Block
public import proofs.«01_k».proof.Proof.Blocks
public import proofs.«01_k».proof.Proof.HeadSpec

@[expose] public section

set_option maxRecDepth 16384

noncomputable section

namespace Cert.GlaIdeal.Arrays

open Cert.GlaIdeal Cert.GlaIdeal.Gen Idealize.ShloMosaic Idealize.ShloMosaic.TcCoe Idealize.SL.Sem
open Cert.GlaIdeal.Head Cert.GlaIdeal.Blocks
open Idealize.ShloMosaic.Pipeline (Dat)

variable (m : (ℓ : Loc nD τ sig) → Buf (Elt Ideal) ℓ) (c : Dev nD)

/-! ## A chunk's inputs, by head -/

theorem in0 (b : Fin 4) (n : Fin 32) (h : Fin 16) (t : Fin 64) (d : Fin 128) :
    (col (F := Ideal) (iblk m c 0 (point b n)) h (ix2 t d) : EReal) = argA m c (Spec.row b n t) (Spec.col 0 h d) :=
  (block0 m c b n t (hcol h d)).trans (congrArg (argA m c (Spec.row b n t)) (Fin.ext (by simp [hcol, Spec.col])))
theorem in1 (b : Fin 4) (n : Fin 32) (h : Fin 16) (t : Fin 64) (d : Fin 128) :
    (col (F := Ideal) (iblk m c 1 (point b n)) h (ix2 t d) : EReal) = argA m c (Spec.row b n t) (Spec.col 1 h d) :=
  (block1 m c b n t (hcol h d)).trans (congrArg (argA m c (Spec.row b n t)) (Fin.ext (by simp [hcol, Spec.col])))
theorem in2 (b : Fin 4) (n : Fin 32) (h : Fin 16) (t : Fin 64) (d : Fin 128) :
    (col (F := Ideal) (iblk m c 2 (point b n)) h (ix2 t d) : EReal) = argA m c (Spec.row b n t) (Spec.col 2 h d) :=
  (block2 m c b n t (hcol h d)).trans (congrArg (argA m c (Spec.row b n t)) (Fin.ext (by simp [hcol, Spec.col])))
theorem in3 (b : Fin 4) (n : Fin 32) (h : Fin 16) (t : Fin 64) (d : Fin 128) :
    (col (F := Ideal) (iblk m c 3 (point b n)) h (ix2 t d) : EReal) = argA m c (Spec.row b n t) (Spec.col 3 h d) :=
  (block3 m c b n t (hcol h d)).trans (congrArg (argA m c (Spec.row b n t)) (Fin.ext (by simp [hcol, Spec.col])))

theorem bound_eq (b : Fin 4) (n : Fin 32) (h : Fin 16) (d : Fin 128) :
    Spec.bound (fun r k => (iblk m c 5 (point b n) : FVec Ideal S2x2048 .f32) (ix2 r k)) h d = Spec.bound (argB m c) h d := by
  unfold Spec.bound
  simp only [block5]

/-- The state a chunk leaves, from the state `S` before it. -/
theorem chunk_state (b : Fin 4) (n : Fin 32) (h : Fin 16) (x : FVec Ideal S1x1x128x128 .f32) (S : Spec.State)
    (hS : ∀ d e, x (ix4 0 0 d e) = S d e) (d e : Fin 128) :
    headState (F := Ideal) (col (iblk m c 1 (point b n))) (col (iblk m c 2 (point b n))) (iblk m c 5 (point b n)) x h (ix4 0 0 d e)
      = Spec.next (Spec.keys (argA m c) (argB m c) b n h) (Spec.vals (argA m c) b n h) (Spec.logs (argA m c) (argB m c) b n h) S d e := by
  rw [headState_eq]
  unfold keysOf logsOf
  simp only [in1, in2, bound_eq, hS]
  rfl

/-- The outputs of a chunk, from the state `S` before it. -/
theorem chunk_out (b : Fin 4) (n : Fin 32) (h : Fin 16) (x : FVec Ideal S1x1x128x128 .f32) (S : Spec.State)
    (hS : ∀ d e, x (ix4 0 0 d e) = S d e) (t : Fin 64) (d : Fin 128) :
    headOut (F := Ideal) (col (iblk m c 0 (point b n))) (col (iblk m c 1 (point b n))) (col (iblk m c 2 (point b n)))
        (col (iblk m c 3 (point b n))) (iblk m c 5 (point b n)) (wrow (iblk m c 6 (point b n))) x h (ix2 t d)
      = Spec.norm (Spec.out (Spec.queries (argA m c) b n h) (Spec.keys (argA m c) (argB m c) b n h) (Spec.vals (argA m c) b n h)
          (Spec.logs (argA m c) (argB m c) b n h) S) (Spec.gates (argA m c) b n h) (fun d => argW m c (Spec.lane h d)) t d := by
  have hw : ∀ d, (wrow (F := Ideal) (iblk m c 6 (point b n)) h (ix2 0 d) : EReal) = argW m c (Spec.lane h d) := fun d =>
    block6 m c b n (hcol h d)
  rw [headOut_eq]
  unfold keysOf logsOf
  simp only [in0, in1, in2, in3, bound_eq, hS, hw]
  rfl

/-! ## The recurrence over a sequence's chunks -/

theorem point_val (b : Fin 4) (n : Fin 32) : (point b n).val = 32 * b.val + n.val := rfl

theorem point_lt (b : Fin 4) (n : Nat) (hn : n < 32) : 32 * b.val + n < cfg0.N := (point b ⟨n, hn⟩).isLt

/-- After chunk `n` of sequence `b` the state window holds the recurrence's state after `n + 1` chunks. -/
theorem state_at (b : Fin 4) (h : Fin 16) : ∀ (n : Nat) (hn : n < 32) (d e : Fin 128),
    ((outsAt0 m c (32 * b.val + n) (point_lt b n hn)).2 (ix4 0 0 (hcol h d) e) : EReal)
      = Spec.stateAt (argA m c) (argB m c) (argS m c) b h (n + 1) d e
  | 0, hn, d, e => by
    have h0 : (point b 0).val % 32 = 0 := by simp only [point]; omega
    have hA := outsAt0_A m c (point b 0) h0
    refine (congrArg (fun p => p.2 (ix4 0 0 (hcol h d) e)) hA).trans ?_
    dsimp only
    rw [out8_A]
    exact chunk_state m c b 0 h _ _ (fun d e => block4 m c b 0 h d e) d e
  | n + 1, hn, d, e => by
    have h0 : ¬(point b ⟨n + 1, hn⟩).val % 32 = 0 := by simp only [point]; omega
    have hB := outsAt0_B m c (point b ⟨n + 1, hn⟩) h0
    refine (congrArg (fun p => p.2 (ix4 0 0 (hcol h d) e)) hB).trans ?_
    dsimp only
    rw [out8_B]
    refine (chunk_state m c b ⟨n + 1, hn⟩ h _ (Spec.stateAt (argA m c) (argB m c) (argS m c) b h (n + 1))
      (fun d e => state_at b h n (Nat.lt_of_succ_lt hn) d e) d e).trans ?_
    have hof : (Fin.ofNat 32 (n + 1) : Fin 32) = ⟨n + 1, hn⟩ := Fin.ext (Nat.mod_eq_of_lt hn)
    show _ = Spec.next _ _ _ _ d e
    rw [hof]

/-- At chunk `n` of sequence `b` the output window holds the recurrence's outputs over that chunk. -/
theorem out_at (b : Fin 4) (n : Fin 32) (h : Fin 16) (t : Fin 64) (d : Fin 128) :
    ((outsAt0 m c (point b n).val (point b n).isLt).1 (ix2 t (hcol h d)) : EReal)
      = Spec.outAt (argA m c) (argB m c) (argS m c) (argW m c) b n h t d := by
  by_cases h0 : (point b n).val % 32 = 0
  · have hn : n = 0 := Fin.ext (by simp only [point] at h0; omega)
    subst hn
    rw [outsAt0_A m c (point b 0) h0]
    dsimp only
    rw [out7_A]
    exact chunk_out m c b 0 h _ _ (fun d e => block4 m c b 0 h d e) t d
  · rw [outsAt0_B m c (point b n) h0]
    dsimp only
    rw [out7_B]
    obtain ⟨n, hn⟩ := n
    cases n with
    | zero => exact absurd (by simp only [point]; omega) h0
    | succ n =>
      exact chunk_out m c b ⟨n + 1, hn⟩ h _ _ (fun d e => state_at m c b h n (Nat.lt_of_succ_lt hn) d e) t d

/-! ## The arrays -/

/-- The outputs' array: row `2048 b + 64 n + t`, column `128 h + d`. -/
theorem array7 (b : Fin 4) (n : Fin 32) (t : Fin 64) (h : Fin 16) (d : Fin 128) :
    ((dats m 0 c).arrAt 7 cfg0.N : FVec Ideal S8192x2048 .bf16) (ix2 ⟨2048 * b.val + 64 * n.val + t.val, by omega⟩ (Spec.lane h d))
      = Spec.outAt (argA m c) (argB m c) (argS m c) (argW m c) b n h t d := by
  have hb := congrFun (Value.blocks7 m c (point b n) (flush0_7 _)) (ix2 t (hcol h d) : S64x2048.Idx)
  rw [Value.flushed7, View.read_apply] at hb
  have hi : ((cfg0.win 7).blk (point b n)).view.emb (ix2 t (hcol h d) : S64x2048.Idx)
      = (ix2 ⟨2048 * b.val + 64 * n.val + t.val, by omega⟩ (Spec.lane h d) : S8192x2048.Idx) := by
    funext a
    apply Fin.ext
    match a with
    | ⟨0, _⟩ =>
      show win0_7.index (point b n) 0 * 64 + 1 * t.val = 2048 * b.val + 64 * n.val + t.val
      rw [(index7 _).1]; simp only [point]; omega
    | ⟨1, _⟩ =>
      show win0_7.index (point b n) 1 * 2048 + 1 * (hcol h d).val = (Spec.lane h d).val
      rw [(index7 _).2]; simp only [hcol, Spec.lane]; omega
  refine (congrArg ((dats m 0 c).arrAt 7 cfg0.N : FVec Ideal S8192x2048 .bf16) hi).symm.trans ?_
  exact hb.trans (out_at m c b n h t d)

theorem index8_inj : ∀ t t' : Fin cfg0.N, t.val % 32 = 31 → t'.val % 32 = 31 → win0_8.index t = win0_8.index t' → t = t' :=
  (by decide +kernel : ∀ t t' : Fin grid0.N, t.val % 32 = 31 → t'.val % 32 = 31 → win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun h => hne (index8_inj t t' ((flush0_8 t).mp hf) ((flush0_8 t').mp hf') h)

/-- The states' array: the last layer's rows hold the states after the 32 chunks. -/
theorem array8_1 (b : Fin 4) (h : Fin 16) (d e : Fin 128) :
    ((dats m 0 c).arrAt 8 cfg0.N : FVec Ideal S2x4x2048x128 .f32) (ix4 1 b (Spec.lane h d) e)
      = Spec.stateAt (argA m c) (argB m c) (argS m c) b h 32 d e := by
  have hf : (cfg0.win 8).flush (point b 31) = true := (flush0_8 _).mpr (by rw [point_val]; show (32 * b.val + 31) % 32 = 31; omega)
  have hb := congrFun ((dats m 0 c).read_blk_arrAt_eq_flushed 8 disjoint8 cfg0.N (point b 31) (point b 31).isLt hf)
    (ix4 0 0 (hcol h d) e : S1x1x2048x128.Idx)
  rw [Value.flushed8, View.read_apply] at hb
  have hi : ((cfg0.win 8).blk (point b 31)).view.emb (ix4 0 0 (hcol h d) e : S1x1x2048x128.Idx)
      = (ix4 1 b (Spec.lane h d) e : S2x4x2048x128.Idx) := by
    funext a
    apply Fin.ext
    match a with
    | ⟨0, _⟩ =>
      show win0_8.index (point b 31) 0 * 1 + 1 * 0 = 1
      rw [(index8 _).1]
    | ⟨1, _⟩ =>
      show win0_8.index (point b 31) 1 * 1 + 1 * 0 = b.val
      rw [(index8 _).2.1, point_val]
      show (32 * b.val + 31) / 32 * 1 + 1 * 0 = b.val
      omega
    | ⟨2, _⟩ =>
      show win0_8.index (point b 31) 2 * 2048 + 1 * (hcol h d).val = (Spec.lane h d).val
      rw [(index8 _).2.2.1]; simp only [hcol, Spec.lane]; omega
    | ⟨3, _⟩ =>
      show win0_8.index (point b 31) 3 * 128 + 1 * e.val = e.val
      rw [(index8 _).2.2.2]; omega
  refine (congrArg ((dats m 0 c).arrAt 8 cfg0.N : FVec Ideal S2x4x2048x128 .f32) hi).symm.trans ?_
  exact hb.trans (state_at m c b h 31 (by decide) d e)

/-- The other layer's rows of the states' array are those of the given array. -/
theorem array8_0 (b : Fin 4) (r : Fin 2048) (e : Fin 128) :
    ((dats m 0 c).arrAt 8 cfg0.N : FVec Ideal S2x4x2048x128 .f32) (ix4 0 b r e)
      = (m ((c.tc : Thread nD τ).loc main_arg2) : FVec Ideal S2x4x2048x128 .f32) (ix4 0 b r e) := by
  have hV : (V m c main_v4_1 : FVec Ideal S2x4x2048x128 .f32) = (m ((c.tc : Thread nD τ).loc main_arg2) : FVec Ideal S2x4x2048x128 .f32) := by
    show StableHlo.after hostOps0 _ _ = _
    simp only [hostOps0]
    after_reads_simp
    rfl
  refine (Value.entry8 m c (ix4 0 b r e : S2x4x2048x128.Idx) fun t _ hmem => ?_).trans (congrFun hV _)
  change (ix4 0 b r e : S2x4x2048x128.Idx) ∈ ((View.whole main_v4_1).slice (win0_8.rect t)).set at hmem
  rw [View.set_slice_whole, Rect.mem_set_unit] at hmem
  have h0 : win0_8.index t 0 * 1 ≤ 0 := (hmem 0).1
  rw [(index8 t).1] at h0
  omega

end Cert.GlaIdeal.Arrays

end
-- ==== Proof.Cumsum.lean ====
/- The reference's cumulative sums on the extended reals. They are printed as windowed sums over an array padded with
   zeros in front: a window of as many rows as the axis has, ending at the row it is taken at. -/
module

public import Idealize.ShloMosaic.PureOps.Ideal
public import Idealize.ShloMosaic.Lib.Pointwise
public import proofs.«01_k».proof.Proof.Gen.GlaRefIdeal

@[expose] public section

set_option maxRecDepth 16384

noncomputable section

namespace Cert.GlaRefIdeal.Cumsum

open Cert.GlaRefIdeal Cert.GlaRefIdeal.Gen Idealize.ShloMosaic

/-- Adding the terms of a list in order is adding their sum. -/
theorem foldl_add_sum {n : Nat} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- The window of one chunk's time steps: its positions are the steps. -/
theorem window_step (n : Fin (Shape.numel ⟨4, ![1, 64, 1, 1]⟩)) (i : (⟨4, ![1, 64, 1, 1]⟩ : Shape).Idx)
    (hi : (⟨4, ![1, 64, 1, 1]⟩ : Shape).rowMajor.symm n = i) :
    (i 0).val = 0 ∧ (i 1).val = n.val ∧ (i 2).val = 0 ∧ (i 3).val = 0 := by
  have h0 : (i 0).val < 1 := (i 0).isLt
  have h2 : (i 2).val < 1 := (i 2).isLt
  have h3 : (i 3).val < 1 := (i 3).isLt
  have hn : (⟨4, ![1, 64, 1, 1]⟩ : Shape).rowMajor i = n := by rw [← hi, Equiv.apply_symm_apply]
  have := congrArg Fin.val hn
  rw [Shape.rowMajor_val_four] at this
  have h : (((i 0).val * 64 + (i 1).val) * 1 + (i 2).val) * 1 + (i 3).val = n.val := this
  refine ⟨?_, ?_, ?_, ?_⟩ <;> omega

theorem window_row (n : Fin (Shape.numel ⟨2, ![2, 1]⟩)) (i : (⟨2, ![2, 1]⟩ : Shape).Idx)
    (hi : (⟨2, ![2, 1]⟩ : Shape).rowMajor.symm n = i) :
    (i 0).val = n.val ∧ (i 1).val = 0 := by
  have h1 : (i 1).val < 1 := (i 1).isLt
  have hn : (⟨2, ![2, 1]⟩ : Shape).rowMajor i = n := by rw [← hi, Equiv.apply_symm_apply]
  have := congrArg Fin.val hn
  rw [Shape.rowMajor_val_two] at this
  have h : (i 0).val * 1 + (i 1).val = n.val := this
  refine ⟨?_, ?_⟩ <;> omega

/-- The cumulative sum along a chunk's time steps. -/
theorem cumsum_chunk (x : FVec Ideal S4x64x16x128 .f32) (v : FVec Ideal S_ .f32) (hv : ∀ k, v k = (0 : EReal))
    (b : Fin 4) (t : Fin 64) (h : Fin 16) (d : Fin 128) :
    Host.reduceWindowAdd ![1, 64, 1, 1] ![1, 1, 1, 1] ![0, 63, 0, 0] ![0, 0, 0, 0] x v
      reduceWindows_S4x64x16x128_S4x64x16x128_w1s1p0_0_w64s1p63_0_w1s1p0_0_w1s1p0_0 h_S_ (ix4 b t h d)
      = ∑ s : Fin 64, if s ≤ t then x (ix4 b s h d) else 0 := by
  have hnum : Shape.numel ⟨4, ![1, 64, 1, 1]⟩ = 64 := by decide
  refine (foldl_add_sum _ _).trans ?_
  rw [hv, zero_add]
  refine (Finset.sum_congr rfl fun n _ => ?_ : _ = ∑ n : Fin (Shape.numel ⟨4, ![1, 64, 1, 1]⟩),
    (fun n : Fin 64 => if 63 ≤ t.val + n.val then x (ix4 b (Fin.ofNat 64 (t.val + n.val - 63)) h d) else (0 : EReal)) (finCongr hnum n)).trans ?_
  · obtain ⟨h0, h1, h2, h3⟩ := window_step n _ rfl
    have hn : n.val < 64 := n.isLt.trans_eq hnum
    have ht := t.isLt
    have hb := b.isLt
    have hh := h.isLt
    have hd := d.isLt
    by_cases hc : 63 ≤ t.val + n.val
    · refine ((dif_pos ?_).trans ?_).trans (if_pos hc).symm
      · intro a
        match a with
        | ⟨0, _⟩ => exact ⟨Nat.zero_le _, show b.val * 1 + _ - 0 < 4 by erw [h0]; omega⟩
        | ⟨1, _⟩ => exact ⟨show 63 ≤ t.val * 1 + _ by erw [h1]; omega, show t.val * 1 + _ - 63 < 64 by erw [h1]; omega⟩
        | ⟨2, _⟩ => exact ⟨Nat.zero_le _, show h.val * 1 + _ - 0 < 16 by erw [h2]; omega⟩
        | ⟨3, _⟩ => exact ⟨Nat.zero_le _, show d.val * 1 + _ - 0 < 128 by erw [h3]; omega⟩
      · congr 1
        funext a
        refine Fin.ext ?_
        match a with
        | ⟨0, _⟩ => show b.val * 1 + _ - 0 = b.val; erw [h0]; omega
        | ⟨1, _⟩ => show t.val * 1 + _ - 63 = (t.val + n.val - 63) % 64; erw [h1]; omega
        | ⟨2, _⟩ => show h.val * 1 + _ - 0 = h.val; erw [h2]; omega
        | ⟨3, _⟩ => show d.val * 1 + _ - 0 = d.val; erw [h3]; omega
    · refine (dif_neg ?_).trans (if_neg hc).symm
      intro hin
      have h63 : 63 ≤ t.val * 1 + _ := (hin 1).1
      erw [h1] at h63
      omega
  rw [Equiv.sum_comp (finCongr hnum) (fun n : Fin 64 => if 63 ≤ t.val + n.val then x (ix4 b (Fin.ofNat 64 (t.val + n.val - 63)) h d) else (0 : EReal)),
    ← Equiv.sum_comp (Equiv.addRight (t + 1)) (fun s : Fin 64 => if s ≤ t then x (ix4 b s h d) else 0)]
  refine Finset.sum_congr rfl fun n _ => ?_
  have key : ∀ t n : Fin 64, (63 ≤ t.val + n.val → n + (t + 1) = Fin.ofNat 64 (t.val + n.val - 63))
      ∧ (63 ≤ t.val + n.val ↔ n + (t + 1) ≤ t) := by
    decide +kernel
  show _ = if n + (t + 1) ≤ t then x (ix4 b (n + (t + 1)) h d) else 0
  by_cases hn : 63 ≤ t.val + n.val
  · rw [if_pos hn, if_pos ((key t n).2.mp hn), (key t n).1 hn]
  · rw [if_neg hn, if_neg (fun h' => hn ((key t n).2.mpr h'))]

/-- The second row of the cumulative sum of two rows is their sum. -/
theorem cumsum_row (x : FVec Ideal S2x2048 .f32) (v : FVec Ideal S_ .f32) (hv : ∀ k, v k = (0 : EReal)) (e : Fin 2048) :
    Host.reduceWindowAdd ![2, 1] ![1, 1] ![1, 0] ![0, 0] x v reduceWindows_S2x2048_S2x2048_w2s1p1_0_w1s1p0_0 h_S_ (ix2 1 e)
      = x (ix2 0 e) + x (ix2 1 e) := by
  have he := e.isLt
  refine (foldl_add_sum _ _).trans ?_
  rw [hv, zero_add]
  refine (Fin.sum_univ_two _).trans ?_
  refine congrArg₂ (· + ·) ((dif_pos ?_).trans ?_) ((dif_pos ?_).trans ?_)
  · obtain ⟨h0, h1⟩ := window_row (0 : Fin 2) _ rfl
    intro a
    match a with
    | ⟨0, _⟩ => exact ⟨show 1 ≤ 1 * 1 + _ by omega, show 1 * 1 + _ - 1 < 2 by erw [h0]; decide⟩
    | ⟨1, _⟩ => exact ⟨Nat.zero_le _, show e.val * 1 + _ - 0 < 2048 by erw [h1]; omega⟩
  · obtain ⟨h0, h1⟩ := window_row (0 : Fin 2) _ rfl
    congr 1
    funext a
    refine Fin.ext ?_
    match a with
    | ⟨0, _⟩ => show 1 * 1 + _ - 1 = 0; erw [h0]; rfl
    | ⟨1, _⟩ => show e.val * 1 + _ - 0 = e.val; erw [h1]; omega
  · obtain ⟨h0, h1⟩ := window_row (1 : Fin 2) _ rfl
    intro a
    match a with
    | ⟨0, _⟩ => exact ⟨show 1 ≤ 1 * 1 + _ by omega, show 1 * 1 + _ - 1 < 2 by erw [h0]; decide⟩
    | ⟨1, _⟩ => exact ⟨Nat.zero_le _, show e.val * 1 + _ - 0 < 2048 by erw [h1]; omega⟩
  · obtain ⟨h0, h1⟩ := window_row (1 : Fin 2) _ rfl
    congr 1
    funext a
    refine Fin.ext ?_
    match a with
    | ⟨0, _⟩ => show 1 * 1 + _ - 1 = 1; erw [h0]; rfl
    | ⟨1, _⟩ => show e.val * 1 + _ - 0 = e.val; erw [h1]; omega

end Cert.GlaRefIdeal.Cumsum

end
-- ==== Proof.RefEntry.lean ====
/- What the reference's scan starts from. The queries, keys, values, log gates and output gates of the whole prompt are
   formed before the scan and cut into 32 chunks of 64 steps; here each is read at an index of the arguments. -/
module

public import proofs.«01_k».proof.Proof.Spec
public import proofs.«01_k».proof.Proof.Cumsum
public import proofs.«01_k».proof.Proof.Gen.GlaRefIdeal.Run
public import Idealize.ShloMosaic.Lib.Pointwise

@[expose] public section

set_option maxRecDepth 16384

noncomputable section

namespace Cert.GlaRefIdeal.Entry

open Cert.GlaRefIdeal Cert.GlaRefIdeal.Gen Cert.GlaRefIdeal.Value
open Idealize.ShloMosaic Idealize.ShloMosaic.StableHlo Idealize.ShloMosaic.TcCoe Idealize.SL Idealize.SL.Sem

section Terms

variable {F : FTy → Type} [FloatOps F]

/-- The prompt's rows of the joined projections, by sequence. -/
def rows (x : FVec F S9216x8192 .f32) : FVec F S4x2048x8192 .f32 :=
  shapeCast S4x2048x8192 (extractStridedSlice S8192x8192 ![0, 0] x slices_S9216x8192_S8192x8192_0_0)
    shapeCasts_S8192x8192_S4x2048x8192

/-- The first, second, third and fourth projection. -/
def proj0 (x : FVec F S9216x8192 .f32) : FVec F S4x2048x2048 .f32 :=
  extractStridedSlice S4x2048x2048 ![0, 0, 0] (rows x) slices_S4x2048x8192_S4x2048x2048_0_0_0
def proj1 (x : FVec F S9216x8192 .f32) : FVec F S4x2048x2048 .f32 :=
  extractStridedSlice S4x2048x2048 ![0, 0, 2048] (rows x) slices_S4x2048x8192_S4x2048x2048_0_0_2048
def proj2 (x : FVec F S9216x8192 .f32) : FVec F S4x2048x2048 .f32 :=
  extractStridedSlice S4x2048x2048 ![0, 0, 4096] (rows x) slices_S4x2048x8192_S4x2048x2048_0_0_4096
def proj3 (x : FVec F S9216x8192 .f32) : FVec F S4x2048x2048 .f32 :=
  extractStridedSlice S4x2048x2048 ![0, 0, 6144] (rows x) slices_S4x2048x8192_S4x2048x2048_0_0_6144

/-- A constant over all steps. -/
def fill (b : BitVec 32) : FVec F S4x2048x2048 .f32 :=
  broadcastInDim S4x2048x2048 ![] bcast_S_S4x2048x2048 (constant S_ .f32 b)

/-- The sigmoid. -/
def sigm (x : FVec F S4x2048x2048 .f32) : FVec F S4x2048x2048 .f32 :=
  Host.divf (fill 0x3F800000#32) (addf (fill 0x3F800000#32) (Host.exp (Host.negf x)))

/-- The exponentials of the bounds' softmax. -/
def bexp (x : FVec F S2x2048 .f32) : FVec F S2x2048 .f32 :=
  Host.exp (subf x (broadcastInDim S2x2048 ![0, 1] bcast_S1x2048_S2x2048_0_1 (broadcastInDim S1x2048 ![1] bcast_S2048_S1x2048_1
    (maximumf (broadcastInDim S2048 ![] bcast_S_S2048 (constant S_ .f32 0xFF800000#32))
      (Host.reduce FloatOps.maximumf x (constant S_ .f32 0xFF800000#32) reducesTo_S2x2048_S2048_d0 h_S_)))))

/-- The bounds' softmax over the layers. -/
def soft (x : FVec F S2x2048 .f32) : FVec F S2x2048 .f32 :=
  Host.divf (bexp x) (broadcastInDim S2x2048 ![0, 1] bcast_S1x2048_S2x2048_0_1 (broadcastInDim S1x2048 ![1] bcast_S2048_S1x2048_1
    (Host.reduceAdd (bexp x) (constant S_ .f32 0x00000000#32) reducesTo_S2x2048_S2048_d0 h_S_)))

/-- The layer's lower bound: the softmax summed to the layer, without the first layer's share. -/
def bound (x : FVec F S2x2048 .f32) : FVec F S2048 .f32 :=
  shapeCast S2048 (extractStridedSlice S1x2048 ![1, 0]
    (subf (Host.reduceWindowAdd ![2, 1] ![1, 1] ![1, 0] ![0, 0] (soft x) (broadcastInDim S_ ![] bcast_S_S_ (constant S_ .f32 0x00000000#32))
        reduceWindows_S2x2048_S2x2048_w2s1p1_0_w1s1p0_0 h_S_)
      (broadcastInDim S2x2048 ![0, 1] bcast_S1x2048_S2x2048_0_1 (broadcastInDim S1x2048 ![1] bcast_S2048_S1x2048_1
        (shapeCast S2048 (extractStridedSlice S1x2048 ![0, 0] (soft x) slices_S2x2048_S1x2048_0_0) shapeCasts_S1x2048_S2048))))
    slices_S2x2048_S1x2048_1_0) shapeCasts_S1x2048_S2048

/-- A row spread over all steps. -/
def spread (x : FVec F S2048 .f32) : FVec F S4x2048x2048 .f32 :=
  broadcastInDim S4x2048x2048 ![0, 1, 2] bcast_S1x1x2048_S4x2048x2048_0_1_2 (broadcastInDim S1x1x2048 ![2] bcast_S2048_S1x1x2048_2 x)

/-- One less the bound. -/
def unbound (x : FVec F S2x2048 .f32) : FVec F S2048 .f32 :=
  subf (broadcastInDim S2048 ![] bcast_S_S2048 (constant S_ .f32 0x3F800000#32)) (bound x)

/-- The log gates. -/
def logf (a : FVec F S9216x8192 .f32) (x : FVec F S2x2048 .f32) : FVec F S4x2048x2048 .f32 :=
  Host.log (maximumf (addf (spread (bound x)) (mulf (spread (unbound x)) (sigm (proj1 a)))) (fill 0x0DA24260#32))

/-- The keys. -/
def keys (a : FVec F S9216x8192 .f32) (x : FVec F S2x2048 .f32) : FVec F S4x2048x2048 .f32 :=
  mulf (spread (unbound x)) (subf (fill 0x3F800000#32) (sigm (proj1 a)))

/-- An array of all steps cut into heads and chunks, the chunks first. -/
def chunks (x : FVec F S4x2048x2048 .f32) : FVec F S32x4x64x16x128 .f32 :=
  transpose S32x4x64x16x128 [1, 0, 2, 3, 4] (shapeCast S4x32x64x16x128
    (shapeCast S4x2048x16x128 x shapeCasts_S4x2048x2048_S4x2048x16x128) shapeCasts_S4x2048x16x128_S4x32x64x16x128)
    transposes_S4x32x64x16x128_S32x4x64x16x128_1_0_2_3_4

/-- The pairs of steps of which the second is no later. -/
def tri : IVec S1x64x64x1x1 1 :=
  broadcastInDim S1x64x64x1x1 ![1, 2] bcast_S64x64_S1x64x64x1x1_1_2
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)))

/-- The layer's norm weights, by head. -/
def weights (x : FVec F S2x2048 .f32) : FVec F S16x128 .f32 :=
  shapeCast S16x128 (shapeCast S2048 (extractStridedSlice S1x2048 ![1, 0] x slices_S2x2048_S1x2048_1_0) shapeCasts_S1x2048_S2048) shapeCasts_S2048_S16x128

/-- The layer's state before the prompt. -/
def state (x : FVec F S2x4x16x128x128 .f32) : FVec F S4x16x128x128 .f32 :=
  shapeCast S4x16x128x128 (extractStridedSlice S1x4x16x128x128 ![1, 0, 0, 0, 0] x slices_S2x4x16x128x128_S1x4x16x128x128_1_0_0_0_0)
    shapeCasts_S1x4x16x128x128_S4x16x128x128

variable (m : (ℓ : Loc nD τ sig) → Buf (Elt F) ℓ) (c : Dev nD)

set_option maxHeartbeats 4000000 in
theorem entry0 : entryContents preI m c (Proc.devRef .tc main_v75_0)
    = chunks (mulf (proj0 (m ((c.tc : Thread nD τ).loc main_arg0))) (sigm (proj0 (m ((c.tc : Thread nD τ).loc main_arg0))))) := by
  simp only [entryContents, afterL_cons, afterL_nil]
  after_reads_simp
  rfl

set_option maxHeartbeats 4000000 in
theorem entry1 : entryContents preI m c (Proc.devRef .tc main_v75_1)
    = chunks (keys (m ((c.tc : Thread nD τ).loc main_arg0)) (m ((c.tc : Thread nD τ).loc main_arg3))) := by
  simp only [entryContents, afterL_cons, afterL_nil]
  after_reads_simp
  rfl

set_option maxHeartbeats 4000000 in
theorem entry2 : entryContents preI m c (Proc.devRef .tc main_v75_2)
    = chunks (proj2 (m ((c.tc : Thread nD τ).loc main_arg0))) := by
  simp only [entryContents, afterL_cons, afterL_nil]
  after_reads_simp
  rfl

set_option maxHeartbeats 4000000 in
theorem entry3 : entryContents preI m c (Proc.devRef .tc main_v75_3)
    = chunks (logf (m ((c.tc : Thread nD τ).loc main_arg0)) (m ((c.tc : Thread nD τ).loc main_arg3))) := by
  simp only [entryContents, afterL_cons, afterL_nil]
  after_reads_simp
  rfl

set_option maxHeartbeats 4000000 in
theorem entry4 : entryContents preI m c (Proc.devRef .tc main_v75_4)
    = chunks (mulf (proj3 (m ((c.tc : Thread nD τ).loc main_arg0))) (sigm (proj3 (m ((c.tc : Thread nD τ).loc main_arg0))))) := by
  simp only [entryContents, afterL_cons, afterL_nil]
  after_reads_simp
  rfl

set_option maxHeartbeats 4000000 in
theorem entry5 : entryContents preI m c (Proc.devRef .tc main_v75_5) = tri := by
  simp only [entryContents, afterL_cons, afterL_nil]
  after_reads_simp
  rfl

theorem entry6 : entryContents preI m c (Proc.devRef .tc main_v75_6) = weights (m ((c.tc : Thread nD τ).loc main_arg4)) := by
  simp only [entryContents, afterL_cons, afterL_nil]
  after_reads_simp
  rfl

theorem entry8 : entryContents preI m c (Proc.devRef .tc main_v75_8) = state (m ((c.tc : Thread nD τ).loc main_arg1)) := by
  simp only [entryContents, afterL_cons, afterL_nil]
  after_reads_simp
  rfl

theorem entry_arg2 : entryContents preI m c (Proc.devRef .tc main_arg2) = m ((c.tc : Thread nD τ).loc main_arg2) := by
  simp only [entryContents, afterL_cons, afterL_nil]
  after_reads_simp

end Terms

/-! ## At an index, on the extended reals -/

theorem chunks_apply (x : FVec Ideal S4x2048x2048 .f32) (n : Fin 32) (b : Fin 4) (t : Fin 64) (h : Fin 16) (d : Fin 128) :
    chunks x (ix5 n b t h d) = x (ix3 b ⟨64 * n.val + t.val, by omega⟩ (Spec.lane h d)) := by
  pointwise [chunks]
  exact congrArg x (congrArg₂ (ix3 b) (Fin.ext (by simp only []; omega)) (Fin.ext (by simp only [Spec.lane]; omega)))

/-- A row of a sequence, among all rows. -/
abbrev seqRow (b : Fin 4) (t : Fin 2048) : Fin 9216 := ⟨2048 * b.val + t.val, by omega⟩

theorem proj0_apply (a : FVec Ideal S9216x8192 .f32) (b : Fin 4) (t : Fin 2048) (e : Fin 2048) :
    proj0 a (ix3 b t e) = a (ix2 (seqRow b t) ⟨2048 * 0 + e.val, by omega⟩) := by
  pointwise [proj0, rows]
  exact congrArg a (congrArg₂ ix2 (Fin.ext (by first | rfl | (simp only []; omega))) (Fin.ext (by first | rfl | (simp only []; omega))))
theorem proj1_apply (a : FVec Ideal S9216x8192 .f32) (b : Fin 4) (t : Fin 2048) (e : Fin 2048) :
    proj1 a (ix3 b t e) = a (ix2 (seqRow b t) ⟨2048 * 1 + e.val, by omega⟩) := by
  pointwise [proj1, rows]
  exact congrArg a (congrArg₂ ix2 (Fin.ext (by first | rfl | (simp only []; omega))) (Fin.ext (by first | rfl | (simp only []; omega))))
theorem proj2_apply (a : FVec Ideal S9216x8192 .f32) (b : Fin 4) (t : Fin 2048) (e : Fin 2048) :
    proj2 a (ix3 b t e) = a (ix2 (seqRow b t) ⟨2048 * 2 + e.val, by omega⟩) := by
  pointwise [proj2, rows]
  exact congrArg a (congrArg₂ ix2 (Fin.ext (by first | rfl | (simp only []; omega))) (Fin.ext (by first | rfl | (simp only []; omega))))
theorem proj3_apply (a : FVec Ideal S9216x8192 .f32) (b : Fin 4) (t : Fin 2048) (e : Fin 2048) :
    proj3 a (ix3 b t e) = a (ix2 (seqRow b t) ⟨2048 * 3 + e.val, by omega⟩) := by
  pointwise [proj3, rows]
  exact congrArg a (congrArg₂ ix2 (Fin.ext (by first | rfl | (simp only []; omega))) (Fin.ext (by first | rfl | (simp only []; omega))))

theorem sigm_apply (x : FVec Ideal S4x2048x2048 .f32) (j : S4x2048x2048.Idx) : sigm x j = Ideal.logistic (x j) := by
  pointwise [sigm, fill]
  rfl

theorem bexp_apply (x : FVec Ideal S2x2048 .f32) (r : Fin 2) (e : Fin 2048) :
    bexp x (ix2 r e) = Ideal.exp (x (ix2 r e) - max (x (ix2 0 e)) (x (ix2 1 e))) := by
  pointwise [bexp]
  rw [Scalars.neg_inf_word, max_eq_right bot_le]
  congr 2
  simp [Finset.univ_fin2, Finset.fold_insert]

theorem soft_apply (x : FVec Ideal S2x2048 .f32) (r : Fin 2) (e : Fin 2048) :
    soft x (ix2 r e) = Ideal.div (bexp x (ix2 r e)) (bexp x (ix2 0 e) + bexp x (ix2 1 e)) := by
  pointwise [soft]
  rw [Fin.sum_univ_two]

theorem bound_apply (x : FVec Ideal S2x2048 .f32) (e : Fin 2048) :
    bound x (ix1 e) = Scalars.share (x (ix2 0 e)) (x (ix2 1 e)) := by
  pointwise [bound]
  rw [Cumsum.cumsum_row (soft x) (broadcastInDim S_ ![] bcast_S_S_ (constant S_ .f32 0x00000000#32)) (fun _ => Scalars.zero_word), soft_apply, soft_apply, bexp_apply, bexp_apply]
  rfl

theorem keys_apply (a : FVec Ideal S9216x8192 .f32) (x : FVec Ideal S2x2048 .f32) (b : Fin 4) (t e : Fin 2048) :
    keys a x (ix3 b t e) = Spec.keyGate (bound x (ix1 e)) (proj1 a (ix3 b t e)) := by
  pointwise [keys, spread, unbound, fill]
  rw [sigm_apply]
  rfl

theorem logf_apply (a : FVec Ideal S9216x8192 .f32) (x : FVec Ideal S2x2048 .f32) (b : Fin 4) (t e : Fin 2048) :
    logf a x (ix3 b t e) = Spec.logGate (bound x (ix1 e)) (proj1 a (ix3 b t e)) := by
  pointwise [logf, spread, unbound, fill]
  rw [sigm_apply]
  rfl

theorem tri_apply (t s : Fin 64) : tri (ix5 0 t s 0 0) = if s ≤ t then 1#1 else 0#1 := by
  pointwise [tri]
  revert t s
  decide +kernel

theorem weights_apply (x : FVec Ideal S2x2048 .f32) (h : Fin 16) (d : Fin 128) :
    weights x (ix2 h d) = x (ix2 1 (Spec.lane h d)) := by
  pointwise [weights]
  exact congrArg x (congrArg (ix2 1) (Fin.ext (by simp only [Spec.lane]; omega)))

theorem state_apply (x : FVec Ideal S2x4x16x128x128 .f32) (b : Fin 4) (h : Fin 16) (d e : Fin 128) :
    state x (ix4 b h d e) = x (ix5 1 b h d e) := by
  pointwise [state]

section Chunks

variable (a : FVec Ideal S9216x8192 .f32) (x : FVec Ideal S2x2048 .f32) (n : Fin 32) (b : Fin 4) (t : Fin 64) (h : Fin 16) (d : Fin 128)

theorem seqRow_eq : seqRow b ⟨64 * n.val + t.val, by omega⟩ = Spec.row b n t := Fin.ext (Nat.add_assoc _ _ _).symm

theorem queries_apply : chunks (mulf (proj0 a) (sigm (proj0 a))) (ix5 n b t h d)
    = Spec.queries (fun r k => a (ix2 r k)) b n h t d := by
  rw [chunks_apply]
  show proj0 a _ * sigm (proj0 a) _ = _
  rw [sigm_apply, proj0_apply, seqRow_eq]
  rfl

theorem gates_apply : chunks (mulf (proj3 a) (sigm (proj3 a))) (ix5 n b t h d)
    = Spec.gates (fun r k => a (ix2 r k)) b n h t d := by
  rw [chunks_apply]
  show proj3 a _ * sigm (proj3 a) _ = _
  rw [sigm_apply, proj3_apply, seqRow_eq]
  rfl

theorem vals_apply : chunks (proj2 a) (ix5 n b t h d) = Spec.vals (fun r k => a (ix2 r k)) b n h t d := by
  rw [chunks_apply, proj2_apply, seqRow_eq]
  rfl

theorem keys_chunk : chunks (keys a x) (ix5 n b t h d)
    = Spec.keys (fun r k => a (ix2 r k)) (fun r k => x (ix2 r k)) b n h t d := by
  rw [chunks_apply, keys_apply, bound_apply, proj1_apply, seqRow_eq]
  rfl

theorem logs_chunk : chunks (logf a x) (ix5 n b t h d)
    = Spec.logs (fun r k => a (ix2 r k)) (fun r k => x (ix2 r k)) b n h t d := by
  rw [chunks_apply, logf_apply, bound_apply, proj1_apply, seqRow_eq]
  rfl

end Chunks

end Cert.GlaRefIdeal.Entry

end
-- ==== Proof.RefStep.lean ====
/- One step of the reference's scan, read at an index on the extended reals, and the scan after `n` steps: the state is
   the recurrence's after `n` chunks, and the first `n` chunks of the output are the recurrence's outputs. -/
module

public import proofs.«01_k».proof.Proof.RefEntry
public import Idealize.ShloMosaic.Lib.DynamicIndex
public import Idealize.ShloMosaic.Lib.Pipeline.Value

@[expose] public section

set_option maxRecDepth 16384

noncomputable section

namespace Cert.GlaRefIdeal.Step

open Cert.GlaRefIdeal Cert.GlaRefIdeal.Gen Cert.GlaRefIdeal.Value
open Idealize.ShloMosaic Idealize.ShloMosaic.StableHlo Idealize.ShloMosaic.TcCoe Idealize.SL Idealize.SL.Sem

/-! ## The chunk a step takes and the chunk it writes -/

/-- Where chunk `n` starts. -/
abbrev start (ctr : IVec S_ 32) : Fin 5 → Int := fun k =>
  ((![ctr, constantI S_ 32 0#32, constantI S_ 32 0#32, constantI S_ 32 0#32, constantI S_ 32 0#32] : Fin 5 → IVec S_ 32) k
    (Shape.Idx.first h_S_)).toInt

theorem start_eq (ctr : IVec S_ 32) (n : Fin 32) (hn : ctr = fun _ => BitVec.ofNat 32 n.val) (a : Fin 5) :
    start ctr a = ((![n.val, 0, 0, 0, 0] : Fin 5 → Nat) a : Int) := by
  subst hn
  match a with
  | ⟨0, _⟩ => exact toInt_ofNat_of_lt (by have := n.isLt; omega)
  | ⟨1, _⟩ => rfl
  | ⟨2, _⟩ => rfl
  | ⟨3, _⟩ => rfl
  | ⟨4, _⟩ => rfl

theorem slices_chunk (n : Fin 32) : S32x4x64x16x128.Slices ![n.val, 0, 0, 0, 0] S1x4x64x16x128 := by
  revert n; decide

/-- The chunk taken at the counter. -/
def take (x : FVec Ideal S32x4x64x16x128 .f32) (ctr : IVec S_ 32) : FVec Ideal S4x64x16x128 .f32 :=
  shapeCast S4x64x16x128 (Host.dynamicSlice S1x4x64x16x128 x (start ctr) sliceFits_S32x4x64x16x128_S1x4x64x16x128)
    shapeCasts_S1x4x64x16x128_S4x64x16x128

theorem take_apply (x : FVec Ideal S32x4x64x16x128 .f32) (ctr : IVec S_ 32) (n : Fin 32) (hn : ctr = fun _ => BitVec.ofNat 32 n.val)
    (b : Fin 4) (t : Fin 64) (h : Fin 16) (d : Fin 128) : take x ctr (ix4 b t h d) = x (ix5 n b t h d) := by
  unfold take
  rw [Host.dynamicSlice_eq_extractStridedSlice S1x4x64x16x128 x (start ctr) ![n.val, 0, 0, 0, 0] _ (slices_chunk n) (start_eq ctr n hn)]
  pointwise

theorem put_apply (x : FVec Ideal S32x4x64x16x128 .f32) (u : FVec Ideal S1x4x64x16x128 .f32) (ctr : IVec S_ 32) (n : Fin 32)
    (hn : ctr = fun _ => BitVec.ofNat 32 n.val) (k : Fin 32) (b : Fin 4) (t : Fin 64) (h : Fin 16) (d : Fin 128) :
    Host.dynamicUpdateSlice x u (start ctr) updateFits_S32x4x64x16x128_S1x4x64x16x128 (ix5 k b t h d)
      = if k = n then u (ix5 0 b t h d) else x (ix5 k b t h d) := by
  rw [Host.dynamicUpdateSlice_eq_updateSlice x u (start ctr) updateFits_S32x4x64x16x128_S1x4x64x16x128 ![n.val, 0, 0, 0, 0] (fun a => by
    rw [start_eq ctr n hn]
    have := n.isLt
    match a with
    | ⟨0, _⟩ => show (min (max (n.val : Int) 0) (31 : Int)).toNat = n.val; omega
    | ⟨1, _⟩ => rfl
    | ⟨2, _⟩ => rfl
    | ⟨3, _⟩ => rfl
    | ⟨4, _⟩ => rfl) (slices_chunk n)]
  pointwise
  by_cases hk : k = n
  · subst hk
    rw [if_pos rfl, dif_pos ⟨le_refl _, Nat.lt_succ_self _⟩]
    exact congrArg (fun r => u (ix5 r b t h d)) (Fin.ext (Nat.sub_self _))
  · rw [if_neg hk, dif_neg (fun hc => hk (Fin.ext (by omega)))]

/-- The chunk of outputs a step writes: normalised, weighted and gated. -/
def gated (y z : FVec Ideal S4x64x16x128 .f32) (w : FVec Ideal S16x128 .f32) : FVec Ideal S1x4x64x16x128 .f32 :=
  broadcastInDim S1x4x64x16x128 ![1, 2, 3, 4] bcast_S4x64x16x128_S1x4x64x16x128_1_2_3_4
    (mulf (mulf (mulf y (broadcastInDim S4x64x16x128 ![0, 1, 2, 3] bcast_S4x64x16x1_S4x64x16x128_0_1_2_3
        (Host.rsqrt (addf (Host.divf (broadcastInDim S4x64x16x1 ![0, 1, 2] bcast_S4x64x16_S4x64x16x1_0_1_2
            (Host.reduceAdd (mulf y y) (constant S_ FTy.f32 0#32) reducesTo_S4x64x16x128_S4x64x16_d3 h_S_))
          (broadcastInDim S4x64x16x1 ![] bcast_S_S4x64x16x1 (constant S_ FTy.f32 0x43000000#32)))
          (broadcastInDim S4x64x16x1 ![] bcast_S_S4x64x16x1 (constant S_ FTy.f32 0x358637BD#32))))))
      (broadcastInDim S4x64x16x128 ![0, 1, 2, 3] bcast_S1x1x16x128_S4x64x16x128_0_1_2_3
        (broadcastInDim S1x1x16x128 ![2, 3] bcast_S16x128_S1x1x16x128_2_3 w))) z)

theorem gated_apply (y z : FVec Ideal S4x64x16x128 .f32) (w : FVec Ideal S16x128 .f32) (b : Fin 4) (t : Fin 64) (h : Fin 16) (d : Fin 128) :
    gated y z w (ix5 0 b t h d)
      = Spec.norm (fun t d => y (ix4 b t h d)) (fun t d => z (ix4 b t h d)) (fun d => w (ix2 h d)) t d := by
  pointwise [gated]
  rfl

/-! ## One step -/

section One

variable (V : Valuation τ sig (Elt Ideal)) (n : Fin 32)
  (hn : (V (Proc.devRef .tc main_v75_7) : IVec S_ 32) = fun _ => BitVec.ofNat 32 n.val)
  (htri : (V (Proc.devRef .tc main_v75_5) : IVec S1x64x64x1x1 1) = Entry.tri)

/-- Chunk `n` of one of the scan's arrays, for one sequence and head. -/
abbrev at5 (x : FVec Ideal S32x4x64x16x128 .f32) (n : Fin 32) (b : Fin 4) (h : Fin 16) : Spec.Chunk := fun t d => x (ix5 n b t h d)
/-- The state of one sequence and head. -/
abbrev at4 (x : FVec Ideal S4x16x128x128 .f32) (b : Fin 4) (h : Fin 16) : Spec.State := fun d e => x (ix4 b h d e)

include hn in
theorem q_apply (b : Fin 4) (t : Fin 64) (h : Fin 16) (d : Fin 128) :
    (res_main_while0b_v82 V : FVec Ideal S4x64x16x128 .f32) (ix4 b t h d) = at5 (V (Proc.devRef .tc main_v75_0)) n b h t d :=
  take_apply _ _ n hn b t h d
include hn in
theorem k_apply (b : Fin 4) (t : Fin 64) (h : Fin 16) (d : Fin 128) :
    (res_main_while0b_v83 V : FVec Ideal S4x64x16x128 .f32) (ix4 b t h d) = at5 (V (Proc.devRef .tc main_v75_1)) n b h t d :=
  take_apply _ _ n hn b t h d
include hn in
theorem v_apply (b : Fin 4) (t : Fin 64) (h : Fin 16) (d : Fin 128) :
    (res_main_while0b_v84 V : FVec Ideal S4x64x16x128 .f32) (ix4 b t h d) = at5 (V (Proc.devRef .tc main_v75_2)) n b h t d :=
  take_apply _ _ n hn b t h d
include hn in
theorem g_apply (b : Fin 4) (t : Fin 64) (h : Fin 16) (d : Fin 128) :
    (res_main_while0b_v87 V : FVec Ideal S4x64x16x128 .f32) (ix4 b t h d)
      = Spec.cum (at5 (V (Proc.devRef .tc main_v75_3)) n b h) t d := by
  refine (Cumsum.cumsum_chunk (take (V (Proc.devRef .tc main_v75_3)) (V (Proc.devRef .tc main_v75_7)))
    (broadcastInDim S_ ![] bcast_S_S_ (constant S_ .f32 0x00000000#32)) (fun _ => Scalars.zero_word) b t h d).trans ?_
  unfold Spec.cum
  refine Finset.sum_congr rfl fun s _ => ?_
  rw [take_apply _ _ n hn]

include hn htri in
theorem y_apply (b : Fin 4) (t : Fin 64) (h : Fin 16) (d : Fin 128) :
    (res_main_while0b_v109 V : FVec Ideal S4x64x16x128 .f32) (ix4 b t h d)
      = Spec.out (at5 (V (Proc.devRef .tc main_v75_0)) n b h) (at5 (V (Proc.devRef .tc main_v75_1)) n b h)
        (at5 (V (Proc.devRef .tc main_v75_2)) n b h) (at5 (V (Proc.devRef .tc main_v75_3)) n b h)
        (at4 (V (Proc.devRef .tc main_v75_8)) b h) t d := by
  pointwise [res_main_while0b_v109]
  simp only [htri, q_apply V n hn, k_apply V n hn, v_apply V n hn, g_apply V n hn, Entry.tri_apply]
  unfold Spec.out Spec.att
  refine congrArg₂ (· + ·) (Finset.sum_congr rfl fun s _ => ?_) (Finset.sum_congr rfl fun e _ => mul_comm _ _)
  rw [mul_comm]
  congr 1
  by_cases hs : s ≤ t
  · simp only [if_pos hs]
    rfl
  · simp only [if_neg hs]
    refine Finset.sum_eq_zero fun e _ => ?_
    show _ * _ * Ideal.ofBits .f32 0x00000000#32 = 0
    rw [Scalars.zero_word, mul_zero]

include hn in
theorem s_apply (b : Fin 4) (h : Fin 16) (d e : Fin 128) :
    (step_main_v75_8 V : FVec Ideal S4x16x128x128 .f32) (ix4 b h d e)
      = Spec.next (at5 (V (Proc.devRef .tc main_v75_1)) n b h) (at5 (V (Proc.devRef .tc main_v75_2)) n b h)
        (at5 (V (Proc.devRef .tc main_v75_3)) n b h) (at4 (V (Proc.devRef .tc main_v75_8)) b h) d e := by
  unfold step_main_v75_8
  dsimp only [id]
  pointwise [res_main_while0b_v111]
  simp only [k_apply V n hn, v_apply V n hn, g_apply V n hn]
  rfl

include hn htri in
theorem o_apply (k : Fin 32) (b : Fin 4) (t : Fin 64) (h : Fin 16) (d : Fin 128) :
    (step_main_v75_9 V : FVec Ideal S32x4x64x16x128 .f32) (ix5 k b t h d)
      = if k = n then
          Spec.norm (Spec.out (at5 (V (Proc.devRef .tc main_v75_0)) n b h) (at5 (V (Proc.devRef .tc main_v75_1)) n b h)
            (at5 (V (Proc.devRef .tc main_v75_2)) n b h) (at5 (V (Proc.devRef .tc main_v75_3)) n b h)
            (at4 (V (Proc.devRef .tc main_v75_8)) b h)) (at5 (V (Proc.devRef .tc main_v75_4)) n b h)
            (fun d => (V (Proc.devRef .tc main_v75_6) : FVec Ideal S16x128 .f32) (ix2 h d)) t d
        else (V (Proc.devRef .tc main_v75_9) : FVec Ideal S32x4x64x16x128 .f32) (ix5 k b t h d) := by
  refine (put_apply (V (Proc.devRef .tc main_v75_9)) (gated (res_main_while0b_v109 V)
    (take (V (Proc.devRef .tc main_v75_4)) (V (Proc.devRef .tc main_v75_7))) (V (Proc.devRef .tc main_v75_6)))
    (V (Proc.devRef .tc main_v75_7)) n hn k b t h d).trans ?_
  rw [gated_apply]
  simp only [y_apply V n hn htri, take_apply _ _ n hn]

end One

/-! ## The scan -/

section Scan

variable (m : (ℓ : Loc nD τ sig) → Buf (Elt Ideal) ℓ) (c : Dev nD)

/-- The joined projections, the bounds' arguments, the layer's states before the prompt and its norm weights. -/
def argA : Fin 9216 → Fin 8192 → EReal := fun r k => (m ((c.tc : Thread nD τ).loc main_arg0) : FVec Ideal S9216x8192 .f32) (ix2 r k)
def argB : Fin 2 → Fin 2048 → EReal := fun r k => (m ((c.tc : Thread nD τ).loc main_arg3) : FVec Ideal S2x2048 .f32) (ix2 r k)
def argS : Fin 4 → Fin 16 → Spec.State := fun b h d e => (m ((c.tc : Thread nD τ).loc main_arg1) : FVec Ideal S2x4x16x128x128 .f32) (ix5 1 b h d e)
def argW : Fin 2048 → EReal := fun k => (m ((c.tc : Thread nD τ).loc main_arg4) : FVec Ideal S2x2048 .f32) (ix2 1 k)

/-- What the scan holds after `n` steps. -/
structure After (n : Nat) (V : Valuation τ sig (Elt Ideal)) : Prop where
  ctr : (V (Proc.devRef .tc main_v75_7) : IVec S_ 32) = fun _ => BitVec.ofNat 32 n
  tri : (V (Proc.devRef .tc main_v75_5) : IVec S1x64x64x1x1 1) = Entry.tri
  q : ∀ k b h, at5 (V (Proc.devRef .tc main_v75_0)) k b h = Spec.queries (argA m c) b k h
  k : ∀ k b h, at5 (V (Proc.devRef .tc main_v75_1)) k b h = Spec.keys (argA m c) (argB m c) b k h
  v : ∀ k b h, at5 (V (Proc.devRef .tc main_v75_2)) k b h = Spec.vals (argA m c) b k h
  l : ∀ k b h, at5 (V (Proc.devRef .tc main_v75_3)) k b h = Spec.logs (argA m c) (argB m c) b k h
  z : ∀ k b h, at5 (V (Proc.devRef .tc main_v75_4)) k b h = Spec.gates (argA m c) b k h
  w : ∀ h d, (V (Proc.devRef .tc main_v75_6) : FVec Ideal S16x128 .f32) (ix2 h d) = argW m c (Spec.lane h d)
  s : ∀ b h, at4 (V (Proc.devRef .tc main_v75_8)) b h = Spec.stateAt (argA m c) (argB m c) (argS m c) b h n
  o : ∀ (k : Fin 32) b h, k.val < n → at5 (V (Proc.devRef .tc main_v75_9)) k b h
    = Spec.outAt (argA m c) (argB m c) (argS m c) (argW m c) b k h

theorem after_zero : After m c 0 (entryContents preI m c) where
  ctr := ctr_entry m c
  tri := Entry.entry5 m c
  q k b h := by funext t d; exact (congrFun (Entry.entry0 m c) _).trans (Entry.queries_apply _ k b t h d)
  k k b h := by funext t d; exact (congrFun (Entry.entry1 m c) _).trans (Entry.keys_chunk _ _ k b t h d)
  v k b h := by funext t d; exact (congrFun (Entry.entry2 m c) _).trans (Entry.vals_apply _ k b t h d)
  l k b h := by funext t d; exact (congrFun (Entry.entry3 m c) _).trans (Entry.logs_chunk _ _ k b t h d)
  z k b h := by funext t d; exact (congrFun (Entry.entry4 m c) _).trans (Entry.gates_apply _ k b t h d)
  w h d := (congrFun (Entry.entry6 m c) _).trans (Entry.weights_apply _ h d)
  s b h := by funext d e; exact (congrFun (Entry.entry8 m c) _).trans (Entry.state_apply _ b h d e)
  o k b h hk := absurd hk (Nat.not_lt_zero _)

theorem after_succ (n : Nat) (hn : n < 32) (V : Valuation τ sig (Elt Ideal)) (H : After m c n V) : After m c (n + 1) (STEP V) := by
  have hctr : (V (Proc.devRef .tc main_v75_7) : IVec S_ 32) = fun _ => BitVec.ofNat 32 (⟨n, hn⟩ : Fin 32).val := H.ctr
  have hof : (Fin.ofNat 32 n : Fin 32) = ⟨n, hn⟩ := Fin.ext (Nat.mod_eq_of_lt hn)
  refine ⟨?_, ?_, ?_, ?_, ?_, ?_, ?_, ?_, ?_, ?_⟩
  · rw [STEP_main_v75_7]
    show (addi (V (Proc.devRef .tc main_v75_7) : IVec S_ 32) (constantI S_ 32 1#32)) = _
    rw [H.ctr]
    funext j
    exact (BitVec.ofNat_add n 1).symm
  · rw [STEP_main_v75_5]; exact H.tri
  · rw [STEP_main_v75_0]; exact H.q
  · rw [STEP_main_v75_1]; exact H.k
  · rw [STEP_main_v75_2]; exact H.v
  · rw [STEP_main_v75_3]; exact H.l
  · rw [STEP_main_v75_4]; exact H.z
  · rw [STEP_main_v75_6]; exact H.w
  · intro b h
    rw [STEP_main_v75_8]
    funext d e
    refine (s_apply V ⟨n, hn⟩ hctr b h d e).trans ?_
    rw [H.k, H.v, H.l, H.s]
    show _ = Spec.next _ _ _ _ d e
    rw [hof]
  · intro k b h hk
    rw [STEP_main_v75_9]
    funext t d
    refine (o_apply V ⟨n, hn⟩ hctr H.tri k b t h d).trans ?_
    by_cases he : k = ⟨n, hn⟩
    · rw [if_pos he, H.q, H.k, H.v, H.l, H.z, H.s, funext (H.w h), he]
      rfl
    · rw [if_neg he]
      have hlt : k.val < n := lt_of_le_of_ne (Nat.lt_succ_iff.mp hk) (fun h' => he (Fin.ext h'))
      exact congrFun (congrFun (H.o k b h hlt) t) d

theorem after_all : ∀ n, n ≤ 32 → After m c n (STEP^[n] (entryContents preI m c))
  | 0, _ => after_zero m c
  | n + 1, h => by
    rw [Function.iterate_succ_apply']
    exact after_succ m c n h _ (after_all n (Nat.le_of_succ_le h))

/-! ## The two results -/

/-- The outputs: row `2048 b + 64 n + t`, column `128 h + d`. -/
theorem out_apply (b : Fin 4) (n : Fin 32) (t : Fin 64) (h : Fin 16) (d : Fin 128) :
    (out_main_v81 (STEP^[32] (entryContents preI m c)) : FVec Ideal S8192x2048 .bf16)
      (ix2 ⟨2048 * b.val + 64 * n.val + t.val, by omega⟩ (Spec.lane h d))
      = Spec.outAt (argA m c) (argB m c) (argS m c) (argW m c) b n h t d := by
  rw [← (after_all m c 32 (le_refl _)).o n b h n.isLt]
  generalize STEP^[32] (entryContents preI m c) = V
  pointwise [out_main_v81]
  refine congrArg (V (Proc.devRef .tc main_v75_9) : FVec Ideal S32x4x64x16x128 .f32) ?_
  have e4 : (⟨(Spec.lane h d).val / 128, by omega⟩ : Fin 16) = h := Fin.ext (by simp only [Spec.lane]; omega)
  have e5 : (⟨(Spec.lane h d).val % 128, by omega⟩ : Fin 128) = d := Fin.ext (by simp only [Spec.lane]; omega)
  exact (congrArg (fun k => ix5 _ _ _ k _) e4).trans (congrArg (fun k => ix5 _ _ _ _ k) e5)

/-- The states: layer 0's as given, layer 1's after the prompt. -/
theorem state_apply0 (b : Fin 4) (r : Fin 2048) (e : Fin 128) :
    (out_main_v78 (STEP^[32] (entryContents preI m c)) : FVec Ideal S2x4x2048x128 .f32) (ix4 0 b r e)
      = (m ((c.tc : Thread nD τ).loc main_arg2) : FVec Ideal S2x4x2048x128 .f32) (ix4 0 b r e) := by
  rw [← iter_main_arg2 m c 32]
  pointwise [out_main_v78]

theorem state_apply1 (b : Fin 4) (h : Fin 16) (d e : Fin 128) :
    (out_main_v78 (STEP^[32] (entryContents preI m c)) : FVec Ideal S2x4x2048x128 .f32) (ix4 1 b (Spec.lane h d) e)
      = Spec.stateAt (argA m c) (argB m c) (argS m c) b h 32 d e := by
  rw [← (after_all m c 32 (le_refl _)).s b h]
  generalize STEP^[32] (entryContents preI m c) = V
  pointwise [out_main_v78]
  refine congrArg (V (Proc.devRef .tc main_v75_8) : FVec Ideal S4x16x128x128 .f32) ?_
  have e4 : (⟨(Spec.lane h d).val / 128, by omega⟩ : Fin 16) = h := Fin.ext (by simp only [Spec.lane]; omega)
  have e5 : (⟨(Spec.lane h d).val % 128, by omega⟩ : Fin 128) = d := Fin.ext (by simp only [Spec.lane]; omega)
  exact (congrArg (fun k => ix4 _ k _ _) e4).trans (congrArg (fun k => ix4 _ _ k _) e5)

end Scan

end Cert.GlaRefIdeal.Step

end
-- ==== Proof.Agree.lean ====
/- The kernel's two result arrays are the reference's, entry by entry, when the arguments agree: both
   hold the specification's outputs and states. -/
module

public import proofs.«01_k».proof.Proof.Arrays
public import proofs.«01_k».proof.Proof.RefStep

@[expose] public section

set_option maxRecDepth 16384

noncomputable section

namespace Cert.GlaAgree

open Idealize.ShloMosaic Idealize.ShloMosaic.TcCoe Idealize.SL.Sem

variable (m : (ℓ : Loc GlaIdeal.nD GlaIdeal.τ GlaIdeal.sig) → Buf (Elt Ideal) ℓ)
  (m' : (ℓ : Loc GlaRefIdeal.nD GlaRefIdeal.τ GlaRefIdeal.sig) → Buf (Elt Ideal) ℓ) (c : Dev GlaIdeal.nD)

/-- The arguments agree on device `c`. -/
abbrev Args : Prop :=
  m' ((c.tc : Thread GlaRefIdeal.nD GlaRefIdeal.τ).loc GlaRefIdeal.main_arg0) = m ((c.tc : Thread GlaIdeal.nD GlaIdeal.τ).loc GlaIdeal.main_arg0)
  ∧ m' ((c.tc : Thread GlaRefIdeal.nD GlaRefIdeal.τ).loc GlaRefIdeal.main_arg1) = m ((c.tc : Thread GlaIdeal.nD GlaIdeal.τ).loc GlaIdeal.main_arg1)
  ∧ m' ((c.tc : Thread GlaRefIdeal.nD GlaRefIdeal.τ).loc GlaRefIdeal.main_arg2) = m ((c.tc : Thread GlaIdeal.nD GlaIdeal.τ).loc GlaIdeal.main_arg2)
  ∧ m' ((c.tc : Thread GlaRefIdeal.nD GlaRefIdeal.τ).loc GlaRefIdeal.main_arg3) = m ((c.tc : Thread GlaIdeal.nD GlaIdeal.τ).loc GlaIdeal.main_arg3)
  ∧ m' ((c.tc : Thread GlaRefIdeal.nD GlaRefIdeal.τ).loc GlaRefIdeal.main_arg4) = m ((c.tc : Thread GlaIdeal.nD GlaIdeal.τ).loc GlaIdeal.main_arg4)

theorem args_eq (h : Args m m' c) :
    GlaRefIdeal.Step.argA m' c = GlaIdeal.Blocks.argA m c ∧ GlaRefIdeal.Step.argB m' c = GlaIdeal.Blocks.argB m c
      ∧ GlaRefIdeal.Step.argS m' c = GlaIdeal.Blocks.argS m c ∧ GlaRefIdeal.Step.argW m' c = GlaIdeal.Blocks.argW m c := by
  obtain ⟨h0, h1, h2, h3, h4⟩ := h
  refine ⟨?_, ?_, ?_, ?_⟩
  · unfold GlaRefIdeal.Step.argA GlaIdeal.Blocks.argA; rw [h0]
  · unfold GlaRefIdeal.Step.argB GlaIdeal.Blocks.argB; rw [h3]
  · unfold GlaRefIdeal.Step.argS GlaIdeal.Blocks.argS; rw [h1]
  · unfold GlaRefIdeal.Step.argW GlaIdeal.Blocks.argW; rw [h4]

/-- Column `k` of an array of 2048 columns is some head's. -/
theorem lane_split (k : Fin 2048) : ∃ h d, k = Spec.lane h d :=
  ⟨⟨k.val / 128, by omega⟩, ⟨k.val % 128, by omega⟩, Fin.ext (by simp only [Spec.lane]; omega)⟩

/-- The outputs are the reference's. -/
theorem outputs (h : Args m m' c) :
    (GlaRefIdeal.Value.out_main_v81 (GlaRefIdeal.Value.STEP^[32] (StableHlo.entryContents GlaRefIdeal.Value.preI m' c)) : FVec Ideal GlaIdeal.S8192x2048 .bf16)
      = (GlaIdeal.Gen.dats m 0 c).arrAt 7 GlaIdeal.cfg0.N := by
  obtain ⟨hA, hB, hS, hW⟩ := args_eq m m' c h
  funext i
  idx_vars i
  obtain ⟨h, d, rfl⟩ := lane_split i1
  obtain ⟨b, n, t, rfl⟩ : ∃ (b : Fin 4) (n : Fin 32) (t : Fin 64), i0 = (⟨2048 * b.val + 64 * n.val + t.val, by omega⟩ : Fin 8192) :=
    ⟨⟨i0.val / 2048, by omega⟩, ⟨i0.val / 64 % 32, by omega⟩, ⟨i0.val % 64, by omega⟩, Fin.ext (by simp only []; omega)⟩
  rw [GlaIdeal.Arrays.array7]
  refine (GlaRefIdeal.Step.out_apply m' c b n t h d).trans ?_
  rw [hA, hB, hS, hW]

/-- The states are the reference's. -/
theorem states (h : Args m m' c) :
    (GlaRefIdeal.Value.out_main_v78 (GlaRefIdeal.Value.STEP^[32] (StableHlo.entryContents GlaRefIdeal.Value.preI m' c)) : FVec Ideal GlaIdeal.S2x4x2048x128 .f32)
      = (GlaIdeal.Gen.dats m 0 c).arrAt 8 GlaIdeal.cfg0.N := by
  obtain ⟨hA, hB, hS, hW⟩ := args_eq m m' c h
  funext i
  idx_vars i
  have hi : i0 = 0 ∨ i0 = 1 := by omega
  rcases hi with rfl | rfl
  · rw [GlaIdeal.Arrays.array8_0]
    refine (GlaRefIdeal.Step.state_apply0 m' c i1 i2 i3).trans ?_
    rw [h.2.2.1]
  · obtain ⟨h, d, rfl⟩ := lane_split i2
    rw [GlaIdeal.Arrays.array8_1]
    refine (GlaRefIdeal.Step.state_apply1 m' c i1 h d i3).trans ?_
    rw [hA, hB, hS]

end Cert.GlaAgree

end
-- ==== Proof.Tiles.lean ====
/- What the layers' matrix products share: a value one grid point sets and the points after it keep, and
   coordinates split into tile and place. -/
module

public import Idealize.ShloMosaic.Lib.Pipeline.Value
public import Idealize.ShloMosaic.Lib.Pipeline.ValueKit.Basic
public import Idealize.ShloMosaic.Lib.Pointwise
public import Idealize.ShloMosaic.Lib.StableHlo.RunRead
public import Idealize.ShloMosaic.Lib.Tactic

@[expose] public section

namespace Cert.Tiles

open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl

/-- Of `q` runs of `p` points each, point `i` of run `j`. -/
theorem point_lt {p q : Nat} (j : Fin q) (i : Fin p) : p * j.val + i.val < p * q :=
  calc p * j.val + i.val < p * j.val + p := Nat.add_lt_add_left i.isLt _
    _ = p * (j.val + 1) := (Nat.mul_succ _ _).symm
    _ ≤ p * q := Nat.mul_le_mul_left _ j.isLt

/-- A value set at the first point of each run of `p` points and kept at the others is, over a run, the one its first
    point set. -/
theorem carried {β : Type} {N p : Nat} (s w : (n : Nat) → n < N → β)
    (first : ∀ n h, n % p = 0 → s n h = w n h)
    (later : ∀ n h, ¬n % p = 0 → s n h = s (n - 1) (Nat.lt_of_le_of_lt (Nat.sub_le _ _) h))
    (j i : Nat) (hi : i < p) (h : p * j + i < N) (h0 : p * j < N) : s (p * j + i) h = w (p * j) h0 := by
  induction i with
  | zero => exact first _ _ (Nat.mul_mod_right _ _)
  | succ i ih =>
    have hne : ¬(p * j + (i + 1)) % p = 0 := by
      rw [Nat.mul_add_mod, Nat.mod_eq_of_lt hi]; exact Nat.succ_ne_zero i
    exact (later _ h hne).trans (ih (Nat.lt_of_succ_lt hi) (Nat.lt_of_succ_lt h))

/-- Every coordinate of an axis of `q` tiles of `p` is a place in some tile. -/
theorem split {p q n : Nat} (hp : 0 < p) (hn : n = p * q) (k : Fin n) :
    ∃ (j : Fin q) (i : Fin p), k = ⟨p * j.val + i.val, hn ▸ point_lt j i⟩ :=
  ⟨⟨k.val / p, Nat.div_lt_of_lt_mul (hn ▸ k.isLt)⟩, ⟨k.val % p, Nat.mod_lt _ hp⟩, Fin.ext (Nat.div_add_mod _ _).symm⟩

/-- The rows of two batches, the first batch's 8192 before the second's 1024. -/
def joined {n : Nat} (p : (⟨2, ![8192, n]⟩ : Shape).Idx → EReal) (s : (⟨2, ![1024, n]⟩ : Shape).Idx → EReal) (r : Fin 9216) (l : Fin n) : EReal :=
  if h : r.val < 8192 then p (ix2 ⟨r.val, h⟩ l) else s (ix2 ⟨r.val - 8192, by omega⟩ l)

/-- A row tile read from the first batch until its rows end, and from the second then, is the joined rows' tile. -/
theorem joined_tile {n : Nat} (p : (⟨2, ![8192, n]⟩ : Shape).Idx → EReal) (s : (⟨2, ![1024, n]⟩ : Shape).Idx → EReal) (x z : (⟨2, ![1024, n]⟩ : Shape).Idx → EReal)
    (i : Fin 9) (hx : ∀ (r : Fin 1024) (l : Fin n) (h : i.val ≤ 7), x (ix2 r l) = p (ix2 ⟨1024 * i.val + r.val, by omega⟩ l))
    (hz : ∀ (r : Fin 1024) (l : Fin n), z (ix2 r l) = s (ix2 r l)) (r : Fin 1024) (l : Fin n) (q : Nat) (hq : q = i.val) :
    (if q ≤ 7 then x else z) (ix2 r l) = joined p s ⟨1024 * i.val + r.val, by omega⟩ l := by
  subst hq
  unfold joined
  by_cases h7 : i.val ≤ 7
  · rw [if_pos h7, dif_pos (by show 1024 * i.val + r.val < 8192; omega)]
    exact hx r l h7
  · rw [if_neg h7, dif_neg (by show ¬1024 * i.val + r.val < 8192; omega)]
    refine (hz r l).trans (congrArg (fun a => s (ix2 a l)) (Fin.ext ?_))
    show r.val = 1024 * i.val + r.val - 8192
    omega

end Cert.Tiles
-- ==== Proof.FfnUp.lean ====
/- The first product of the feed-forward layer: the kernel keeps a column tile of the layer's weights in
   scratch over the nine row tiles, so each entry of its result is the squared positive part of the
   row's product with the column, as the reference computes it. -/
module

public import proofs.«01_k».proof.Proof.Gen.UpIdeal.Frame
public import proofs.«01_k».proof.Proof.Gen.UpRefIdeal.Run
public import proofs.«01_k».proof.Proof.Tiles

@[expose] public section

set_option maxRecDepth 16384

noncomputable section

namespace Cert.UpIdeal.Entry

open Cert.Tiles Cert.UpIdeal Cert.UpIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S1024x2048 .bf16) (h2 : a2.IsWhole)
  (a3 : Memref sig .tc .vmem S1x2048x1024 .f32) (h3 : a3.IsWhole) (a4 : Memref sig .tc .vmem S1024x1024 .bf16) (h4 : a4.IsWhole)
  (a5 : Memref sig .tc .vmem S2048x1024 .bf16) (h5 : a5.IsWhole)

/-- A later row tile's result: its rows against the weights in scratch. -/
theorem out_B (hc : ¬cond0_0 i) (x : Vec F S1024x2048 .bf16) (w : Vec F S1x2048x1024 .f32) (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S2048x1024) zeros2]

/-- The first row tile leaves the weights' tile in scratch. -/
theorem scratch_A (hc : cond0_0 i) (x : Vec F S1024x2048 .bf16) (w : Vec F S1x2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1x2048x1024) zeros3]

/-- The first row tile's result: its rows against the weights' tile. -/
theorem out_A (hc : cond0_0 i) (x : Vec F S1024x2048 .bf16) (w : Vec F S1x2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S2048x1024) _ zeros2]
  simp only [View.readAt_eq_ld, h2.read_unread, h3.read_unread, View.ld_unit_zero (S := S1024x2048) zeros2, View.ld_unit_zero (S := S1x2048x1024) zeros3]

variable (m : (ℓ : Loc nD τ sig) → Buf (Elt F) ℓ)

/-- The grid point of row tile `i` against column tile `j`. -/
def point (j : Fin 8) (i : Fin 9) : Fin cfg0.N := ⟨9 * j.val + i.val, by rw [show cfg0.N = 72 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 8) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 8) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1x2048x1024 .f32) (l : Fin 2048) (k : Fin 1024) :
    (k0_pay1 (F := Ideal) w (ix2 l k) : EReal) = w (ix3 0 l k) := by
  pointwise [k0_pay1]

/-- A result's entry: the squared positive part of the product of row and column. -/
theorem pay2_apply (x : FVec Ideal S1024x2048 .bf16) (w : FVec Ideal S2048x1024 .bf16) (r k : Fin 1024) :
    (k0_pay2 (F := Ideal) x w (ix2 r k) : EReal)
      = max (∑ l : Fin 2048, x (ix2 r l) * w (ix2 l k)) 0 * max (∑ l : Fin 2048, x (ix2 r l) * w (ix2 l k)) 0 := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 1 ∧ win0_1.index t 1 = 0 ∧ win0_1.index t 2 = t.val / 9 :=
  (by decide +kernel : ∀ t : Fin grid0.N, win0_1.index t 0 = 1 ∧ win0_1.index t 1 = 0 ∧ win0_1.index t 2 = t.val / 9)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S4x2048x8192 .f32 := m ((c.tc : Thread nD τ).loc main_arg1)

theorem block0 (j : Fin 8) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v0 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

theorem block1 (j : Fin 8) (l : Fin 2048) (k : Fin 1024) :
    ((iblk m c 1 (point j 0) : FVec Ideal S1x2048x1024 .f32) (ix3 0 l k) : EReal) = argW m c (ix3 1 l ⟨1024 * j.val + k.val, by omega⟩) := by
  unfold iblk
  rw [View.read_apply]
  show V m c main_arg1 _ = _
  rw [V_main_arg1]
  refine congrArg (argW m c) ?_
  funext a
  apply Fin.ext
  match a with
  | ⟨0, _⟩ =>
    show win0_1.index (point j 0) 0 * 1 + 1 * 0 = 1
    rw [(index1 _).1]
  | ⟨1, _⟩ =>
    show win0_1.index (point j 0) 1 * 2048 + 1 * l.val = l.val
    rw [(index1 _).2.1]; omega
  | ⟨2, _⟩ =>
    show win0_1.index (point j 0) 2 * 1024 + 1 * k.val = 1024 * j.val + k.val
    rw [(index1 _).2.2]; simp only [point, Fin.val_zero]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with a column of the layer's weights. -/
def product (r : Fin 9216) (k : Fin 8192) : EReal := ∑ l : Fin 2048, argX m c (ix2 r l) * argW m c (ix3 1 l k)

/-- The kernel's result, entry by entry. -/
theorem result (j : Fin 8) (i : Fin 9) (r k : Fin 1024) :
    ((dats m 0 c).arrAt 2 cfg0.N : FVec Ideal S9216x8192 .bf16) (ix2 ⟨1024 * i.val + r.val, by omega⟩ ⟨1024 * j.val + k.val, by omega⟩)
      = max (product m c ⟨1024 * i.val + r.val, by omega⟩ ⟨1024 * j.val + k.val, by omega⟩) 0
        * max (product m c ⟨1024 * i.val + r.val, by omega⟩ ⟨1024 * j.val + k.val, by omega⟩) 0 := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x8192.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x8192 .bf16) hi).symm.trans (hb.trans ?_)
  show ((dats m 0 c).after 2 (point j i) : FVec Ideal S1024x1024 .bf16) (ix2 r k) = _
  rw [after0_2, out_at, pay2_apply]
  simp only [pay1_apply, block0, block1]
  rfl

end Cert.UpIdeal.Entry

namespace Cert.UpRefIdeal.Entry

open Cert.UpRefIdeal Cert.UpRefIdeal.Gen Idealize.ShloMosaic Idealize.ShloMosaic.TcCoe Idealize.SL.Sem

/-- The reference's result from its arguments. -/
def term (x : FVec Ideal S9216x2048 .f32) (w : FVec Ideal S4x2048x8192 .f32) : FVec Ideal S9216x8192 .bf16 :=
  truncf .bf16 (mulf (maximumf (Host.dotGeneral dot_S9216x2048_S2048x8192_S9216x8192_1_0_0_1_n_n none x (shapeCast _ (extractStridedSlice S1x2048x8192 ![1, 0, 0] w slices_S4x2048x8192_S1x2048x8192_1_0_0) shapeCasts_S1x2048x8192_S2048x8192)) (broadcastInDim S9216x8192 ![] bcast_S_S9216x8192 (constant S_ .f32 0x00000000#32))) (maximumf (Host.dotGeneral dot_S9216x2048_S2048x8192_S9216x8192_1_0_0_1_n_n none x (shapeCast _ (extractStridedSlice S1x2048x8192 ![1, 0, 0] w slices_S4x2048x8192_S1x2048x8192_1_0_0) shapeCasts_S1x2048x8192_S2048x8192)) (broadcastInDim S9216x8192 ![] bcast_S_S9216x8192 (constant S_ .f32 0x00000000#32)))) bitsLt_bf16_f32

/-- Its entries. -/
theorem term_apply (x : FVec Ideal S9216x2048 .f32) (w : FVec Ideal S4x2048x8192 .f32) (r : Fin 9216) (k : Fin 8192) :
    (term x w (ix2 r k) : EReal)
      = max (∑ l : Fin 2048, x (ix2 r l) * w (ix3 1 l k)) 0 * max (∑ l : Fin 2048, x (ix2 r l) * w (ix3 1 l k)) 0 := by
  pointwise [term]

end Cert.UpRefIdeal.Entry

namespace Cert.UpAgree

open Idealize.ShloMosaic Idealize.ShloMosaic.TcCoe Idealize.SL.Sem

/-- The kernel's result is the reference's, of the same arguments. -/
theorem outputs (m : (ℓ : Loc UpIdeal.nD UpIdeal.τ UpIdeal.sig) → Buf (Elt Ideal) ℓ) (c : Dev UpIdeal.nD) :
    UpRefIdeal.Entry.term (UpIdeal.Entry.argX m c) (UpIdeal.Entry.argW m c) = (UpIdeal.Gen.dats m 0 c).arrAt 2 UpIdeal.cfg0.N := by
  funext i
  idx_vars i
  obtain ⟨p, r, rfl⟩ := Tiles.split (p := 1024) (q := 9) (by decide) rfl i0
  obtain ⟨j, k, rfl⟩ := Tiles.split (p := 1024) (q := 8) (by decide) rfl i1
  rw [UpIdeal.Entry.result]
  exact UpRefIdeal.Entry.term_apply ..

end Cert.UpAgree

end
-- ==== Proof.FfnDown.lean ====
/- The second product of the feed-forward layer: the kernel keeps a column tile of the layer's weights in
   scratch over the eighteen row tiles, so each entry of its result is the residual's entry and the
   row's product with the column, as the reference computes it. -/
module

public import proofs.«01_k».proof.Proof.Gen.DownIdeal.Frame
public import proofs.«01_k».proof.Proof.Gen.DownRefIdeal.Run
public import proofs.«01_k».proof.Proof.Tiles

@[expose] public section

set_option maxRecDepth 16384

noncomputable section

namespace Cert.DownIdeal.Entry

open Cert.Tiles Cert.DownIdeal Cert.DownIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S512x8192 .bf16) (h2 : a2.IsWhole)
  (a3 : Memref sig .tc .vmem S1x8192x512 .f32) (h3 : a3.IsWhole) (a4 : Memref sig .tc .vmem S512x512 .f32) (h4 : a4.IsWhole)
  (a5 : Memref sig .tc .vmem S512x512 .f32) (h5 : a5.IsWhole) (a6 : Memref sig .tc .vmem S8192x512 .bf16) (h6 : a6.IsWhole)

/-- A later row tile's result: its rows against the weights in scratch, and the residual. -/
theorem out_B (hc : ¬cond0_0 i) (x : Vec F S512x8192 .bf16) (w : Vec F S1x8192x512 .f32) (y : Vec F S512x512 .f32) (s : Vec F S8192x512 .bf16) :
    out0_B_3 c i a2 h2 a3 h3 a4 h4 a5 h5 a6 h6 hc x w y s = k0_pay2 x s y := by
  unfold out0_B_3
  rw [View.read_writes_eq_canon _ _ _ (cover0_B_3 c i a2 h2 a3 h3 a4 h4 a5 h5 a6 h6 hc x w y s)]
  unfold kernelRun0_B
  dsimp only
  rw [View.canon_unit_zero zeros2]
  simp only [View.readAt_eq_ld, h2.read_unread, h4.read_unread, h6.read_unread, View.ld_unit_zero (S := S512x8192) zeros2,
    View.ld_unit_zero (S := S512x512) zeros2, View.ld_unit_zero (S := S8192x512) zeros2]

/-- The first row tile leaves the weights' tile in scratch. -/
theorem scratch_A (hc : cond0_0 i) (x : Vec F S512x8192 .bf16) (w : Vec F S1x8192x512 .f32) (y : Vec F S512x512 .f32) :
    sout0_A_0 c i a2 h2 a3 h3 a4 h4 a5 h5 a6 h6 hc x w y = k0_pay1 w := by
  unfold sout0_A_0
  rw [View.read_writes_eq_canon _ _ _ (scover0_A_0 c i a2 h2 a3 h3 a4 h4 a5 h5 a6 h6 hc x w y)]
  unfold kernelRun0_A
  dsimp only
  sl_unfold_words
  rw [View.canon_unit_zero zeros2]
  simp only [View.readAt_eq_ld, h3.read_unread, View.ld_unit_zero (S := S1x8192x512) zeros3]

/-- The first row tile's result: its rows against the weights' tile, and the residual. -/
theorem out_A (hc : cond0_0 i) (x : Vec F S512x8192 .bf16) (w : Vec F S1x8192x512 .f32) (y : Vec F S512x512 .f32) :
    out0_A_3 c i a2 h2 a3 h3 a4 h4 a5 h5 a6 h6 hc x w y = k0_pay2 x (k0_pay1 w) y := by
  unfold out0_A_3
  rw [View.read_writes_eq_canon _ _ _ (cover0_A_3 c i a2 h2 a3 h3 a4 h4 a5 h5 a6 h6 hc x w y)]
  unfold kernelRun0_A
  dsimp only
  sl_unfold_words
  rw [View.canon_unit_zero zeros2, View.readCov_unit_zero (S := S8192x512) _ zeros2]
  simp only [View.readAt_eq_ld, h2.read_unread, h3.read_unread, h4.read_unread, View.ld_unit_zero (S := S512x8192) zeros2,
    View.ld_unit_zero (S := S512x512) zeros2, View.ld_unit_zero (S := S1x8192x512) zeros3]

variable (m : (ℓ : Loc nD τ sig) → Buf (Elt F) ℓ)

/-- The grid point of row tile `i` against column tile `j`. -/
def point (j : Fin 4) (i : Fin 18) : Fin cfg0.N := ⟨18 * j.val + i.val, by rw [show cfg0.N = 72 from N_0]; omega⟩

/-- At a column tile's first point the scratch takes the tile's weights. -/
theorem scratch_first (t : Fin cfg0.N) (h : t.val % 18 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 18 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 4) (i : Fin 18) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 4) (i : Fin 18) :
    (outsAt0 m c (point j i).val (point j i).isLt).1 = k0_pay2 (iblk m c 0 (point j i)) (k0_pay1 (iblk m c 1 (point j 0))) (iblk m c 2 (point j i)) := by
  by_cases h : (point j i).val % 18 = 0
  · have hi : i = 0 := Fin.ext (by change (18 * j.val + i.val) % 18 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1x8192x512 .f32) (l : Fin 8192) (k : Fin 512) :
    (k0_pay1 (F := Ideal) w (ix2 l k) : EReal) = w (ix3 0 l k) := by
  pointwise [k0_pay1]

/-- A result's entry: the residual and the product of row and column. -/
theorem pay2_apply (x : FVec Ideal S512x8192 .bf16) (w : FVec Ideal S8192x512 .bf16) (y : FVec Ideal S512x512 .f32) (r k : Fin 512) :
    (k0_pay2 (F := Ideal) x w y (ix2 r k) : EReal) = y (ix2 r k) + ∑ l : Fin 8192, x (ix2 r l) * w (ix2 l k) := by
  pointwise [k0_pay2]

variable (m : (ℓ : Loc nD τ sig) → Buf (Elt Ideal) ℓ) (c : Dev nD)

theorem index0 : ∀ t : Fin cfg0.N, win0_0.index t 0 = t.val % 18 ∧ win0_0.index t 1 = 0 :=
  (by decide +kernel : ∀ t : Fin grid0.N, win0_0.index t 0 = t.val % 18 ∧ win0_0.index t 1 = 0)
theorem index1 : ∀ t : Fin cfg0.N, win0_1.index t 0 = 1 ∧ win0_1.index t 1 = 0 ∧ win0_1.index t 2 = t.val / 18 :=
  (by decide +kernel : ∀ t : Fin grid0.N, win0_1.index t 0 = 1 ∧ win0_1.index t 1 = 0 ∧ win0_1.index t 2 = t.val / 18)
theorem index2 : ∀ t : Fin cfg0.N, win0_2.index t 0 = t.val % 18 ∧ win0_2.index t 1 = t.val / 18 :=
  (by decide +kernel : ∀ t : Fin grid0.N, win0_2.index t 0 = t.val % 18 ∧ win0_2.index t 1 = t.val / 18)

theorem index3 : ∀ t : Fin cfg0.N, win0_3.index t 0 = t.val % 18 ∧ win0_3.index t 1 = t.val / 18 :=
  (by decide +kernel : ∀ t : Fin grid0.N, win0_3.index t 0 = t.val % 18 ∧ win0_3.index t 1 = t.val / 18)

/-- The layer's operand, all layers' weights and the residual. -/
def argX : FVec Ideal S9216x8192 .f32 := m ((c.tc : Thread nD τ).loc main_arg0)
def argW : FVec Ideal S4x8192x2048 .f32 := m ((c.tc : Thread nD τ).loc main_arg1)
def argY : FVec Ideal S9216x2048 .f32 := m ((c.tc : Thread nD τ).loc main_arg2)

theorem block0 (j : Fin 4) (i : Fin 18) (r : Fin 512) (l : Fin 8192) :
    ((iblk m c 0 (point j i) : FVec Ideal S512x8192 .bf16) (ix2 r l) : EReal) = argX m c (ix2 ⟨512 * i.val + r.val, by omega⟩ l) := by
  have hV : (V m c main_v0 : FVec Ideal S9216x8192 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 512 + 1 * r.val = 512 * i.val + r.val
    rw [(index0 _).1]; simp only [point]; omega
  | ⟨1, _⟩ =>
    show win0_0.index (point j i) 1 * 8192 + 1 * l.val = l.val
    rw [(index0 _).2]; omega

theorem block1 (j : Fin 4) (l : Fin 8192) (k : Fin 512) :
    ((iblk m c 1 (point j 0) : FVec Ideal S1x8192x512 .f32) (ix3 0 l k) : EReal) = argW m c (ix3 1 l ⟨512 * j.val + k.val, by omega⟩) := by
  unfold iblk
  rw [View.read_apply]
  show V m c main_arg1 _ = _
  rw [V_main_arg1]
  refine congrArg (argW m c) ?_
  funext a
  apply Fin.ext
  match a with
  | ⟨0, _⟩ =>
    show win0_1.index (point j 0) 0 * 1 + 1 * 0 = 1
    rw [(index1 _).1]
  | ⟨1, _⟩ =>
    show win0_1.index (point j 0) 1 * 8192 + 1 * l.val = l.val
    rw [(index1 _).2.1]; omega
  | ⟨2, _⟩ =>
    show win0_1.index (point j 0) 2 * 512 + 1 * k.val = 512 * j.val + k.val
    rw [(index1 _).2.2]; simp only [point, Fin.val_zero]; omega

/-- A point's tile of the residual. -/
theorem block2 (j : Fin 4) (i : Fin 18) (r k : Fin 512) :
    ((iblk m c 2 (point j i) : FVec Ideal S512x512 .f32) (ix2 r k) : EReal)
      = argY m c (ix2 ⟨512 * i.val + r.val, by omega⟩ ⟨512 * j.val + k.val, by omega⟩) := by
  unfold iblk
  rw [View.read_apply]
  show V m c main_arg2 _ = _
  rw [V_main_arg2]
  refine congrArg (argY m c) ?_
  funext a
  apply Fin.ext
  match a with
  | ⟨0, _⟩ =>
    show win0_2.index (point j i) 0 * 512 + 1 * r.val = 512 * i.val + r.val
    rw [(index2 _).1]; simp only [point]; omega
  | ⟨1, _⟩ =>
    show win0_2.index (point j i) 1 * 512 + 1 * k.val = 512 * j.val + k.val
    rw [(index2 _).2]; simp only [point]; omega

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h0 : win0_3.index t 0 = win0_3.index t' 0 := congrFun h 0
    have h1 : win0_3.index t 1 = win0_3.index t' 1 := congrFun h 1
    rw [(index3 t).1, (index3 t').1] at h0
    rw [(index3 t).2, (index3 t').2] at h1
    omega))

/-- The product of a row with a column of the layer's weights. -/
def product (r : Fin 9216) (k : Fin 2048) : EReal := ∑ l : Fin 8192, argX m c (ix2 r l) * argW m c (ix3 1 l k)

/-- The kernel's result, entry by entry. -/
theorem result (j : Fin 4) (i : Fin 18) (r k : Fin 512) :
    ((dats m 0 c).arrAt 3 cfg0.N : FVec Ideal S9216x2048 .f32) (ix2 ⟨512 * i.val + r.val, by omega⟩ ⟨512 * j.val + k.val, by omega⟩)
      = argY m c (ix2 ⟨512 * i.val + r.val, by omega⟩ ⟨512 * j.val + k.val, by omega⟩)
        + product m c ⟨512 * i.val + r.val, by omega⟩ ⟨512 * j.val + k.val, by omega⟩ := by
  have hb := congrFun ((dats m 0 c).read_blk_arrAt_eq_flushed 3 disjoint3 cfg0.N (point j i) (point j i).isLt (flush0_3 _)) (ix2 r k : S512x512.Idx)
  rw [View.read_apply] at hb
  have hi : ((cfg0.win 3).blk (point j i)).view.emb (ix2 r k : S512x512.Idx)
      = (ix2 ⟨512 * i.val + r.val, by omega⟩ ⟨512 * j.val + k.val, by omega⟩ : S9216x2048.Idx) := by
    funext a
    apply Fin.ext
    match a with
    | ⟨0, _⟩ =>
      show win0_3.index (point j i) 0 * 512 + 1 * r.val = 512 * i.val + r.val
      rw [(index3 _).1]; simp only [point]; omega
    | ⟨1, _⟩ =>
      show win0_3.index (point j i) 1 * 512 + 1 * k.val = 512 * j.val + k.val
      rw [(index3 _).2]; simp only [point]; omega
  refine (congrArg ((dats m 0 c).arrAt 3 cfg0.N : FVec Ideal S9216x2048 .f32) hi).symm.trans (hb.trans ?_)
  show ((dats m 0 c).after 3 (point j i) : FVec Ideal S512x512 .f32) (ix2 r k) = _
  rw [after0_3, out_at, pay2_apply]
  simp only [pay1_apply, block0, block1, block2]
  rfl

end Cert.DownIdeal.Entry

namespace Cert.DownRefIdeal.Entry

open Cert.DownRefIdeal Cert.DownRefIdeal.Gen Idealize.ShloMosaic Idealize.ShloMosaic.TcCoe Idealize.SL.Sem

/-- The reference's result from its arguments. -/
def term (x : FVec Ideal S9216x8192 .f32) (w : FVec Ideal S4x8192x2048 .f32) (y : FVec Ideal S9216x2048 .f32) : FVec Ideal S9216x2048 .f32 :=
  addf y (Host.dotGeneral dot_S9216x8192_S8192x2048_S9216x2048_1_0_0_1_n_n none x (shapeCast _ (extractStridedSlice S1x8192x2048 ![1, 0, 0] w slices_S4x8192x2048_S1x8192x2048_1_0_0) shapeCasts_S1x8192x2048_S8192x2048))

/-- Its entries. -/
theorem term_apply (x : FVec Ideal S9216x8192 .f32) (w : FVec Ideal S4x8192x2048 .f32) (y : FVec Ideal S9216x2048 .f32) (r : Fin 9216) (k : Fin 2048) :
    (term x w y (ix2 r k) : EReal) = y (ix2 r k) + ∑ l : Fin 8192, x (ix2 r l) * w (ix3 1 l k) := by
  pointwise [term]

end Cert.DownRefIdeal.Entry

namespace Cert.DownAgree

open Idealize.ShloMosaic Idealize.ShloMosaic.TcCoe Idealize.SL.Sem

/-- The kernel's result is the reference's, of the same arguments. -/
theorem outputs (m : (ℓ : Loc DownIdeal.nD DownIdeal.τ DownIdeal.sig) → Buf (Elt Ideal) ℓ) (c : Dev DownIdeal.nD) :
    DownRefIdeal.Entry.term (DownIdeal.Entry.argX m c) (DownIdeal.Entry.argW m c) (DownIdeal.Entry.argY m c) = (DownIdeal.Gen.dats m 0 c).arrAt 3 DownIdeal.cfg0.N := by
  funext i
  idx_vars i
  obtain ⟨p, r, rfl⟩ := Tiles.split (p := 512) (q := 18) (by decide) rfl i0
  obtain ⟨j, k, rfl⟩ := Tiles.split (p := 512) (q := 4) (by decide) rfl i1
  rw [DownIdeal.Entry.result]
  exact DownRefIdeal.Entry.term_apply ..

end Cert.DownAgree

end
-- ==== Proof.HgrnProj.lean ====
/- The input projection of the layer's gated recurrent part: columns 5152 to 13343 of the layer's input weights.
   The kernel transposes and stacks all layers' weights, and keeps a tile of the second layer's rows in
   scratch over the nine row tiles; each entry of its result is the product of the operand's row with
   the weights' column, as the reference computes it. -/
module

public import proofs.«01_k».proof.Proof.Gen.HgrnInIdeal.Frame
public import proofs.«01_k».proof.Proof.Gen.HgrnInRefIdeal.Run
public import proofs.«01_k».proof.Proof.Tiles

@[expose] public section

set_option maxRecDepth 16384

noncomputable section

namespace Cert.HgrnInIdeal.Entry

open Cert.Tiles Cert.HgrnInIdeal Cert.HgrnInIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S1024x2048 .bf16) (h5 : a5.IsWhole)

/-- A later row tile's result: its rows against the weights in scratch. -/
theorem out_B (hc : ¬cond0_0 i) (x : Vec F S1024x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S1024x2048) zeros2]

/-- The first row tile leaves the weights' tile in scratch. -/
theorem scratch_A (hc : cond0_0 i) (x : Vec F S1024x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1024x2048) zeros2]

/-- The first row tile's result: its rows against the weights' tile. -/
theorem out_A (hc : cond0_0 i) (x : Vec F S1024x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S1024x2048) _ zeros2]
  simp only [View.readAt_eq_ld, h2.read_unread, h3.read_unread, View.ld_unit_zero (S := S1024x2048) zeros2, View.ld_unit_zero (S := S1024x2048) zeros2]

variable (m : (ℓ : Loc nD τ sig) → Buf (Elt F) ℓ)

/-- The grid point of row tile `i` against column tile `j`. -/
def point (j : Fin 8) (i : Fin 9) : Fin cfg0.N := ⟨9 * j.val + i.val, by rw [show cfg0.N = 72 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 8) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 8) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1024x2048 .f32) (k : Fin 1024) (l : Fin 2048) :
    (k0_pay1 (F := Ideal) w (ix2 k l) : EReal) = w (ix2 k l) := by
  pointwise [k0_pay1]

/-- A result's entry: the product of a row of the operand with a row of the weights. -/
theorem pay2_apply (x : FVec Ideal S1024x2048 .bf16) (w : FVec Ideal S1024x2048 .bf16) (r k : Fin 1024) :
    (k0_pay2 (F := Ideal) x w (ix2 r k) : EReal) = ∑ l : Fin 2048, x (ix2 r l) * w (ix2 k l) := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 18496 + 1024 * (t.val / 9) ∧ win0_1.index t 1 = 0 :=
  (by decide +kernel : ∀ t : Fin grid0.N, win0_1.index t 0 = 18496 + 1024 * (t.val / 9) ∧ win0_1.index t 1 = 0)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S2x2048x13344 .f32 := m ((c.tc : Thread nD τ).loc main_arg1)

theorem block0 (j : Fin 8) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v1 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

/-- The layers' weights with their rows transposed and stacked. -/
def stacked (w : FVec Ideal S2x2048x13344 .f32) : FVec Ideal S26688x2048 .f32 :=
  shapeCast _ (transpose S2x13344x2048 [0, 2, 1] w transposes_S2x2048x13344_S2x13344x2048_0_2_1) shapeCasts_S2x13344x2048_S26688x2048

/-- The second layer's rows of the stack. -/
theorem stacked_apply (w : FVec Ideal S2x2048x13344 .f32) (n : Fin 26688) (k : Fin 13344) (l : Fin 2048) (h : n.val = 13344 + k.val) :
    (stacked w (ix2 n l) : EReal) = w (ix3 1 l k) := by
  have hn : n = ⟨13344 + k.val, by omega⟩ := Fin.ext h
  have hd : (13344 + k.val) / 13344 = 1 := by omega
  rw [hn]
  pointwise [stacked]
  exact congrArg (fun a => w (ix3 a l k)) (Fin.ext hd)

theorem block1 (j : Fin 8) (k : Fin 1024) (l : Fin 2048) :
    ((iblk m c 1 (point j 0) : FVec Ideal S1024x2048 .f32) (ix2 k l) : EReal) = argW m c (ix3 1 l ⟨5152 + (1024 * j.val + k.val), by omega⟩) := by
  have hV : (V m c main_v2 : FVec Ideal S26688x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨18496 + (1024 * j.val + k.val), by omega⟩ ⟨5152 + (1024 * j.val + k.val), by omega⟩ l (by simp only; omega)))
  funext a
  apply Fin.ext
  match a with
  | ⟨0, _⟩ =>
    show win0_1.index (point j 0) 0 + 1 * k.val = 18496 + (1024 * j.val + k.val)
    rw [(index1 _).1]; simp only [point, Fin.val_zero]; omega
  | ⟨1, _⟩ =>
    show win0_1.index (point j 0) 1 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with one of the columns of the layer's weights the call takes. -/
def product (r : Fin 9216) (k : Fin 8192) : EReal := ∑ l : Fin 2048, argX m c (ix2 r l) * argW m c (ix3 1 l ⟨5152 + k.val, by omega⟩)

/-- The kernel's result, entry by entry. -/
theorem result (j : Fin 8) (i : Fin 9) (r k : Fin 1024) :
    ((dats m 0 c).arrAt 2 cfg0.N : FVec Ideal S9216x8192 .f32) (ix2 ⟨1024 * i.val + r.val, by omega⟩ ⟨1024 * j.val + k.val, by omega⟩)
      = product m c ⟨1024 * i.val + r.val, by omega⟩ ⟨1024 * j.val + k.val, by omega⟩ := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x8192.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x8192 .f32) hi).symm.trans (hb.trans ?_)
  show ((dats m 0 c).after 2 (point j i) : FVec Ideal S1024x1024 .f32) (ix2 r k) = _
  rw [after0_2, out_at, pay2_apply]
  simp only [pay1_apply, block0, block1]
  rfl

end Cert.HgrnInIdeal.Entry

namespace Cert.HgrnInRefIdeal.Entry

open Cert.HgrnInRefIdeal Cert.HgrnInRefIdeal.Gen Idealize.ShloMosaic Idealize.ShloMosaic.TcCoe Idealize.SL.Sem

/-- The reference's result from its arguments. -/
def term (x : FVec Ideal S9216x2048 .f32) (w : FVec Ideal S2x2048x13344 .f32) : FVec Ideal S9216x8192 .f32 :=
  extractStridedSlice S9216x8192 ![0, 5152] (Host.dotGeneral dot_S9216x2048_S2048x13344_S9216x13344_1_0_0_1_n_n none x (shapeCast _ (extractStridedSlice S1x2048x13344 ![1, 0, 0] w slices_S2x2048x13344_S1x2048x13344_1_0_0) shapeCasts_S1x2048x13344_S2048x13344)) slices_S9216x13344_S9216x8192_0_5152

/-- Its entries. -/
theorem term_apply (x : FVec Ideal S9216x2048 .f32) (w : FVec Ideal S2x2048x13344 .f32) (r : Fin 9216) (k : Fin 8192) :
    (term x w (ix2 r k) : EReal) = ∑ l : Fin 2048, x (ix2 r l) * w (ix3 1 l ⟨5152 + k.val, by omega⟩) := by
  pointwise [term]

end Cert.HgrnInRefIdeal.Entry

namespace Cert.HgrnInAgree

open Idealize.ShloMosaic Idealize.ShloMosaic.TcCoe Idealize.SL.Sem

/-- The kernel's result is the reference's, of the same arguments. -/
theorem outputs (m : (ℓ : Loc HgrnInIdeal.nD HgrnInIdeal.τ HgrnInIdeal.sig) → Buf (Elt Ideal) ℓ) (c : Dev HgrnInIdeal.nD) :
    HgrnInRefIdeal.Entry.term (HgrnInIdeal.Entry.argX m c) (HgrnInIdeal.Entry.argW m c) = (HgrnInIdeal.Gen.dats m 0 c).arrAt 2 HgrnInIdeal.cfg0.N := by
  funext i
  idx_vars i
  obtain ⟨p, r, rfl⟩ := Tiles.split (p := 1024) (q := 9) (by decide) rfl i0
  obtain ⟨j, k, rfl⟩ := Tiles.split (p := 1024) (q := 8) (by decide) rfl i1
  rw [HgrnInIdeal.Entry.result]
  exact HgrnInRefIdeal.Entry.term_apply ..

end Cert.HgrnInAgree

end
-- ==== Proof.GdnProj.lean ====
/- The input projection of the gated delta rule's queries, keys and values: the first 8192 columns of the layer's input weights.
   The kernel transposes and stacks all layers' weights, and keeps a tile of the second layer's rows in
   scratch over the nine row tiles; each entry of its result is the product of the operand's row with
   the weights' column, as the reference computes it. -/
module

public import proofs.«01_k».proof.Proof.Gen.GdnInIdeal.Frame
public import proofs.«01_k».proof.Proof.Gen.GdnInRefIdeal.Run
public import proofs.«01_k».proof.Proof.Tiles

@[expose] public section

set_option maxRecDepth 16384

noncomputable section

namespace Cert.GdnInIdeal.Entry

open Cert.Tiles Cert.GdnInIdeal Cert.GdnInIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S1024x2048 .bf16) (h5 : a5.IsWhole)

/-- A later row tile's result: its rows against the weights in scratch. -/
theorem out_B (hc : ¬cond0_0 i) (x : Vec F S1024x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S1024x2048) zeros2]

/-- The first row tile leaves the weights' tile in scratch. -/
theorem scratch_A (hc : cond0_0 i) (x : Vec F S1024x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1024x2048) zeros2]

/-- The first row tile's result: its rows against the weights' tile. -/
theorem out_A (hc : cond0_0 i) (x : Vec F S1024x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S1024x2048) _ zeros2]
  simp only [View.readAt_eq_ld, h2.read_unread, h3.read_unread, View.ld_unit_zero (S := S1024x2048) zeros2, View.ld_unit_zero (S := S1024x2048) zeros2]

variable (m : (ℓ : Loc nD τ sig) → Buf (Elt F) ℓ)

/-- The grid point of row tile `i` against column tile `j`. -/
def point (j : Fin 8) (i : Fin 9) : Fin cfg0.N := ⟨9 * j.val + i.val, by rw [show cfg0.N = 72 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 8) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 8) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1024x2048 .f32) (k : Fin 1024) (l : Fin 2048) :
    (k0_pay1 (F := Ideal) w (ix2 k l) : EReal) = w (ix2 k l) := by
  pointwise [k0_pay1]

/-- A result's entry: the product of a row of the operand with a row of the weights. -/
theorem pay2_apply (x : FVec Ideal S1024x2048 .bf16) (w : FVec Ideal S1024x2048 .bf16) (r k : Fin 1024) :
    (k0_pay2 (F := Ideal) x w (ix2 r k) : EReal) = ∑ l : Fin 2048, x (ix2 r l) * w (ix2 k l) := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 12352 + 1024 * (t.val / 9) ∧ win0_1.index t 1 = 0 :=
  (by decide +kernel : ∀ t : Fin grid0.N, win0_1.index t 0 = 12352 + 1024 * (t.val / 9) ∧ win0_1.index t 1 = 0)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S2x2048x12352 .f32 := m ((c.tc : Thread nD τ).loc main_arg1)

theorem block0 (j : Fin 8) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v1 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

/-- The layers' weights with their rows transposed and stacked. -/
def stacked (w : FVec Ideal S2x2048x12352 .f32) : FVec Ideal S24704x2048 .f32 :=
  shapeCast _ (transpose S2x12352x2048 [0, 2, 1] w transposes_S2x2048x12352_S2x12352x2048_0_2_1) shapeCasts_S2x12352x2048_S24704x2048

/-- The second layer's rows of the stack. -/
theorem stacked_apply (w : FVec Ideal S2x2048x12352 .f32) (n : Fin 24704) (k : Fin 12352) (l : Fin 2048) (h : n.val = 12352 + k.val) :
    (stacked w (ix2 n l) : EReal) = w (ix3 1 l k) := by
  have hn : n = ⟨12352 + k.val, by omega⟩ := Fin.ext h
  have hd : (12352 + k.val) / 12352 = 1 := by omega
  rw [hn]
  pointwise [stacked]
  exact congrArg (fun a => w (ix3 a l k)) (Fin.ext hd)

theorem block1 (j : Fin 8) (k : Fin 1024) (l : Fin 2048) :
    ((iblk m c 1 (point j 0) : FVec Ideal S1024x2048 .f32) (ix2 k l) : EReal) = argW m c (ix3 1 l ⟨0 + (1024 * j.val + k.val), by omega⟩) := by
  have hV : (V m c main_v2 : FVec Ideal S24704x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨12352 + (1024 * j.val + k.val), by omega⟩ ⟨0 + (1024 * j.val + k.val), by omega⟩ l (by simp only; omega)))
  funext a
  apply Fin.ext
  match a with
  | ⟨0, _⟩ =>
    show win0_1.index (point j 0) 0 + 1 * k.val = 12352 + (1024 * j.val + k.val)
    rw [(index1 _).1]; simp only [point, Fin.val_zero]; omega
  | ⟨1, _⟩ =>
    show win0_1.index (point j 0) 1 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with one of the columns of the layer's weights the call takes. -/
def product (r : Fin 9216) (k : Fin 8192) : EReal := ∑ l : Fin 2048, argX m c (ix2 r l) * argW m c (ix3 1 l ⟨0 + k.val, by omega⟩)

/-- The kernel's result, entry by entry. -/
theorem result (j : Fin 8) (i : Fin 9) (r k : Fin 1024) :
    ((dats m 0 c).arrAt 2 cfg0.N : FVec Ideal S9216x8192 .f32) (ix2 ⟨1024 * i.val + r.val, by omega⟩ ⟨1024 * j.val + k.val, by omega⟩)
      = product m c ⟨1024 * i.val + r.val, by omega⟩ ⟨1024 * j.val + k.val, by omega⟩ := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x8192.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x8192 .f32) hi).symm.trans (hb.trans ?_)
  show ((dats m 0 c).after 2 (point j i) : FVec Ideal S1024x1024 .f32) (ix2 r k) = _
  rw [after0_2, out_at, pay2_apply]
  simp only [pay1_apply, block0, block1]
  rfl

end Cert.GdnInIdeal.Entry

namespace Cert.GdnInRefIdeal.Entry

open Cert.GdnInRefIdeal Cert.GdnInRefIdeal.Gen Idealize.ShloMosaic Idealize.ShloMosaic.TcCoe Idealize.SL.Sem

/-- The reference's result from its arguments. -/
def term (x : FVec Ideal S9216x2048 .f32) (w : FVec Ideal S2x2048x12352 .f32) : FVec Ideal S9216x8192 .f32 :=
  extractStridedSlice S9216x8192 ![0, 0] (Host.dotGeneral dot_S9216x2048_S2048x12352_S9216x12352_1_0_0_1_n_n none x (shapeCast _ (extractStridedSlice S1x2048x12352 ![1, 0, 0] w slices_S2x2048x12352_S1x2048x12352_1_0_0) shapeCasts_S1x2048x12352_S2048x12352)) slices_S9216x12352_S9216x8192_0_0

/-- Its entries. -/
theorem term_apply (x : FVec Ideal S9216x2048 .f32) (w : FVec Ideal S2x2048x12352 .f32) (r : Fin 9216) (k : Fin 8192) :
    (term x w (ix2 r k) : EReal) = ∑ l : Fin 2048, x (ix2 r l) * w (ix3 1 l ⟨0 + k.val, by omega⟩) := by
  pointwise [term]

end Cert.GdnInRefIdeal.Entry

namespace Cert.GdnInAgree

open Idealize.ShloMosaic Idealize.ShloMosaic.TcCoe Idealize.SL.Sem

/-- The kernel's result is the reference's, of the same arguments. -/
theorem outputs (m : (ℓ : Loc GdnInIdeal.nD GdnInIdeal.τ GdnInIdeal.sig) → Buf (Elt Ideal) ℓ) (c : Dev GdnInIdeal.nD) :
    GdnInRefIdeal.Entry.term (GdnInIdeal.Entry.argX m c) (GdnInIdeal.Entry.argW m c) = (GdnInIdeal.Gen.dats m 0 c).arrAt 2 GdnInIdeal.cfg0.N := by
  funext i
  idx_vars i
  obtain ⟨p, r, rfl⟩ := Tiles.split (p := 1024) (q := 9) (by decide) rfl i0
  obtain ⟨j, k, rfl⟩ := Tiles.split (p := 1024) (q := 8) (by decide) rfl i1
  rw [GdnInIdeal.Entry.result]
  exact GdnInRefIdeal.Entry.term_apply ..

end Cert.GdnInAgree

end
-- ==== Proof.AbOut.lean ====
/- The output projection of the state-space and the gated recurrent part: two operands side by side, and of each
   the rows of the prompt batch and of the sample batch are apart. The kernel takes each row tile of both from
   the batch that holds it, and adds the products with the upper and the lower half of the layer's weights,
   of which it keeps a column tile in scratch over the nine row tiles. So each entry of its result is the
   residual's entry and the product of the joined rows with the column, as the reference computes it. -/
module

public import proofs.«01_k».proof.Proof.Gen.AbOutIdeal.Frame
public import proofs.«01_k».proof.Proof.Gen.AbOutRefIdeal.Run
public import proofs.«01_k».proof.Proof.Tiles
public import Idealize.ShloMosaic.Lib.Pipeline.ReadBack

@[expose] public section

set_option maxRecDepth 16384

noncomputable section

namespace Cert.AbOutIdeal.Entry

open Cert.Tiles Cert.AbOutIdeal Cert.AbOutIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S1x4096x512 .f32) (h2 : a2.IsWhole)
  (a3 : Memref sig .tc .vmem S1024x2048 .bf16) (h3 : a3.IsWhole) (a4 : Memref sig .tc .vmem S1024x2048 .bf16) (h4 : a4.IsWhole)
  (a5 : Memref sig .tc .vmem S1024x2048 .bf16) (h5 : a5.IsWhole) (a6 : Memref sig .tc .vmem S1024x2048 .bf16) (h6 : a6.IsWhole)
  (a7 : Memref sig .tc .vmem S1024x512 .f32) (h7 : a7.IsWhole) (a8 : Memref sig .tc .vmem S1024x512 .f32) (h8 : a8.IsWhole)
  (a9 : Memref sig .tc .vmem S4096x512 .bf16) (h9 : a9.IsWhole)

/-- The upper and the lower half of a weights' tile. -/
def upper (s : Vec F S4096x512 .bf16) : Vec F S2048x512 .bf16 := View.ld s (Rect.unit ![0, 0] S2048x512.size inb_S4096x512_S2048x512_0_0)
def lower (s : Vec F S4096x512 .bf16) : Vec F S2048x512 .bf16 := View.ld s (Rect.unit ![2048, 0] S2048x512.size inb_S4096x512_S2048x512_2048_0)

/-- Two operands' rows against the two halves of a weights' tile, and the residual. -/
def both (x z : Vec F S1024x2048 .bf16) (s : Vec F S4096x512 .bf16) (y : Vec F S1024x512 .f32) : FVec F S1024x512 .f32 :=
  k0_pay2 x (upper s) z (lower s) y

theorem zeros2_apply : ∀ a, (![0, 0] : Fin 2 → Nat) a = 0 := fun a => congrFun zeros2 a

/-- A later row tile's result, of the prompt batch: its rows against the weights in scratch, and the residual. -/
theorem out_B (hc : ¬cond0_0 i) (hd : cond0_1 i) (he : ¬cond0_2 i) (w : Vec F S1x4096x512 .f32) (x z x' z' : Vec F S1024x2048 .bf16) (y : Vec F S1024x512 .f32) (s : Vec F S4096x512 .bf16) :
    out0_B_6 c i a2 h2 a3 h3 a4 h4 a5 h5 a6 h6 a7 h7 a8 h8 a9 h9 hc hd he w x z x' z' y s = both x z s y := by
  unfold out0_B_6
  rw [View.read_writes_eq_canon _ _ _ (cover0_B_6 c i a2 h2 a3 h3 a4 h4 a5 h5 a6 h6 a7 h7 a8 h8 a9 h9 hc hd he w x z x' z' y s)]
  unfold kernelRun0_B
  dsimp only
  rw [View.canon_unit_zero zeros2]
  simp only [View.readAt_eq_ld, h2.read_unread, h3.read_unread, h4.read_unread, h5.read_unread, h6.read_unread, h7.read_unread, h9.read_unread,
    View.ld_unit_zero (S := S1024x2048) zeros2, View.ld_unit_zero (S := S1024x512) zeros2]
  rfl

/-- The last row tile's result, of the sample batch. -/
theorem out_C (hc : ¬cond0_0 i) (hd : ¬cond0_1 i) (he : cond0_2 i) (w : Vec F S1x4096x512 .f32) (x z x' z' : Vec F S1024x2048 .bf16) (y : Vec F S1024x512 .f32) (s : Vec F S4096x512 .bf16) :
    out0_C_6 c i a2 h2 a3 h3 a4 h4 a5 h5 a6 h6 a7 h7 a8 h8 a9 h9 hc hd he w x z x' z' y s = both x' z' s y := by
  unfold out0_C_6
  rw [View.read_writes_eq_canon _ _ _ (cover0_C_6 c i a2 h2 a3 h3 a4 h4 a5 h5 a6 h6 a7 h7 a8 h8 a9 h9 hc hd he w x z x' z' y s)]
  unfold kernelRun0_C
  dsimp only
  rw [View.canon_unit_zero zeros2]
  simp only [View.readAt_eq_ld, h2.read_unread, h3.read_unread, h4.read_unread, h5.read_unread, h6.read_unread, h7.read_unread, h9.read_unread,
    View.ld_unit_zero (S := S1024x2048) zeros2, View.ld_unit_zero (S := S1024x512) zeros2]
  rfl

/-- The first row tile leaves the weights' tile in scratch. -/
theorem scratch_A (hc : cond0_0 i) (hd : cond0_1 i) (he : ¬cond0_2 i) (w : Vec F S1x4096x512 .f32) (x z x' z' : Vec F S1024x2048 .bf16) (y : Vec F S1024x512 .f32) :
    sout0_A_0 c i a2 h2 a3 h3 a4 h4 a5 h5 a6 h6 a7 h7 a8 h8 a9 h9 hc hd he w x z x' z' y = k0_pay1 w := by
  unfold sout0_A_0
  rw [View.read_writes_eq_canon _ _ _ (scover0_A_0 c i a2 h2 a3 h3 a4 h4 a5 h5 a6 h6 a7 h7 a8 h8 a9 h9 hc hd he w x z x' z' y)]
  unfold kernelRun0_A
  dsimp only
  sl_unfold_words
  rw [View.canon_unit_zero zeros2]
  simp only [View.readAt_eq_ld, h2.read_unread, View.ld_unit_zero (S := S1x4096x512) zeros3]

/-- The first row tile's result: its rows against the weights' tile, and the residual. -/
theorem out_A (hc : cond0_0 i) (hd : cond0_1 i) (he : ¬cond0_2 i) (w : Vec F S1x4096x512 .f32) (x z x' z' : Vec F S1024x2048 .bf16) (y : Vec F S1024x512 .f32) :
    out0_A_6 c i a2 h2 a3 h3 a4 h4 a5 h5 a6 h6 a7 h7 a8 h8 a9 h9 hc hd he w x z x' z' y = both x z (k0_pay1 w) y := by
  unfold out0_A_6
  rw [View.read_writes_eq_canon _ _ _ (cover0_A_6 c i a2 h2 a3 h3 a4 h4 a5 h5 a6 h6 a7 h7 a8 h8 a9 h9 hc hd he w x z x' z' y)]
  unfold kernelRun0_A
  dsimp only
  sl_unfold_words
  rw [View.canon_unit_zero zeros2]
  simp only [View.readAt_eq_ld, h2.read_unread, h3.read_unread, h4.read_unread, h5.read_unread, h6.read_unread, h7.read_unread, h9.read_unread,
    View.readCov_fill (s := S4096x512) _ _ _ _ _ zeros2_apply, View.ld_unit_zero (S := S1x4096x512) zeros3,
    View.ld_unit_zero (S := S1024x2048) zeros2, View.ld_unit_zero (S := S1024x512) zeros2]
  rfl

variable (m : (ℓ : Loc nD τ sig) → Buf (Elt F) ℓ)

/-- The grid point of row tile `i` against column tile `j`. -/
def point (j : Fin 4) (i : Fin 9) : Fin cfg0.N := ⟨9 * j.val + i.val, by rw [show cfg0.N = 36 from N_0]; omega⟩

/-- At a column tile's first point the scratch takes the tile's weights. -/
theorem scratch_first (t : Fin cfg0.N) (h : t.val % 9 = 0) : (outsAt0 m c t.val t.isLt).2 = k0_pay1 (iblk m c 0 t) := by
  rw [outsAt0_A m c t h (by omega) (by omega)]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  by_cases h7 : t.val % 9 ≤ 7
  · rw [outsAt0_B m c t h h7 (by omega)]
    dsimp only
    unfold sout0_B_0
    rfl
  · rw [outsAt0_C m c t h h7 (by omega)]
    dsimp only
    unfold sout0_C_0
    rfl

/-- Over a column tile's points the scratch holds the tile's weights. -/
theorem scratch_at (j : Fin 4) (i : Fin 9) :
    (outsAt0 m c (point j i).val (point j i).isLt).2 = k0_pay1 (iblk m c 0 (point j 0)) :=
  carried (fun n h => (outsAt0 m c n h).2) (fun n h => k0_pay1 (iblk m c 0 ⟨n, h⟩))
    (fun n h => scratch_first c m ⟨n, h⟩) (fun n h => scratch_later c m ⟨n, h⟩) j.val i.val i.isLt (point j i).isLt (point j 0).isLt

/-- The row tiles a point reads, of either operand: the prompt batch's until the last, the sample batch's then. -/
def rows (t : Fin cfg0.N) : Vec F S1024x2048 .bf16 := if t.val % 9 ≤ 7 then iblk m c 1 t else iblk m c 3 t
def rows' (t : Fin cfg0.N) : Vec F S1024x2048 .bf16 := if t.val % 9 ≤ 7 then iblk m c 2 t else iblk m c 4 t

/-- What a point leaves: its rows against its column tile's weights, and the residual. -/
theorem out_at (j : Fin 4) (i : Fin 9) :
    (outsAt0 m c (point j i).val (point j i).isLt).1 = both (rows c m (point j i)) (rows' c m (point j i)) (k0_pay1 (iblk m c 0 (point j 0))) (iblk m c 5 (point j i)) := by
  unfold rows rows'
  by_cases h : (point j i).val % 9 = 0
  · have hi : i = 0 := Fin.ext (by change (9 * j.val + i.val) % 9 = 0 at h; show i.val = 0; omega)
    subst hi
    rw [outsAt0_A m c (point j 0) h (by omega) (by omega), if_pos (by omega), if_pos (by omega)]
    dsimp only
    rw [out_A]
  · have hs := (scratch_later c m (point j i) h).symm.trans (scratch_at c m j i)
    by_cases h7 : (point j i).val % 9 ≤ 7
    · rw [outsAt0_B m c (point j i) h h7 (by omega), if_pos h7, if_pos h7]
      dsimp only
      rw [out_B, hs]
    · rw [outsAt0_C m c (point j i) h h7 (by omega), if_neg h7, if_neg h7]
      dsimp only
      rw [out_C, hs]

end Tiles

/-! ## The entries -/

/-- A weights' tile is its block. -/
theorem pay1_apply (w : FVec Ideal S1x4096x512 .f32) (l : Fin 4096) (k : Fin 512) :
    (k0_pay1 (F := Ideal) w (ix2 l k) : EReal) = w (ix3 0 l k) := by
  pointwise [k0_pay1]

/-- A result's entry: the residual and the products of the two rows with the two halves of the column. -/
theorem pay2_apply (x z : FVec Ideal S1024x2048 .bf16) (u v : FVec Ideal S2048x512 .bf16) (y : FVec Ideal S1024x512 .f32) (r : Fin 1024) (k : Fin 512) :
    (k0_pay2 (F := Ideal) x u z v y (ix2 r k) : EReal)
      = y (ix2 r k) + (∑ l : Fin 2048, x (ix2 r l) * u (ix2 l k) + ∑ l : Fin 2048, z (ix2 r l) * v (ix2 l k)) := by
  pointwise [k0_pay2]

theorem upper_apply (s : FVec Ideal S4096x512 .bf16) (l : Fin 2048) (k : Fin 512) :
    (upper (F := Ideal) s (ix2 l k) : EReal) = s (ix2 ⟨l.val, by omega⟩ k) := by
  refine congrArg s (funext fun a => Fin.ext ?_)
  match a with
  | ⟨0, _⟩ => show 0 + 1 * l.val = l.val; omega
  | ⟨1, _⟩ => show 0 + 1 * k.val = k.val; omega

theorem lower_apply (s : FVec Ideal S4096x512 .bf16) (l : Fin 2048) (k : Fin 512) :
    (lower (F := Ideal) s (ix2 l k) : EReal) = s (ix2 ⟨2048 + l.val, by omega⟩ k) := by
  refine congrArg s (funext fun a => Fin.ext ?_)
  match a with
  | ⟨0, _⟩ => show 2048 + 1 * l.val = 2048 + l.val; omega
  | ⟨1, _⟩ => show 0 + 1 * k.val = k.val; omega

variable (m : (ℓ : Loc nD τ sig) → Buf (Elt Ideal) ℓ) (c : Dev nD)

theorem index0 : ∀ t : Fin cfg0.N, win0_0.index t 0 = 1 ∧ win0_0.index t 1 = 0 ∧ win0_0.index t 2 = t.val / 9 :=
  (by decide +kernel : ∀ t : Fin grid0.N, win0_0.index t 0 = 1 ∧ win0_0.index t 1 = 0 ∧ win0_0.index t 2 = t.val / 9)
theorem index1 : ∀ t : Fin cfg0.N, win0_1.index t 0 = min (t.val % 9) 7 ∧ win0_1.index t 1 = 0 :=
  (by decide +kernel : ∀ t : Fin grid0.N, win0_1.index t 0 = min (t.val % 9) 7 ∧ win0_1.index t 1 = 0)
theorem index2 : ∀ t : Fin cfg0.N, win0_2.index t 0 = min (t.val % 9) 7 ∧ win0_2.index t 1 = 0 :=
  (by decide +kernel : ∀ t : Fin grid0.N, win0_2.index t 0 = min (t.val % 9) 7 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val % 9 ∧ win0_5.index t 1 = t.val / 9 :=
  (by decide +kernel : ∀ t : Fin grid0.N, win0_5.index t 0 = t.val % 9 ∧ win0_5.index t 1 = t.val / 9)
theorem index6 : ∀ t : Fin cfg0.N, win0_6.index t 0 = t.val % 9 ∧ win0_6.index t 1 = t.val / 9 :=
  (by decide +kernel : ∀ t : Fin grid0.N, win0_6.index t 0 = t.val % 9 ∧ win0_6.index t 1 = t.val / 9)

/-- The first operand's rows of the prompt batch and of the sample batch, the second operand's, all layers' weights
    and the residual. -/
def argP : FVec Ideal S8192x2048 .f32 := m ((c.tc : Thread nD τ).loc main_arg0)
def argS : FVec Ideal S1024x2048 .f32 := m ((c.tc : Thread nD τ).loc main_arg1)
def argP' : FVec Ideal S8192x2048 .f32 := m ((c.tc : Thread nD τ).loc main_arg2)
def argS' : FVec Ideal S1024x2048 .f32 := m ((c.tc : Thread nD τ).loc main_arg3)
def argW : FVec Ideal S2x4096x2048 .f32 := m ((c.tc : Thread nD τ).loc main_arg4)
def argY : FVec Ideal S9216x2048 .f32 := m ((c.tc : Thread nD τ).loc main_arg5)

/-- The weights' tile in scratch is a column tile of the second layer's weights. -/
theorem block0 (j : Fin 4) (l : Fin 4096) (k : Fin 512) :
    ((iblk m c 0 (point j 0) : FVec Ideal S1x4096x512 .f32) (ix3 0 l k) : EReal) = argW m c (ix3 1 l ⟨512 * j.val + k.val, by omega⟩) := by
  unfold iblk
  rw [View.read_apply]
  show V m c main_arg4 _ = _
  rw [V_main_arg4]
  refine congrArg (argW m c) ?_
  funext a
  apply Fin.ext
  match a with
  | ⟨0, _⟩ =>
    show win0_0.index (point j 0) 0 * 1 + 1 * 0 = 1
    rw [(index0 _).1]
  | ⟨1, _⟩ =>
    show win0_0.index (point j 0) 1 * 4096 + 1 * l.val = l.val
    rw [(index0 _).2.1]; omega
  | ⟨2, _⟩ =>
    show win0_0.index (point j 0) 2 * 512 + 1 * k.val = 512 * j.val + k.val
    rw [(index0 _).2.2]; simp only [point, Fin.val_zero]; omega

theorem block1 (j : Fin 4) (i : Fin 9) (r : Fin 1024) (l : Fin 2048) (h7 : i.val ≤ 7) :
    ((iblk m c 1 (point j i) : FVec Ideal S1024x2048 .bf16) (ix2 r l) : EReal) = argP m c (ix2 ⟨1024 * i.val + r.val, by omega⟩ l) := by
  have hV : (V m c main_v0 : FVec Ideal S8192x2048 .bf16) = truncf .bf16 (argP m c) bitsLt_bf16_f32 := by
    show StableHlo.after hostOps0 _ _ = _
    simp only [hostOps0]
    after_reads_simp
    rfl
  unfold iblk
  rw [View.read_apply]
  refine (congrFun hV _).trans (congrArg (argP m c) ?_)
  funext a
  apply Fin.ext
  match a with
  | ⟨0, _⟩ =>
    show win0_1.index (point j i) 0 * 1024 + 1 * r.val = 1024 * i.val + r.val
    rw [(index1 _).1]; simp only [point]; omega
  | ⟨1, _⟩ =>
    show win0_1.index (point j i) 1 * 2048 + 1 * l.val = l.val
    rw [(index1 _).2]; omega

theorem block2 (j : Fin 4) (i : Fin 9) (r : Fin 1024) (l : Fin 2048) (h7 : i.val ≤ 7) :
    ((iblk m c 2 (point j i) : FVec Ideal S1024x2048 .bf16) (ix2 r l) : EReal) = argP' m c (ix2 ⟨1024 * i.val + r.val, by omega⟩ l) := by
  have hV : (V m c main_v2 : FVec Ideal S8192x2048 .bf16) = truncf .bf16 (argP' m c) bitsLt_bf16_f32 := by
    show StableHlo.after hostOps0 _ _ = _
    simp only [hostOps0]
    after_reads_simp
    rfl
  unfold iblk
  rw [View.read_apply]
  refine (congrFun hV _).trans (congrArg (argP' m c) ?_)
  funext a
  apply Fin.ext
  match a with
  | ⟨0, _⟩ =>
    show win0_2.index (point j i) 0 * 1024 + 1 * r.val = 1024 * i.val + r.val
    rw [(index2 _).1]; simp only [point]; omega
  | ⟨1, _⟩ =>
    show win0_2.index (point j i) 1 * 2048 + 1 * l.val = l.val
    rw [(index2 _).2]; omega

theorem block3 (j : Fin 4) (i : Fin 9) (r : Fin 1024) (l : Fin 2048) :
    ((iblk m c 3 (point j i) : FVec Ideal S1024x2048 .bf16) (ix2 r l) : EReal) = argS m c (ix2 r l) := by
  have hV : (V m c main_v1 : FVec Ideal S1024x2048 .bf16) = truncf .bf16 (argS m c) bitsLt_bf16_f32 := by
    show StableHlo.after hostOps0 _ _ = _
    simp only [hostOps0]
    after_reads_simp
    rfl
  unfold iblk
  rw [View.read_apply]
  refine (congrFun hV _).trans (congrArg (argS m c) ?_)
  funext a
  apply Fin.ext
  match a with
  | ⟨0, _⟩ =>
    show win0_3.index (point j i) 0 * 1024 + 1 * r.val = r.val
    rw [(index3 _).1]; omega
  | ⟨1, _⟩ =>
    show win0_3.index (point j i) 1 * 2048 + 1 * l.val = l.val
    rw [(index3 _).2]; omega

theorem block4 (j : Fin 4) (i : Fin 9) (r : Fin 1024) (l : Fin 2048) :
    ((iblk m c 4 (point j i) : FVec Ideal S1024x2048 .bf16) (ix2 r l) : EReal) = argS' m c (ix2 r l) := by
  have hV : (V m c main_v3 : FVec Ideal S1024x2048 .bf16) = truncf .bf16 (argS' m c) bitsLt_bf16_f32 := by
    show StableHlo.after hostOps0 _ _ = _
    simp only [hostOps0]
    after_reads_simp
    rfl
  unfold iblk
  rw [View.read_apply]
  refine (congrFun hV _).trans (congrArg (argS' m c) ?_)
  funext a
  apply Fin.ext
  match a with
  | ⟨0, _⟩ =>
    show win0_4.index (point j i) 0 * 1024 + 1 * r.val = r.val
    rw [(index4 _).1]; omega
  | ⟨1, _⟩ =>
    show win0_4.index (point j i) 1 * 2048 + 1 * l.val = l.val
    rw [(index4 _).2]; omega

/-- The row tiles a point reads, from the joined rows. -/
theorem rows_at (j : Fin 4) (i : Fin 9) (r : Fin 1024) (l : Fin 2048) :
    ((rows c m (point j i) : FVec Ideal S1024x2048 .bf16) (ix2 r l) : EReal)
      = joined (argP m c) (argS m c) ⟨1024 * i.val + r.val, by omega⟩ l :=
  joined_tile (argP m c) (argS m c) _ _ i (block1 m c j i) (block3 m c j i) r l _ (by show (9 * j.val + i.val) % 9 = i.val; omega)

theorem rows_at' (j : Fin 4) (i : Fin 9) (r : Fin 1024) (l : Fin 2048) :
    ((rows' c m (point j i) : FVec Ideal S1024x2048 .bf16) (ix2 r l) : EReal)
      = joined (argP' m c) (argS' m c) ⟨1024 * i.val + r.val, by omega⟩ l :=
  joined_tile (argP' m c) (argS' m c) _ _ i (block2 m c j i) (block4 m c j i) r l _ (by show (9 * j.val + i.val) % 9 = i.val; omega)

/-- A point's tile of the residual. -/
theorem block5 (j : Fin 4) (i : Fin 9) (r : Fin 1024) (k : Fin 512) :
    ((iblk m c 5 (point j i) : FVec Ideal S1024x512 .f32) (ix2 r k) : EReal)
      = argY m c (ix2 ⟨1024 * i.val + r.val, by omega⟩ ⟨512 * j.val + k.val, by omega⟩) := by
  unfold iblk
  rw [View.read_apply]
  show V m c main_arg5 _ = _
  rw [V_main_arg5]
  refine congrArg (argY m c) ?_
  funext a
  apply Fin.ext
  match a with
  | ⟨0, _⟩ =>
    show win0_5.index (point j i) 0 * 1024 + 1 * r.val = 1024 * i.val + r.val
    rw [(index5 _).1]; simp only [point]; omega
  | ⟨1, _⟩ =>
    show win0_5.index (point j i) 1 * 512 + 1 * k.val = 512 * j.val + k.val
    rw [(index5 _).2]; simp only [point]; omega

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have h0 : win0_6.index t 0 = win0_6.index t' 0 := congrFun h 0
    have h1 : win0_6.index t 1 = win0_6.index t' 1 := congrFun h 1
    rw [(index6 t).1, (index6 t').1] at h0
    rw [(index6 t).2, (index6 t').2] at h1
    omega))

/-- The product of the joined rows with a column of the layer's weights. -/
def product (r : Fin 9216) (k : Fin 2048) : EReal :=
  ∑ l : Fin 2048, joined (argP m c) (argS m c) r l * argW m c (ix3 1 ⟨l.val, by omega⟩ k)
    + ∑ l : Fin 2048, joined (argP' m c) (argS' m c) r l * argW m c (ix3 1 ⟨2048 + l.val, by omega⟩ k)

/-- The kernel's result, entry by entry. -/
theorem result (j : Fin 4) (i : Fin 9) (r : Fin 1024) (k : Fin 512) :
    ((dats m 0 c).arrAt 6 cfg0.N : FVec Ideal S9216x2048 .f32) (ix2 ⟨1024 * i.val + r.val, by omega⟩ ⟨512 * j.val + k.val, by omega⟩)
      = argY m c (ix2 ⟨1024 * i.val + r.val, by omega⟩ ⟨512 * j.val + k.val, by omega⟩)
        + product m c ⟨1024 * i.val + r.val, by omega⟩ ⟨512 * j.val + k.val, by omega⟩ := by
  have hb := congrFun ((dats m 0 c).read_blk_arrAt_eq_flushed 6 disjoint6 cfg0.N (point j i) (point j i).isLt (flush0_6 _)) (ix2 r k : S1024x512.Idx)
  rw [View.read_apply] at hb
  have hi : ((cfg0.win 6).blk (point j i)).view.emb (ix2 r k : S1024x512.Idx)
      = (ix2 ⟨1024 * i.val + r.val, by omega⟩ ⟨512 * j.val + k.val, by omega⟩ : S9216x2048.Idx) := by
    funext a
    apply Fin.ext
    match a with
    | ⟨0, _⟩ =>
      show win0_6.index (point j i) 0 * 1024 + 1 * r.val = 1024 * i.val + r.val
      rw [(index6 _).1]; simp only [point]; omega
    | ⟨1, _⟩ =>
      show win0_6.index (point j i) 1 * 512 + 1 * k.val = 512 * j.val + k.val
      rw [(index6 _).2]; simp only [point]; omega
  refine (congrArg ((dats m 0 c).arrAt 6 cfg0.N : FVec Ideal S9216x2048 .f32) hi).symm.trans (hb.trans ?_)
  show ((dats m 0 c).after 6 (point j i) : FVec Ideal S1024x512 .f32) (ix2 r k) = _
  rw [after0_6, out_at, both, pay2_apply]
  simp only [upper_apply, lower_apply, pay1_apply, rows_at, rows_at', block0, block5]
  rfl

end Cert.AbOutIdeal.Entry

namespace Cert.AbOutRefIdeal.Entry

open Cert.AbOutRefIdeal Cert.AbOutRefIdeal.Gen Idealize.ShloMosaic Idealize.ShloMosaic.TcCoe Idealize.SL.Sem

/-- A batch's rows and the other's. -/
def rows (p : FVec Ideal S8192x2048 .f32) (s : FVec Ideal S1024x2048 .f32) : FVec Ideal S9216x2048 .f32 :=
  concatenate S9216x2048 0 [⟨S8192x2048, p⟩, ⟨S1024x2048, s⟩] concatenates_S8192x2048_S1024x2048_S9216x2048_d0

theorem rows_apply (p : FVec Ideal S8192x2048 .f32) (s : FVec Ideal S1024x2048 .f32) (r : Fin 9216) (l : Fin 2048) :
    (rows p s (ix2 r l) : EReal) = Tiles.joined p s r l := by
  unfold Tiles.joined
  pointwise [rows]

/-- The reference's result from its arguments. -/
def term (p : FVec Ideal S8192x2048 .f32) (s : FVec Ideal S1024x2048 .f32) (p' : FVec Ideal S8192x2048 .f32) (s' : FVec Ideal S1024x2048 .f32)
    (w : FVec Ideal S2x4096x2048 .f32) (y : FVec Ideal S9216x2048 .f32) : FVec Ideal S9216x2048 .f32 :=
  addf y (Host.dotGeneral dot_S9216x4096_S4096x2048_S9216x2048_1_0_0_1_n_n none
    (concatenate S9216x4096 1 [⟨S9216x2048, rows p s⟩, ⟨S9216x2048, rows p' s'⟩] concatenates_S9216x2048_S9216x2048_S9216x4096_d1)
    (shapeCast _ (extractStridedSlice S1x4096x2048 ![1, 0, 0] w slices_S2x4096x2048_S1x4096x2048_1_0_0) shapeCasts_S1x4096x2048_S4096x2048))

/-- Its entries. -/
theorem term_apply (p : FVec Ideal S8192x2048 .f32) (s : FVec Ideal S1024x2048 .f32) (p' : FVec Ideal S8192x2048 .f32) (s' : FVec Ideal S1024x2048 .f32)
    (w : FVec Ideal S2x4096x2048 .f32) (y : FVec Ideal S9216x2048 .f32) (r : Fin 9216) (k : Fin 2048) :
    (term p s p' s' w y (ix2 r k) : EReal) = y (ix2 r k) + (∑ l : Fin 2048, Tiles.joined p s r l * w (ix3 1 ⟨l.val, by omega⟩ k)
      + ∑ l : Fin 2048, Tiles.joined p' s' r l * w (ix3 1 ⟨2048 + l.val, by omega⟩ k)) := by
  simp only [← rows_apply]
  unfold term
  generalize rows p s = a
  generalize rows p' s' = b
  pointwise

end Cert.AbOutRefIdeal.Entry

namespace Cert.AbOutAgree

open Idealize.ShloMosaic Idealize.ShloMosaic.TcCoe Idealize.SL.Sem

/-- The kernel's result is the reference's, of the same arguments. -/
theorem outputs (m : (ℓ : Loc AbOutIdeal.nD AbOutIdeal.τ AbOutIdeal.sig) → Buf (Elt Ideal) ℓ) (c : Dev AbOutIdeal.nD) :
    AbOutRefIdeal.Entry.term (AbOutIdeal.Entry.argP m c) (AbOutIdeal.Entry.argS m c) (AbOutIdeal.Entry.argP' m c) (AbOutIdeal.Entry.argS' m c) (AbOutIdeal.Entry.argW m c) (AbOutIdeal.Entry.argY m c)
      = (AbOutIdeal.Gen.dats m 0 c).arrAt 6 AbOutIdeal.cfg0.N := by
  funext i
  idx_vars i
  obtain ⟨p, r, rfl⟩ := Tiles.split (p := 1024) (q := 9) (by decide) rfl i0
  obtain ⟨j, k, rfl⟩ := Tiles.split (p := 512) (q := 4) (by decide) rfl i1
  rw [AbOutIdeal.Entry.result]
  exact AbOutRefIdeal.Entry.term_apply ..

end Cert.AbOutAgree

end
-- ==== Proof.GdnOut.lean ====
/- The output projection of the gated delta rule: the rows of the prompt batch and of the sample batch are two
   operands, and the kernel takes each row tile from the one that holds it. It keeps a column tile of the
   layer's weights in scratch over the nine row tiles, so each entry of its result is the residual's entry and
   the product of the joined rows with the column, as the reference computes it. -/
module

public import proofs.«01_k».proof.Proof.Gen.GdnOutIdeal.Frame
public import proofs.«01_k».proof.Proof.Gen.GdnOutRefIdeal.Run
public import proofs.«01_k».proof.Proof.Tiles

@[expose] public section

set_option maxRecDepth 16384

noncomputable section

namespace Cert.GdnOutIdeal.Entry

open Cert.Tiles Cert.GdnOutIdeal Cert.GdnOutIdeal.Gen Idealize.ShloMosaic Idealize.ShloMosaic.TcCoe Idealize.SL.Sem
open Idealize.ShloMosaic.Pipeline (Dat)

section Tiles

variable {F : FTy → Type} [FloatOps F]

variable (c : Dev nD) (i : grid0.Coords) (a2 : Memref sig .tc .vmem S1x4096x512 .f32) (h2 : a2.IsWhole)
  (a3 : Memref sig .tc .vmem S1024x4096 .bf16) (h3 : a3.IsWhole) (a4 : Memref sig .tc .vmem S1024x4096 .bf16) (h4 : a4.IsWhole)
  (a5 : Memref sig .tc .vmem S1024x512 .f32) (h5 : a5.IsWhole) (a6 : Memref sig .tc .vmem S1024x512 .f32) (h6 : a6.IsWhole)
  (a7 : Memref sig .tc .vmem S4096x512 .bf16) (h7 : a7.IsWhole)

/-- A later row tile's result, of the prompt batch: its rows against the weights in scratch, and the residual. -/
theorem out_B (hc : ¬cond0_0 i) (hd : cond0_1 i) (he : ¬cond0_2 i) (w : Vec F S1x4096x512 .f32) (x x' : Vec F S1024x4096 .bf16) (y : Vec F S1024x512 .f32) (s : Vec F S4096x512 .bf16) :
    out0_B_4 c i a2 h2 a3 h3 a4 h4 a5 h5 a6 h6 a7 h7 hc hd he w x x' y s = k0_pay2 x s y := by
  unfold out0_B_4
  rw [View.read_writes_eq_canon _ _ _ (cover0_B_4 c i a2 h2 a3 h3 a4 h4 a5 h5 a6 h6 a7 h7 hc hd he w x x' y s)]
  unfold kernelRun0_B
  dsimp only
  rw [View.canon_unit_zero zeros2]
  simp only [View.readAt_eq_ld, h2.read_unread, h3.read_unread, h4.read_unread, h5.read_unread, h7.read_unread, View.ld_unit_zero (S := S1024x4096) zeros2,
    View.ld_unit_zero (S := S1024x512) zeros2, View.ld_unit_zero (S := S4096x512) zeros2]

/-- The last row tile's result, of the sample batch. -/
theorem out_C (hc : ¬cond0_0 i) (hd : ¬cond0_1 i) (he : cond0_2 i) (w : Vec F S1x4096x512 .f32) (x x' : Vec F S1024x4096 .bf16) (y : Vec F S1024x512 .f32) (s : Vec F S4096x512 .bf16) :
    out0_C_4 c i a2 h2 a3 h3 a4 h4 a5 h5 a6 h6 a7 h7 hc hd he w x x' y s = k0_pay2 x' s y := by
  unfold out0_C_4
  rw [View.read_writes_eq_canon _ _ _ (cover0_C_4 c i a2 h2 a3 h3 a4 h4 a5 h5 a6 h6 a7 h7 hc hd he w x x' y s)]
  unfold kernelRun0_C
  dsimp only
  rw [View.canon_unit_zero zeros2]
  simp only [View.readAt_eq_ld, h2.read_unread, h3.read_unread, h4.read_unread, h5.read_unread, h7.read_unread, View.ld_unit_zero (S := S1024x4096) zeros2,
    View.ld_unit_zero (S := S1024x512) zeros2, View.ld_unit_zero (S := S4096x512) zeros2]
  rfl

/-- The first row tile leaves the weights' tile in scratch. -/
theorem scratch_A (hc : cond0_0 i) (hd : cond0_1 i) (he : ¬cond0_2 i) (w : Vec F S1x4096x512 .f32) (x x' : Vec F S1024x4096 .bf16) (y : Vec F S1024x512 .f32) :
    sout0_A_0 c i a2 h2 a3 h3 a4 h4 a5 h5 a6 h6 a7 h7 hc hd he w x x' y = k0_pay1 w := by
  unfold sout0_A_0
  rw [View.read_writes_eq_canon _ _ _ (scover0_A_0 c i a2 h2 a3 h3 a4 h4 a5 h5 a6 h6 a7 h7 hc hd he w x x' y)]
  unfold kernelRun0_A
  dsimp only
  sl_unfold_words
  rw [View.canon_unit_zero zeros2]
  simp only [View.readAt_eq_ld, h2.read_unread, View.ld_unit_zero (S := S1x4096x512) zeros3]

/-- The first row tile's result: its rows against the weights' tile, and the residual. -/
theorem out_A (hc : cond0_0 i) (hd : cond0_1 i) (he : ¬cond0_2 i) (w : Vec F S1x4096x512 .f32) (x x' : Vec F S1024x4096 .bf16) (y : Vec F S1024x512 .f32) :
    out0_A_4 c i a2 h2 a3 h3 a4 h4 a5 h5 a6 h6 a7 h7 hc hd he w x x' y = k0_pay2 x (k0_pay1 w) y := by
  unfold out0_A_4
  rw [View.read_writes_eq_canon _ _ _ (cover0_A_4 c i a2 h2 a3 h3 a4 h4 a5 h5 a6 h6 a7 h7 hc hd he w x x' y)]
  unfold kernelRun0_A
  dsimp only
  sl_unfold_words
  rw [View.canon_unit_zero zeros2, View.readCov_unit_zero (S := S4096x512) _ zeros2]
  simp only [View.readAt_eq_ld, h2.read_unread, h3.read_unread, h5.read_unread, View.ld_unit_zero (S := S1024x4096) zeros2,
    View.ld_unit_zero (S := S1024x512) zeros2, View.ld_unit_zero (S := S1x4096x512) zeros3]

variable (m : (ℓ : Loc nD τ sig) → Buf (Elt F) ℓ)

/-- The grid point of row tile `i` against column tile `j`. -/
def point (j : Fin 4) (i : Fin 9) : Fin cfg0.N := ⟨9 * j.val + i.val, by rw [show cfg0.N = 36 from N_0]; omega⟩

/-- At a column tile's first point the scratch takes the tile's weights. -/
theorem scratch_first (t : Fin cfg0.N) (h : t.val % 9 = 0) : (outsAt0 m c t.val t.isLt).2 = k0_pay1 (iblk m c 0 t) := by
  rw [outsAt0_A m c t h (by omega) (by omega)]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  by_cases h7 : t.val % 9 ≤ 7
  · rw [outsAt0_B m c t h h7 (by omega)]
    dsimp only
    unfold sout0_B_0
    rfl
  · rw [outsAt0_C m c t h h7 (by omega)]
    dsimp only
    unfold sout0_C_0
    rfl

/-- Over a column tile's points the scratch holds the tile's weights. -/
theorem scratch_at (j : Fin 4) (i : Fin 9) :
    (outsAt0 m c (point j i).val (point j i).isLt).2 = k0_pay1 (iblk m c 0 (point j 0)) :=
  carried (fun n h => (outsAt0 m c n h).2) (fun n h => k0_pay1 (iblk m c 0 ⟨n, h⟩))
    (fun n h => scratch_first c m ⟨n, h⟩) (fun n h => scratch_later c m ⟨n, h⟩) j.val i.val i.isLt (point j i).isLt (point j 0).isLt

/-- The row tile a point reads: the prompt batch's until the last, the sample batch's then. -/
def rows (t : Fin cfg0.N) : Vec F S1024x4096 .bf16 := if t.val % 9 ≤ 7 then iblk m c 1 t else iblk m c 2 t

/-- What a point leaves: its rows against its column tile's weights, and the residual. -/
theorem out_at (j : Fin 4) (i : Fin 9) :
    (outsAt0 m c (point j i).val (point j i).isLt).1 = k0_pay2 (rows c m (point j i)) (k0_pay1 (iblk m c 0 (point j 0))) (iblk m c 3 (point j i)) := by
  unfold rows
  by_cases h : (point j i).val % 9 = 0
  · have hi : i = 0 := Fin.ext (by change (9 * j.val + i.val) % 9 = 0 at h; show i.val = 0; omega)
    subst hi
    rw [outsAt0_A m c (point j 0) h (by omega) (by omega), if_pos (by omega)]
    dsimp only
    rw [out_A]
  · have hs := (scratch_later c m (point j i) h).symm.trans (scratch_at c m j i)
    by_cases h7 : (point j i).val % 9 ≤ 7
    · rw [outsAt0_B m c (point j i) h h7 (by omega), if_pos h7]
      dsimp only
      rw [out_B, hs]
    · rw [outsAt0_C m c (point j i) h h7 (by omega), if_neg h7]
      dsimp only
      rw [out_C, hs]

end Tiles

/-! ## The entries -/

/-- A weights' tile is its block. -/
theorem pay1_apply (w : FVec Ideal S1x4096x512 .f32) (l : Fin 4096) (k : Fin 512) :
    (k0_pay1 (F := Ideal) w (ix2 l k) : EReal) = w (ix3 0 l k) := by
  pointwise [k0_pay1]

/-- A result's entry: the residual and the product of row and column. -/
theorem pay2_apply (x : FVec Ideal S1024x4096 .bf16) (w : FVec Ideal S4096x512 .bf16) (y : FVec Ideal S1024x512 .f32) (r : Fin 1024) (k : Fin 512) :
    (k0_pay2 (F := Ideal) x w y (ix2 r k) : EReal) = y (ix2 r k) + ∑ l : Fin 4096, x (ix2 r l) * w (ix2 l k) := by
  pointwise [k0_pay2]

variable (m : (ℓ : Loc nD τ sig) → Buf (Elt Ideal) ℓ) (c : Dev nD)

theorem index0 : ∀ t : Fin cfg0.N, win0_0.index t 0 = 1 ∧ win0_0.index t 1 = 0 ∧ win0_0.index t 2 = t.val / 9 :=
  (by decide +kernel : ∀ t : Fin grid0.N, win0_0.index t 0 = 1 ∧ win0_0.index t 1 = 0 ∧ win0_0.index t 2 = t.val / 9)
theorem index1 : ∀ t : Fin cfg0.N, win0_1.index t 0 = min (t.val % 9) 7 ∧ win0_1.index t 1 = 0 :=
  (by decide +kernel : ∀ t : Fin grid0.N, win0_1.index t 0 = min (t.val % 9) 7 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val % 9 ∧ win0_3.index t 1 = t.val / 9 :=
  (by decide +kernel : ∀ t : Fin grid0.N, win0_3.index t 0 = t.val % 9 ∧ win0_3.index t 1 = t.val / 9)
theorem index4 : ∀ t : Fin cfg0.N, win0_4.index t 0 = t.val % 9 ∧ win0_4.index t 1 = t.val / 9 :=
  (by decide +kernel : ∀ t : Fin grid0.N, win0_4.index t 0 = t.val % 9 ∧ win0_4.index t 1 = t.val / 9)

/-- The prompt batch's rows, the sample batch's, all layers' weights and the residual. -/
def argP : FVec Ideal S8192x4096 .f32 := m ((c.tc : Thread nD τ).loc main_arg0)
def argS : FVec Ideal S1024x4096 .f32 := m ((c.tc : Thread nD τ).loc main_arg1)
def argW : FVec Ideal S2x4096x2048 .f32 := m ((c.tc : Thread nD τ).loc main_arg2)
def argY : FVec Ideal S9216x2048 .f32 := m ((c.tc : Thread nD τ).loc main_arg3)

/-- The weights' tile in scratch is a column tile of the second layer's weights. -/
theorem block0 (j : Fin 4) (l : Fin 4096) (k : Fin 512) :
    ((iblk m c 0 (point j 0) : FVec Ideal S1x4096x512 .f32) (ix3 0 l k) : EReal) = argW m c (ix3 1 l ⟨512 * j.val + k.val, by omega⟩) := by
  unfold iblk
  rw [View.read_apply]
  show V m c main_arg2 _ = _
  rw [V_main_arg2]
  refine congrArg (argW m c) ?_
  funext a
  apply Fin.ext
  match a with
  | ⟨0, _⟩ =>
    show win0_0.index (point j 0) 0 * 1 + 1 * 0 = 1
    rw [(index0 _).1]
  | ⟨1, _⟩ =>
    show win0_0.index (point j 0) 1 * 4096 + 1 * l.val = l.val
    rw [(index0 _).2.1]; omega
  | ⟨2, _⟩ =>
    show win0_0.index (point j 0) 2 * 512 + 1 * k.val = 512 * j.val + k.val
    rw [(index0 _).2.2]; simp only [point, Fin.val_zero]; omega

theorem block1 (j : Fin 4) (i : Fin 9) (r : Fin 1024) (l : Fin 4096) (h7 : i.val ≤ 7) :
    ((iblk m c 1 (point j i) : FVec Ideal S1024x4096 .bf16) (ix2 r l) : EReal) = argP m c (ix2 ⟨1024 * i.val + r.val, by omega⟩ l) := by
  have hV : (V m c main_v0 : FVec Ideal S8192x4096 .bf16) = truncf .bf16 (argP m c) bitsLt_bf16_f32 := by
    show StableHlo.after hostOps0 _ _ = _
    simp only [hostOps0]
    after_reads_simp
    rfl
  unfold iblk
  rw [View.read_apply]
  refine (congrFun hV _).trans (congrArg (argP m c) ?_)
  funext a
  apply Fin.ext
  match a with
  | ⟨0, _⟩ =>
    show win0_1.index (point j i) 0 * 1024 + 1 * r.val = 1024 * i.val + r.val
    rw [(index1 _).1]; simp only [point]; omega
  | ⟨1, _⟩ =>
    show win0_1.index (point j i) 1 * 4096 + 1 * l.val = l.val
    rw [(index1 _).2]; omega

theorem block2 (j : Fin 4) (i : Fin 9) (r : Fin 1024) (l : Fin 4096) :
    ((iblk m c 2 (point j i) : FVec Ideal S1024x4096 .bf16) (ix2 r l) : EReal) = argS m c (ix2 ⟨r.val, by omega⟩ l) := by
  have hV : (V m c main_v1 : FVec Ideal S1024x4096 .bf16) = truncf .bf16 (argS m c) bitsLt_bf16_f32 := by
    show StableHlo.after hostOps0 _ _ = _
    simp only [hostOps0]
    after_reads_simp
    rfl
  unfold iblk
  rw [View.read_apply]
  refine (congrFun hV _).trans (congrArg (argS m c) ?_)
  funext a
  apply Fin.ext
  match a with
  | ⟨0, _⟩ =>
    show win0_2.index (point j i) 0 * 1024 + 1 * r.val = r.val
    rw [(index2 _).1]; omega
  | ⟨1, _⟩ =>
    show win0_2.index (point j i) 1 * 4096 + 1 * l.val = l.val
    rw [(index2 _).2]; omega

/-- The row tile a point reads, from the joined rows. -/
theorem rows_at (j : Fin 4) (i : Fin 9) (r : Fin 1024) (l : Fin 4096) :
    ((rows c m (point j i) : FVec Ideal S1024x4096 .bf16) (ix2 r l) : EReal)
      = joined (argP m c) (argS m c) ⟨1024 * i.val + r.val, by omega⟩ l :=
  joined_tile (argP m c) (argS m c) _ _ i (block1 m c j i) (block2 m c j i) r l _ (by show (9 * j.val + i.val) % 9 = i.val; omega)

/-- A point's tile of the residual. -/
theorem block3 (j : Fin 4) (i : Fin 9) (r : Fin 1024) (k : Fin 512) :
    ((iblk m c 3 (point j i) : FVec Ideal S1024x512 .f32) (ix2 r k) : EReal)
      = argY m c (ix2 ⟨1024 * i.val + r.val, by omega⟩ ⟨512 * j.val + k.val, by omega⟩) := by
  unfold iblk
  rw [View.read_apply]
  show V m c main_arg3 _ = _
  rw [V_main_arg3]
  refine congrArg (argY m c) ?_
  funext a
  apply Fin.ext
  match a with
  | ⟨0, _⟩ =>
    show win0_3.index (point j i) 0 * 1024 + 1 * r.val = 1024 * i.val + r.val
    rw [(index3 _).1]; simp only [point]; omega
  | ⟨1, _⟩ =>
    show win0_3.index (point j i) 1 * 512 + 1 * k.val = 512 * j.val + k.val
    rw [(index3 _).2]; simp only [point]; omega

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h0 : win0_4.index t 0 = win0_4.index t' 0 := congrFun h 0
    have h1 : win0_4.index t 1 = win0_4.index t' 1 := congrFun h 1
    rw [(index4 t).1, (index4 t').1] at h0
    rw [(index4 t).2, (index4 t').2] at h1
    omega))

/-- The product of a row with a column of the layer's weights. -/
def product (r : Fin 9216) (k : Fin 2048) : EReal := ∑ l : Fin 4096, joined (argP m c) (argS m c) r l * argW m c (ix3 1 l k)

/-- The kernel's result, entry by entry. -/
theorem result (j : Fin 4) (i : Fin 9) (r : Fin 1024) (k : Fin 512) :
    ((dats m 0 c).arrAt 4 cfg0.N : FVec Ideal S9216x2048 .f32) (ix2 ⟨1024 * i.val + r.val, by omega⟩ ⟨512 * j.val + k.val, by omega⟩)
      = argY m c (ix2 ⟨1024 * i.val + r.val, by omega⟩ ⟨512 * j.val + k.val, by omega⟩)
        + product m c ⟨1024 * i.val + r.val, by omega⟩ ⟨512 * j.val + k.val, by omega⟩ := by
  have hb := congrFun ((dats m 0 c).read_blk_arrAt_eq_flushed 4 disjoint4 cfg0.N (point j i) (point j i).isLt (flush0_4 _)) (ix2 r k : S1024x512.Idx)
  rw [View.read_apply] at hb
  have hi : ((cfg0.win 4).blk (point j i)).view.emb (ix2 r k : S1024x512.Idx)
      = (ix2 ⟨1024 * i.val + r.val, by omega⟩ ⟨512 * j.val + k.val, by omega⟩ : S9216x2048.Idx) := by
    funext a
    apply Fin.ext
    match a with
    | ⟨0, _⟩ =>
      show win0_4.index (point j i) 0 * 1024 + 1 * r.val = 1024 * i.val + r.val
      rw [(index4 _).1]; simp only [point]; omega
    | ⟨1, _⟩ =>
      show win0_4.index (point j i) 1 * 512 + 1 * k.val = 512 * j.val + k.val
      rw [(index4 _).2]; simp only [point]; omega
  refine (congrArg ((dats m 0 c).arrAt 4 cfg0.N : FVec Ideal S9216x2048 .f32) hi).symm.trans (hb.trans ?_)
  show ((dats m 0 c).after 4 (point j i) : FVec Ideal S1024x512 .f32) (ix2 r k) = _
  rw [after0_4, out_at, pay2_apply]
  simp only [pay1_apply, rows_at, block0, block3]
  rfl

end Cert.GdnOutIdeal.Entry

namespace Cert.GdnOutRefIdeal.Entry

open Cert.GdnOutRefIdeal Cert.GdnOutRefIdeal.Gen Idealize.ShloMosaic Idealize.ShloMosaic.TcCoe Idealize.SL.Sem

/-- The reference's result from its arguments. -/
def term (p : FVec Ideal S8192x4096 .f32) (s : FVec Ideal S1024x4096 .f32) (w : FVec Ideal S2x4096x2048 .f32) (y : FVec Ideal S9216x2048 .f32) : FVec Ideal S9216x2048 .f32 :=
  addf y (Host.dotGeneral dot_S9216x4096_S4096x2048_S9216x2048_1_0_0_1_n_n none (concatenate S9216x4096 0 [⟨S8192x4096, p⟩, ⟨S1024x4096, s⟩] concatenates_S8192x4096_S1024x4096_S9216x4096_d0) (shapeCast _ (extractStridedSlice S1x4096x2048 ![1, 0, 0] w slices_S2x4096x2048_S1x4096x2048_1_0_0) shapeCasts_S1x4096x2048_S4096x2048))

/-- Its entries. -/
theorem term_apply (p : FVec Ideal S8192x4096 .f32) (s : FVec Ideal S1024x4096 .f32) (w : FVec Ideal S2x4096x2048 .f32) (y : FVec Ideal S9216x2048 .f32) (r : Fin 9216) (k : Fin 2048) :
    (term p s w y (ix2 r k) : EReal) = y (ix2 r k) + ∑ l : Fin 4096, Tiles.joined p s r l * w (ix3 1 l k) := by
  unfold Tiles.joined
  pointwise [term]

end Cert.GdnOutRefIdeal.Entry

namespace Cert.GdnOutAgree

open Idealize.ShloMosaic Idealize.ShloMosaic.TcCoe Idealize.SL.Sem

/-- The kernel's result is the reference's, of the same arguments. -/
theorem outputs (m : (ℓ : Loc GdnOutIdeal.nD GdnOutIdeal.τ GdnOutIdeal.sig) → Buf (Elt Ideal) ℓ) (c : Dev GdnOutIdeal.nD) :
    GdnOutRefIdeal.Entry.term (GdnOutIdeal.Entry.argP m c) (GdnOutIdeal.Entry.argS m c) (GdnOutIdeal.Entry.argW m c) (GdnOutIdeal.Entry.argY m c) = (GdnOutIdeal.Gen.dats m 0 c).arrAt 4 GdnOutIdeal.cfg0.N := by
  funext i
  idx_vars i
  obtain ⟨p, r, rfl⟩ := Tiles.split (p := 1024) (q := 9) (by decide) rfl i0
  obtain ⟨j, k, rfl⟩ := Tiles.split (p := 512) (q := 4) (by decide) rfl i1
  rw [GdnOutIdeal.Entry.result]
  exact GdnOutRefIdeal.Entry.term_apply ..

end Cert.GdnOutAgree

end
-- ==== Proof.GateProj.lean ====
/- The input projection of the gated delta rule's output gate: columns 8192 to 12287 of the layer's input weights.
   The kernel transposes and stacks all layers' weights, and keeps a tile of the second layer's rows in
   scratch over the nine row tiles; each entry of its result is the product of the operand's row with
   the weights' column, as the reference computes it. -/
module

public import proofs.«01_k».proof.Proof.Gen.GateInIdeal.Frame
public import proofs.«01_k».proof.Proof.Gen.GateInRefIdeal.Run
public import proofs.«01_k».proof.Proof.Tiles
public import proofs.«01_k».proof.Proof.GdnProj

@[expose] public section

set_option maxRecDepth 16384

noncomputable section

namespace Cert.GateInIdeal.Entry

open Cert.Tiles Cert.GateInIdeal Cert.GateInIdeal.Gen Idealize.ShloMosaic Idealize.ShloMosaic.TcCoe Idealize.SL.Sem
open Idealize.ShloMosaic.Pipeline (Dat)
open Cert.GdnInIdeal.Entry (stacked stacked_apply)

section Tiles

variable {F : FTy → Type} [FloatOps F]

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S1024x2048 .bf16) (h5 : a5.IsWhole)

/-- A later row tile's result: its rows against the weights in scratch. -/
theorem out_B (hc : ¬cond0_0 i) (x : Vec F S1024x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S1024x2048) zeros2]

/-- The first row tile leaves the weights' tile in scratch. -/
theorem scratch_A (hc : cond0_0 i) (x : Vec F S1024x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1024x2048) zeros2]

/-- The first row tile's result: its rows against the weights' tile. -/
theorem out_A (hc : cond0_0 i) (x : Vec F S1024x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S1024x2048) _ zeros2]
  simp only [View.readAt_eq_ld, h2.read_unread, h3.read_unread, View.ld_unit_zero (S := S1024x2048) zeros2, View.ld_unit_zero (S := S1024x2048) zeros2]

variable (m : (ℓ : Loc nD τ sig) → Buf (Elt F) ℓ)

/-- The grid point of row tile `i` against column tile `j`. -/
def point (j : Fin 4) (i : Fin 9) : Fin cfg0.N := ⟨9 * j.val + i.val, by rw [show cfg0.N = 36 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 4) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 4) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1024x2048 .f32) (k : Fin 1024) (l : Fin 2048) :
    (k0_pay1 (F := Ideal) w (ix2 k l) : EReal) = w (ix2 k l) := by
  pointwise [k0_pay1]

/-- A result's entry: the product of a row of the operand with a row of the weights. -/
theorem pay2_apply (x : FVec Ideal S1024x2048 .bf16) (w : FVec Ideal S1024x2048 .bf16) (r k : Fin 1024) :
    (k0_pay2 (F := Ideal) x w (ix2 r k) : EReal) = ∑ l : Fin 2048, x (ix2 r l) * w (ix2 k l) := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 20544 + 1024 * (t.val / 9) ∧ win0_1.index t 1 = 0 :=
  (by decide +kernel : ∀ t : Fin grid0.N, win0_1.index t 0 = 20544 + 1024 * (t.val / 9) ∧ win0_1.index t 1 = 0)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S2x2048x12352 .f32 := m ((c.tc : Thread nD τ).loc main_arg1)

theorem block0 (j : Fin 4) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v1 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

theorem block1 (j : Fin 4) (k : Fin 1024) (l : Fin 2048) :
    ((iblk m c 1 (point j 0) : FVec Ideal S1024x2048 .f32) (ix2 k l) : EReal) = argW m c (ix3 1 l ⟨8192 + (1024 * j.val + k.val), by omega⟩) := by
  have hV : (V m c main_v2 : FVec Ideal S24704x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨20544 + (1024 * j.val + k.val), by omega⟩ ⟨8192 + (1024 * j.val + k.val), by omega⟩ l (by simp only; omega)))
  funext a
  apply Fin.ext
  match a with
  | ⟨0, _⟩ =>
    show win0_1.index (point j 0) 0 + 1 * k.val = 20544 + (1024 * j.val + k.val)
    rw [(index1 _).1]; simp only [point, Fin.val_zero]; omega
  | ⟨1, _⟩ =>
    show win0_1.index (point j 0) 1 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with one of the columns of the layer's weights the call takes. -/
def product (r : Fin 9216) (k : Fin 4096) : EReal := ∑ l : Fin 2048, argX m c (ix2 r l) * argW m c (ix3 1 l ⟨8192 + k.val, by omega⟩)

/-- The kernel's result, entry by entry. -/
theorem result (j : Fin 4) (i : Fin 9) (r k : Fin 1024) :
    ((dats m 0 c).arrAt 2 cfg0.N : FVec Ideal S9216x4096 .f32) (ix2 ⟨1024 * i.val + r.val, by omega⟩ ⟨1024 * j.val + k.val, by omega⟩)
      = product m c ⟨1024 * i.val + r.val, by omega⟩ ⟨1024 * j.val + k.val, by omega⟩ := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x4096.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x4096 .f32) hi).symm.trans (hb.trans ?_)
  show ((dats m 0 c).after 2 (point j i) : FVec Ideal S1024x1024 .f32) (ix2 r k) = _
  rw [after0_2, out_at, pay2_apply]
  simp only [pay1_apply, block0, block1]
  rfl

end Cert.GateInIdeal.Entry

namespace Cert.GateInRefIdeal.Entry

open Cert.GateInRefIdeal Cert.GateInRefIdeal.Gen Idealize.ShloMosaic Idealize.ShloMosaic.TcCoe Idealize.SL.Sem

/-- The reference's result from its arguments. -/
def term (x : FVec Ideal S9216x2048 .f32) (w : FVec Ideal S2x2048x12352 .f32) : FVec Ideal S9216x4096 .f32 :=
  extractStridedSlice S9216x4096 ![0, 8192] (Host.dotGeneral dot_S9216x2048_S2048x12352_S9216x12352_1_0_0_1_n_n none x (shapeCast _ (extractStridedSlice S1x2048x12352 ![1, 0, 0] w slices_S2x2048x12352_S1x2048x12352_1_0_0) shapeCasts_S1x2048x12352_S2048x12352)) slices_S9216x12352_S9216x4096_0_8192

/-- Its entries. -/
theorem term_apply (x : FVec Ideal S9216x2048 .f32) (w : FVec Ideal S2x2048x12352 .f32) (r : Fin 9216) (k : Fin 4096) :
    (term x w (ix2 r k) : EReal) = ∑ l : Fin 2048, x (ix2 r l) * w (ix3 1 l ⟨8192 + k.val, by omega⟩) := by
  pointwise [term]

end Cert.GateInRefIdeal.Entry

namespace Cert.GateInAgree

open Idealize.ShloMosaic Idealize.ShloMosaic.TcCoe Idealize.SL.Sem

/-- The kernel's result is the reference's, of the same arguments. -/
theorem outputs (m : (ℓ : Loc GateInIdeal.nD GateInIdeal.τ GateInIdeal.sig) → Buf (Elt Ideal) ℓ) (c : Dev GateInIdeal.nD) :
    GateInRefIdeal.Entry.term (GateInIdeal.Entry.argX m c) (GateInIdeal.Entry.argW m c) = (GateInIdeal.Gen.dats m 0 c).arrAt 2 GateInIdeal.cfg0.N := by
  funext i
  idx_vars i
  obtain ⟨p, r, rfl⟩ := Tiles.split (p := 1024) (q := 9) (by decide) rfl i0
  obtain ⟨j, k, rfl⟩ := Tiles.split (p := 1024) (q := 4) (by decide) rfl i1
  rw [GateInIdeal.Entry.result]
  exact GateInRefIdeal.Entry.term_apply ..

end Cert.GateInAgree

end
-- ==== Proof.SsmProj.lean ====
/- The input projection of the state-space part's values, keys and queries: columns 2048 to 5119 of the layer's input weights.
   The kernel transposes and stacks all layers' weights, and keeps a tile of the second layer's rows in
   scratch over the nine row tiles; each entry of its result is the product of the operand's row with
   the weights' column, as the reference computes it. -/
module

public import proofs.«01_k».proof.Proof.Gen.SsmInIdeal.Frame
public import proofs.«01_k».proof.Proof.Gen.SsmInRefIdeal.Run
public import proofs.«01_k».proof.Proof.Tiles
public import proofs.«01_k».proof.Proof.HgrnProj

@[expose] public section

set_option maxRecDepth 16384

noncomputable section

namespace Cert.SsmInIdeal.Entry

open Cert.Tiles Cert.SsmInIdeal Cert.SsmInIdeal.Gen Idealize.ShloMosaic Idealize.ShloMosaic.TcCoe Idealize.SL.Sem
open Idealize.ShloMosaic.Pipeline (Dat)
open Cert.HgrnInIdeal.Entry (stacked stacked_apply)

section Tiles

variable {F : FTy → Type} [FloatOps F]

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S1024x2048 .bf16) (h5 : a5.IsWhole)

/-- A later row tile's result: its rows against the weights in scratch. -/
theorem out_B (hc : ¬cond0_0 i) (x : Vec F S1024x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S1024x2048) zeros2]

/-- The first row tile leaves the weights' tile in scratch. -/
theorem scratch_A (hc : cond0_0 i) (x : Vec F S1024x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1024x2048) zeros2]

/-- The first row tile's result: its rows against the weights' tile. -/
theorem out_A (hc : cond0_0 i) (x : Vec F S1024x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S1024x2048) _ zeros2]
  simp only [View.readAt_eq_ld, h2.read_unread, h3.read_unread, View.ld_unit_zero (S := S1024x2048) zeros2, View.ld_unit_zero (S := S1024x2048) zeros2]

variable (m : (ℓ : Loc nD τ sig) → Buf (Elt F) ℓ)

/-- The grid point of row tile `i` against column tile `j`. -/
def point (j : Fin 3) (i : Fin 9) : Fin cfg0.N := ⟨9 * j.val + i.val, by rw [show cfg0.N = 27 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 3) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 3) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1024x2048 .f32) (k : Fin 1024) (l : Fin 2048) :
    (k0_pay1 (F := Ideal) w (ix2 k l) : EReal) = w (ix2 k l) := by
  pointwise [k0_pay1]

/-- A result's entry: the product of a row of the operand with a row of the weights. -/
theorem pay2_apply (x : FVec Ideal S1024x2048 .bf16) (w : FVec Ideal S1024x2048 .bf16) (r k : Fin 1024) :
    (k0_pay2 (F := Ideal) x w (ix2 r k) : EReal) = ∑ l : Fin 2048, x (ix2 r l) * w (ix2 k l) := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 15392 + 1024 * (t.val / 9) ∧ win0_1.index t 1 = 0 :=
  (by decide +kernel : ∀ t : Fin grid0.N, win0_1.index t 0 = 15392 + 1024 * (t.val / 9) ∧ win0_1.index t 1 = 0)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S2x2048x13344 .f32 := m ((c.tc : Thread nD τ).loc main_arg1)

theorem block0 (j : Fin 3) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v1 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

theorem block1 (j : Fin 3) (k : Fin 1024) (l : Fin 2048) :
    ((iblk m c 1 (point j 0) : FVec Ideal S1024x2048 .f32) (ix2 k l) : EReal) = argW m c (ix3 1 l ⟨2048 + (1024 * j.val + k.val), by omega⟩) := by
  have hV : (V m c main_v2 : FVec Ideal S26688x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨15392 + (1024 * j.val + k.val), by omega⟩ ⟨2048 + (1024 * j.val + k.val), by omega⟩ l (by simp only; omega)))
  funext a
  apply Fin.ext
  match a with
  | ⟨0, _⟩ =>
    show win0_1.index (point j 0) 0 + 1 * k.val = 15392 + (1024 * j.val + k.val)
    rw [(index1 _).1]; simp only [point, Fin.val_zero]; omega
  | ⟨1, _⟩ =>
    show win0_1.index (point j 0) 1 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with one of the columns of the layer's weights the call takes. -/
def product (r : Fin 9216) (k : Fin 3072) : EReal := ∑ l : Fin 2048, argX m c (ix2 r l) * argW m c (ix3 1 l ⟨2048 + k.val, by omega⟩)

/-- The kernel's result, entry by entry. -/
theorem result (j : Fin 3) (i : Fin 9) (r k : Fin 1024) :
    ((dats m 0 c).arrAt 2 cfg0.N : FVec Ideal S9216x3072 .f32) (ix2 ⟨1024 * i.val + r.val, by omega⟩ ⟨1024 * j.val + k.val, by omega⟩)
      = product m c ⟨1024 * i.val + r.val, by omega⟩ ⟨1024 * j.val + k.val, by omega⟩ := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x3072.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x3072 .f32) hi).symm.trans (hb.trans ?_)
  show ((dats m 0 c).after 2 (point j i) : FVec Ideal S1024x1024 .f32) (ix2 r k) = _
  rw [after0_2, out_at, pay2_apply]
  simp only [pay1_apply, block0, block1]
  rfl

end Cert.SsmInIdeal.Entry

namespace Cert.SsmInRefIdeal.Entry

open Cert.SsmInRefIdeal Cert.SsmInRefIdeal.Gen Idealize.ShloMosaic Idealize.ShloMosaic.TcCoe Idealize.SL.Sem

/-- The reference's result from its arguments. -/
def term (x : FVec Ideal S9216x2048 .f32) (w : FVec Ideal S2x2048x13344 .f32) : FVec Ideal S9216x3072 .f32 :=
  extractStridedSlice S9216x3072 ![0, 2048] (Host.dotGeneral dot_S9216x2048_S2048x13344_S9216x13344_1_0_0_1_n_n none x (shapeCast _ (extractStridedSlice S1x2048x13344 ![1, 0, 0] w slices_S2x2048x13344_S1x2048x13344_1_0_0) shapeCasts_S1x2048x13344_S2048x13344)) slices_S9216x13344_S9216x3072_0_2048

/-- Its entries. -/
theorem term_apply (x : FVec Ideal S9216x2048 .f32) (w : FVec Ideal S2x2048x13344 .f32) (r : Fin 9216) (k : Fin 3072) :
    (term x w (ix2 r k) : EReal) = ∑ l : Fin 2048, x (ix2 r l) * w (ix3 1 l ⟨2048 + k.val, by omega⟩) := by
  pointwise [term]

end Cert.SsmInRefIdeal.Entry

namespace Cert.SsmInAgree

open Idealize.ShloMosaic Idealize.ShloMosaic.TcCoe Idealize.SL.Sem

/-- The kernel's result is the reference's, of the same arguments. -/
theorem outputs (m : (ℓ : Loc SsmInIdeal.nD SsmInIdeal.τ SsmInIdeal.sig) → Buf (Elt Ideal) ℓ) (c : Dev SsmInIdeal.nD) :
    SsmInRefIdeal.Entry.term (SsmInIdeal.Entry.argX m c) (SsmInIdeal.Entry.argW m c) = (SsmInIdeal.Gen.dats m 0 c).arrAt 2 SsmInIdeal.cfg0.N := by
  funext i
  idx_vars i
  obtain ⟨p, r, rfl⟩ := Tiles.split (p := 1024) (q := 9) (by decide) rfl i0
  obtain ⟨j, k, rfl⟩ := Tiles.split (p := 1024) (q := 3) (by decide) rfl i1
  rw [SsmInIdeal.Entry.result]
  exact SsmInRefIdeal.Entry.term_apply ..

end Cert.SsmInAgree

end
-- ==== Proof.SsmGateProj.lean ====
/- The input projection of the state-space part's output gate: the first 2048 columns of the layer's input weights.
   The kernel transposes and stacks all layers' weights, and keeps a tile of the second layer's rows in
   scratch over the nine row tiles; each entry of its result is the product of the operand's row with
   the weights' column, as the reference computes it. -/
module

public import proofs.«01_k».proof.Proof.Gen.SsmGateInIdeal.Frame
public import proofs.«01_k».proof.Proof.Gen.SsmGateInRefIdeal.Run
public import proofs.«01_k».proof.Proof.Tiles
public import proofs.«01_k».proof.Proof.HgrnProj

@[expose] public section

set_option maxRecDepth 16384

noncomputable section

namespace Cert.SsmGateInIdeal.Entry

open Cert.Tiles Cert.SsmGateInIdeal Cert.SsmGateInIdeal.Gen Idealize.ShloMosaic Idealize.ShloMosaic.TcCoe Idealize.SL.Sem
open Idealize.ShloMosaic.Pipeline (Dat)
open Cert.HgrnInIdeal.Entry (stacked stacked_apply)

section Tiles

variable {F : FTy → Type} [FloatOps F]

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S1024x2048 .bf16) (h5 : a5.IsWhole)

/-- A later row tile's result: its rows against the weights in scratch. -/
theorem out_B (hc : ¬cond0_0 i) (x : Vec F S1024x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zeros2]
  simp only [View.readAt_eq_ld, h2.read_unread, h5.read_unread, View.ld_unit_zero (S := S1024x2048) zeros2, View.ld_unit_zero (S := S1024x2048) zeros2]

/-- The first row tile leaves the weights' tile in scratch. -/
theorem scratch_A (hc : cond0_0 i) (x : Vec F S1024x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zeros2]
  simp only [View.readAt_eq_ld, h3.read_unread, View.ld_unit_zero (S := S1024x2048) zeros2]

/-- The first row tile's result: its rows against the weights' tile. -/
theorem out_A (hc : cond0_0 i) (x : Vec F S1024x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zeros2, View.readCov_unit_zero (S := S1024x2048) _ zeros2]
  simp only [View.readAt_eq_ld, h2.read_unread, h3.read_unread, View.ld_unit_zero (S := S1024x2048) zeros2, View.ld_unit_zero (S := S1024x2048) zeros2]

variable (m : (ℓ : Loc nD τ sig) → Buf (Elt F) ℓ)

/-- The grid point of row tile `i` against column tile `j`. -/
def point (j : Fin 2) (i : Fin 9) : Fin cfg0.N := ⟨9 * j.val + i.val, by rw [show cfg0.N = 18 from N_0]; omega⟩

/-- At a column tile's first point the scratch takes the tile's weights. -/
theorem scratch_first (t : Fin cfg0.N) (h : t.val % 9 = 0) : (outsAt0 m c t.val t.isLt).2 = k0_pay1 (iblk m c 1 t) := by
  rw [outsAt0_A m c t h]
  dsimp only
  rw [scratch_A]

/-- At its other points it keeps them. -/
theorem scratch_later (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Over a column tile's points the scratch holds the tile's weights. -/
theorem scratch_at (j : Fin 2) (i : Fin 9) :
    (outsAt0 m c (point j i).val (point j i).isLt).2 = k0_pay1 (iblk m c 1 (point j 0)) :=
  carried (fun n h => (outsAt0 m c n h).2) (fun n h => k0_pay1 (iblk m c 1 ⟨n, h⟩))
    (fun n h => scratch_first c m ⟨n, h⟩) (fun n h => scratch_later c m ⟨n, h⟩) j.val i.val i.isLt (point j i).isLt (point j 0).isLt

/-- What a point leaves: its rows against its column tile's weights. -/
theorem out_at (j : Fin 2) (i : Fin 9) :
    (outsAt0 m c (point j i).val (point j i).isLt).1 = k0_pay2 (iblk m c 0 (point j i)) (k0_pay1 (iblk m c 1 (point j 0))) := by
  by_cases h : (point j i).val % 9 = 0
  · have hi : i = 0 := Fin.ext (by change (9 * j.val + i.val) % 9 = 0 at h; show i.val = 0; omega)
    subst hi
    rw [outsAt0_A m c (point j 0) h]
    dsimp only
    rw [out_A]
  · have hs := (scratch_later c m (point j i) h).symm.trans (scratch_at c m j i)
    rw [outsAt0_B m c (point j i) h]
    dsimp only
    rw [out_B, hs]

end Tiles

/-! ## The entries -/

/-- A weights' tile is its block. -/
theorem pay1_apply (w : FVec Ideal S1024x2048 .f32) (k : Fin 1024) (l : Fin 2048) :
    (k0_pay1 (F := Ideal) w (ix2 k l) : EReal) = w (ix2 k l) := by
  pointwise [k0_pay1]

/-- A result's entry: the product of a row of the operand with a row of the weights. -/
theorem pay2_apply (x : FVec Ideal S1024x2048 .bf16) (w : FVec Ideal S1024x2048 .bf16) (r k : Fin 1024) :
    (k0_pay2 (F := Ideal) x w (ix2 r k) : EReal) = ∑ l : Fin 2048, x (ix2 r l) * w (ix2 k l) := by
  pointwise [k0_pay2]

variable (m : (ℓ : Loc nD τ sig) → Buf (Elt Ideal) ℓ) (c : Dev nD)

theorem index0 : ∀ t : Fin cfg0.N, win0_0.index t 0 = t.val % 9 ∧ win0_0.index t 1 = 0 :=
  (by decide +kernel : ∀ t : Fin grid0.N, win0_0.index t 0 = t.val % 9 ∧ win0_0.index t 1 = 0)
theorem index1 : ∀ t : Fin cfg0.N, win0_1.index t 0 = 13344 + 1024 * (t.val / 9) ∧ win0_1.index t 1 = 0 :=
  (by decide +kernel : ∀ t : Fin grid0.N, win0_1.index t 0 = 13344 + 1024 * (t.val / 9) ∧ win0_1.index t 1 = 0)
theorem index2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)

/-- The layer's operand and all layers' weights. -/
def argX : FVec Ideal S9216x2048 .f32 := m ((c.tc : Thread nD τ).loc main_arg0)
def argW : FVec Ideal S2x2048x13344 .f32 := m ((c.tc : Thread nD τ).loc main_arg1)

theorem block0 (j : Fin 2) (i : Fin 9) (r : Fin 1024) (l : Fin 2048) :
    ((iblk m c 0 (point j i) : FVec Ideal S1024x2048 .bf16) (ix2 r l) : EReal) = argX m c (ix2 ⟨1024 * i.val + r.val, by omega⟩ l) := by
  have hV : (V m c main_v1 : FVec Ideal S9216x2048 .bf16) = truncf .bf16 (argX m c) bitsLt_bf16_f32 := by
    show StableHlo.after hostOps0 _ _ = _
    simp only [hostOps0]
    after_reads_simp
    rfl
  unfold iblk
  rw [View.read_apply]
  refine (congrFun hV _).trans (congrArg (argX m c) ?_)
  funext a
  apply Fin.ext
  match a with
  | ⟨0, _⟩ =>
    show win0_0.index (point j i) 0 * 1024 + 1 * r.val = 1024 * i.val + r.val
    rw [(index0 _).1]; simp only [point]; omega
  | ⟨1, _⟩ =>
    show win0_0.index (point j i) 1 * 2048 + 1 * l.val = l.val
    rw [(index0 _).2]; omega

theorem block1 (j : Fin 2) (k : Fin 1024) (l : Fin 2048) :
    ((iblk m c 1 (point j 0) : FVec Ideal S1024x2048 .f32) (ix2 k l) : EReal) = argW m c (ix3 1 l ⟨0 + (1024 * j.val + k.val), by omega⟩) := by
  have hV : (V m c main_v2 : FVec Ideal S26688x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨13344 + (1024 * j.val + k.val), by omega⟩ ⟨0 + (1024 * j.val + k.val), by omega⟩ l (by simp only; omega)))
  funext a
  apply Fin.ext
  match a with
  | ⟨0, _⟩ =>
    show win0_1.index (point j 0) 0 + 1 * k.val = 13344 + (1024 * j.val + k.val)
    rw [(index1 _).1]; simp only [point, Fin.val_zero]; omega
  | ⟨1, _⟩ =>
    show win0_1.index (point j 0) 1 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(index2 t).1, (index2 t').1] at h0
    rw [(index2 t).2, (index2 t').2] at h1
    omega))

/-- The product of a row with one of the columns of the layer's weights the call takes. -/
def product (r : Fin 9216) (k : Fin 2048) : EReal := ∑ l : Fin 2048, argX m c (ix2 r l) * argW m c (ix3 1 l ⟨0 + k.val, by omega⟩)

/-- The kernel's result, entry by entry. -/
theorem result (j : Fin 2) (i : Fin 9) (r k : Fin 1024) :
    ((dats m 0 c).arrAt 2 cfg0.N : FVec Ideal S9216x2048 .f32) (ix2 ⟨1024 * i.val + r.val, by omega⟩ ⟨1024 * j.val + k.val, by omega⟩)
      = product m c ⟨1024 * i.val + r.val, by omega⟩ ⟨1024 * j.val + k.val, by omega⟩ := by
  have hb := congrFun ((dats m 0 c).read_blk_arrAt_eq_flushed 2 disjoint2 cfg0.N (point j i) (point j i).isLt (flush0_2 _)) (ix2 r k : S1024x1024.Idx)
  rw [View.read_apply] at hb
  have hi : ((cfg0.win 2).blk (point j i)).view.emb (ix2 r k : S1024x1024.Idx)
      = (ix2 ⟨1024 * i.val + r.val, by omega⟩ ⟨1024 * j.val + k.val, by omega⟩ : S9216x2048.Idx) := by
    funext a
    apply Fin.ext
    match a with
    | ⟨0, _⟩ =>
      show win0_2.index (point j i) 0 * 1024 + 1 * r.val = 1024 * i.val + r.val
      rw [(index2 _).1]; simp only [point]; omega
    | ⟨1, _⟩ =>
      show win0_2.index (point j i) 1 * 1024 + 1 * k.val = 1024 * j.val + k.val
      rw [(index2 _).2]; simp only [point]; omega
  refine (congrArg ((dats m 0 c).arrAt 2 cfg0.N : FVec Ideal S9216x2048 .f32) hi).symm.trans (hb.trans ?_)
  show ((dats m 0 c).after 2 (point j i) : FVec Ideal S1024x1024 .f32) (ix2 r k) = _
  rw [after0_2, out_at, pay2_apply]
  simp only [pay1_apply, block0, block1]
  rfl

end Cert.SsmGateInIdeal.Entry

namespace Cert.SsmGateInRefIdeal.Entry

open Cert.SsmGateInRefIdeal Cert.SsmGateInRefIdeal.Gen Idealize.ShloMosaic Idealize.ShloMosaic.TcCoe Idealize.SL.Sem

/-- The reference's result from its arguments. -/
def term (x : FVec Ideal S9216x2048 .f32) (w : FVec Ideal S2x2048x13344 .f32) : FVec Ideal S9216x2048 .f32 :=
  extractStridedSlice S9216x2048 ![0, 0] (Host.dotGeneral dot_S9216x2048_S2048x13344_S9216x13344_1_0_0_1_n_n none x (shapeCast _ (extractStridedSlice S1x2048x13344 ![1, 0, 0] w slices_S2x2048x13344_S1x2048x13344_1_0_0) shapeCasts_S1x2048x13344_S2048x13344)) slices_S9216x13344_S9216x2048_0_0

/-- Its entries. -/
theorem term_apply (x : FVec Ideal S9216x2048 .f32) (w : FVec Ideal S2x2048x13344 .f32) (r : Fin 9216) (k : Fin 2048) :
    (term x w (ix2 r k) : EReal) = ∑ l : Fin 2048, x (ix2 r l) * w (ix3 1 l ⟨0 + k.val, by omega⟩) := by
  pointwise [term]

end Cert.SsmGateInRefIdeal.Entry

namespace Cert.SsmGateInAgree

open Idealize.ShloMosaic Idealize.ShloMosaic.TcCoe Idealize.SL.Sem

/-- The kernel's result is the reference's, of the same arguments. -/
theorem outputs (m : (ℓ : Loc SsmGateInIdeal.nD SsmGateInIdeal.τ SsmGateInIdeal.sig) → Buf (Elt Ideal) ℓ) (c : Dev SsmGateInIdeal.nD) :
    SsmGateInRefIdeal.Entry.term (SsmGateInIdeal.Entry.argX m c) (SsmGateInIdeal.Entry.argW m c) = (SsmGateInIdeal.Gen.dats m 0 c).arrAt 2 SsmGateInIdeal.cfg0.N := by
  funext i
  idx_vars i
  obtain ⟨p, r, rfl⟩ := Tiles.split (p := 1024) (q := 9) (by decide) rfl i0
  obtain ⟨j, k, rfl⟩ := Tiles.split (p := 1024) (q := 2) (by decide) rfl i1
  rw [SsmGateInIdeal.Entry.result]
  exact SsmGateInRefIdeal.Entry.term_apply ..

end Cert.SsmGateInAgree

end
-- ==== Proof.Norm.lean ====
/- A row by its root mean square and scaled: what every norm of the layers computes. -/
module

public import proofs.«01_k».proof.Proof.Tiles

@[expose] public section

noncomputable section

namespace Cert.Norm

open Idealize.ShloMosaic

/-- An entry of the row `x`, divided by the root of the row's mean square with the norm's small term, times the
    weight's entry. -/
def rms (x w : Fin 2048 → EReal) (l : Fin 2048) : EReal :=
  x l * Ideal.rsqrt (Ideal.div (∑ k, x k * x k) (Ideal.ofBits .f32 1157627904#32) + Ideal.ofBits .f32 897988541#32) * w l

end Cert.Norm

end
-- ==== Proof.FinalPrompt.lean ====
/- The last norm of the prompt batch's rows. -/
module

public import proofs.«01_k».proof.Proof.Gen.FinalPromptIdeal.Frame
public import proofs.«01_k».proof.Proof.Gen.FinalPromptRefIdeal.Run
public import proofs.«01_k».proof.Proof.Norm

@[expose] public section

set_option maxRecDepth 16384

noncomputable section

namespace Cert.FinalPromptIdeal.Entry

open Cert.Tiles Cert.Norm Cert.FinalPromptIdeal Cert.FinalPromptIdeal.Gen Idealize.ShloMosaic Idealize.ShloMosaic.TcCoe Idealize.SL.Sem
open Idealize.ShloMosaic.Pipeline (Dat)

/-- A point's result: its rows, each by its root mean square. -/
theorem out_rows (x : FVec Ideal S512x2048 .f32) (v : FVec Ideal S1x2048 .f32) (r : Fin 512) (l : Fin 2048) :
    ((out0_2 (F := Ideal) x v : FVec Ideal S512x2048 .f32) (ix2 r l) : EReal) = rms (fun l => x (ix2 r l)) (fun l => v (ix2 0 l)) l := by
  unfold out0_2 r0_0 r0_1
  rw [View.canon_unit_zero zeros2, View.ld_unit_zero (S := S512x2048) zeros2, View.ld_unit_zero (S := S1x2048) zeros2]
  unfold rms
  pointwise [k0_pay1]

variable (m : (ℓ : Loc nD τ sig) → Buf (Elt Ideal) ℓ) (c : Dev nD)

/-- The grid point of row tile `i`. -/
def point (i : Fin 16) : Fin cfg0.N := ⟨i.val, by rw [show cfg0.N = 16 from N_0]; exact i.isLt⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The arguments. -/
def argX : FVec Ideal S9216x2048 .f32 := m ((c.tc : Thread nD τ).loc main_arg0)
def argN : FVec Ideal S2048 .f32 := m ((c.tc : Thread nD τ).loc main_arg1)

theorem block0 (i : Fin 16) (r : Fin 512) (l : Fin 2048) :
    ((iblk m c 0 (point i) : FVec Ideal S512x2048 .f32) (ix2 r l) : EReal) = argX m c (ix2 ⟨(512 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 512 + 1 * r.val = (512 * i.val + r.val)
    rw [(index0 _).1]; simp only [point]; omega
  | ⟨1, _⟩ =>
    show win0_0.index (point i) 1 * 2048 + 1 * l.val = l.val
    rw [(index0 _).2]; omega

/-- The norm's weights as the kernel takes them: one row. -/
def normRow (w : FVec Ideal S2048 .f32) : FVec Ideal S1x2048 .f32 := shapeCast S1x2048 w shapeCasts_S2048_S1x2048

theorem normRow_apply (w : FVec Ideal S2048 .f32) (l : Fin 2048) : (normRow w (ix2 0 l) : EReal) = w (ix1 l) := by
  pointwise [normRow]

theorem block1 (i : Fin 16) (l : Fin 2048) :
    ((iblk m c 1 (point i) : FVec Ideal S1x2048 .f32) (ix2 0 l) : EReal) = argN m c (ix1 l) := by
  have hV : (V m c main_v0 : FVec Ideal S1x2048 .f32) = normRow (argN m c) := by
    show StableHlo.after hostOps0 _ _ = _
    simp only [hostOps0]
    after_reads_simp
    rfl
  unfold iblk
  rw [View.read_apply]
  refine (congrFun hV _).trans ((congrArg (normRow (argN m c)) ?_).trans (normRow_apply (argN m c) l))
  funext a
  apply Fin.ext
  match a with
  | ⟨0, _⟩ =>
    show win0_1.index (point i) 0 * 1 + 1 * 0 = 0
    rw [(index1 _).1]
  | ⟨1, _⟩ =>
    show win0_1.index (point i) 1 * 2048 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    rw [(index2 t).1, (index2 t').1] at h0
    exact h0))

/-- Row `r` of the argument, by its root mean square. -/
def normed (r : Fin 9216) (l : Fin 2048) : EReal := rms (fun l => argX m c (ix2 r l)) (fun l => argN m c (ix1 l)) l

/-- The kernel's result, entry by entry. -/
theorem result (i : Fin 16) (r : Fin 512) (k : Fin 2048) :
    ((dats m 0 c).arrAt 2 cfg0.N : FVec Ideal S8192x2048 .f32) (ix2 ⟨512 * i.val + r.val, by omega⟩ k) = normed m c ⟨(512 * i.val + r.val), by omega⟩ k := by
  have hb := congrFun ((dats m 0 c).read_blk_arrAt_eq_flushed 2 disjoint2 cfg0.N (point i) (point i).isLt (flush0_2 _)) (ix2 r k : S512x2048.Idx)
  rw [View.read_apply] at hb
  have hi : ((cfg0.win 2).blk (point i)).view.emb (ix2 r k : S512x2048.Idx) = (ix2 ⟨512 * i.val + r.val, by omega⟩ k : S8192x2048.Idx) := by
    funext a
    apply Fin.ext
    match a with
    | ⟨0, _⟩ =>
      show win0_2.index (point i) 0 * 512 + 1 * r.val = 512 * i.val + r.val
      rw [(index2 _).1]; simp only [point]; omega
    | ⟨1, _⟩ =>
      show win0_2.index (point i) 1 * 2048 + 1 * k.val = k.val
      rw [(index2 _).2]; omega
  refine (congrArg ((dats m 0 c).arrAt 2 cfg0.N : FVec Ideal S8192x2048 .f32) hi).symm.trans (hb.trans ?_)
  show ((dats m 0 c).after 2 (point i) : FVec Ideal S512x2048 .f32) (ix2 r k) = _
  rw [after0_2, out_rows]
  simp only [block0, block1]
  rfl

/-- What the host's last line makes of it: the four sequences. -/
def unrolled (a : FVec Ideal S8192x2048 .f32) : FVec Ideal S4x2048x2048 .f32 := shapeCast S4x2048x2048 a shapeCasts_S8192x2048_S4x2048x2048

theorem unrolled_apply (a : FVec Ideal S8192x2048 .f32) (b : Fin 4) (t : Fin 2048) (l : Fin 2048) :
    (unrolled a (ix3 b t l) : EReal) = a (ix2 ⟨b.val * 2048 + t.val, by omega⟩ l) := by
  pointwise [unrolled]

def final : FVec Ideal S4x2048x2048 .f32 := unrolled ((dats m 0 c).arrAt 2 cfg0.N)

theorem final_eq : (Pipeline.afterTail₀ cfgs (dats m) 0 (V0 m) [hostOps1] c main_v2 : FVec Ideal S4x2048x2048 .f32) = final m c := by
  unfold Pipeline.afterTail₀
  simp only [hostOps1]
  after_reads_simp
  exact congrArg unrolled (Pipeline.withArrays_arr (cfgs 0).spec launch0.win.arr_inj c (V0 m c) (fun w => (dats m 0 c).arrAt w (cfgs 0).N) 2)

theorem final_apply (b : Fin 4) (t : Fin 2048) (l : Fin 2048) :
    (final m c (ix3 b t l) : EReal) = ((dats m 0 c).arrAt 2 cfg0.N : FVec Ideal S8192x2048 .f32) (ix2 ⟨b.val * 2048 + t.val, by omega⟩ l) :=
  unrolled_apply _ b t l

end Cert.FinalPromptIdeal.Entry

namespace Cert.FinalPromptRefIdeal.Entry

open Cert.Norm Cert.FinalPromptRefIdeal Cert.FinalPromptRefIdeal.Gen Idealize.ShloMosaic Idealize.ShloMosaic.TcCoe Idealize.SL.Sem

/-- The reference's result from its arguments. -/
def rows (x : FVec Ideal S8192x2048 .f32) (w : FVec Ideal S2048 .f32) : FVec Ideal S8192x2048 .f32 :=
  mulf (mulf x (broadcastInDim S8192x2048 ![0, 1] bcast_S8192x1_S8192x2048_0_1 (Host.rsqrt (addf
    (Host.divf (broadcastInDim S8192x1 ![0] bcast_S8192_S8192x1_0 (Host.reduceAdd (mulf x x) (constant S_ .f32 0#32) reducesTo_S8192x2048_S8192_d1 h_S_))
      (broadcastInDim S8192x1 ![] bcast_S_S8192x1 (constant S_ .f32 1157627904#32)))
    (broadcastInDim S8192x1 ![] bcast_S_S8192x1 (constant S_ .f32 897988541#32))))))
    (broadcastInDim S8192x2048 ![0, 1] bcast_S1x2048_S8192x2048_0_1 (broadcastInDim S1x2048 ![1] bcast_S2048_S1x2048_1 w))

theorem rows_apply (x : FVec Ideal S8192x2048 .f32) (w : FVec Ideal S2048 .f32) (r : Fin 8192) (l : Fin 2048) :
    (rows x w (ix2 r l) : EReal) = rms (fun l => x (ix2 r l)) (fun l => w (ix1 l)) l := by
  unfold rms
  pointwise [rows]

def term (x : FVec Ideal S9216x2048 .f32) (w : FVec Ideal S2048 .f32) : FVec Ideal S4x2048x2048 .f32 :=
  shapeCast S4x2048x2048 (rows (extractStridedSlice S8192x2048 ![0, 0] x slices_S9216x2048_S8192x2048_0_0) w) shapeCasts_S8192x2048_S4x2048x2048

/-- Its entries. -/
theorem term_apply (x : FVec Ideal S9216x2048 .f32) (w : FVec Ideal S2048 .f32) (b : Fin 4) (t l : Fin 2048) :
    (term x w (ix3 b t l) : EReal) = rms (fun l => x (ix2 ⟨b.val * 2048 + t.val, by omega⟩ l)) (fun l => w (ix1 l)) l := by
  have h : (term x w (ix3 b t l) : EReal)
      = rows (extractStridedSlice S8192x2048 ![0, 0] x slices_S9216x2048_S8192x2048_0_0) w (ix2 ⟨b.val * 2048 + t.val, by omega⟩ l) := by
    unfold term
    generalize rows (extractStridedSlice S8192x2048 ![0, 0] x slices_S9216x2048_S8192x2048_0_0) w = a
    pointwise
  rw [h, rows_apply]
  have hx : ∀ l : Fin 2048, (extractStridedSlice S8192x2048 ![0, 0] x slices_S9216x2048_S8192x2048_0_0 (ix2 ⟨b.val * 2048 + t.val, by omega⟩ l) : EReal)
      = x (ix2 ⟨b.val * 2048 + t.val, by omega⟩ l) := fun l => by pointwise
  simp only [hx]

end Cert.FinalPromptRefIdeal.Entry

namespace Cert.FinalPromptAgree

open Idealize.ShloMosaic Idealize.ShloMosaic.TcCoe Idealize.SL.Sem

/-- The kernel's result is the reference's, of the same arguments. -/
theorem outputs (m : (ℓ : Loc FinalPromptIdeal.nD FinalPromptIdeal.τ FinalPromptIdeal.sig) → Buf (Elt Ideal) ℓ) (c : Dev FinalPromptIdeal.nD) :
    FinalPromptRefIdeal.Entry.term (FinalPromptIdeal.Entry.argX m c) (FinalPromptIdeal.Entry.argN m c) = FinalPromptIdeal.Entry.final m c := by
  funext i
  idx_vars i
  refine (FinalPromptRefIdeal.Entry.term_apply ..).trans ?_
  rw [FinalPromptIdeal.Entry.final_apply]
  obtain ⟨p, r, h⟩ := Tiles.split (p := 512) (q := 16) (by decide) rfl (⟨i0.val * 2048 + i1.val, by omega⟩ : Fin 8192)
  rw [h, FinalPromptIdeal.Entry.result]
  refine congrArg (fun a => Norm.rms (fun l => FinalPromptIdeal.Entry.argX m c (ix2 a l)) _ i2) (Fin.ext ?_)
  exact (show i0.val * 2048 + i1.val = 512 * p.val + r.val from congrArg (fun a : Fin 8192 => a.val) h)

end Cert.FinalPromptAgree

end
-- ==== Proof.FinalSample.lean ====
/- The last norm of the sample batch's rows. -/
module

public import proofs.«01_k».proof.Proof.Gen.FinalSampleIdeal.Frame
public import proofs.«01_k».proof.Proof.Gen.FinalSampleRefIdeal.Run
public import proofs.«01_k».proof.Proof.Norm

@[expose] public section

set_option maxRecDepth 16384

noncomputable section

namespace Cert.FinalSampleIdeal.Entry

open Cert.Tiles Cert.Norm Cert.FinalSampleIdeal Cert.FinalSampleIdeal.Gen Idealize.ShloMosaic Idealize.ShloMosaic.TcCoe Idealize.SL.Sem
open Idealize.ShloMosaic.Pipeline (Dat)

/-- A point's result: its rows, each by its root mean square. -/
theorem out_rows (x : FVec Ideal S512x2048 .f32) (v : FVec Ideal S1x2048 .f32) (r : Fin 512) (l : Fin 2048) :
    ((out0_2 (F := Ideal) x v : FVec Ideal S512x2048 .f32) (ix2 r l) : EReal) = rms (fun l => x (ix2 r l)) (fun l => v (ix2 0 l)) l := by
  unfold out0_2 r0_0 r0_1
  rw [View.canon_unit_zero zeros2, View.ld_unit_zero (S := S512x2048) zeros2, View.ld_unit_zero (S := S1x2048) zeros2]
  unfold rms
  pointwise [k0_pay1]

variable (m : (ℓ : Loc nD τ sig) → Buf (Elt Ideal) ℓ) (c : Dev nD)

/-- The grid point of row tile `i`. -/
def point (i : Fin 2) : Fin cfg0.N := ⟨i.val, by rw [show cfg0.N = 2 from N_0]; exact i.isLt⟩

theorem index0 : ∀ t : Fin cfg0.N, win0_0.index t 0 = 16 + t.val ∧ win0_0.index t 1 = 0 :=
  (by decide +kernel : ∀ t : Fin grid0.N, win0_0.index t 0 = 16 + t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The arguments. -/
def argX : FVec Ideal S9216x2048 .f32 := m ((c.tc : Thread nD τ).loc main_arg0)
def argN : FVec Ideal S2048 .f32 := m ((c.tc : Thread nD τ).loc main_arg1)

theorem block0 (i : Fin 2) (r : Fin 512) (l : Fin 2048) :
    ((iblk m c 0 (point i) : FVec Ideal S512x2048 .f32) (ix2 r l) : EReal) = argX m c (ix2 ⟨8192 + (512 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 512 + 1 * r.val = 8192 + (512 * i.val + r.val)
    rw [(index0 _).1]; simp only [point]; omega
  | ⟨1, _⟩ =>
    show win0_0.index (point i) 1 * 2048 + 1 * l.val = l.val
    rw [(index0 _).2]; omega

/-- The norm's weights as the kernel takes them: one row. -/
def normRow (w : FVec Ideal S2048 .f32) : FVec Ideal S1x2048 .f32 := shapeCast S1x2048 w shapeCasts_S2048_S1x2048

theorem normRow_apply (w : FVec Ideal S2048 .f32) (l : Fin 2048) : (normRow w (ix2 0 l) : EReal) = w (ix1 l) := by
  pointwise [normRow]

theorem block1 (i : Fin 2) (l : Fin 2048) :
    ((iblk m c 1 (point i) : FVec Ideal S1x2048 .f32) (ix2 0 l) : EReal) = argN m c (ix1 l) := by
  have hV : (V m c main_v0 : FVec Ideal S1x2048 .f32) = normRow (argN m c) := by
    show StableHlo.after hostOps0 _ _ = _
    simp only [hostOps0]
    after_reads_simp
    rfl
  unfold iblk
  rw [View.read_apply]
  refine (congrFun hV _).trans ((congrArg (normRow (argN m c)) ?_).trans (normRow_apply (argN m c) l))
  funext a
  apply Fin.ext
  match a with
  | ⟨0, _⟩ =>
    show win0_1.index (point i) 0 * 1 + 1 * 0 = 0
    rw [(index1 _).1]
  | ⟨1, _⟩ =>
    show win0_1.index (point i) 1 * 2048 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    rw [(index2 t).1, (index2 t').1] at h0
    exact h0))

/-- Row `r` of the argument, by its root mean square. -/
def normed (r : Fin 9216) (l : Fin 2048) : EReal := rms (fun l => argX m c (ix2 r l)) (fun l => argN m c (ix1 l)) l

/-- The kernel's result, entry by entry. -/
theorem result (i : Fin 2) (r : Fin 512) (k : Fin 2048) :
    ((dats m 0 c).arrAt 2 cfg0.N : FVec Ideal S1024x2048 .f32) (ix2 ⟨512 * i.val + r.val, by omega⟩ k) = normed m c ⟨8192 + (512 * i.val + r.val), by omega⟩ k := by
  have hb := congrFun ((dats m 0 c).read_blk_arrAt_eq_flushed 2 disjoint2 cfg0.N (point i) (point i).isLt (flush0_2 _)) (ix2 r k : S512x2048.Idx)
  rw [View.read_apply] at hb
  have hi : ((cfg0.win 2).blk (point i)).view.emb (ix2 r k : S512x2048.Idx) = (ix2 ⟨512 * i.val + r.val, by omega⟩ k : S1024x2048.Idx) := by
    funext a
    apply Fin.ext
    match a with
    | ⟨0, _⟩ =>
      show win0_2.index (point i) 0 * 512 + 1 * r.val = 512 * i.val + r.val
      rw [(index2 _).1]; simp only [point]; omega
    | ⟨1, _⟩ =>
      show win0_2.index (point i) 1 * 2048 + 1 * k.val = k.val
      rw [(index2 _).2]; omega
  refine (congrArg ((dats m 0 c).arrAt 2 cfg0.N : FVec Ideal S1024x2048 .f32) hi).symm.trans (hb.trans ?_)
  show ((dats m 0 c).after 2 (point i) : FVec Ideal S512x2048 .f32) (ix2 r k) = _
  rw [after0_2, out_rows]
  simp only [block0, block1]
  rfl

/-- What the host's last lines make of it: of the 128 sequences, padded to eight tokens, the first four. -/
def kept (a : FVec Ideal S1024x2048 .f32) : FVec Ideal S128x4x2048 .f32 :=
  extractStridedSlice S128x4x2048 ![0, 0, 0] (shapeCast S128x8x2048 a shapeCasts_S1024x2048_S128x8x2048) slices_S128x8x2048_S128x4x2048_0_0_0

theorem kept_apply (a : FVec Ideal S1024x2048 .f32) (b : Fin 128) (t : Fin 4) (l : Fin 2048) :
    (kept a (ix3 b t l) : EReal) = a (ix2 ⟨b.val * 8 + t.val, by omega⟩ l) := by
  pointwise [kept]

def final : FVec Ideal S128x4x2048 .f32 := kept ((dats m 0 c).arrAt 2 cfg0.N)

theorem final_eq : (Pipeline.afterTail₀ cfgs (dats m) 0 (V0 m) [hostOps1] c main_v3 : FVec Ideal S128x4x2048 .f32) = final m c := by
  unfold Pipeline.afterTail₀
  simp only [hostOps1]
  after_reads_simp
  exact congrArg kept (Pipeline.withArrays_arr (cfgs 0).spec launch0.win.arr_inj c (V0 m c) (fun w => (dats m 0 c).arrAt w (cfgs 0).N) 2)

theorem final_apply (b : Fin 128) (t : Fin 4) (l : Fin 2048) :
    (final m c (ix3 b t l) : EReal) = ((dats m 0 c).arrAt 2 cfg0.N : FVec Ideal S1024x2048 .f32) (ix2 ⟨b.val * 8 + t.val, by omega⟩ l) :=
  kept_apply _ b t l

end Cert.FinalSampleIdeal.Entry

namespace Cert.FinalSampleRefIdeal.Entry

open Cert.Norm Cert.FinalSampleRefIdeal Cert.FinalSampleRefIdeal.Gen Idealize.ShloMosaic Idealize.ShloMosaic.TcCoe Idealize.SL.Sem

/-- The sample batch's rows, of each sequence the first four. -/
def rows (x : FVec Ideal S9216x2048 .f32) : FVec Ideal S128x4x2048 .f32 :=
  extractStridedSlice S128x4x2048 ![0, 0, 0] (shapeCast S128x8x2048 (extractStridedSlice S1024x2048 ![8192, 0] x slices_S9216x2048_S1024x2048_8192_0) shapeCasts_S1024x2048_S128x8x2048) slices_S128x8x2048_S128x4x2048_0_0_0

theorem rows_apply (x : FVec Ideal S9216x2048 .f32) (b : Fin 128) (t : Fin 4) (l : Fin 2048) :
    (rows x (ix3 b t l) : EReal) = x (ix2 ⟨8192 + (b.val * 8 + t.val), by omega⟩ l) := by
  pointwise [rows]

/-- Rows by their root mean square. -/
def normed (x : FVec Ideal S128x4x2048 .f32) (w : FVec Ideal S2048 .f32) : FVec Ideal S128x4x2048 .f32 :=
  mulf (mulf x (broadcastInDim S128x4x2048 ![0, 1, 2] bcast_S128x4x1_S128x4x2048_0_1_2 (Host.rsqrt (addf
    (Host.divf (broadcastInDim S128x4x1 ![0, 1] bcast_S128x4_S128x4x1_0_1 (Host.reduceAdd (mulf x x) (constant S_ .f32 0#32) reducesTo_S128x4x2048_S128x4_d2 h_S_))
      (broadcastInDim S128x4x1 ![] bcast_S_S128x4x1 (constant S_ .f32 1157627904#32)))
    (broadcastInDim S128x4x1 ![] bcast_S_S128x4x1 (constant S_ .f32 897988541#32))))))
    (broadcastInDim S128x4x2048 ![0, 1, 2] bcast_S1x1x2048_S128x4x2048_0_1_2 (broadcastInDim S1x1x2048 ![2] bcast_S2048_S1x1x2048_2 w))

theorem normed_apply (x : FVec Ideal S128x4x2048 .f32) (w : FVec Ideal S2048 .f32) (b : Fin 128) (t : Fin 4) (l : Fin 2048) :
    (normed x w (ix3 b t l) : EReal) = rms (fun l => x (ix3 b t l)) (fun l => w (ix1 l)) l := by
  unfold rms
  pointwise [normed]

/-- The reference's result from its arguments. -/
def term (x : FVec Ideal S9216x2048 .f32) (w : FVec Ideal S2048 .f32) : FVec Ideal S128x4x2048 .f32 := normed (rows x) w

/-- Its entries. -/
theorem term_apply (x : FVec Ideal S9216x2048 .f32) (w : FVec Ideal S2048 .f32) (b : Fin 128) (t : Fin 4) (l : Fin 2048) :
    (term x w (ix3 b t l) : EReal) = rms (fun l => x (ix2 ⟨8192 + (b.val * 8 + t.val), by omega⟩ l)) (fun l => w (ix1 l)) l := by
  unfold term
  rw [normed_apply]
  simp only [rows_apply]

end Cert.FinalSampleRefIdeal.Entry

namespace Cert.FinalSampleAgree

open Idealize.ShloMosaic Idealize.ShloMosaic.TcCoe Idealize.SL.Sem

/-- The kernel's result is the reference's, of the same arguments. -/
theorem outputs (m : (ℓ : Loc FinalSampleIdeal.nD FinalSampleIdeal.τ FinalSampleIdeal.sig) → Buf (Elt Ideal) ℓ) (c : Dev FinalSampleIdeal.nD) :
    FinalSampleRefIdeal.Entry.term (FinalSampleIdeal.Entry.argX m c) (FinalSampleIdeal.Entry.argN m c) = FinalSampleIdeal.Entry.final m c := by
  funext i
  idx_vars i
  refine (FinalSampleRefIdeal.Entry.term_apply ..).trans ?_
  rw [FinalSampleIdeal.Entry.final_apply]
  obtain ⟨p, r, h⟩ := Tiles.split (p := 512) (q := 2) (by decide) rfl (⟨i0.val * 8 + i1.val, by omega⟩ : Fin 1024)
  rw [h, FinalSampleIdeal.Entry.result]
  refine congrArg (fun a => Norm.rms (fun l => FinalSampleIdeal.Entry.argX m c (ix2 a l)) _ i2) (Fin.ext ?_)
  exact congrArg (fun a : Fin 1024 => 8192 + a.val) h

end Cert.FinalSampleAgree

end
-- ==== Proof.NormMlp.lean ====
/- The norm before the feed-forward part. -/
module

public import proofs.«01_k».proof.Proof.Gen.NormMlpIdeal.Frame
public import proofs.«01_k».proof.Proof.Gen.NormMlpRefIdeal.Run
public import proofs.«01_k».proof.Proof.Norm

@[expose] public section

set_option maxRecDepth 16384

noncomputable section

namespace Cert.NormMlpIdeal.Entry

open Cert.Tiles Cert.Norm Cert.NormMlpIdeal Cert.NormMlpIdeal.Gen Idealize.ShloMosaic Idealize.ShloMosaic.TcCoe Idealize.SL.Sem
open Idealize.ShloMosaic.Pipeline (Dat)

/-- A point's result: its rows, each by its root mean square. -/
theorem out_rows (x : FVec Ideal S512x2048 .f32) (v : FVec Ideal S1x2048 .f32) (r : Fin 512) (l : Fin 2048) :
    ((out0_2 (F := Ideal) x v : FVec Ideal S512x2048 .bf16) (ix2 r l) : EReal) = rms (fun l => x (ix2 r l)) (fun l => v (ix2 0 l)) l := by
  unfold out0_2 r0_0 r0_1
  rw [View.canon_unit_zero zeros2, View.ld_unit_zero (S := S512x2048) zeros2, View.ld_unit_zero (S := S1x2048) zeros2]
  unfold rms
  pointwise [k0_pay1]

variable (m : (ℓ : Loc nD τ sig) → Buf (Elt Ideal) ℓ) (c : Dev nD)

/-- The grid point of row tile `i`. -/
def point (i : Fin 18) : Fin cfg0.N := ⟨i.val, by rw [show cfg0.N = 18 from N_0]; exact i.isLt⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The arguments. -/
def argX : FVec Ideal S9216x2048 .f32 := m ((c.tc : Thread nD τ).loc main_arg0)
def argN : FVec Ideal S4x2048 .f32 := m ((c.tc : Thread nD τ).loc main_arg1)

theorem block0 (i : Fin 18) (r : Fin 512) (l : Fin 2048) :
    ((iblk m c 0 (point i) : FVec Ideal S512x2048 .f32) (ix2 r l) : EReal) = argX m c (ix2 ⟨(512 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 512 + 1 * r.val = (512 * i.val + r.val)
    rw [(index0 _).1]; simp only [point]; omega
  | ⟨1, _⟩ =>
    show win0_0.index (point i) 1 * 2048 + 1 * l.val = l.val
    rw [(index0 _).2]; omega

/-- The norm's weights as the kernel takes them: one row. -/
def normRow (w : FVec Ideal S4x2048 .f32) : FVec Ideal S1x2048 .f32 := shapeCast S1x2048 (shapeCast S2048 (extractStridedSlice S1x2048 ![1, 0] w slices_S4x2048_S1x2048_1_0) shapeCasts_S1x2048_S2048) shapeCasts_S2048_S1x2048

theorem normRow_apply (w : FVec Ideal S4x2048 .f32) (l : Fin 2048) : (normRow w (ix2 0 l) : EReal) = w (ix2 1 l) := by
  pointwise [normRow]

theorem block1 (i : Fin 18) (l : Fin 2048) :
    ((iblk m c 1 (point i) : FVec Ideal S1x2048 .f32) (ix2 0 l) : EReal) = argN m c (ix2 1 l) := by
  have hV : (V m c main_v2 : FVec Ideal S1x2048 .f32) = normRow (argN m c) := by
    show StableHlo.after hostOps0 _ _ = _
    simp only [hostOps0]
    after_reads_simp
    rfl
  unfold iblk
  rw [View.read_apply]
  refine (congrFun hV _).trans ((congrArg (normRow (argN m c)) ?_).trans (normRow_apply (argN m c) l))
  funext a
  apply Fin.ext
  match a with
  | ⟨0, _⟩ =>
    show win0_1.index (point i) 0 * 1 + 1 * 0 = 0
    rw [(index1 _).1]
  | ⟨1, _⟩ =>
    show win0_1.index (point i) 1 * 2048 + 1 * l.val = l.val
    rw [(index1 _).2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    rw [(index2 t).1, (index2 t').1] at h0
    exact h0))

/-- Row `r` of the argument, by its root mean square. -/
def normed (r : Fin 9216) (l : Fin 2048) : EReal := rms (fun l => argX m c (ix2 r l)) (fun l => argN m c (ix2 1 l)) l

/-- The kernel's result, entry by entry. -/
theorem result (i : Fin 18) (r : Fin 512) (k : Fin 2048) :
    ((dats m 0 c).arrAt 2 cfg0.N : FVec Ideal S9216x2048 .bf16) (ix2 ⟨512 * i.val + r.val, by omega⟩ k) = normed m c ⟨(512 * i.val + r.val), by omega⟩ k := by
  have hb := congrFun ((dats m 0 c).read_blk_arrAt_eq_flushed 2 disjoint2 cfg0.N (point i) (point i).isLt (flush0_2 _)) (ix2 r k : S512x2048.Idx)
  rw [View.read_apply] at hb
  have hi : ((cfg0.win 2).blk (point i)).view.emb (ix2 r k : S512x2048.Idx) = (ix2 ⟨512 * i.val + r.val, by omega⟩ k : S9216x2048.Idx) := by
    funext a
    apply Fin.ext
    match a with
    | ⟨0, _⟩ =>
      show win0_2.index (point i) 0 * 512 + 1 * r.val = 512 * i.val + r.val
      rw [(index2 _).1]; simp only [point]; omega
    | ⟨1, _⟩ =>
      show win0_2.index (point i) 1 * 2048 + 1 * k.val = k.val
      rw [(index2 _).2]; omega
  refine (congrArg ((dats m 0 c).arrAt 2 cfg0.N : FVec Ideal S9216x2048 .bf16) hi).symm.trans (hb.trans ?_)
  show ((dats m 0 c).after 2 (point i) : FVec Ideal S512x2048 .bf16) (ix2 r k) = _
  rw [after0_2, out_rows]
  simp only [block0, block1]
  rfl

end Cert.NormMlpIdeal.Entry

namespace Cert.NormMlpRefIdeal.Entry

open Cert.Norm Cert.NormMlpRefIdeal Cert.NormMlpRefIdeal.Gen Idealize.ShloMosaic Idealize.ShloMosaic.TcCoe Idealize.SL.Sem

/-- The rows, each by its root mean square. -/
def normed (x : FVec Ideal S9216x2048 .f32) (w : FVec Ideal S4x2048 .f32) : FVec Ideal S9216x2048 .f32 :=
  mulf (mulf x (broadcastInDim S9216x2048 ![0, 1] bcast_S9216x1_S9216x2048_0_1 (Host.rsqrt (addf
    (Host.divf (broadcastInDim S9216x1 ![0] bcast_S9216_S9216x1_0 (Host.reduceAdd (mulf x x) (constant S_ .f32 0#32) reducesTo_S9216x2048_S9216_d1 h_S_))
      (broadcastInDim S9216x1 ![] bcast_S_S9216x1 (constant S_ .f32 1157627904#32)))
    (broadcastInDim S9216x1 ![] bcast_S_S9216x1 (constant S_ .f32 897988541#32))))))
    (broadcastInDim S9216x2048 ![0, 1] bcast_S1x2048_S9216x2048_0_1 (broadcastInDim S1x2048 ![1] bcast_S2048_S1x2048_1 (shapeCast S2048 (extractStridedSlice S1x2048 ![1, 0] w slices_S4x2048_S1x2048_1_0) shapeCasts_S1x2048_S2048)))

theorem normed_apply (x : FVec Ideal S9216x2048 .f32) (w : FVec Ideal S4x2048 .f32) (r : Fin 9216) (l : Fin 2048) :
    (normed x w (ix2 r l) : EReal) = rms (fun l => x (ix2 r l)) (fun l => w (ix2 1 l)) l := by
  unfold rms
  pointwise [normed]

/-- The reference's result from its arguments. -/
def term (x : FVec Ideal S9216x2048 .f32) (w : FVec Ideal S4x2048 .f32) : FVec Ideal S9216x2048 .bf16 := truncf .bf16 (normed x w) bitsLt_bf16_f32

/-- Its entries. -/
theorem term_apply (x : FVec Ideal S9216x2048 .f32) (w : FVec Ideal S4x2048 .f32) (r : Fin 9216) (l : Fin 2048) :
    (term x w (ix2 r l) : EReal) = rms (fun l => x (ix2 r l)) (fun l => w (ix2 1 l)) l :=
  normed_apply x w r l

end Cert.NormMlpRefIdeal.Entry

namespace Cert.NormMlpAgree

open Idealize.ShloMosaic Idealize.ShloMosaic.TcCoe Idealize.SL.Sem

/-- The kernel's result is the reference's, of the same arguments. -/
theorem outputs (m : (ℓ : Loc NormMlpIdeal.nD NormMlpIdeal.τ NormMlpIdeal.sig) → Buf (Elt Ideal) ℓ) (c : Dev NormMlpIdeal.nD) :
    NormMlpRefIdeal.Entry.term (NormMlpIdeal.Entry.argX m c) (NormMlpIdeal.Entry.argN m c) = ((NormMlpIdeal.Gen.dats m 0 c).arrAt 2 NormMlpIdeal.cfg0.N : FVec Ideal NormMlpIdeal.S9216x2048 .bf16) := by
  funext i
  idx_vars i
  obtain ⟨p, r, rfl⟩ := Tiles.split (p := 512) (q := 18) (by decide) rfl i0
  rw [NormMlpIdeal.Entry.result]
  exact NormMlpRefIdeal.Entry.term_apply ..

end Cert.NormMlpAgree

end
-- ==== Proof.NormAb.lean ====
/- The norm before the even layers' mixers, with the projection of the SSD's time steps taken along. -/
module

public import proofs.«01_k».proof.Proof.Gen.NormAbIdeal.Frame
public import proofs.«01_k».proof.Proof.Gen.NormAbRefIdeal.Run
public import proofs.«01_k».proof.Proof.Norm
public import proofs.«01_k».proof.Proof.HgrnProj

@[expose] public section

set_option maxRecDepth 16384

noncomputable section

namespace Cert.NormAbIdeal.Entry

open Cert.Tiles Cert.Norm Cert.NormAbIdeal Cert.NormAbIdeal.Gen Idealize.ShloMosaic Idealize.ShloMosaic.TcCoe Idealize.SL.Sem
open Idealize.ShloMosaic.Pipeline (Dat)
open Cert.HgrnInIdeal.Entry (stacked stacked_apply)

/-- A point's result: its rows, each by its root mean square. -/
theorem out_rows (x : FVec Ideal S512x2048 .f32) (v : FVec Ideal S1x2048 .f32) (w : FVec Ideal S32x2048 .f32) (r : Fin 512) (l : Fin 2048) :
    ((out0_3 (F := Ideal) x v w : FVec Ideal S512x2048 .bf16) (ix2 r l) : EReal) = rms (fun l => x (ix2 r l)) (fun l => v (ix2 0 l)) l := by
  unfold out0_3 r0_0 r0_1
  rw [View.canon_unit_zero zeros2, View.ld_unit_zero (S := S512x2048) zeros2, View.ld_unit_zero (S := S1x2048) zeros2]
  unfold rms
  pointwise [k0_pay1]

/-- A point's second result: the products of those rows with the weights' rows. -/
theorem out_products (x : FVec Ideal S512x2048 .f32) (v : FVec Ideal S1x2048 .f32) (w : FVec Ideal S32x2048 .f32) (r : Fin 512) (k : Fin 32) :
    ((out0_4 (F := Ideal) x v w : FVec Ideal S512x32 .f32) (ix2 r k) : EReal)
      = ∑ l : Fin 2048, rms (fun l => x (ix2 r l)) (fun l => v (ix2 0 l)) l * w (ix2 k l) := by
  unfold out0_4 r0_0 r0_1 r0_2 r0_3
  rw [View.canon_unit_zero zeros2, View.ld_unit_zero (S := S512x2048) zeros2, View.ld_unit_zero (S := S1x2048) zeros2, View.ld_unit_zero (S := S32x2048) zeros2]
  unfold rms
  pointwise [k0_pay2, k0_pay1]

variable (m : (ℓ : Loc nD τ sig) → Buf (Elt Ideal) ℓ) (c : Dev nD)

/-- The grid point of row tile `i`. -/
def point (i : Fin 18) : Fin cfg0.N := ⟨i.val, by rw [show cfg0.N = 18 from N_0]; exact i.isLt⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 18464 ∧ win0_2.index t 1 = 0 :=
  (by decide +kernel : ∀ t : Fin grid0.N, win0_2.index t 0 = 18464 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The arguments. -/
def argX : FVec Ideal S9216x2048 .f32 := m ((c.tc : Thread nD τ).loc main_arg0)
def argN : FVec Ideal S4x2048 .f32 := m ((c.tc : Thread nD τ).loc main_arg1)
def argW : FVec Ideal S2x2048x13344 .f32 := m ((c.tc : Thread nD τ).loc main_arg2)

theorem block0 (i : Fin 18) (r : Fin 512) (l : Fin 2048) :
    ((iblk m c 0 (point i) : FVec Ideal S512x2048 .f32) (ix2 r l) : EReal) = argX m c (ix2 ⟨(512 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 512 + 1 * r.val = (512 * i.val + r.val)
    rw [(index0 _).1]; simp only [point]; omega
  | ⟨1, _⟩ =>
    show win0_0.index (point i) 1 * 2048 + 1 * l.val = l.val
    rw [(index0 _).2]; omega

/-- The norm's weights as the kernel takes them: one row. -/
def normRow (w : FVec Ideal S4x2048 .f32) : FVec Ideal S1x2048 .f32 := shapeCast S1x2048 (shapeCast S2048 (extractStridedSlice S1x2048 ![2, 0] w slices_S4x2048_S1x2048_2_0) shapeCasts_S1x2048_S2048) shapeCasts_S2048_S1x2048

theorem normRow_apply (w : FVec Ideal S4x2048 .f32) (l : Fin 2048) : (normRow w (ix2 0 l) : EReal) = w (ix2 2 l) := by
  pointwise [normRow]

theorem block1 (i : Fin 18) (l : Fin 2048) :
    ((iblk m c 1 (point i) : FVec Ideal S1x2048 .f32) (ix2 0 l) : EReal) = argN m c (ix2 2 l) := by
  have hV : (V m c main_v3 : FVec Ideal S1x2048 .f32) = normRow (argN m c) := by
    show StableHlo.after hostOps0 _ _ = _
    simp only [hostOps0]
    after_reads_simp
    rfl
  unfold iblk
  rw [View.read_apply]
  refine (congrFun hV _).trans ((congrArg (normRow (argN m c)) ?_).trans (normRow_apply (argN m c) l))
  funext a
  apply Fin.ext
  match a with
  | ⟨0, _⟩ =>
    show win0_1.index (point i) 0 * 1 + 1 * 0 = 0
    rw [(index1 _).1]
  | ⟨1, _⟩ =>
    show win0_1.index (point i) 1 * 2048 + 1 * l.val = l.val
    rw [(index1 _).2]; omega

theorem block2 (i : Fin 18) (k : Fin 32) (l : Fin 2048) :
    ((iblk m c 2 (point i) : FVec Ideal S32x2048 .f32) (ix2 k l) : EReal) = argW m c (ix3 1 l ⟨5120 + k.val, by omega⟩) := by
  have hV : (V m c main_v4 : FVec Ideal S26688x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨18464 + k.val, by omega⟩ ⟨5120 + k.val, by omega⟩ l (by simp only; omega)))
  funext a
  apply Fin.ext
  match a with
  | ⟨0, _⟩ =>
    show win0_2.index (point i) 0 + 1 * k.val = 18464 + k.val
    rw [(index2 _).1]; omega
  | ⟨1, _⟩ =>
    show win0_2.index (point i) 1 + 1 * l.val = l.val
    rw [(index2 _).2]; omega

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h0 : win0_3.index t 0 = win0_3.index t' 0 := congrFun h 0
    rw [(index3 t).1, (index3 t').1] at h0
    exact h0))

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h0 : win0_4.index t 0 = win0_4.index t' 0 := congrFun h 0
    rw [(index4 t).1, (index4 t').1] at h0
    exact h0))

/-- Row `r` of the argument, by its root mean square. -/
def normed (r : Fin 9216) (l : Fin 2048) : EReal := rms (fun l => argX m c (ix2 r l)) (fun l => argN m c (ix2 2 l)) l

/-- The kernel's result, entry by entry. -/
theorem result (i : Fin 18) (r : Fin 512) (k : Fin 2048) :
    ((dats m 0 c).arrAt 3 cfg0.N : FVec Ideal S9216x2048 .bf16) (ix2 ⟨512 * i.val + r.val, by omega⟩ k) = normed m c ⟨(512 * i.val + r.val), by omega⟩ k := by
  have hb := congrFun ((dats m 0 c).read_blk_arrAt_eq_flushed 3 disjoint3 cfg0.N (point i) (point i).isLt (flush0_3 _)) (ix2 r k : S512x2048.Idx)
  rw [View.read_apply] at hb
  have hi : ((cfg0.win 3).blk (point i)).view.emb (ix2 r k : S512x2048.Idx) = (ix2 ⟨512 * i.val + r.val, by omega⟩ k : S9216x2048.Idx) := by
    funext a
    apply Fin.ext
    match a with
    | ⟨0, _⟩ =>
      show win0_3.index (point i) 0 * 512 + 1 * r.val = 512 * i.val + r.val
      rw [(index3 _).1]; simp only [point]; omega
    | ⟨1, _⟩ =>
      show win0_3.index (point i) 1 * 2048 + 1 * k.val = k.val
      rw [(index3 _).2]; omega
  refine (congrArg ((dats m 0 c).arrAt 3 cfg0.N : FVec Ideal S9216x2048 .bf16) hi).symm.trans (hb.trans ?_)
  show ((dats m 0 c).after 3 (point i) : FVec Ideal S512x2048 .bf16) (ix2 r k) = _
  rw [after0_3, out_rows]
  simp only [block0, block1]
  rfl

/-- Its second result. -/
theorem products (i : Fin 18) (r : Fin 512) (k : Fin 32) :
    ((dats m 0 c).arrAt 4 cfg0.N : FVec Ideal S9216x32 .f32) (ix2 ⟨512 * i.val + r.val, by omega⟩ k) = ∑ l : Fin 2048, normed m c ⟨(512 * i.val + r.val), by omega⟩ l * argW m c (ix3 1 l ⟨5120 + k.val, by omega⟩) := by
  have hb := congrFun ((dats m 0 c).read_blk_arrAt_eq_flushed 4 disjoint4 cfg0.N (point i) (point i).isLt (flush0_4 _)) (ix2 r k : S512x32.Idx)
  rw [View.read_apply] at hb
  have hi : ((cfg0.win 4).blk (point i)).view.emb (ix2 r k : S512x32.Idx) = (ix2 ⟨512 * i.val + r.val, by omega⟩ k : S9216x32.Idx) := by
    funext a
    apply Fin.ext
    match a with
    | ⟨0, _⟩ =>
      show win0_4.index (point i) 0 * 512 + 1 * r.val = 512 * i.val + r.val
      rw [(index4 _).1]; simp only [point]; omega
    | ⟨1, _⟩ =>
      show win0_4.index (point i) 1 * 32 + 1 * k.val = k.val
      rw [(index4 _).2]; omega
  refine (congrArg ((dats m 0 c).arrAt 4 cfg0.N : FVec Ideal S9216x32 .f32) hi).symm.trans (hb.trans ?_)
  show ((dats m 0 c).after 4 (point i) : FVec Ideal S512x32 .f32) (ix2 r k) = _
  rw [after0_4, out_products]
  simp only [block0, block1, block2]
  rfl

end Cert.NormAbIdeal.Entry

namespace Cert.NormAbRefIdeal.Entry

open Cert.Norm Cert.NormAbRefIdeal Cert.NormAbRefIdeal.Gen Idealize.ShloMosaic Idealize.ShloMosaic.TcCoe Idealize.SL.Sem

/-- The rows, each by its root mean square. -/
def normed (x : FVec Ideal S9216x2048 .f32) (w : FVec Ideal S4x2048 .f32) : FVec Ideal S9216x2048 .f32 :=
  mulf (mulf x (broadcastInDim S9216x2048 ![0, 1] bcast_S9216x1_S9216x2048_0_1 (Host.rsqrt (addf
    (Host.divf (broadcastInDim S9216x1 ![0] bcast_S9216_S9216x1_0 (Host.reduceAdd (mulf x x) (constant S_ .f32 0#32) reducesTo_S9216x2048_S9216_d1 h_S_))
      (broadcastInDim S9216x1 ![] bcast_S_S9216x1 (constant S_ .f32 1157627904#32)))
    (broadcastInDim S9216x1 ![] bcast_S_S9216x1 (constant S_ .f32 897988541#32))))))
    (broadcastInDim S9216x2048 ![0, 1] bcast_S1x2048_S9216x2048_0_1 (broadcastInDim S1x2048 ![1] bcast_S2048_S1x2048_1 (shapeCast S2048 (extractStridedSlice S1x2048 ![2, 0] w slices_S4x2048_S1x2048_2_0) shapeCasts_S1x2048_S2048)))

theorem normed_apply (x : FVec Ideal S9216x2048 .f32) (w : FVec Ideal S4x2048 .f32) (r : Fin 9216) (l : Fin 2048) :
    (normed x w (ix2 r l) : EReal) = rms (fun l => x (ix2 r l)) (fun l => w (ix2 2 l)) l := by
  unfold rms
  pointwise [normed]

/-- The reference's result from its arguments. -/
def term (x : FVec Ideal S9216x2048 .f32) (w : FVec Ideal S4x2048 .f32) : FVec Ideal S9216x2048 .bf16 := truncf .bf16 (normed x w) bitsLt_bf16_f32

/-- Its entries. -/
theorem term_apply (x : FVec Ideal S9216x2048 .f32) (w : FVec Ideal S4x2048 .f32) (r : Fin 9216) (l : Fin 2048) :
    (term x w (ix2 r l) : EReal) = rms (fun l => x (ix2 r l)) (fun l => w (ix2 2 l)) l :=
  normed_apply x w r l

/-- Its second result. -/
def products (x : FVec Ideal S9216x2048 .f32) (v : FVec Ideal S4x2048 .f32) (w : FVec Ideal S2x2048x13344 .f32) : FVec Ideal S9216x32 .f32 :=
  extractStridedSlice S9216x32 ![0, 5120] (Host.dotGeneral dot_S9216x2048_S2048x13344_S9216x13344_1_0_0_1_n_n none (normed x v)
    (shapeCast S2048x13344 (extractStridedSlice S1x2048x13344 ![1, 0, 0] w slices_S2x2048x13344_S1x2048x13344_1_0_0) shapeCasts_S1x2048x13344_S2048x13344)) slices_S9216x13344_S9216x32_0_5120

theorem products_apply (x : FVec Ideal S9216x2048 .f32) (v : FVec Ideal S4x2048 .f32) (w : FVec Ideal S2x2048x13344 .f32) (r : Fin 9216) (k : Fin 32) :
    (products x v w (ix2 r k) : EReal) = ∑ l : Fin 2048, rms (fun l => x (ix2 r l)) (fun l => v (ix2 2 l)) l * w (ix3 1 l ⟨5120 + k.val, by omega⟩) := by
  simp only [← normed_apply]
  unfold products
  generalize normed x v = h
  pointwise

end Cert.NormAbRefIdeal.Entry

namespace Cert.NormAbAgree

open Idealize.ShloMosaic Idealize.ShloMosaic.TcCoe Idealize.SL.Sem

/-- The kernel's result is the reference's, of the same arguments. -/
theorem outputs (m : (ℓ : Loc NormAbIdeal.nD NormAbIdeal.τ NormAbIdeal.sig) → Buf (Elt Ideal) ℓ) (c : Dev NormAbIdeal.nD) :
    NormAbRefIdeal.Entry.term (NormAbIdeal.Entry.argX m c) (NormAbIdeal.Entry.argN m c) = ((NormAbIdeal.Gen.dats m 0 c).arrAt 3 NormAbIdeal.cfg0.N : FVec Ideal NormAbIdeal.S9216x2048 .bf16) := by
  funext i
  idx_vars i
  obtain ⟨p, r, rfl⟩ := Tiles.split (p := 512) (q := 18) (by decide) rfl i0
  rw [NormAbIdeal.Entry.result]
  exact NormAbRefIdeal.Entry.term_apply ..

/-- And the second. -/
theorem products (m : (ℓ : Loc NormAbIdeal.nD NormAbIdeal.τ NormAbIdeal.sig) → Buf (Elt Ideal) ℓ) (c : Dev NormAbIdeal.nD) :
    NormAbRefIdeal.Entry.products (NormAbIdeal.Entry.argX m c) (NormAbIdeal.Entry.argN m c) (NormAbIdeal.Entry.argW m c) = ((NormAbIdeal.Gen.dats m 0 c).arrAt 4 NormAbIdeal.cfg0.N : FVec Ideal NormAbIdeal.S9216x32 .f32) := by
  funext i
  idx_vars i
  obtain ⟨p, r, rfl⟩ := Tiles.split (p := 512) (q := 18) (by decide) rfl i0
  rw [NormAbIdeal.Entry.products]
  exact NormAbRefIdeal.Entry.products_apply ..

end Cert.NormAbAgree

end
-- ==== Proof.NormC.lean ====
/- The norm before the odd layers' mixers, with the narrow projections of the gated delta rule taken along. -/
module

public import proofs.«01_k».proof.Proof.Gen.NormCIdeal.Frame
public import proofs.«01_k».proof.Proof.Gen.NormCRefIdeal.Run
public import proofs.«01_k».proof.Proof.Norm
public import proofs.«01_k».proof.Proof.GdnProj

@[expose] public section

set_option maxRecDepth 16384

noncomputable section

namespace Cert.NormCIdeal.Entry

open Cert.Tiles Cert.Norm Cert.NormCIdeal Cert.NormCIdeal.Gen Idealize.ShloMosaic Idealize.ShloMosaic.TcCoe Idealize.SL.Sem
open Idealize.ShloMosaic.Pipeline (Dat)
open Cert.GdnInIdeal.Entry (stacked stacked_apply)

/-- A point's result: its rows, each by its root mean square. -/
theorem out_rows (x : FVec Ideal S512x2048 .f32) (v : FVec Ideal S1x2048 .f32) (w : FVec Ideal S64x2048 .f32) (r : Fin 512) (l : Fin 2048) :
    ((out0_3 (F := Ideal) x v w : FVec Ideal S512x2048 .bf16) (ix2 r l) : EReal) = rms (fun l => x (ix2 r l)) (fun l => v (ix2 0 l)) l := by
  unfold out0_3 r0_0 r0_1
  rw [View.canon_unit_zero zeros2, View.ld_unit_zero (S := S512x2048) zeros2, View.ld_unit_zero (S := S1x2048) zeros2]
  unfold rms
  pointwise [k0_pay1]

/-- A point's second result: the products of those rows with the weights' rows. -/
theorem out_products (x : FVec Ideal S512x2048 .f32) (v : FVec Ideal S1x2048 .f32) (w : FVec Ideal S64x2048 .f32) (r : Fin 512) (k : Fin 64) :
    ((out0_4 (F := Ideal) x v w : FVec Ideal S512x64 .f32) (ix2 r k) : EReal)
      = ∑ l : Fin 2048, rms (fun l => x (ix2 r l)) (fun l => v (ix2 0 l)) l * w (ix2 k l) := by
  unfold out0_4 r0_0 r0_1 r0_2 r0_3
  rw [View.canon_unit_zero zeros2, View.ld_unit_zero (S := S512x2048) zeros2, View.ld_unit_zero (S := S1x2048) zeros2, View.ld_unit_zero (S := S64x2048) zeros2]
  unfold rms
  pointwise [k0_pay2, k0_pay1]

variable (m : (ℓ : Loc nD τ sig) → Buf (Elt Ideal) ℓ) (c : Dev nD)

/-- The grid point of row tile `i`. -/
def point (i : Fin 18) : Fin cfg0.N := ⟨i.val, by rw [show cfg0.N = 18 from N_0]; exact i.isLt⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 24640 ∧ win0_2.index t 1 = 0 :=
  (by decide +kernel : ∀ t : Fin grid0.N, win0_2.index t 0 = 24640 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The arguments. -/
def argX : FVec Ideal S9216x2048 .f32 := m ((c.tc : Thread nD τ).loc main_arg0)
def argN : FVec Ideal S4x2048 .f32 := m ((c.tc : Thread nD τ).loc main_arg1)
def argW : FVec Ideal S2x2048x12352 .f32 := m ((c.tc : Thread nD τ).loc main_arg2)

theorem block0 (i : Fin 18) (r : Fin 512) (l : Fin 2048) :
    ((iblk m c 0 (point i) : FVec Ideal S512x2048 .f32) (ix2 r l) : EReal) = argX m c (ix2 ⟨(512 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 512 + 1 * r.val = (512 * i.val + r.val)
    rw [(index0 _).1]; simp only [point]; omega
  | ⟨1, _⟩ =>
    show win0_0.index (point i) 1 * 2048 + 1 * l.val = l.val
    rw [(index0 _).2]; omega

/-- The norm's weights as the kernel takes them: one row. -/
def normRow (w : FVec Ideal S4x2048 .f32) : FVec Ideal S1x2048 .f32 := shapeCast S1x2048 (shapeCast S2048 (extractStridedSlice S1x2048 ![3, 0] w slices_S4x2048_S1x2048_3_0) shapeCasts_S1x2048_S2048) shapeCasts_S2048_S1x2048

theorem normRow_apply (w : FVec Ideal S4x2048 .f32) (l : Fin 2048) : (normRow w (ix2 0 l) : EReal) = w (ix2 3 l) := by
  pointwise [normRow]

theorem block1 (i : Fin 18) (l : Fin 2048) :
    ((iblk m c 1 (point i) : FVec Ideal S1x2048 .f32) (ix2 0 l) : EReal) = argN m c (ix2 3 l) := by
  have hV : (V m c main_v3 : FVec Ideal S1x2048 .f32) = normRow (argN m c) := by
    show StableHlo.after hostOps0 _ _ = _
    simp only [hostOps0]
    after_reads_simp
    rfl
  unfold iblk
  rw [View.read_apply]
  refine (congrFun hV _).trans ((congrArg (normRow (argN m c)) ?_).trans (normRow_apply (argN m c) l))
  funext a
  apply Fin.ext
  match a with
  | ⟨0, _⟩ =>
    show win0_1.index (point i) 0 * 1 + 1 * 0 = 0
    rw [(index1 _).1]
  | ⟨1, _⟩ =>
    show win0_1.index (point i) 1 * 2048 + 1 * l.val = l.val
    rw [(index1 _).2]; omega

theorem block2 (i : Fin 18) (k : Fin 64) (l : Fin 2048) :
    ((iblk m c 2 (point i) : FVec Ideal S64x2048 .f32) (ix2 k l) : EReal) = argW m c (ix3 1 l ⟨12288 + k.val, by omega⟩) := by
  have hV : (V m c main_v4 : FVec Ideal S24704x2048 .f32) = stacked (argW m c) := by
    show StableHlo.after hostOps0 _ _ = _
    simp only [hostOps0]
    after_reads_simp
    rfl
  unfold iblk
  rw [View.read_apply]
  refine (congrFun hV _).trans ((congrArg (stacked (argW m c)) ?_).trans
    (stacked_apply (argW m c) ⟨24640 + k.val, by omega⟩ ⟨12288 + k.val, by omega⟩ l (by simp only; omega)))
  funext a
  apply Fin.ext
  match a with
  | ⟨0, _⟩ =>
    show win0_2.index (point i) 0 + 1 * k.val = 24640 + k.val
    rw [(index2 _).1]; omega
  | ⟨1, _⟩ =>
    show win0_2.index (point i) 1 + 1 * l.val = l.val
    rw [(index2 _).2]; omega

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h0 : win0_3.index t 0 = win0_3.index t' 0 := congrFun h 0
    rw [(index3 t).1, (index3 t').1] at h0
    exact h0))

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h0 : win0_4.index t 0 = win0_4.index t' 0 := congrFun h 0
    rw [(index4 t).1, (index4 t').1] at h0
    exact h0))

/-- Row `r` of the argument, by its root mean square. -/
def normed (r : Fin 9216) (l : Fin 2048) : EReal := rms (fun l => argX m c (ix2 r l)) (fun l => argN m c (ix2 3 l)) l

/-- The kernel's result, entry by entry. -/
theorem result (i : Fin 18) (r : Fin 512) (k : Fin 2048) :
    ((dats m 0 c).arrAt 3 cfg0.N : FVec Ideal S9216x2048 .bf16) (ix2 ⟨512 * i.val + r.val, by omega⟩ k) = normed m c ⟨(512 * i.val + r.val), by omega⟩ k := by
  have hb := congrFun ((dats m 0 c).read_blk_arrAt_eq_flushed 3 disjoint3 cfg0.N (point i) (point i).isLt (flush0_3 _)) (ix2 r k : S512x2048.Idx)
  rw [View.read_apply] at hb
  have hi : ((cfg0.win 3).blk (point i)).view.emb (ix2 r k : S512x2048.Idx) = (ix2 ⟨512 * i.val + r.val, by omega⟩ k : S9216x2048.Idx) := by
    funext a
    apply Fin.ext
    match a with
    | ⟨0, _⟩ =>
      show win0_3.index (point i) 0 * 512 + 1 * r.val = 512 * i.val + r.val
      rw [(index3 _).1]; simp only [point]; omega
    | ⟨1, _⟩ =>
      show win0_3.index (point i) 1 * 2048 + 1 * k.val = k.val
      rw [(index3 _).2]; omega
  refine (congrArg ((dats m 0 c).arrAt 3 cfg0.N : FVec Ideal S9216x2048 .bf16) hi).symm.trans (hb.trans ?_)
  show ((dats m 0 c).after 3 (point i) : FVec Ideal S512x2048 .bf16) (ix2 r k) = _
  rw [after0_3, out_rows]
  simp only [block0, block1]
  rfl

/-- Its second result. -/
theorem products (i : Fin 18) (r : Fin 512) (k : Fin 64) :
    ((dats m 0 c).arrAt 4 cfg0.N : FVec Ideal S9216x64 .f32) (ix2 ⟨512 * i.val + r.val, by omega⟩ k) = ∑ l : Fin 2048, normed m c ⟨(512 * i.val + r.val), by omega⟩ l * argW m c (ix3 1 l ⟨12288 + k.val, by omega⟩) := by
  have hb := congrFun ((dats m 0 c).read_blk_arrAt_eq_flushed 4 disjoint4 cfg0.N (point i) (point i).isLt (flush0_4 _)) (ix2 r k : S512x64.Idx)
  rw [View.read_apply] at hb
  have hi : ((cfg0.win 4).blk (point i)).view.emb (ix2 r k : S512x64.Idx) = (ix2 ⟨512 * i.val + r.val, by omega⟩ k : S9216x64.Idx) := by
    funext a
    apply Fin.ext
    match a with
    | ⟨0, _⟩ =>
      show win0_4.index (point i) 0 * 512 + 1 * r.val = 512 * i.val + r.val
      rw [(index4 _).1]; simp only [point]; omega
    | ⟨1, _⟩ =>
      show win0_4.index (point i) 1 * 64 + 1 * k.val = k.val
      rw [(index4 _).2]; omega
  refine (congrArg ((dats m 0 c).arrAt 4 cfg0.N : FVec Ideal S9216x64 .f32) hi).symm.trans (hb.trans ?_)
  show ((dats m 0 c).after 4 (point i) : FVec Ideal S512x64 .f32) (ix2 r k) = _
  rw [after0_4, out_products]
  simp only [block0, block1, block2]
  rfl

end Cert.NormCIdeal.Entry

namespace Cert.NormCRefIdeal.Entry

open Cert.Norm Cert.NormCRefIdeal Cert.NormCRefIdeal.Gen Idealize.ShloMosaic Idealize.ShloMosaic.TcCoe Idealize.SL.Sem

/-- The rows, each by its root mean square. -/
def normed (x : FVec Ideal S9216x2048 .f32) (w : FVec Ideal S4x2048 .f32) : FVec Ideal S9216x2048 .f32 :=
  mulf (mulf x (broadcastInDim S9216x2048 ![0, 1] bcast_S9216x1_S9216x2048_0_1 (Host.rsqrt (addf
    (Host.divf (broadcastInDim S9216x1 ![0] bcast_S9216_S9216x1_0 (Host.reduceAdd (mulf x x) (constant S_ .f32 0#32) reducesTo_S9216x2048_S9216_d1 h_S_))
      (broadcastInDim S9216x1 ![] bcast_S_S9216x1 (constant S_ .f32 1157627904#32)))
    (broadcastInDim S9216x1 ![] bcast_S_S9216x1 (constant S_ .f32 897988541#32))))))
    (broadcastInDim S9216x2048 ![0, 1] bcast_S1x2048_S9216x2048_0_1 (broadcastInDim S1x2048 ![1] bcast_S2048_S1x2048_1 (shapeCast S2048 (extractStridedSlice S1x2048 ![3, 0] w slices_S4x2048_S1x2048_3_0) shapeCasts_S1x2048_S2048)))

theorem normed_apply (x : FVec Ideal S9216x2048 .f32) (w : FVec Ideal S4x2048 .f32) (r : Fin 9216) (l : Fin 2048) :
    (normed x w (ix2 r l) : EReal) = rms (fun l => x (ix2 r l)) (fun l => w (ix2 3 l)) l := by
  unfold rms
  pointwise [normed]

/-- The reference's result from its arguments. -/
def term (x : FVec Ideal S9216x2048 .f32) (w : FVec Ideal S4x2048 .f32) : FVec Ideal S9216x2048 .bf16 := truncf .bf16 (normed x w) bitsLt_bf16_f32

/-- Its entries. -/
theorem term_apply (x : FVec Ideal S9216x2048 .f32) (w : FVec Ideal S4x2048 .f32) (r : Fin 9216) (l : Fin 2048) :
    (term x w (ix2 r l) : EReal) = rms (fun l => x (ix2 r l)) (fun l => w (ix2 3 l)) l :=
  normed_apply x w r l

/-- Its second result. -/
def products (x : FVec Ideal S9216x2048 .f32) (v : FVec Ideal S4x2048 .f32) (w : FVec Ideal S2x2048x12352 .f32) : FVec Ideal S9216x64 .f32 :=
  extractStridedSlice S9216x64 ![0, 12288] (Host.dotGeneral dot_S9216x2048_S2048x12352_S9216x12352_1_0_0_1_n_n none (normed x v)
    (shapeCast S2048x12352 (extractStridedSlice S1x2048x12352 ![1, 0, 0] w slices_S2x2048x12352_S1x2048x12352_1_0_0) shapeCasts_S1x2048x12352_S2048x12352)) slices_S9216x12352_S9216x64_0_12288

theorem products_apply (x : FVec Ideal S9216x2048 .f32) (v : FVec Ideal S4x2048 .f32) (w : FVec Ideal S2x2048x12352 .f32) (r : Fin 9216) (k : Fin 64) :
    (products x v w (ix2 r k) : EReal) = ∑ l : Fin 2048, rms (fun l => x (ix2 r l)) (fun l => v (ix2 3 l)) l * w (ix3 1 l ⟨12288 + k.val, by omega⟩) := by
  simp only [← normed_apply]
  unfold products
  generalize normed x v = h
  pointwise

end Cert.NormCRefIdeal.Entry

namespace Cert.NormCAgree

open Idealize.ShloMosaic Idealize.ShloMosaic.TcCoe Idealize.SL.Sem

/-- The kernel's result is the reference's, of the same arguments. -/
theorem outputs (m : (ℓ : Loc NormCIdeal.nD NormCIdeal.τ NormCIdeal.sig) → Buf (Elt Ideal) ℓ) (c : Dev NormCIdeal.nD) :
    NormCRefIdeal.Entry.term (NormCIdeal.Entry.argX m c) (NormCIdeal.Entry.argN m c) = ((NormCIdeal.Gen.dats m 0 c).arrAt 3 NormCIdeal.cfg0.N : FVec Ideal NormCIdeal.S9216x2048 .bf16) := by
  funext i
  idx_vars i
  obtain ⟨p, r, rfl⟩ := Tiles.split (p := 512) (q := 18) (by decide) rfl i0
  rw [NormCIdeal.Entry.result]
  exact NormCRefIdeal.Entry.term_apply ..

/-- And the second. -/
theorem products (m : (ℓ : Loc NormCIdeal.nD NormCIdeal.τ NormCIdeal.sig) → Buf (Elt Ideal) ℓ) (c : Dev NormCIdeal.nD) :
    NormCRefIdeal.Entry.products (NormCIdeal.Entry.argX m c) (NormCIdeal.Entry.argN m c) (NormCIdeal.Entry.argW m c) = ((NormCIdeal.Gen.dats m 0 c).arrAt 4 NormCIdeal.cfg0.N : FVec Ideal NormCIdeal.S9216x64 .f32) := by
  funext i
  idx_vars i
  obtain ⟨p, r, rfl⟩ := Tiles.split (p := 512) (q := 18) (by decide) rfl i0
  rw [NormCIdeal.Entry.products]
  exact NormCRefIdeal.Entry.products_apply ..

end Cert.NormCAgree

end
-- ==== Proof.SsmBuffer.lean ====
/- The state-space part's call for the sample batch: the convolution's buffer that it leaves is each sequence's last three
   rows. -/
module

public import proofs.«01_k».proof.Proof.Gen.SsmBufSampleIdeal.Frame
public import proofs.«01_k».proof.Proof.Gen.SsmBufSampleRefIdeal.Run
public import proofs.«01_k».proof.Proof.Tiles

@[expose] public section

set_option maxRecDepth 16384

noncomputable section

namespace Cert.SsmBufSampleIdeal.Entry

open Cert.Tiles Cert.SsmBufSampleIdeal Cert.SsmBufSampleIdeal.Gen Idealize.ShloMosaic Idealize.ShloMosaic.TcCoe Idealize.SL.Sem
open Idealize.ShloMosaic.Pipeline (Dat)

/-- What is stored as the new buffer is what is loaded from scratch, under one more axis. -/
theorem stored_apply (w : FVec Ideal S3x3072 .f32) (r : Fin 3) (l : Fin 3072) :
    ((k0_pay2 (F := Ideal) w : FVec Ideal S1x3x3072 .f32) (ix3 0 r l) : EReal) = w (ix2 r l) := by
  pointwise [k0_pay2]

/-- What is put in scratch of a tile is the tile. -/
theorem kept_apply (x : FVec Ideal S8x3072 .f32) (r : Fin 8) (l : Fin 3072) :
    ((k0_pay6 (F := Ideal) x : FVec Ideal S8x3072 .f32) (ix2 r l) : EReal) = x (ix2 r l) := by
  pointwise [k0_pay6]

variable (m : (ℓ : Loc nD τ sig) → Buf (Elt Ideal) ℓ) (c : Dev nD)

/-- A point's new buffer: of its tile the rows 1, 2 and 3, the last of the four that count. Scratch holds the tile from
    row 8 on and the buffer before it in the rows 5, 6 and 7; rows 9, 10 and 11 are loaded. -/
theorem out_rows (t : Fin cfg0.N) (r : Fin 3) (l : Fin 3072) :
    ((outsAt0 m c t).2.2 (ix3 0 r l) : EReal) = (iblk m c 1 t : FVec Ideal S8x3072 .f32) (ix2 ⟨1 + r.val, by omega⟩ l) := by
  unfold outsAt0
  dsimp only
  generalize (iblk m c 1 t : FVec Ideal S8x3072 .f32) = x
  unfold out0_A_16
  rw [View.read_writes_eq_canon _ _ _ (by apply cover0_A_16)]
  unfold kernelRun0_A
  dsimp only
  sl_unfold_words
  rw [View.canon_unit_zero zeros3, View.readCov_eq_canon']
  refine (stored_apply _ r l).trans ?_
  have hi : (Rect.unit (s := S16x3072) ![9, 0] ![3, 3072] inb_S16x3072_S3x3072_9_0).toLoadRect.idx (ix2 r l : S3x3072.Idx)
      = (Rect.unit (s := S16x3072) ![8, 0] S8x3072.size inb_S16x3072_S8x3072_8_0).emb (ix2 ⟨1 + r.val, by omega⟩ l : S8x3072.Idx) := by
    funext a
    apply Fin.ext
    match a with
    | ⟨0, _⟩ =>
      show 9 + 1 * r.val = 8 + 1 * (1 + r.val)
      omega
    | ⟨1, _⟩ => rfl
  refine (congrArg (View.canon _) hi).trans ((View.canon_cons_emb _ _ _ _).trans ?_)
  rw [View.readAt_eq_ld, (hs0_1 t).read_unread, View.ld_unit_zero (S := S8x3072) zeros2]
  exact kept_apply x _ l

/-- The grid point of sequence `i`. -/
def point (i : Fin 128) : Fin cfg0.N := ⟨i.val, by rw [show cfg0.N = 128 from N_0]; exact i.isLt⟩

theorem indexIn : ∀ t : Fin cfg0.N, win0_1.index t 0 = 1024 + t.val ∧ win0_1.index t 1 = 0 :=
  (by decide +kernel : ∀ t : Fin grid0.N, win0_1.index t 0 = 1024 + t.val ∧ win0_1.index t 1 = 0)
theorem indexOut : ∀ t : Fin cfg0.N, win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0)

/-- The arguments that the buffer is read from: the convolution's input and the buffer before. -/
def argX : FVec Ideal S9216x3072 .f32 := m ((c.tc : Thread nD τ).loc main_arg1)
def argB : FVec Ideal S128x3x3072 .f32 := m ((c.tc : Thread nD τ).loc main_arg3)

theorem block (i : Fin 128) (r : Fin 8) (l : Fin 3072) :
    ((iblk m c 1 (point i) : FVec Ideal S8x3072 .f32) (ix2 r l) : EReal) = argX m c (ix2 ⟨8192 + (8 * i.val + r.val), by omega⟩ l) := by
  unfold iblk
  rw [View.read_apply]
  show V m c main_arg1 _ = _
  rw [V_main_arg1]
  refine congrArg (argX m c) ?_
  funext a
  apply Fin.ext
  match a with
  | ⟨0, _⟩ =>
    show win0_1.index (point i) 0 * 8 + 1 * r.val = 8192 + (8 * i.val + r.val)
    rw [(indexIn _).1]; simp only [point]; omega
  | ⟨1, _⟩ =>
    show win0_1.index (point i) 1 * 3072 + 1 * l.val = l.val
    rw [(indexIn _).2]; omega

theorem disjointOut : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (Fin.ext (by
    have h0 : win0_16.index t 0 = win0_16.index t' 0 := congrFun h 0
    rw [(indexOut t).1, (indexOut t').1] at h0
    exact h0))

/-- The kernel's result, entry by entry. -/
theorem result (i : Fin 128) (r : Fin 3) (l : Fin 3072) :
    ((dats m 0 c).arrAt 16 cfg0.N : FVec Ideal S128x3x3072 .f32) (ix3 i r l) = argX m c (ix2 ⟨8192 + (8 * i.val + (1 + r.val)), by omega⟩ l) := by
  have hb := congrFun ((dats m 0 c).read_blk_arrAt_eq_flushed 16 disjointOut cfg0.N (point i) (point i).isLt (flush0_16 _)) (ix3 0 r l : S1x3x3072.Idx)
  rw [View.read_apply] at hb
  have hi : ((cfg0.win 16).blk (point i)).view.emb (ix3 0 r l : S1x3x3072.Idx) = (ix3 i r l : S128x3x3072.Idx) := by
    funext a
    apply Fin.ext
    match a with
    | ⟨0, _⟩ =>
      show win0_16.index (point i) 0 * 1 + 1 * 0 = i.val
      rw [(indexOut _).1]; simp only [point]; omega
    | ⟨1, _⟩ =>
      show win0_16.index (point i) 1 * 3 + 1 * r.val = r.val
      rw [(indexOut _).2.1]; omega
    | ⟨2, _⟩ =>
      show win0_16.index (point i) 2 * 3072 + 1 * l.val = l.val
      rw [(indexOut _).2.2]; omega
  refine (congrArg ((dats m 0 c).arrAt 16 cfg0.N : FVec Ideal S128x3x3072 .f32) hi).symm.trans (hb.trans ?_)
  show ((dats m 0 c).after 16 (point i) : FVec Ideal S1x3x3072 .f32) (ix3 0 r l) = _
  rw [after0_16]
  exact (out_rows m c (point i) r l).trans (block m c i _ l)

end Cert.SsmBufSampleIdeal.Entry

namespace Cert.SsmBufSampleRefIdeal.Entry

open Cert.SsmBufSampleRefIdeal Cert.SsmBufSampleRefIdeal.Gen Idealize.ShloMosaic Idealize.ShloMosaic.TcCoe Idealize.SL.Sem

/-- The sample batch's rows, of each sequence the first four. -/
def rows (x : FVec Ideal S9216x3072 .f32) : FVec Ideal S128x4x3072 .f32 :=
  extractStridedSlice S128x4x3072 ![0, 0, 0] (shapeCast S128x8x3072 (extractStridedSlice S1024x3072 ![8192, 0] x slices_S9216x3072_S1024x3072_8192_0) shapeCasts_S1024x3072_S128x8x3072) slices_S128x8x3072_S128x4x3072_0_0_0

theorem rows_apply (x : FVec Ideal S9216x3072 .f32) (b : Fin 128) (t : Fin 4) (l : Fin 3072) :
    (rows x (ix3 b t l) : EReal) = x (ix2 ⟨8192 + (b.val * 8 + t.val), by omega⟩ l) := by
  pointwise [rows]

/-- The reference's result from its arguments. -/
def term (x : FVec Ideal S9216x3072 .f32) (b : FVec Ideal S128x3x3072 .f32) : FVec Ideal S128x3x3072 .f32 :=
  extractStridedSlice S128x3x3072 ![0, 4, 0] (concatenate S128x7x3072 1 [⟨S128x3x3072, b⟩, ⟨S128x4x3072, rows x⟩]
    concatenates_S128x3x3072_S128x4x3072_S128x7x3072_d1) slices_S128x7x3072_S128x3x3072_0_4_0

/-- Its entries: the last three of each sequence's four rows. -/
theorem term_apply (x : FVec Ideal S9216x3072 .f32) (b : FVec Ideal S128x3x3072 .f32) (i : Fin 128) (r : Fin 3) (l : Fin 3072) :
    (term x b (ix3 i r l) : EReal) = x (ix2 ⟨8192 + (8 * i.val + (1 + r.val)), by omega⟩ l) := by
  have h : (term x b (ix3 i r l) : EReal) = rows x (ix3 i ⟨1 + r.val, by omega⟩ l) := by
    unfold term
    generalize rows x = y
    pointwise
    rw [dif_neg (by omega)]
    exact congrArg (fun a => y (ix3 i a l)) (Fin.ext (by show 4 + r.val - 3 = 1 + r.val; omega))
  rw [h, rows_apply]
  exact congrArg (fun a => x (ix2 a l)) (Fin.ext (by show 8192 + (i.val * 8 + (1 + r.val)) = 8192 + (8 * i.val + (1 + r.val)); omega))

end Cert.SsmBufSampleRefIdeal.Entry

namespace Cert.SsmBufSampleAgree

open Idealize.ShloMosaic Idealize.ShloMosaic.TcCoe Idealize.SL.Sem

/-- The kernel's result is the reference's, of the same arguments. -/
theorem outputs (m : (ℓ : Loc SsmBufSampleIdeal.nD SsmBufSampleIdeal.τ SsmBufSampleIdeal.sig) → Buf (Elt Ideal) ℓ) (c : Dev SsmBufSampleIdeal.nD) :
    SsmBufSampleRefIdeal.Entry.term (SsmBufSampleIdeal.Entry.argX m c) (SsmBufSampleIdeal.Entry.argB m c) = ((SsmBufSampleIdeal.Gen.dats m 0 c).arrAt 16 SsmBufSampleIdeal.cfg0.N : FVec Ideal SsmBufSampleIdeal.S128x3x3072 .f32) := by
  funext i
  idx_vars i
  rw [SsmBufSampleIdeal.Entry.result]
  exact SsmBufSampleRefIdeal.Entry.term_apply ..

end Cert.SsmBufSampleAgree

end
-- ==== Proof.GdnBuffer.lean ====
/- The gated delta rule's call for the sample batch: the convolution's buffer that it leaves is each sequence's last three
   rows. -/
module

public import proofs.«01_k».proof.Proof.Gen.GdnBufSampleIdeal.Frame
public import proofs.«01_k».proof.Proof.Gen.GdnBufSampleRefIdeal.Run
public import proofs.«01_k».proof.Proof.Tiles

@[expose] public section

set_option maxRecDepth 16384

noncomputable section

namespace Cert.GdnBufSampleIdeal.Entry

open Cert.Tiles Cert.GdnBufSampleIdeal Cert.GdnBufSampleIdeal.Gen Idealize.ShloMosaic Idealize.ShloMosaic.TcCoe Idealize.SL.Sem
open Idealize.ShloMosaic.Pipeline (Dat)

/-- What is stored as the new buffer is what is loaded from scratch, under one more axis. -/
theorem stored_apply (w : FVec Ideal S3x8192 .f32) (r : Fin 3) (l : Fin 8192) :
    ((k0_pay889 (F := Ideal) w : FVec Ideal S1x3x8192 .f32) (ix3 0 r l) : EReal) = w (ix2 r l) := by
  pointwise [k0_pay889]

/-- What is put in scratch of a tile is the tile. -/
theorem kept_apply (x : FVec Ideal S8x8192 .f32) (r : Fin 8) (l : Fin 8192) :
    ((k0_pay4 (F := Ideal) x : FVec Ideal S8x8192 .f32) (ix2 r l) : EReal) = x (ix2 r l) := by
  pointwise [k0_pay4]

variable (m : (ℓ : Loc nD τ sig) → Buf (Elt Ideal) ℓ) (c : Dev nD)

/-- A point's new buffer: of its tile the rows 1, 2 and 3, the last of the four that count. Scratch holds the tile from
    row 8 on and the buffer before it in the rows 5, 6 and 7; rows 9, 10 and 11 are loaded. -/
theorem out_rows (t : Fin cfg0.N) (r : Fin 3) (l : Fin 8192) :
    ((outsAt0 m c t).2.2 (ix3 0 r l) : EReal) = (iblk m c 0 t : FVec Ideal S8x8192 .f32) (ix2 ⟨1 + r.val, by omega⟩ l) := by
  unfold outsAt0
  dsimp only
  generalize (iblk m c 0 t : FVec Ideal S8x8192 .f32) = x
  unfold out0_A_14
  rw [View.read_writes_eq_canon _ _ _ (by apply cover0_A_14)]
  unfold kernelRun0_A
  dsimp only
  sl_unfold_words
  rw [View.canon_unit_zero zeros3, View.readCov_eq_canon']
  refine (stored_apply _ r l).trans ?_
  have hi : (Rect.unit (s := S16x8192) ![9, 0] ![3, 8192] inb_S16x8192_S3x8192_9_0).toLoadRect.idx (ix2 r l : S3x8192.Idx)
      = (Rect.unit (s := S16x8192) ![8, 0] S8x8192.size inb_S16x8192_S8x8192_8_0).emb (ix2 ⟨1 + r.val, by omega⟩ l : S8x8192.Idx) := by
    funext a
    apply Fin.ext
    match a with
    | ⟨0, _⟩ =>
      show 9 + 1 * r.val = 8 + 1 * (1 + r.val)
      omega
    | ⟨1, _⟩ => rfl
  refine (congrArg (View.canon _) hi).trans ((View.canon_cons_emb _ _ _ _).trans ?_)
  rw [View.readAt_eq_ld, (hs0_0 t).read_unread, View.ld_unit_zero (S := S8x8192) zeros2]
  exact kept_apply x _ l

/-- The grid point of sequence `i`. -/
def point (i : Fin 128) : Fin cfg0.N := ⟨i.val, by rw [show cfg0.N = 128 from N_0]; exact i.isLt⟩

theorem indexIn : ∀ t : Fin cfg0.N, win0_0.index t 0 = 1024 + t.val ∧ win0_0.index t 1 = 0 :=
  (by decide +kernel : ∀ t : Fin grid0.N, win0_0.index t 0 = 1024 + t.val ∧ win0_0.index t 1 = 0)
theorem indexOut : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)

/-- The arguments that the buffer is read from: the convolution's input and the buffer before. -/
def argX : FVec Ideal S9216x8192 .f32 := m ((c.tc : Thread nD τ).loc main_arg0)
def argB : FVec Ideal S128x3x8192 .f32 := m ((c.tc : Thread nD τ).loc main_arg3)

theorem block (i : Fin 128) (r : Fin 8) (l : Fin 8192) :
    ((iblk m c 0 (point i) : FVec Ideal S8x8192 .f32) (ix2 r l) : EReal) = argX m c (ix2 ⟨8192 + (8 * i.val + r.val), by omega⟩ l) := by
  unfold iblk
  rw [View.read_apply]
  show V m c main_arg0 _ = _
  rw [V_main_arg0]
  refine congrArg (argX m c) ?_
  funext a
  apply Fin.ext
  match a with
  | ⟨0, _⟩ =>
    show win0_0.index (point i) 0 * 8 + 1 * r.val = 8192 + (8 * i.val + r.val)
    rw [(indexIn _).1]; simp only [point]; omega
  | ⟨1, _⟩ =>
    show win0_0.index (point i) 1 * 8192 + 1 * l.val = l.val
    rw [(indexIn _).2]; omega

theorem disjointOut : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (Fin.ext (by
    have h0 : win0_14.index t 0 = win0_14.index t' 0 := congrFun h 0
    rw [(indexOut t).1, (indexOut t').1] at h0
    exact h0))

/-- The kernel's result, entry by entry. -/
theorem result (i : Fin 128) (r : Fin 3) (l : Fin 8192) :
    ((dats m 0 c).arrAt 14 cfg0.N : FVec Ideal S128x3x8192 .f32) (ix3 i r l) = argX m c (ix2 ⟨8192 + (8 * i.val + (1 + r.val)), by omega⟩ l) := by
  have hb := congrFun ((dats m 0 c).read_blk_arrAt_eq_flushed 14 disjointOut cfg0.N (point i) (point i).isLt (flush0_14 _)) (ix3 0 r l : S1x3x8192.Idx)
  rw [View.read_apply] at hb
  have hi : ((cfg0.win 14).blk (point i)).view.emb (ix3 0 r l : S1x3x8192.Idx) = (ix3 i r l : S128x3x8192.Idx) := by
    funext a
    apply Fin.ext
    match a with
    | ⟨0, _⟩ =>
      show win0_14.index (point i) 0 * 1 + 1 * 0 = i.val
      rw [(indexOut _).1]; simp only [point]; omega
    | ⟨1, _⟩ =>
      show win0_14.index (point i) 1 * 3 + 1 * r.val = r.val
      rw [(indexOut _).2.1]; omega
    | ⟨2, _⟩ =>
      show win0_14.index (point i) 2 * 8192 + 1 * l.val = l.val
      rw [(indexOut _).2.2]; omega
  refine (congrArg ((dats m 0 c).arrAt 14 cfg0.N : FVec Ideal S128x3x8192 .f32) hi).symm.trans (hb.trans ?_)
  show ((dats m 0 c).after 14 (point i) : FVec Ideal S1x3x8192 .f32) (ix3 0 r l) = _
  rw [after0_14]
  exact (out_rows m c (point i) r l).trans (block m c i _ l)

end Cert.GdnBufSampleIdeal.Entry

namespace Cert.GdnBufSampleRefIdeal.Entry

open Cert.GdnBufSampleRefIdeal Cert.GdnBufSampleRefIdeal.Gen Idealize.ShloMosaic Idealize.ShloMosaic.TcCoe Idealize.SL.Sem

/-- The sample batch's rows, of each sequence the first four. -/
def rows (x : FVec Ideal S9216x8192 .f32) : FVec Ideal S128x4x8192 .f32 :=
  extractStridedSlice S128x4x8192 ![0, 0, 0] (shapeCast S128x8x8192 (extractStridedSlice S1024x8192 ![8192, 0] x slices_S9216x8192_S1024x8192_8192_0) shapeCasts_S1024x8192_S128x8x8192) slices_S128x8x8192_S128x4x8192_0_0_0

theorem rows_apply (x : FVec Ideal S9216x8192 .f32) (b : Fin 128) (t : Fin 4) (l : Fin 8192) :
    (rows x (ix3 b t l) : EReal) = x (ix2 ⟨8192 + (b.val * 8 + t.val), by omega⟩ l) := by
  pointwise [rows]

/-- The reference's result from its arguments. -/
def term (x : FVec Ideal S9216x8192 .f32) (b : FVec Ideal S128x3x8192 .f32) : FVec Ideal S128x3x8192 .f32 :=
  extractStridedSlice S128x3x8192 ![0, 4, 0] (concatenate S128x7x8192 1 [⟨S128x3x8192, b⟩, ⟨S128x4x8192, rows x⟩]
    concatenates_S128x3x8192_S128x4x8192_S128x7x8192_d1) slices_S128x7x8192_S128x3x8192_0_4_0

/-- Its entries: the last three of each sequence's four rows. -/
theorem term_apply (x : FVec Ideal S9216x8192 .f32) (b : FVec Ideal S128x3x8192 .f32) (i : Fin 128) (r : Fin 3) (l : Fin 8192) :
    (term x b (ix3 i r l) : EReal) = x (ix2 ⟨8192 + (8 * i.val + (1 + r.val)), by omega⟩ l) := by
  have h : (term x b (ix3 i r l) : EReal) = rows x (ix3 i ⟨1 + r.val, by omega⟩ l) := by
    unfold term
    generalize rows x = y
    pointwise
    rw [dif_neg (by omega)]
    exact congrArg (fun a => y (ix3 i a l)) (Fin.ext (by show 4 + r.val - 3 = 1 + r.val; omega))
  rw [h, rows_apply]
  exact congrArg (fun a => x (ix2 a l)) (Fin.ext (by show 8192 + (i.val * 8 + (1 + r.val)) = 8192 + (8 * i.val + (1 + r.val)); omega))

end Cert.GdnBufSampleRefIdeal.Entry

namespace Cert.GdnBufSampleAgree

open Idealize.ShloMosaic Idealize.ShloMosaic.TcCoe Idealize.SL.Sem

/-- The kernel's result is the reference's, of the same arguments. -/
theorem outputs (m : (ℓ : Loc GdnBufSampleIdeal.nD GdnBufSampleIdeal.τ GdnBufSampleIdeal.sig) → Buf (Elt Ideal) ℓ) (c : Dev GdnBufSampleIdeal.nD) :
    GdnBufSampleRefIdeal.Entry.term (GdnBufSampleIdeal.Entry.argX m c) (GdnBufSampleIdeal.Entry.argB m c) = ((GdnBufSampleIdeal.Gen.dats m 0 c).arrAt 14 GdnBufSampleIdeal.cfg0.N : FVec Ideal GdnBufSampleIdeal.S128x3x8192 .f32) := by
  funext i
  idx_vars i
  rw [GdnBufSampleIdeal.Entry.result]
  exact GdnBufSampleRefIdeal.Entry.term_apply ..

end Cert.GdnBufSampleAgree

end
-- ==== Proof.lean ====
module

public import proofs.«01_k».proof.Proof.Gen.GlaIdeal.Value
public import proofs.«01_k».proof.Proof.Gen.GlaRefIdeal.Run
public import proofs.«01_k».proof.Defs
public import proofs.«01_k».proof.Proof.Agree
public import proofs.«01_k».proof.Proof.FfnUp
public import proofs.«01_k».proof.Proof.FfnDown
public import proofs.«01_k».proof.Proof.HgrnProj
public import proofs.«01_k».proof.Proof.GdnProj
public import proofs.«01_k».proof.Proof.AbOut
public import proofs.«01_k».proof.Proof.GdnOut
public import proofs.«01_k».proof.Proof.GateProj
public import proofs.«01_k».proof.Proof.SsmProj
public import proofs.«01_k».proof.Proof.SsmGateProj
public import proofs.«01_k».proof.Proof.FinalPrompt
public import proofs.«01_k».proof.Proof.FinalSample
public import proofs.«01_k».proof.Proof.NormMlp
public import proofs.«01_k».proof.Proof.NormAb
public import proofs.«01_k».proof.Proof.NormC
public import proofs.«01_k».proof.Proof.SsmBuffer
public import proofs.«01_k».proof.Proof.GdnBuffer
public import Idealize.ShloMosaic.Lib.Quiescent
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Up.Frame
public import proofs.«01_k».proof.Proof.Gen.UpIdeal.Frame
public import proofs.«01_k».proof.Proof.Gen.UpRefIdeal
public import proofs.«01_k».proof.Proof.Gen.UpRefIdeal.Run
public import proofs.«01_k».proof.Proof.Gen.Down.Frame
public import proofs.«01_k».proof.Proof.Gen.DownIdeal.Frame
public import proofs.«01_k».proof.Proof.Gen.DownRefIdeal
public import proofs.«01_k».proof.Proof.Gen.DownRefIdeal.Run
public import proofs.«01_k».proof.Proof.Gen.HgrnIn.Frame
public import proofs.«01_k».proof.Proof.Gen.HgrnInIdeal.Frame
public import proofs.«01_k».proof.Proof.Gen.HgrnInRefIdeal
public import proofs.«01_k».proof.Proof.Gen.HgrnInRefIdeal.Run
public import proofs.«01_k».proof.Proof.Gen.GdnIn.Frame
public import proofs.«01_k».proof.Proof.Gen.GdnInIdeal.Frame
public import proofs.«01_k».proof.Proof.Gen.GdnInRefIdeal
public import proofs.«01_k».proof.Proof.Gen.GdnInRefIdeal.Run
public import proofs.«01_k».proof.Proof.Gen.AbOut.Frame
public import proofs.«01_k».proof.Proof.Gen.AbOutIdeal.Frame
public import proofs.«01_k».proof.Proof.Gen.AbOutRefIdeal
public import proofs.«01_k».proof.Proof.Gen.AbOutRefIdeal.Run
public import proofs.«01_k».proof.Proof.Gen.GdnOut.Frame
public import proofs.«01_k».proof.Proof.Gen.GdnOutIdeal.Frame
public import proofs.«01_k».proof.Proof.Gen.GdnOutRefIdeal
public import proofs.«01_k».proof.Proof.Gen.GdnOutRefIdeal.Run
public import proofs.«01_k».proof.Proof.Gen.GateIn.Frame
public import proofs.«01_k».proof.Proof.Gen.GateInIdeal.Frame
public import proofs.«01_k».proof.Proof.Gen.GateInRefIdeal
public import proofs.«01_k».proof.Proof.Gen.GateInRefIdeal.Run
public import proofs.«01_k».proof.Proof.Gen.SsmIn.Frame
public import proofs.«01_k».proof.Proof.Gen.SsmInIdeal.Frame
public import proofs.«01_k».proof.Proof.Gen.SsmInRefIdeal
public import proofs.«01_k».proof.Proof.Gen.SsmInRefIdeal.Run
public import proofs.«01_k».proof.Proof.Gen.SsmGateIn.Frame
public import proofs.«01_k».proof.Proof.Gen.SsmGateInIdeal.Frame
public import proofs.«01_k».proof.Proof.Gen.SsmGateInRefIdeal
public import proofs.«01_k».proof.Proof.Gen.SsmGateInRefIdeal.Run
public import proofs.«01_k».proof.Proof.Gen.FinalPrompt.Frame
public import proofs.«01_k».proof.Proof.Gen.FinalPromptIdeal.Frame
public import proofs.«01_k».proof.Proof.Gen.FinalPromptRefIdeal
public import proofs.«01_k».proof.Proof.Gen.FinalPromptRefIdeal.Run
public import proofs.«01_k».proof.Proof.Gen.FinalSample.Frame
public import proofs.«01_k».proof.Proof.Gen.FinalSampleIdeal.Frame
public import proofs.«01_k».proof.Proof.Gen.FinalSampleRefIdeal
public import proofs.«01_k».proof.Proof.Gen.FinalSampleRefIdeal.Run
public import proofs.«01_k».proof.Proof.Gen.NormMlp.Frame
public import proofs.«01_k».proof.Proof.Gen.NormMlpIdeal.Frame
public import proofs.«01_k».proof.Proof.Gen.NormMlpRefIdeal
public import proofs.«01_k».proof.Proof.Gen.NormMlpRefIdeal.Run
public import proofs.«01_k».proof.Proof.Gen.NormAb.Frame
public import proofs.«01_k».proof.Proof.Gen.NormAbIdeal.Frame
public import proofs.«01_k».proof.Proof.Gen.NormAbRefIdeal
public import proofs.«01_k».proof.Proof.Gen.NormAbRefIdeal.Run
public import proofs.«01_k».proof.Proof.Gen.NormC.Frame
public import proofs.«01_k».proof.Proof.Gen.NormCIdeal.Frame
public import proofs.«01_k».proof.Proof.Gen.NormCRefIdeal
public import proofs.«01_k».proof.Proof.Gen.NormCRefIdeal.Run
public import proofs.«01_k».proof.Proof.Gen.SsmBufSample.Frame
public import proofs.«01_k».proof.Proof.Gen.SsmBufSampleIdeal.Frame
public import proofs.«01_k».proof.Proof.Gen.SsmBufSampleRefIdeal
public import proofs.«01_k».proof.Proof.Gen.SsmBufSampleRefIdeal.Run
public import proofs.«01_k».proof.Proof.Gen.GdnBufSample.Frame
public import proofs.«01_k».proof.Proof.Gen.GdnBufSampleIdeal.Frame
public import proofs.«01_k».proof.Proof.Gen.GdnBufSampleRefIdeal
public import proofs.«01_k».proof.Proof.Gen.GdnBufSampleRefIdeal.Run
public import Idealize.ShloMosaic.Adequacy
public import Idealize.ShloMosaic.Init

@[expose] public section

noncomputable section

namespace Cert.Proof

open Idealize.ShloMosaic Idealize.SL.Sem Cert.Gla

/-- The idealized kernel and the idealized reference, from equal arguments, end with equal results. -/
theorem gla_algebraic : algebraic_GlaIdeal_GlaRefIdeal := by
  intro m ρ m' ρ' _ hagree
  refine ⟨_, _, Cert.GlaIdeal.Value.run_blocks (F := Ideal) m ρ, ?_⟩
  refine (θ_run Cert.GlaRefIdeal.defs _ _).mono (fun _ h c => ⟨?_, ?_, (h c).2.2⟩) (Cert.GlaRefIdeal.Value.run (F := Ideal) m' ρ')
  · exact (h c).1.trans (Cert.GlaAgree.outputs m m' c (hagree c))
  · exact (h c).2.1.trans (Cert.GlaAgree.states m m' c (hagree c))

/-- The reference's run ends with its arguments kept and every semaphore at zero. -/
theorem gla_reference_frame : quiescent_GlaRefIdeal := fun m ρ _ =>
  (θ_run Cert.GlaRefIdeal.defs _ _).mono (fun r h => ⟨fun c => (h c).2.2, Idealize.ShloMosaic.sem_eq_zero_of_no_sems (by decide) r.2⟩)
    (Cert.GlaRefIdeal.Value.run (F := Ideal) m ρ)

/-- The two constants the kernel rounds are the words of the named reals. -/
theorem gla_preserves : preserves_Gla_GlaIdeal :=
  ⟨IdealRules.named_const.statement Cert.GlaIdeal.κ "neg_log2e" .f32 0xBFB8AA3B#32 ((-((Real.log 2)⁻¹) : ℝ) : EReal) rfl,
    IdealRules.named_const.statement Cert.GlaIdeal.κ "log2e" .f32 0x3FB8AA3B#32 (((Real.log 2)⁻¹ : ℝ) : EReal) rfl⟩

/-- The feed-forward layer's first product: the idealized kernel and the idealized reference, from equal arguments, end
    with equal results, and keep their arguments. -/
theorem up_algebraic : algebraic_UpIdeal_UpRefIdeal := by
  intro m ρ m' ρ' _ hagree
  refine ⟨_, (θ_run Cert.UpIdeal.defs _ _).mono (fun _ h c => ⟨(h.2 c).1 2, h.1 c⟩)
    (θ_run_and (Cert.UpIdeal.Gen.unchanged (F := Ideal) m ρ) (Cert.UpIdeal.Gen.run_main (F := Ideal) m ρ)), ?_⟩
  refine (θ_run Cert.UpRefIdeal.defs _ _).mono (fun _ h c => ⟨(h c).1.trans ?_, (h c).2⟩) (Cert.UpRefIdeal.Value.run (F := Ideal) m' ρ')
  rw [(hagree c).1, (hagree c).2]
  exact Cert.UpAgree.outputs m c

/-- Its reference's run ends with its arguments kept and every semaphore at zero. -/
theorem up_reference_frame : quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

/-- The feed-forward layer's second product, with its residual: the idealized kernel and the idealized reference, from equal arguments, end
    with equal results, and keep their arguments. -/
theorem down_algebraic : algebraic_DownIdeal_DownRefIdeal := by
  intro m ρ m' ρ' _ hagree
  refine ⟨_, (θ_run Cert.DownIdeal.defs _ _).mono (fun _ h c => ⟨(h.2 c).1 3, h.1 c⟩)
    (θ_run_and (Cert.DownIdeal.Gen.unchanged (F := Ideal) m ρ) (Cert.DownIdeal.Gen.run_main (F := Ideal) m ρ)), ?_⟩
  refine (θ_run Cert.DownRefIdeal.defs _ _).mono (fun _ h c => ⟨(h c).1.trans ?_, (h c).2⟩) (Cert.DownRefIdeal.Value.run (F := Ideal) m' ρ')
  rw [(hagree c).1, (hagree c).2.1, (hagree c).2.2]
  exact Cert.DownAgree.outputs m c

/-- Its reference's run ends with its arguments kept and every semaphore at zero. -/
theorem down_reference_frame : quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The gated recurrent part's input projection: the idealized kernel and the idealized reference, from equal arguments, end
    with equal results, and keep their arguments. -/
theorem hgrn_in_algebraic : algebraic_HgrnInIdeal_HgrnInRefIdeal := by
  intro m ρ m' ρ' _ hagree
  refine ⟨_, (θ_run Cert.HgrnInIdeal.defs _ _).mono (fun _ h c => ⟨(h.2 c).1 2, h.1 c⟩)
    (θ_run_and (Cert.HgrnInIdeal.Gen.unchanged (F := Ideal) m ρ) (Cert.HgrnInIdeal.Gen.run_main (F := Ideal) m ρ)), ?_⟩
  refine (θ_run Cert.HgrnInRefIdeal.defs _ _).mono (fun _ h c => ⟨(h c).1.trans ?_, (h c).2⟩) (Cert.HgrnInRefIdeal.Value.run (F := Ideal) m' ρ')
  rw [(hagree c).1, (hagree c).2]
  exact Cert.HgrnInAgree.outputs m c

/-- Its reference's run ends with its arguments kept and every semaphore at zero. -/
theorem hgrn_in_reference_frame : quiescent_HgrnInRefIdeal := fun m ρ _ =>
  (θ_run Cert.HgrnInRefIdeal.defs _ _).mono (fun r h => ⟨fun c => (h c).2, Idealize.ShloMosaic.sem_eq_zero_of_no_sems (by decide) r.2⟩)
    (Cert.HgrnInRefIdeal.Value.run (F := Ideal) m ρ)

/-- The gated delta rule's input projection: the idealized kernel and the idealized reference, from equal arguments, end
    with equal results, and keep their arguments. -/
theorem gdn_in_algebraic : algebraic_GdnInIdeal_GdnInRefIdeal := by
  intro m ρ m' ρ' _ hagree
  refine ⟨_, (θ_run Cert.GdnInIdeal.defs _ _).mono (fun _ h c => ⟨(h.2 c).1 2, h.1 c⟩)
    (θ_run_and (Cert.GdnInIdeal.Gen.unchanged (F := Ideal) m ρ) (Cert.GdnInIdeal.Gen.run_main (F := Ideal) m ρ)), ?_⟩
  refine (θ_run Cert.GdnInRefIdeal.defs _ _).mono (fun _ h c => ⟨(h c).1.trans ?_, (h c).2⟩) (Cert.GdnInRefIdeal.Value.run (F := Ideal) m' ρ')
  rw [(hagree c).1, (hagree c).2]
  exact Cert.GdnInAgree.outputs m c

/-- Its reference's run ends with its arguments kept and every semaphore at zero. -/
theorem gdn_in_reference_frame : quiescent_GdnInRefIdeal := fun m ρ _ =>
  (θ_run Cert.GdnInRefIdeal.defs _ _).mono (fun r h => ⟨fun c => (h c).2, Idealize.ShloMosaic.sem_eq_zero_of_no_sems (by decide) r.2⟩)
    (Cert.GdnInRefIdeal.Value.run (F := Ideal) m ρ)

/-- The output projection of the state-space and the gated recurrent part, with its residual: the idealized kernel and the idealized reference, from equal arguments, end
    with equal results, and keep their arguments. -/
theorem ab_out_algebraic : algebraic_AbOutIdeal_AbOutRefIdeal := by
  intro m ρ m' ρ' _ hagree
  refine ⟨_, (θ_run Cert.AbOutIdeal.defs _ _).mono (fun _ h c => ⟨(h.2 c).1 6, h.1 c⟩)
    (θ_run_and (Cert.AbOutIdeal.Gen.unchanged (F := Ideal) m ρ) (Cert.AbOutIdeal.Gen.run_main (F := Ideal) m ρ)), ?_⟩
  refine (θ_run Cert.AbOutRefIdeal.defs _ _).mono (fun _ h c => ⟨(h c).1.trans ?_, (h c).2⟩) (Cert.AbOutRefIdeal.Value.run (F := Ideal) m' ρ')
  rw [(hagree c).1, (hagree c).2.1, (hagree c).2.2.1, (hagree c).2.2.2.1, (hagree c).2.2.2.2.1, (hagree c).2.2.2.2.2]
  exact Cert.AbOutAgree.outputs m c

/-- Its reference's run ends with its arguments kept and every semaphore at zero. -/
theorem ab_out_reference_frame : quiescent_AbOutRefIdeal := fun m ρ _ =>
  (θ_run Cert.AbOutRefIdeal.defs _ _).mono (fun r h => ⟨fun c => (h c).2, Idealize.ShloMosaic.sem_eq_zero_of_no_sems (by decide) r.2⟩)
    (Cert.AbOutRefIdeal.Value.run (F := Ideal) m ρ)

/-- The gated delta rule's output projection, with its residual: the idealized kernel and the idealized reference, from equal arguments, end
    with equal results, and keep their arguments. -/
theorem gdn_out_algebraic : algebraic_GdnOutIdeal_GdnOutRefIdeal := by
  intro m ρ m' ρ' _ hagree
  refine ⟨_, (θ_run Cert.GdnOutIdeal.defs _ _).mono (fun _ h c => ⟨(h.2 c).1 4, h.1 c⟩)
    (θ_run_and (Cert.GdnOutIdeal.Gen.unchanged (F := Ideal) m ρ) (Cert.GdnOutIdeal.Gen.run_main (F := Ideal) m ρ)), ?_⟩
  refine (θ_run Cert.GdnOutRefIdeal.defs _ _).mono (fun _ h c => ⟨(h c).1.trans ?_, (h c).2⟩) (Cert.GdnOutRefIdeal.Value.run (F := Ideal) m' ρ')
  rw [(hagree c).1, (hagree c).2.1, (hagree c).2.2.1, (hagree c).2.2.2]
  exact Cert.GdnOutAgree.outputs m c

/-- Its reference's run ends with its arguments kept and every semaphore at zero. -/
theorem gdn_out_reference_frame : quiescent_GdnOutRefIdeal := fun m ρ _ =>
  (θ_run Cert.GdnOutRefIdeal.defs _ _).mono (fun r h => ⟨fun c => (h c).2, Idealize.ShloMosaic.sem_eq_zero_of_no_sems (by decide) r.2⟩)
    (Cert.GdnOutRefIdeal.Value.run (F := Ideal) m ρ)

/-- The input projection of the gated delta rule's output gate: the idealized kernel and the idealized reference, from equal arguments, end
    with equal results, and keep their arguments. -/
theorem gate_in_algebraic : algebraic_GateInIdeal_GateInRefIdeal := by
  intro m ρ m' ρ' _ hagree
  refine ⟨_, (θ_run Cert.GateInIdeal.defs _ _).mono (fun _ h c => ⟨(h.2 c).1 2, h.1 c⟩)
    (θ_run_and (Cert.GateInIdeal.Gen.unchanged (F := Ideal) m ρ) (Cert.GateInIdeal.Gen.run_main (F := Ideal) m ρ)), ?_⟩
  refine (θ_run Cert.GateInRefIdeal.defs _ _).mono (fun _ h c => ⟨(h c).1.trans ?_, (h c).2⟩) (Cert.GateInRefIdeal.Value.run (F := Ideal) m' ρ')
  rw [(hagree c).1, (hagree c).2]
  exact Cert.GateInAgree.outputs m c

/-- Its reference's run ends with its arguments kept and every semaphore at zero. -/
theorem gate_in_reference_frame : quiescent_GateInRefIdeal := fun m ρ _ =>
  (θ_run Cert.GateInRefIdeal.defs _ _).mono (fun r h => ⟨fun c => (h c).2, Idealize.ShloMosaic.sem_eq_zero_of_no_sems (by decide) r.2⟩)
    (Cert.GateInRefIdeal.Value.run (F := Ideal) m ρ)

/-- The state-space part's input projection: the idealized kernel and the idealized reference, from equal arguments, end
    with equal results, and keep their arguments. -/
theorem ssm_in_algebraic : algebraic_SsmInIdeal_SsmInRefIdeal := by
  intro m ρ m' ρ' _ hagree
  refine ⟨_, (θ_run Cert.SsmInIdeal.defs _ _).mono (fun _ h c => ⟨(h.2 c).1 2, h.1 c⟩)
    (θ_run_and (Cert.SsmInIdeal.Gen.unchanged (F := Ideal) m ρ) (Cert.SsmInIdeal.Gen.run_main (F := Ideal) m ρ)), ?_⟩
  refine (θ_run Cert.SsmInRefIdeal.defs _ _).mono (fun _ h c => ⟨(h c).1.trans ?_, (h c).2⟩) (Cert.SsmInRefIdeal.Value.run (F := Ideal) m' ρ')
  rw [(hagree c).1, (hagree c).2]
  exact Cert.SsmInAgree.outputs m c

/-- Its reference's run ends with its arguments kept and every semaphore at zero. -/
theorem ssm_in_reference_frame : quiescent_SsmInRefIdeal := fun m ρ _ =>
  (θ_run Cert.SsmInRefIdeal.defs _ _).mono (fun r h => ⟨fun c => (h c).2, Idealize.ShloMosaic.sem_eq_zero_of_no_sems (by decide) r.2⟩)
    (Cert.SsmInRefIdeal.Value.run (F := Ideal) m ρ)

/-- The input projection of the state-space part's output gate: the idealized kernel and the idealized reference, from equal arguments, end
    with equal results, and keep their arguments. -/
theorem ssm_gate_in_algebraic : algebraic_SsmGateInIdeal_SsmGateInRefIdeal := by
  intro m ρ m' ρ' _ hagree
  refine ⟨_, (θ_run Cert.SsmGateInIdeal.defs _ _).mono (fun _ h c => ⟨(h.2 c).1 2, h.1 c⟩)
    (θ_run_and (Cert.SsmGateInIdeal.Gen.unchanged (F := Ideal) m ρ) (Cert.SsmGateInIdeal.Gen.run_main (F := Ideal) m ρ)), ?_⟩
  refine (θ_run Cert.SsmGateInRefIdeal.defs _ _).mono (fun _ h c => ⟨(h c).1.trans ?_, (h c).2⟩) (Cert.SsmGateInRefIdeal.Value.run (F := Ideal) m' ρ')
  rw [(hagree c).1, (hagree c).2]
  exact Cert.SsmGateInAgree.outputs m c

/-- Its reference's run ends with its arguments kept and every semaphore at zero. -/
theorem ssm_gate_in_reference_frame : quiescent_SsmGateInRefIdeal := fun m ρ _ =>
  (θ_run Cert.SsmGateInRefIdeal.defs _ _).mono (fun r h => ⟨fun c => (h c).2, Idealize.ShloMosaic.sem_eq_zero_of_no_sems (by decide) r.2⟩)
    (Cert.SsmGateInRefIdeal.Value.run (F := Ideal) m ρ)

/-- The last norm, of the prompt batch's rows: the idealized kernel and the idealized reference, from equal arguments, end
    with equal results, and keep their arguments. -/
theorem final_prompt_algebraic : algebraic_FinalPromptIdeal_FinalPromptRefIdeal := by
  intro m ρ m' ρ' _ hagree
  refine ⟨_, (θ_run Cert.FinalPromptIdeal.defs _ _).mono (fun _ h c => ⟨((h.2 c).2 Cert.FinalPromptIdeal.main_v2 (Pipeline.mem_restRefs_of Cert.FinalPromptIdeal.main_v2 (by decide) (by decide))).trans (Cert.FinalPromptIdeal.Entry.final_eq m c), h.1 c⟩)
    (θ_run_and (Cert.FinalPromptIdeal.Gen.unchanged (F := Ideal) m ρ) (Cert.FinalPromptIdeal.Gen.run_main (F := Ideal) m ρ)), ?_⟩
  refine (θ_run Cert.FinalPromptRefIdeal.defs _ _).mono (fun _ h c => ⟨(h c).1.trans ?_, (h c).2⟩) (Cert.FinalPromptRefIdeal.Value.run (F := Ideal) m' ρ')
  rw [(hagree c).1, (hagree c).2]
  exact Cert.FinalPromptAgree.outputs m c

/-- Its reference's run ends with its arguments kept and every semaphore at zero. -/
theorem final_prompt_reference_frame : quiescent_FinalPromptRefIdeal := fun m ρ _ =>
  (θ_run Cert.FinalPromptRefIdeal.defs _ _).mono (fun r h => ⟨fun c => (h c).2, Idealize.ShloMosaic.sem_eq_zero_of_no_sems (by decide) r.2⟩)
    (Cert.FinalPromptRefIdeal.Value.run (F := Ideal) m ρ)

/-- The last norm, of the sample batch's rows: the idealized kernel and the idealized reference, from equal arguments, end
    with equal results, and keep their arguments. -/
theorem final_sample_algebraic : algebraic_FinalSampleIdeal_FinalSampleRefIdeal := by
  intro m ρ m' ρ' _ hagree
  refine ⟨_, (θ_run Cert.FinalSampleIdeal.defs _ _).mono (fun _ h c => ⟨((h.2 c).2 Cert.FinalSampleIdeal.main_v3 (Pipeline.mem_restRefs_of Cert.FinalSampleIdeal.main_v3 (by decide) (by decide))).trans (Cert.FinalSampleIdeal.Entry.final_eq m c), h.1 c⟩)
    (θ_run_and (Cert.FinalSampleIdeal.Gen.unchanged (F := Ideal) m ρ) (Cert.FinalSampleIdeal.Gen.run_main (F := Ideal) m ρ)), ?_⟩
  refine (θ_run Cert.FinalSampleRefIdeal.defs _ _).mono (fun _ h c => ⟨(h c).1.trans ?_, (h c).2⟩) (Cert.FinalSampleRefIdeal.Value.run (F := Ideal) m' ρ')
  rw [(hagree c).1, (hagree c).2]
  exact Cert.FinalSampleAgree.outputs m c

/-- Its reference's run ends with its arguments kept and every semaphore at zero. -/
theorem final_sample_reference_frame : quiescent_FinalSampleRefIdeal := fun m ρ _ =>
  (θ_run Cert.FinalSampleRefIdeal.defs _ _).mono (fun r h => ⟨fun c => (h c).2, Idealize.ShloMosaic.sem_eq_zero_of_no_sems (by decide) r.2⟩)
    (Cert.FinalSampleRefIdeal.Value.run (F := Ideal) m ρ)

/-- The norm before the feed-forward part: the idealized kernel and the idealized reference, from equal arguments, end
    with equal results, and keep their arguments. -/
theorem norm_mlp_algebraic : algebraic_NormMlpIdeal_NormMlpRefIdeal := by
  intro m ρ m' ρ' _ hagree
  refine ⟨_, (θ_run Cert.NormMlpIdeal.defs _ _).mono (fun _ h c => ⟨(h.2 c).1 2, h.1 c⟩)
    (θ_run_and (Cert.NormMlpIdeal.Gen.unchanged (F := Ideal) m ρ) (Cert.NormMlpIdeal.Gen.run_main (F := Ideal) m ρ)), ?_⟩
  refine (θ_run Cert.NormMlpRefIdeal.defs _ _).mono (fun _ h c => ⟨(h c).1.trans ?_, (h c).2⟩) (Cert.NormMlpRefIdeal.Value.run (F := Ideal) m' ρ')
  rw [(hagree c).1, (hagree c).2]
  exact Cert.NormMlpAgree.outputs m c

/-- Its reference's run ends with its arguments kept and every semaphore at zero. -/
theorem norm_mlp_reference_frame : quiescent_NormMlpRefIdeal := fun m ρ _ =>
  (θ_run Cert.NormMlpRefIdeal.defs _ _).mono (fun r h => ⟨fun c => (h c).2, Idealize.ShloMosaic.sem_eq_zero_of_no_sems (by decide) r.2⟩)
    (Cert.NormMlpRefIdeal.Value.run (F := Ideal) m ρ)

/-- The norm before the even layers' mixers, with the projection of the time steps: the idealized kernel and the idealized reference, from equal arguments, end
    with equal results, and keep their arguments. -/
theorem norm_ab_algebraic : algebraic_NormAbIdeal_NormAbRefIdeal := by
  intro m ρ m' ρ' _ hagree
  refine ⟨_, _, (θ_run Cert.NormAbIdeal.defs _ _).mono (fun _ h c => ⟨(h.2 c).1 3, (h.2 c).1 4, h.1 c⟩)
    (θ_run_and (Cert.NormAbIdeal.Gen.unchanged (F := Ideal) m ρ) (Cert.NormAbIdeal.Gen.run_main (F := Ideal) m ρ)), ?_⟩
  refine (θ_run Cert.NormAbRefIdeal.defs _ _).mono (fun _ h c => ⟨(h c).1.trans ?_, (h c).2.1.trans ?_, (h c).2.2⟩) (Cert.NormAbRefIdeal.Value.run (F := Ideal) m' ρ')
  · rw [(hagree c).1, (hagree c).2.1]
    exact Cert.NormAbAgree.outputs m c
  · rw [(hagree c).1, (hagree c).2.1, (hagree c).2.2]
    exact Cert.NormAbAgree.products m c

/-- Its reference's run ends with its arguments kept and every semaphore at zero. -/
theorem norm_ab_reference_frame : quiescent_NormAbRefIdeal := fun m ρ _ =>
  (θ_run Cert.NormAbRefIdeal.defs _ _).mono (fun r h => ⟨fun c => (h c).2.2, Idealize.ShloMosaic.sem_eq_zero_of_no_sems (by decide) r.2⟩)
    (Cert.NormAbRefIdeal.Value.run (F := Ideal) m ρ)

/-- The norm before the odd layers' mixers, with the narrow projections: the idealized kernel and the idealized reference, from equal arguments, end
    with equal results, and keep their arguments. -/
theorem norm_c_algebraic : algebraic_NormCIdeal_NormCRefIdeal := by
  intro m ρ m' ρ' _ hagree
  refine ⟨_, _, (θ_run Cert.NormCIdeal.defs _ _).mono (fun _ h c => ⟨(h.2 c).1 3, (h.2 c).1 4, h.1 c⟩)
    (θ_run_and (Cert.NormCIdeal.Gen.unchanged (F := Ideal) m ρ) (Cert.NormCIdeal.Gen.run_main (F := Ideal) m ρ)), ?_⟩
  refine (θ_run Cert.NormCRefIdeal.defs _ _).mono (fun _ h c => ⟨(h c).1.trans ?_, (h c).2.1.trans ?_, (h c).2.2⟩) (Cert.NormCRefIdeal.Value.run (F := Ideal) m' ρ')
  · rw [(hagree c).1, (hagree c).2.1]
    exact Cert.NormCAgree.outputs m c
  · rw [(hagree c).1, (hagree c).2.1, (hagree c).2.2]
    exact Cert.NormCAgree.products m c

/-- Its reference's run ends with its arguments kept and every semaphore at zero. -/
theorem norm_c_reference_frame : quiescent_NormCRefIdeal := fun m ρ _ =>
  (θ_run Cert.NormCRefIdeal.defs _ _).mono (fun r h => ⟨fun c => (h c).2.2, Idealize.ShloMosaic.sem_eq_zero_of_no_sems (by decide) r.2⟩)
    (Cert.NormCRefIdeal.Value.run (F := Ideal) m ρ)

/-- The state-space part's convolution buffer, of the sample batch: the idealized kernel and the idealized reference, from equal arguments, end
    with equal results, and keep their arguments. -/
theorem ssm_buffer_algebraic : algebraic_SsmBufSampleIdeal_SsmBufSampleRefIdeal := by
  intro m ρ m' ρ' _ hagree
  refine ⟨_, (θ_run Cert.SsmBufSampleIdeal.defs _ _).mono (fun _ h c => ⟨(h.2 c).1 16, h.1 c⟩)
    (θ_run_and (Cert.SsmBufSampleIdeal.Gen.unchanged (F := Ideal) m ρ) (Cert.SsmBufSampleIdeal.Gen.run_main (F := Ideal) m ρ)), ?_⟩
  refine (θ_run Cert.SsmBufSampleRefIdeal.defs _ _).mono (fun _ h c => ⟨(h c).1.trans ?_, (h c).2⟩) (Cert.SsmBufSampleRefIdeal.Value.run (F := Ideal) m' ρ')
  rw [(hagree c).2.1, (hagree c).2.2.2.1]
  exact Cert.SsmBufSampleAgree.outputs m c

/-- Its reference's run ends with its arguments kept and every semaphore at zero. -/
theorem ssm_buffer_reference_frame : quiescent_SsmBufSampleRefIdeal := fun m ρ _ =>
  (θ_run Cert.SsmBufSampleRefIdeal.defs _ _).mono (fun r h => ⟨fun c => (h c).2, Idealize.ShloMosaic.sem_eq_zero_of_no_sems (by decide) r.2⟩)
    (Cert.SsmBufSampleRefIdeal.Value.run (F := Ideal) m ρ)

/-- The gated delta rule's convolution buffer, of the sample batch: the idealized kernel and the idealized reference, from equal arguments, end
    with equal results, and keep their arguments. -/
theorem gdn_buffer_algebraic : algebraic_GdnBufSampleIdeal_GdnBufSampleRefIdeal := by
  intro m ρ m' ρ' _ hagree
  refine ⟨_, (θ_run Cert.GdnBufSampleIdeal.defs _ _).mono (fun _ h c => ⟨(h.2 c).1 14, h.1 c⟩)
    (θ_run_and (Cert.GdnBufSampleIdeal.Gen.unchanged (F := Ideal) m ρ) (Cert.GdnBufSampleIdeal.Gen.run_main (F := Ideal) m ρ)), ?_⟩
  refine (θ_run Cert.GdnBufSampleRefIdeal.defs _ _).mono (fun _ h c => ⟨(h c).1.trans ?_, (h c).2⟩) (Cert.GdnBufSampleRefIdeal.Value.run (F := Ideal) m' ρ')
  rw [(hagree c).1, (hagree c).2.2.2.1]
  exact Cert.GdnBufSampleAgree.outputs m c

/-- Its reference's run ends with its arguments kept and every semaphore at zero. -/
theorem gdn_buffer_reference_frame : quiescent_GdnBufSampleRefIdeal := fun m ρ _ =>
  (θ_run Cert.GdnBufSampleRefIdeal.defs _ _).mono (fun r h => ⟨fun c => (h c).2, Idealize.ShloMosaic.sem_eq_zero_of_no_sems (by decide) r.2⟩)
    (Cert.GdnBufSampleRefIdeal.Value.run (F := Ideal) m ρ)

theorem claim : Cert.Claim := ⟨Cert.Gla.Gen.facts, Cert.GlaIdeal.Gen.facts, Cert.GlaRefIdeal.Gen.facts, Cert.Up.Gen.facts, Cert.UpIdeal.Gen.facts, Cert.UpRefIdeal.Gen.facts, Cert.Down.Gen.facts, Cert.DownIdeal.Gen.facts, Cert.DownRefIdeal.Gen.facts, Cert.HgrnIn.Gen.facts, Cert.HgrnInIdeal.Gen.facts, Cert.HgrnInRefIdeal.Gen.facts, Cert.GdnIn.Gen.facts, Cert.GdnInIdeal.Gen.facts, Cert.GdnInRefIdeal.Gen.facts, Cert.AbOut.Gen.facts, Cert.AbOutIdeal.Gen.facts, Cert.AbOutRefIdeal.Gen.facts, Cert.GdnOut.Gen.facts, Cert.GdnOutIdeal.Gen.facts, Cert.GdnOutRefIdeal.Gen.facts, Cert.GateIn.Gen.facts, Cert.GateInIdeal.Gen.facts, Cert.GateInRefIdeal.Gen.facts, Cert.SsmIn.Gen.facts, Cert.SsmInIdeal.Gen.facts, Cert.SsmInRefIdeal.Gen.facts, Cert.SsmGateIn.Gen.facts, Cert.SsmGateInIdeal.Gen.facts, Cert.SsmGateInRefIdeal.Gen.facts, Cert.FinalPrompt.Gen.facts, Cert.FinalPromptIdeal.Gen.facts, Cert.FinalPromptRefIdeal.Gen.facts, Cert.FinalSample.Gen.facts, Cert.FinalSampleIdeal.Gen.facts, Cert.FinalSampleRefIdeal.Gen.facts, Cert.NormMlp.Gen.facts, Cert.NormMlpIdeal.Gen.facts, Cert.NormMlpRefIdeal.Gen.facts, Cert.NormAb.Gen.facts, Cert.NormAbIdeal.Gen.facts, Cert.NormAbRefIdeal.Gen.facts, Cert.NormC.Gen.facts, Cert.NormCIdeal.Gen.facts, Cert.NormCRefIdeal.Gen.facts, Cert.SsmBufSample.Gen.facts, Cert.SsmBufSampleIdeal.Gen.facts, Cert.SsmBufSampleRefIdeal.Gen.facts, Cert.GdnBufSample.Gen.facts, Cert.GdnBufSampleIdeal.Gen.facts, Cert.GdnBufSampleRefIdeal.Gen.facts,
  fun m ρ _ => Cert.Gla.Gen.frame m ρ, fun m ρ _ => Cert.GlaIdeal.Gen.frame m ρ, gla_reference_frame,
  fun m ρ _ => Cert.Up.Gen.frame m ρ, fun m ρ _ => Cert.UpIdeal.Gen.frame m ρ, up_reference_frame,
  fun m ρ _ => Cert.Down.Gen.frame m ρ, fun m ρ _ => Cert.DownIdeal.Gen.frame m ρ, down_reference_frame,
  fun m ρ _ => Cert.HgrnIn.Gen.frame m ρ, fun m ρ _ => Cert.HgrnInIdeal.Gen.frame m ρ, hgrn_in_reference_frame,
  fun m ρ _ => Cert.GdnIn.Gen.frame m ρ, fun m ρ _ => Cert.GdnInIdeal.Gen.frame m ρ, gdn_in_reference_frame,
  fun m ρ _ => Cert.AbOut.Gen.frame m ρ, fun m ρ _ => Cert.AbOutIdeal.Gen.frame m ρ, ab_out_reference_frame,
  fun m ρ _ => Cert.GdnOut.Gen.frame m ρ, fun m ρ _ => Cert.GdnOutIdeal.Gen.frame m ρ, gdn_out_reference_frame,
  fun m ρ _ => Cert.GateIn.Gen.frame m ρ, fun m ρ _ => Cert.GateInIdeal.Gen.frame m ρ, gate_in_reference_frame,
  fun m ρ _ => Cert.SsmIn.Gen.frame m ρ, fun m ρ _ => Cert.SsmInIdeal.Gen.frame m ρ, ssm_in_reference_frame,
  fun m ρ _ => Cert.SsmGateIn.Gen.frame m ρ, fun m ρ _ => Cert.SsmGateInIdeal.Gen.frame m ρ, ssm_gate_in_reference_frame,
  fun m ρ _ => Cert.FinalPrompt.Gen.frame m ρ, fun m ρ _ => Cert.FinalPromptIdeal.Gen.frame m ρ, final_prompt_reference_frame,
  fun m ρ _ => Cert.FinalSample.Gen.frame m ρ, fun m ρ _ => Cert.FinalSampleIdeal.Gen.frame m ρ, final_sample_reference_frame,
  fun m ρ _ => Cert.NormMlp.Gen.frame m ρ, fun m ρ _ => Cert.NormMlpIdeal.Gen.frame m ρ, norm_mlp_reference_frame,
  fun m ρ _ => Cert.NormAb.Gen.frame m ρ, fun m ρ _ => Cert.NormAbIdeal.Gen.frame m ρ, norm_ab_reference_frame,
  fun m ρ _ => Cert.NormC.Gen.frame m ρ, fun m ρ _ => Cert.NormCIdeal.Gen.frame m ρ, norm_c_reference_frame,
  fun m ρ _ => Cert.SsmBufSample.Gen.frame m ρ, fun m ρ _ => Cert.SsmBufSampleIdeal.Gen.frame m ρ, ssm_buffer_reference_frame,
  fun m ρ _ => Cert.GdnBufSample.Gen.frame m ρ, fun m ρ _ => Cert.GdnBufSampleIdeal.Gen.frame m ρ, gdn_buffer_reference_frame,
  gla_preserves, gla_algebraic, trivial, up_algebraic, trivial, down_algebraic, trivial, hgrn_in_algebraic, trivial, gdn_in_algebraic, trivial, ab_out_algebraic, trivial, gdn_out_algebraic, trivial, gate_in_algebraic, trivial, ssm_in_algebraic, trivial, ssm_gate_in_algebraic, trivial, final_prompt_algebraic, trivial, final_sample_algebraic, trivial, norm_mlp_algebraic, trivial, norm_ab_algebraic, trivial, norm_c_algebraic, trivial, ssm_buffer_algebraic, trivial, gdn_buffer_algebraic⟩

end Cert.Proof

end
